-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)) (v5 : (c : Dev Cert.KernelIdeal.nD) → Buf (Elt Ideal) ((c.tc : Thread Cert.KernelIdeal.nD Cert.KernelIdeal.τ).loc Cert.KernelIdeal.main_v27_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_v27_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_v93) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v14) = v2 c
          ∧ r.2.mem ((c.tc : Thread Cert.Reference2Ideal.nD Cert.Reference2Ideal.τ).loc Cert.Reference2Ideal.main_v15) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_v25) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "ln2" .f32 0x3F317218#32 ((Real.log 2 : ℝ) : EReal)
  ∧ IdealRules.named_const.Statement Cert.Kernel5Ideal.κ "sm_scale" .f32 0x3DD105EC#32 (((Real.sqrt 96)⁻¹ : ℝ) : EReal)
  ∧ IdealRules.named_const.Statement Cert.Kernel5Ideal.κ "neg" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v45_0)) (v1 : (c : Dev Cert.Kernel5Ideal.nD) → Buf (Elt Ideal) ((c.tc : Thread Cert.Kernel5Ideal.nD Cert.Kernel5Ideal.τ).loc Cert.Kernel5Ideal.main_v45_1)) (v2 : (c : Dev Cert.Kernel5Ideal.nD) → Buf (Elt Ideal) ((c.tc : Thread Cert.Kernel5Ideal.nD Cert.Kernel5Ideal.τ).loc Cert.Kernel5Ideal.main_v45_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45_0) = v0 c
          ∧ r.2.mem ((c.tc : Thread Cert.Kernel5Ideal.nD Cert.Kernel5Ideal.τ).loc Cert.Kernel5Ideal.main_v45_1) = v1 c
          ∧ r.2.mem ((c.tc : Thread Cert.Kernel5Ideal.nD Cert.Kernel5Ideal.τ).loc Cert.Kernel5Ideal.main_v45_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_v50) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S8320x1024 .f32) (main_arg1 : FVec F S8320x1024 .f32) (main_arg2 : FVec F S1024 .f32) (main_arg3 : FVec F S1024x2816 .f32) (main_arg4 : FVec F S1024x2816 .f32) (main_arg5 : FVec F S2816x1024 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S8320x1024 .f32 := Host.absf main_arg1
  let main_cst_0 : FVec F S_ .f32 := constant S_ .f32 0x7F800000#32
  let main_v5 : FVec F S8320x1024 .f32 := broadcastInDim S8320x1024 ![] bcast_S_S8320x1024 main_cst_0
  let main_v6 : IVec S8320x1024 1 := cmpf .olt main_v4 main_v5
  let main_c_1 : IVec S_ 1 := constantI S_ 1 1#1
  let main_v7 : IVec S_ 1 := (fun x v => Host.reduce IntOp.andi x v reducesTo_S8320x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite5.lean ====
abbrev S8x8320x128 : Shape := ⟨3, ![8, 8320, 128]⟩
abbrev S8320x128 : Shape := ⟨2, ![8320, 128]⟩
abbrev S_ : Shape := ⟨0, ![]⟩

class Facts : Prop where
  bcast_S_S8x8320x128 : S_.BroadcastsInDim S8x8320x128 (![] : Fin 0 → Fin S8x8320x128.rank)
  reducesTo_S8x8320x128_S_d0_1_2 : S8x8320x128.ReducesTo [0, 1, 2] S_
  h_S_ : 0 < S_.numel
  bitsLt_bf16_f32 : FTy.bits .bf16 < FTy.bits .f32
  bcast_S_S8320x128 : S_.BroadcastsInDim S8320x128 (![] : Fin 0 → Fin S8320x128.rank)
  reducesTo_S8320x128_S_d0_1 : S8320x128.ReducesTo [0, 1] S_

variable [Facts]

def fn_part1 {F : FTy → Type} [FloatOps F] (main_arg4 : FVec F S8x8320x128 .bf16) (main_v15 : IVec S_ 1) (main_v17 : FVec F S8x8320x128 .f32) : IVec S_ 1 :=
  let main_cst_4 : FVec F S_ .f32 := constant S_ .f32 0x7F800000#32
  let main_v18 : FVec F S8x8320x128 .f32 := broadcastInDim S8x8320x128 ![] bcast_S_S8x8320x128 main_cst_4
  let main_v19 : IVec S8x8320x128 1 := cmpf .olt main_v17 main_v18
  let main_c_5 : IVec S_ 1 := constantI S_ 1 1#1
  let main_v20 : IVec S_ 1 := (fun x v => Host.reduce IntOp.andi x v reducesTo_S8x8320x128_S_d0_1_2 h_S_) main_v19 main_c_5
  let main_v21 : IVec S_ 1 := andi main_v15 main_v20
  let main_v22 : FVec F S8x8320x128 .f32 := (extf .f32 · bitsLt_bf16_f32) main_arg4
  let main_v23 : FVec F S8x8320x128 .f32 := Host.absf main_v22
  let main_cst_6 : FVec F S_ .f32 := constant S_ .f32 0x7F800000#32
  let main_v24 : FVec F S8x8320x128 .f32 := broadcastInDim S8x8320x128 ![] bcast_S_S8x8320x128 main_cst_6
  let main_v25 : IVec S8x8320x128 1 := cmpf .olt main_v23 main_v24
  let main_c_7 : IVec S_ 1 := constantI S_ 1 1#1
  let main_v26 : IVec S_ 1 := (fun x v => Host.reduce IntOp.andi x v reducesTo_S8x8320x128_S_d0_1_2 h_S_) main_v25 main_c_7
  let main_v27 : IVec S_ 1 := andi main_v21 main_v26
  main_v27

def fn {F : FTy → Type} [FloatOps F] (main_arg0 : FVec F S8x8320x128 .f32) (main_arg1 : FVec F S8x8320x128 .bf16) (main_arg2 : FVec F S8320x128 .bf16) (main_arg3 : FVec F S8x8320x128 .bf16) (main_arg4 : FVec F S8x8320x128 .bf16) : IVec S_ 1 :=
  let main_v0 : FVec F S8x8320x128 .f32 := Host.absf main_arg0
  let main_cst : FVec F S_ .f32 := constant S_ .f32 0x7F800000#32
  let main_v1 : FVec F S8x8320x128 .f32 := broadcastInDim S8x8320x128 ![] bcast_S_S8x8320x128 main_cst
  let main_v2 : IVec S8x8320x128 1 := cmpf .olt main_v0 main_v1
  let main_c : IVec S_ 1 := constantI S_ 1 1#1
  let main_v3 : IVec S_ 1 := (fun x v => Host.reduce IntOp.andi x v reducesTo_S8x8320x128_S_d0_1_2 h_S_) main_v2 main_c
  let main_v4 : FVec F S8x8320x128 .f32 := (extf .f32 · bitsLt_bf16_f32) main_arg1
  let main_v5 : FVec F S8x8320x128 .f32 := Host.absf main_v4
  let main_cst_0 : FVec F S_ .f32 := constant S_ .f32 0x7F800000#32
  let main_v6 : FVec F S8x8320x128 .f32 := broadcastInDim S8x8320x128 ![] bcast_S_S8x8320x128 main_cst_0
  let main_v7 : IVec S8x8320x128 1 := cmpf .olt main_v5 main_v6
  let main_c_1 : IVec S_ 1 := constantI S_ 1 1#1
  let main_v8 : IVec S_ 1 := (fun x v => Host.reduce IntOp.andi x v reducesTo_S8x8320x128_S_d0_1_2 h_S_) main_v7 main_c_1
  let main_v9 : IVec S_ 1 := andi main_v3 main_v8
  let main_v10 : FVec F S8320x128 .f32 := (extf .f32 · bitsLt_bf16_f32) main_arg2
  let main_v11 : FVec F S8320x128 .f32 := Host.absf main_v10
  let main_cst_2 : FVec F S_ .f32 := constant S_ .f32 0x7F800000#32
  let main_v12 : FVec F S8320x128 .f32 := broadcastInDim S8320x128 ![] bcast_S_S8320x128 main_cst_2
  let main_v13 : IVec S8320x128 1 := cmpf .olt main_v11 main_v12
  let main_c_3 : IVec S_ 1 := constantI S_ 1 1#1
  let main_v14 : IVec S_ 1 := (fun x v => Host.reduce IntOp.andi x v reducesTo_S8320x128_S_d0_1 h_S_) main_v13 main_c_3
  let main_v15 : IVec S_ 1 := andi main_v9 main_v14
  let main_v16 : FVec F S8x8320x128 .f32 := (extf .f32 · bitsLt_bf16_f32) main_arg3
  let main_v17 : FVec F S8x8320x128 .f32 := Host.absf main_v16
  fn_part1 (F := F) main_arg4 main_v15 main_v17
-- ==== Kernel.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8320x2816 : Shape := ⟨2, ![8320, 2816]⟩
abbrev S8x352x1024 : Shape := ⟨3, ![8, 352, 1024]⟩
abbrev S8x1056x1024 : Shape := ⟨3, ![8, 1056, 1024]⟩
abbrev S1x1x1024 : Shape := ⟨3, ![1, 1, 1024]⟩
abbrev S416x1024 : Shape := ⟨2, ![416, 1024]⟩
abbrev S416x1408 : Shape := ⟨2, ![416, 1408]⟩
abbrev S4x352x1024 : Shape := ⟨3, ![4, 352, 1024]⟩
abbrev S1408x1024 : Shape := ⟨2, ![1408, 1024]⟩
abbrev S416 : Shape := ⟨1, ![416]⟩
abbrev S416x1 : Shape := ⟨2, ![416, 1]⟩

abbrev nBuf : Space → Nat
  | .hbm => 42
  | .vmem => 27
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1024, .f32⟩
  | .hbm, ⟨18, _⟩ => ⟨S8320x1024, .f32⟩
  | .hbm, ⟨19, _⟩ => ⟨S1x1024, .f32⟩
  | .hbm, ⟨20, _⟩ => ⟨S8320x1024, .f32⟩
  | .hbm, ⟨21, _⟩ => ⟨S8320x1024, .f32⟩
  | .hbm, ⟨22, _⟩ => ⟨S8320x2816, .f32⟩
  | .hbm, ⟨23, _⟩ => ⟨S8320x2816, .bf16⟩
  | .hbm, ⟨24, _⟩ => ⟨S8320x2816, .f32⟩
  | .hbm, ⟨25, _⟩ => ⟨S8320x2816, .bf16⟩
  | .hbm, ⟨26, _⟩ => ⟨S2816x1024, .f32⟩
  | .hbm, ⟨27, _⟩ => ⟨S8x352x1024, .f32⟩
  | .hbm, ⟨28, _⟩ => ⟨S8x352x1024, .bf16⟩
  | .hbm, ⟨29, _⟩ => ⟨S2816x1024, .f32⟩
  | .hbm, ⟨30, _⟩ => ⟨S8x352x1024, .f32⟩
  | .hbm, ⟨31, _⟩ => ⟨S8x352x1024, .bf16⟩
  | .hbm, ⟨32, _⟩ => ⟨S8x352x1024, .f32⟩
  | .hbm, ⟨33, _⟩ => ⟨S8x352x1024, .bf16⟩
  | .hbm, ⟨34, _⟩ => ⟨S8x1056x1024, .bf16⟩
  | .hbm, ⟨35, _⟩ => ⟨S1x1x1024, .f32⟩
  | .hbm, ⟨36, _⟩ => ⟨S8320x1024, .f32⟩
  | .hbm, ⟨37, _⟩ => ⟨S8320x2816, .bf16⟩
  | .hbm, ⟨38, _⟩ => ⟨S8320x2816, .bf16⟩
  | .hbm, ⟨39, _⟩ => ⟨S8320x2816, .bf16⟩
  | .hbm, ⟨40, _⟩ => ⟨S8320x1024, .bf16⟩
  | .hbm, ⟨41, _⟩ => ⟨S1x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S416x1408, .bf16⟩
  | .local _ .vmem, ⟨5, _⟩ => ⟨S416x1408, .bf16⟩
  | .local _ .vmem, ⟨6, _⟩ => ⟨S416x1408, .bf16⟩
  | .local _ .vmem, ⟨7, _⟩ => ⟨S416x1408, .bf16⟩
  | .local _ .vmem, ⟨8, _⟩ => ⟨S1x1x1024, .f32⟩
  | .local _ .vmem, ⟨9, _⟩ => ⟨S4x352x1024, .bf16⟩
  | .local _ .vmem, ⟨10, _⟩ => ⟨S4x352x1024, .bf16⟩
  | .local _ .vmem, ⟨11, _⟩ => ⟨S4x352x1024, .bf16⟩
  | .local _ .vmem, ⟨12, _⟩ => ⟨S4x352x1024, .bf16⟩
  | .local _ .vmem, ⟨13, _⟩ => ⟨S4x352x1024, .bf16⟩
  | .local _ .vmem, ⟨14, _⟩ => ⟨S4x352x1024, .bf16⟩
  | .local _ .vmem, ⟨15, _⟩ => ⟨S416x1024, .f32⟩
  | .local _ .vmem, ⟨16, _⟩ => ⟨S416x1024, .f32⟩
  | .local _ .vmem, ⟨17, _⟩ => ⟨S416x1408, .bf16⟩
  | .local _ .vmem, ⟨18, _⟩ => ⟨S416x1408, .bf16⟩
  | .local _ .vmem, ⟨19, _⟩ => ⟨S416x1408, .bf16⟩
  | .local _ .vmem, ⟨20, _⟩ => ⟨S416x1408, .bf16⟩
  | .local _ .vmem, ⟨21, _⟩ => ⟨S416x1408, .bf16⟩
  | .local _ .vmem, ⟨22, _⟩ => ⟨S416x1408, .bf16⟩
  | .local _ .vmem, ⟨23, _⟩ => ⟨S416x1024, .bf16⟩
  | .local _ .vmem, ⟨24, _⟩ => ⟨S416x1024, .bf16⟩
  | .local _ .vmem, ⟨25, _⟩ => ⟨S1x1024, .f32⟩
  | .local _ .vmem, ⟨26, _⟩ => ⟨S416x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev main_v27_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![20, 2], ![false, false]⟩

def k0_cond3 (i : grid0.Coords) : BitVec 1 :=
  let arg1 : BitVec 32 := BitVec.ofNat 32 (i 1).val
  let c1_i32 : BitVec 32 := 1#32
  let v58 : BitVec 1 := Scalar.cmpi .eq arg1 c1_i32
  let v59 : BitVec 32 := Scalar.extui v58
  let c0_i32_35 : BitVec 32 := 0#32
  let v60 : BitVec 1 := Scalar.cmpi .ne v59 c0_i32_35
  v60

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S416x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S416x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x352x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S416x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S416x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S416x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S416x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S416x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8320x2816 : Shape := ⟨2, ![8320, 2816]⟩

abbrev nBuf : Space → Nat
  | .hbm => 154
  | .vmem => 0
  | .smem => 0
  | _ => 0

abbrev hbmTy0_0 (i : Nat) : BufTy := match i % 128 with
  | 0 => ⟨S8320x1024, .f32⟩
  | 1 => ⟨S8320x1024, .f32⟩
  | 2 => ⟨S1024, .f32⟩
  | 3 => ⟨S1024x2816, .f32⟩
  | 4 => ⟨S1024x2816, .f32⟩
  | 5 => ⟨S2816x1024, .f32⟩
  | 6 => ⟨S8320x1024, .f32⟩
  | 7 => ⟨S_, .f32⟩
  | 8 => ⟨S8320, .f32⟩
  | 9 => ⟨S8320x1, .f32⟩
  | 10 => ⟨S_, .f32⟩
  | 11 => ⟨S8320x1, .f32⟩
  | 12 => ⟨S8320x1, .f32⟩
  | 13 => ⟨S_, .f32⟩
  | 14 => ⟨S8320x1, .f32⟩
  | 15 => ⟨S8320x1, .f32⟩
  | 16 => ⟨S8320x1, .f32⟩
  | 17 => ⟨S8320x1, .f32⟩
  | 18 => ⟨S_, .f32⟩
  | 19 => ⟨S8320x1, .f32⟩
  | 20 => ⟨S8320x1, .f32⟩
  | 21 => ⟨S8320x1024, .f32⟩
  | 22 => ⟨S8320x1024, .f32⟩
  | 23 => ⟨S1x1024, .f32⟩
  | 24 => ⟨S8320x1024, .f32⟩
  | 25 => ⟨S8320x1024, .f32⟩
  | 26 => ⟨S8320x2816, .f32⟩
  | 27 => ⟨S8320x2816, .f32⟩
  | 28 => ⟨S8320x2816, .f32⟩
  | 29 => ⟨S_, .f32⟩
  | 30 => ⟨S8320x2816, .f32⟩
  | 31 => ⟨S8320x2816, .f32⟩
  | 32 => ⟨S_, .f32⟩
  | 33 => ⟨S8320x2816, .f32⟩
  | 34 => ⟨S8320x2816, .f32⟩
  | 35 => ⟨S_, .f32⟩
  | 36 => ⟨S8320x2816, .f32⟩
  | 37 => ⟨S8320x2816, .f32⟩
  | 38 => ⟨S8320x2816, .f32⟩
  | 39 => ⟨S8320x2816, .f32⟩
  | 40 => ⟨S8320x2816, .f32⟩
  | 41 => ⟨S8320x2816, .f32⟩
  | 42 => ⟨S8320x1024, .f32⟩
  | 43 => ⟨S_, .f32⟩
  | 44 => ⟨S8320x1024, .f32⟩
  | 45 => ⟨S8320x1024, .f32⟩
  | 46 => ⟨S8320x1024, .f32⟩
  | 47 => ⟨S8320x1024, .f32⟩
  | 48 => ⟨S_, .f32⟩
  | 49 => ⟨S8320x1024, .f32⟩
  | 50 => ⟨S8320x1024, .f32⟩
  | 51 => ⟨S1024x2816, .f32⟩
  | 52 => ⟨S2816x1024, .f32⟩
  | 53 => ⟨S8320x2816, .f32⟩
  | 54 => ⟨S8320x2816, .f32⟩
  | 55 => ⟨S8320x2816, .f32⟩
  | 56 => ⟨S2816x1024, .f32⟩
  | 57 => ⟨S1024x2816, .f32⟩
  | 58 => ⟨S8320x1024, .f32⟩
  | 59 => ⟨S8320x2816, .f32⟩
  | 60 => ⟨S8320x2816, .f32⟩
  | 61 => ⟨S8320x2816, .f32⟩
  | 62 => ⟨S8320x2816, .f32⟩
  | 63 => ⟨S2816x1024, .f32⟩
  | 64 => ⟨S1024x2816, .f32⟩
  | 65 => ⟨S8320x1024, .f32⟩
  | 66 => ⟨S8320x1024, .f32⟩
  | 67 => ⟨S8320x1024, .f32⟩
  | 68 => ⟨S_, .f32⟩
  | 69 => ⟨S1024, .f32⟩
  | 70 => ⟨S1x1024, .f32⟩
  | 71 => ⟨S8320x1024, .f32⟩
  | 72 => ⟨S8320x1024, .f32⟩
  | 73 => ⟨S_, .f32⟩
  | 74 => ⟨S1024, .f32⟩
  | 75 => ⟨S8320x1024, .f32⟩
  | 76 => ⟨S_, .f32⟩
  | 77 => ⟨S8320, .f32⟩
  | 78 => ⟨S8320x1, .f32⟩
  | 79 => ⟨S8320x1024, .f32⟩
  | 80 => ⟨S8320x1024, .f32⟩
  | 81 => ⟨S8320x1024, .f32⟩
  | 82 => ⟨S8320x1, .f32⟩
  | 83 => ⟨S_, .f32⟩
  | 84 => ⟨S8320x1, .f32⟩
  | 85 => ⟨S8320x1, .f32⟩
  | 86 => ⟨S_, .f32⟩
  | 87 => ⟨S8320, .f32⟩
  | 88 => ⟨S8320x1024, .f32⟩
  | 89 => ⟨S8320x1024, .f32⟩
  | 90 => ⟨S8320x1024, .f32⟩
  | 91 => ⟨S8320x1024, .f32⟩
  | 92 => ⟨S8320x1024, .f32⟩
  | 93 => ⟨S8320x1024, .f32⟩
  | 94 => ⟨S_, .f32⟩
  | 95 => ⟨S8320, .f32⟩
  | 96 => ⟨S8320x1, .f32⟩
  | 97 => ⟨S_, .f32⟩
  | 98 => ⟨S8320x1, .f32⟩
  | 99 => ⟨S8320x1, .f32⟩
  | 100 => ⟨S_, .f32⟩
  | 101 => ⟨S8320x1, .f32⟩
  | 102 => ⟨S8320x1, .f32⟩
  | 103 => ⟨S8320x1, .f32⟩
  | 104 => ⟨S8320x1024, .f32⟩
  | 105 => ⟨S8320x1024, .f32⟩
  | 106 => ⟨S1x1024, .f32⟩
  | 107 => ⟨S8320x1024, .f32⟩
  | 108 => ⟨S8320x1024, .f32⟩
  | 109 => ⟨S8320x2816, .f32⟩
  | 110 => ⟨S8320x2816, .f32⟩
  | 111 => ⟨S8320x2816, .f32⟩
  | 112 => ⟨S8320x2816, .f32⟩
  | 113 => ⟨S_, .f32⟩
  | 114 => ⟨S8320x2816, .f32⟩
  | 115 => ⟨S8320x2816, .f32⟩
  | 116 => ⟨S_, .f32⟩
  | 117 => ⟨S8320x2816, .f32⟩
  | 118 => ⟨S8320x2816, .f32⟩
  | 119 => ⟨S_, .f32⟩
  | 120 => ⟨S8320x2816, .f32⟩
  | 121 => ⟨S8320x2816, .f32⟩
  | 122 => ⟨S8320x2816, .f32⟩
  | 123 => ⟨S8320x2816, .f32⟩
  | 124 => ⟨S8320x2816, .f32⟩
  | 125 => ⟨S_, .f32⟩
  | 126 => ⟨S8320x1024, .f32⟩
  | 127 => ⟨S8320x1024, .f32⟩
  | _ => ⟨S8320x1024, .f32⟩

abbrev hbmTy0_1 (i : Nat) : BufTy := match i % 128 with
  | 0 => ⟨S1024x2816, .f32⟩
  | 1 => ⟨S8320x2816, .f32⟩
  | 2 => ⟨S8320x2816, .f32⟩
  | 3 => ⟨S8320x2816, .f32⟩
  | 4 => ⟨S8320x2816, .f32⟩
  | 5 => ⟨S8320x2816, .f32⟩
  | 6 => ⟨S8320x2816, .f32⟩
  | 7 => ⟨S8320x2816, .f32⟩
  | 8 => ⟨S8320x2816, .bf16⟩
  | 9 => ⟨S8320x2816, .bf16⟩
  | 10 => ⟨S8320x2816, .f32⟩
  | 11 => ⟨S8320x2816, .f32⟩
  | 12 => ⟨S_, .f32⟩
  | 13 => ⟨S8320x2816, .f32⟩
  | 14 => ⟨S8320x2816, .f32⟩
  | 15 => ⟨S_, .f32⟩
  | 16 => ⟨S8320x2816, .f32⟩
  | 17 => ⟨S8320x2816, .f32⟩
  | 18 => ⟨S8320x2816, .f32⟩
  | 19 => ⟨S8320x2816, .f32⟩
  | 20 => ⟨S8320x2816, .bf16⟩
  | 21 => ⟨S_, .f32⟩
  | 22 => ⟨S8320x1024, .f32⟩
  | 23 => ⟨S8320x1024, .f32⟩
  | 24 => ⟨S8320x1024, .bf16⟩
  | 25 => ⟨S1x1024, .f32⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call2_v0 : Ref sig .tc := ⟨.hbm, 111, rfl⟩
abbrev main_call2_v1 : Ref sig .tc := ⟨.hbm, 112, rfl⟩
abbrev main_call2_cst : Ref sig .tc := ⟨.hbm, 113, rfl⟩
abbrev main_call2_v2 : Ref sig .tc := ⟨.hbm, 114, rfl⟩
abbrev main_call2_v3 : Ref sig .tc := ⟨.hbm, 115, rfl⟩
abbrev main_call2_cst_0 : Ref sig .tc := ⟨.hbm, 116, rfl⟩
abbrev main_call2_v4 : Ref sig .tc := ⟨.hbm, 117, rfl⟩
abbrev main_v76_2 : Ref sig .tc := ⟨.hbm, 118, rfl⟩
abbrev main_call2_cst_1 : Ref sig .tc := ⟨.hbm, 119, rfl⟩
abbrev main_call2_v6 : Ref sig .tc := ⟨.hbm, 120, rfl⟩
abbrev main_call2_v7 : Ref sig .tc := ⟨.hbm, 121, rfl⟩
abbrev main_v76_1 : Ref sig .tc := ⟨.hbm, 122, rfl⟩
abbrev main_v76_0 : Ref sig .tc := ⟨.hbm, 123, rfl⟩
abbrev main_v77 : Ref sig .tc := ⟨.hbm, 124, rfl⟩
abbrev main_cst_13 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_call4_v0 : Ref sig .tc := ⟨.hbm, 138, rfl⟩
abbrev main_call4_v1 : Ref sig .tc := ⟨.hbm, 139, rfl⟩
abbrev main_call4_cst : Ref sig .tc := ⟨.hbm, 140, rfl⟩
abbrev main_call4_v2 : Ref sig .tc := ⟨.hbm, 141, rfl⟩
abbrev main_call4_v3 : Ref sig .tc := ⟨.hbm, 142, rfl⟩
abbrev main_call4_cst_0 : Ref sig .tc := ⟨.hbm, 143, rfl⟩
abbrev main_call4_v4 : Ref sig .tc := ⟨.hbm, 144, rfl⟩
abbrev main_call4_v5 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_14 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩

abbrev nD : Nat := 1
abbrev τ : Topo := Topo.v7x

variable {F : FTy → Type} [FloatOps F]
-- ==== Kernel2.lean ====
abbrev S8320x2816 : Shape := ⟨2, ![8320, 2816]⟩
abbrev S8320x1024 : Shape := ⟨2, ![8320, 1024]⟩
abbrev S2816x1024 : Shape := ⟨2, ![2816, 1024]⟩
abbrev S640x1408 : Shape := ⟨2, ![640, 1408]⟩
abbrev S640x1024 : Shape := ⟨2, ![640, 1024]⟩
abbrev S1408x1024 : Shape := ⟨2, ![1408, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S8320x1024, .bf16⟩
  | .hbm, ⟨3, _⟩ => ⟨S2816x1024, .f32⟩
  | .hbm, ⟨4, _⟩ => ⟨S2816x1024, .f32⟩
  | .hbm, ⟨5, _⟩ => ⟨S2816x1024, .bf16⟩
  | .hbm, ⟨6, _⟩ => ⟨S2816x1024, .bf16⟩
  | .local _ .vmem, ⟨0, _⟩ => ⟨S640x1408, .bf16⟩
  | .local _ .vmem, ⟨1, _⟩ => ⟨S640x1408, .bf16⟩
  | .local _ .vmem, ⟨2, _⟩ => ⟨S640x1408, .bf16⟩
  | .local _ .vmem, ⟨3, _⟩ => ⟨S640x1408, .bf16⟩
  | .local _ .vmem, ⟨4, _⟩ => ⟨S640x1024, .bf16⟩
  | .local _ .vmem, ⟨5, _⟩ => ⟨S640x1024, .bf16⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | .local _ .vmem, ⟨9, _⟩ => ⟨S1408x1024, .f32⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 13], ![false, false]⟩

def k0_cond2 (i : grid0.Coords) : BitVec 1 :=
  let arg1 : BitVec 32 := BitVec.ofNat 32 (i 1).val
  let c12_i32 : BitVec 32 := 12#32
  let v16 : BitVec 1 := Scalar.cmpi .eq arg1 c12_i32
  let v17 : BitVec 32 := Scalar.extui v16
  let c0_i32_15 : BitVec 32 := 0#32
  let v18 : BitVec 1 := Scalar.cmpi .ne v17 c0_i32_15
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 20
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S8320x1024, .bf16⟩
  | .hbm, ⟨3, _⟩ => ⟨S8320x1024, .f32⟩
  | .hbm, ⟨4, _⟩ => ⟨S_, .f32⟩
  | .hbm, ⟨5, _⟩ => ⟨S2816x1024, .f32⟩
  | .hbm, ⟨6, _⟩ => ⟨S1024x2816, .f32⟩
  | .hbm, ⟨7, _⟩ => ⟨S8320x2816, .f32⟩
  | .hbm, ⟨8, _⟩ => ⟨S1024x2816, .f32⟩
  | .hbm, ⟨9, _⟩ => ⟨S8320x2816, .f32⟩
  | .hbm, ⟨10, _⟩ => ⟨S8320x2816, .f32⟩
  | .hbm, ⟨11, _⟩ => ⟨S8320x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S2816x1024, .bf16⟩
  | .hbm, ⟨19, _⟩ => ⟨S2816x1024, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel3.lean ====
abbrev S8320x2816 : Shape := ⟨2, ![8320, 2816]⟩
abbrev S8320x1024 : Shape := ⟨2, ![8320, 1024]⟩
abbrev S2816x1024 : Shape := ⟨2, ![2816, 1024]⟩
abbrev S2080x1408 : Shape := ⟨2, ![2080, 1408]⟩
abbrev S2080x1024 : Shape := ⟨2, ![2080, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S2816x1024, .f32⟩
  | .hbm, ⟨3, _⟩ => ⟨S2816x1024, .bf16⟩
  | .local _ .vmem, ⟨0, _⟩ => ⟨S2080x1408, .bf16⟩
  | .local _ .vmem, ⟨1, _⟩ => ⟨S2080x1408, .bf16⟩
  | .local _ .vmem, ⟨2, _⟩ => ⟨S2080x1024, .bf16⟩
  | .local _ .vmem, ⟨3, _⟩ => ⟨S2080x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S8320x2816, .f32⟩
  | .hbm, ⟨3, _⟩ => ⟨S_, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S1x1x1024 : Shape := ⟨3, ![1, 1, 1024]⟩
abbrev S8320x2816 : Shape := ⟨2, ![8320, 2816]⟩
abbrev S640x1024 : Shape := ⟨2, ![640, 1024]⟩
abbrev S4x352x1024 : Shape := ⟨3, ![4, 352, 1024]⟩
abbrev S640x1408 : Shape := ⟨2, ![640, 1408]⟩
abbrev S1x1024 : Shape := ⟨2, ![1, 1024]⟩
abbrev S640 : Shape := ⟨1, ![640]⟩
abbrev S640x1 : Shape := ⟨2, ![640, 1]⟩
abbrev S1408x1024 : Shape := ⟨2, ![1408, 1024]⟩

abbrev nBuf : Space → Nat
  | .hbm => 19
  | .vmem => 18
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S8x352x1024, .f32⟩
  | .hbm, ⟨7, _⟩ => ⟨S8x352x1024, .bf16⟩
  | .hbm, ⟨8, _⟩ => ⟨S2816x1024, .f32⟩
  | .hbm, ⟨9, _⟩ => ⟨S8x352x1024, .f32⟩
  | .hbm, ⟨10, _⟩ => ⟨S8x352x1024, .bf16⟩
  | .hbm, ⟨11, _⟩ => ⟨S8x352x1024, .f32⟩
  | .hbm, ⟨12, _⟩ => ⟨S8x352x1024, .bf16⟩
  | .hbm, ⟨13, _⟩ => ⟨S8x1056x1024, .bf16⟩
  | .hbm, ⟨14, _⟩ => ⟨S1x1x1024, .f32⟩
  | .hbm, ⟨15, _⟩ => ⟨S8320x1024, .f32⟩
  | .hbm, ⟨16, _⟩ => ⟨S8320x1024, .bf16⟩
  | .hbm, ⟨17, _⟩ => ⟨S8320x2816, .bf16⟩
  | .hbm, ⟨18, _⟩ => ⟨S8320x2816, .bf16⟩
  | .local _ .vmem, ⟨0, _⟩ => ⟨S640x1024, .f32⟩
  | .local _ .vmem, ⟨1, _⟩ => ⟨S640x1024, .f32⟩
  | .local _ .vmem, ⟨2, _⟩ => ⟨S1x1x1024, .f32⟩
  | .local _ .vmem, ⟨3, _⟩ => ⟨S4x352x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S4x352x1024, .bf16⟩
  | .local _ .vmem, ⟨7, _⟩ => ⟨S4x352x1024, .bf16⟩
  | .local _ .vmem, ⟨8, _⟩ => ⟨S4x352x1024, .bf16⟩
  | .local _ .vmem, ⟨9, _⟩ => ⟨S640x1024, .f32⟩
  | .local _ .vmem, ⟨10, _⟩ => ⟨S640x1024, .f32⟩
  | .local _ .vmem, ⟨11, _⟩ => ⟨S640x1024, .bf16⟩
  | .local _ .vmem, ⟨12, _⟩ => ⟨S640x1024, .bf16⟩
  | .local _ .vmem, ⟨13, _⟩ => ⟨S640x1408, .bf16⟩
  | .local _ .vmem, ⟨14, _⟩ => ⟨S640x1408, .bf16⟩
  | .local _ .vmem, ⟨15, _⟩ => ⟨S640x1408, .bf16⟩
  | .local _ .vmem, ⟨16, _⟩ => ⟨S640x1408, .bf16⟩
  | .local _ .vmem, ⟨17, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![13, 2], ![false, false]⟩

def k0_cond2 (i : grid0.Coords) : BitVec 1 :=
  let arg1 : BitVec 32 := BitVec.ofNat 32 (i 1).val
  let c1_i32 : BitVec 32 := 1#32
  let v36 : BitVec 1 := Scalar.cmpi .eq arg1 c1_i32
  let v37 : BitVec 32 := Scalar.extui v36
  let c0_i32_24 : BitVec 32 := 0#32
  let v38 : BitVec 1 := Scalar.cmpi .ne v37 c0_i32_24
  v38

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S640x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8320x2816 : Shape := ⟨2, ![8320, 2816]⟩

abbrev nBuf : Space → Nat
  | .hbm => 43
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S1x1024, .f32⟩
  | .hbm, ⟨19, _⟩ => ⟨S8320x1024, .f32⟩
  | .hbm, ⟨20, _⟩ => ⟨S8320x1024, .f32⟩
  | .hbm, ⟨21, _⟩ => ⟨S8320x2816, .f32⟩
  | .hbm, ⟨22, _⟩ => ⟨S8320x2816, .f32⟩
  | .hbm, ⟨23, _⟩ => ⟨S8320x2816, .f32⟩
  | .hbm, ⟨24, _⟩ => ⟨S_, .f32⟩
  | .hbm, ⟨25, _⟩ => ⟨S8320x2816, .f32⟩
  | .hbm, ⟨26, _⟩ => ⟨S8320x2816, .f32⟩
  | .hbm, ⟨27, _⟩ => ⟨S_, .f32⟩
  | .hbm, ⟨28, _⟩ => ⟨S8320x2816, .f32⟩
  | .hbm, ⟨29, _⟩ => ⟨S8320x2816, .f32⟩
  | .hbm, ⟨30, _⟩ => ⟨S8320x2816, .f32⟩
  | .hbm, ⟨31, _⟩ => ⟨S8320x2816, .f32⟩
  | .hbm, ⟨32, _⟩ => ⟨S8320x2816, .f32⟩
  | .hbm, ⟨33, _⟩ => ⟨S8320x1024, .f32⟩
  | .hbm, ⟨34, _⟩ => ⟨S_, .f32⟩
  | .hbm, ⟨35, _⟩ => ⟨S8320x1024, .f32⟩
  | .hbm, ⟨36, _⟩ => ⟨S8320x1024, .f32⟩
  | .hbm, ⟨37, _⟩ => ⟨S8320x1024, .f32⟩
  | .hbm, ⟨38, _⟩ => ⟨S8320x1024, .bf16⟩
  | .hbm, ⟨39, _⟩ => ⟨S8320x2816, .f32⟩
  | .hbm, ⟨40, _⟩ => ⟨S8320x2816, .bf16⟩
  | .hbm, ⟨41, _⟩ => ⟨S8320x2816, .f32⟩
  | .hbm, ⟨42, _⟩ => ⟨S8320x2816, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Kernel5.lean ====
abbrev S8x8320x128 : Shape := ⟨3, ![8, 8320, 128]⟩
abbrev S8320x128 : Shape := ⟨2, ![8320, 128]⟩
abbrev S91 : Shape := ⟨1, ![91]⟩
abbrev S_ : Shape := ⟨0, ![]⟩
abbrev S8x8320x8320 : Shape := ⟨3, ![8, 8320, 8320]⟩
abbrev S8320 : Shape := ⟨1, ![8320]⟩
abbrev S8x8320 : Shape := ⟨2, ![8, 8320]⟩
abbrev S8x8320x1 : Shape := ⟨3, ![8, 8320, 1]⟩
abbrev S8x1x8320 : Shape := ⟨3, ![8, 1, 8320]⟩
abbrev S1x640x128 : Shape := ⟨3, ![1, 640, 128]⟩
abbrev S1 : Shape := ⟨1, ![1]⟩
abbrev S640x128 : Shape := ⟨2, ![640, 128]⟩
abbrev S1x1x640 : Shape := ⟨3, ![1, 1, 640]⟩
abbrev S1x8320x128 : Shape := ⟨3, ![1, 8320, 128]⟩
abbrev S640x640 : Shape := ⟨2, ![640, 640]⟩
abbrev S1x640 : Shape := ⟨2, ![1, 640]⟩

abbrev nBuf : Space → Nat
  | .hbm => 60
  | .vmem => 20
  | .smem => 2
  | _ => 0

abbrev bufTy : (tb : Table) → Fin (tcTables nBuf tb) → BufTy
  | .hbm, ⟨0, _⟩ => ⟨S8x8320x128, .f32⟩
  | .hbm, ⟨1, _⟩ => ⟨S8x8320x128, .bf16⟩
  | .hbm, ⟨2, _⟩ => ⟨S8320x128, .bf16⟩
  | .hbm, ⟨3, _⟩ => ⟨S8x8320x128, .bf16⟩
  | .hbm, ⟨4, _⟩ => ⟨S8x8320x128, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8320x128, .f32⟩
  | .hbm, ⟨10, _⟩ => ⟨S8320x128, .f32⟩
  | .hbm, ⟨11, _⟩ => ⟨S8x8320x128, .f32⟩
  | .hbm, ⟨12, _⟩ => ⟨S8x8320x128, .f32⟩
  | .hbm, ⟨13, _⟩ => ⟨S8x8320x8320, .f32⟩
  | .hbm, ⟨14, _⟩ => ⟨S8x8320x8320, .f32⟩
  | .hbm, ⟨15, _⟩ => ⟨S8x8320x8320, .f32⟩
  | .hbm, ⟨16, _⟩ => ⟨S8320, .i32⟩
  | .hbm, ⟨17, _⟩ => ⟨S_, .i32⟩
  | .hbm, ⟨18, _⟩ => ⟨S8320, .i32⟩
  | .hbm, ⟨19, _⟩ => ⟨S8320, .i32⟩
  | .hbm, ⟨20, _⟩ => ⟨S8x8320x8320, .i32⟩
  | .hbm, ⟨21, _⟩ => ⟨S8x8320x8320, .i32⟩
  | .hbm, ⟨22, _⟩ => ⟨S8x8320x8320, .i1⟩
  | .hbm, ⟨23, _⟩ => ⟨S_, .f32⟩
  | .hbm, ⟨24, _⟩ => ⟨S8x8320x8320, .f32⟩
  | .hbm, ⟨25, _⟩ => ⟨S8x8320x8320, .f32⟩
  | .hbm, ⟨26, _⟩ => ⟨S_, .f32⟩
  | .hbm, ⟨27, _⟩ => ⟨S8x8320, .f32⟩
  | .hbm, ⟨28, _⟩ => ⟨S8x8320x8320, .f32⟩
  | .hbm, ⟨29, _⟩ => ⟨S8x8320x8320, .f32⟩
  | .hbm, ⟨30, _⟩ => ⟨S8x8320x8320, .f32⟩
  | .hbm, ⟨31, _⟩ => ⟨S_, .f32⟩
  | .hbm, ⟨32, _⟩ => ⟨S8x8320, .f32⟩
  | .hbm, ⟨33, _⟩ => ⟨S8x8320x8320, .f32⟩
  | .hbm, ⟨34, _⟩ => ⟨S8x8320x8320, .f32⟩
  | .hbm, ⟨35, _⟩ => ⟨S8x8320x128, .f32⟩
  | .hbm, ⟨36, _⟩ => ⟨S8x8320x128, .f32⟩
  | .hbm, ⟨37, _⟩ => ⟨S8x8320, .f32⟩
  | .hbm, ⟨38, _⟩ => ⟨S8x8320, .f32⟩
  | .hbm, ⟨39, _⟩ => ⟨S8x8320, .f32⟩
  | .hbm, ⟨40, _⟩ => ⟨S8x8320, .f32⟩
  | .hbm, ⟨41, _⟩ => ⟨S8x8320x128, .f32⟩
  | .hbm, ⟨42, _⟩ => ⟨S8x8320x128, .f32⟩
  | .hbm, ⟨43, _⟩ => ⟨S_, .f32⟩
  | .hbm, ⟨44, _⟩ => ⟨S8x8320, .f32⟩
  | .hbm, ⟨45, _⟩ => ⟨S_, .f32⟩
  | .hbm, ⟨46, _⟩ => ⟨S8x8320x128, .f32⟩
  | .hbm, ⟨47, _⟩ => ⟨S8x8320x128, .f32⟩
  | .hbm, ⟨48, _⟩ => ⟨S8x8320x128, .bf16⟩
  | .hbm, ⟨49, _⟩ => ⟨S8x8320x128, .f32⟩
  | .hbm, ⟨50, _⟩ => ⟨S8x8320x128, .f32⟩
  | .hbm, ⟨51, _⟩ => ⟨S8x8320x1, .f32⟩
  | .hbm, ⟨52, _⟩ => ⟨S8x8320, .f32⟩
  | .hbm, ⟨53, _⟩ => ⟨S8x1x8320, .f32⟩
  | .hbm, ⟨54, _⟩ => ⟨S8x8320x1, .f32⟩
  | .hbm, ⟨55, _⟩ => ⟨S8x8320, .f32⟩
  | .hbm, ⟨56, _⟩ => ⟨S8x1x8320, .f32⟩
  | .hbm, ⟨57, _⟩ => ⟨S8x8320x128, .f32⟩
  | .hbm, ⟨58, _⟩ => ⟨S8x8320x128, .f32⟩
  | .hbm, ⟨59, _⟩ => ⟨S8x8320x128, .f32⟩
  | .local _ .vmem, ⟨0, _⟩ => ⟨S1x640x128, .bf16⟩
  | .local _ .vmem, ⟨1, _⟩ => ⟨S1x640x128, .bf16⟩
  | .local _ .vmem, ⟨2, _⟩ => ⟨S1x640x128, .bf16⟩
  | .local _ .vmem, ⟨3, _⟩ => ⟨S1x640x128, .bf16⟩
  | .local _ .vmem, ⟨4, _⟩ => ⟨S640x128, .bf16⟩
  | .local _ .vmem, ⟨5, _⟩ => ⟨S640x128, .bf16⟩
  | .local _ .vmem, ⟨6, _⟩ => ⟨S1x640x128, .bf16⟩
  | .local _ .vmem, ⟨7, _⟩ => ⟨S1x640x128, .bf16⟩
  | .local _ .vmem, ⟨8, _⟩ => ⟨S1x640x128, .bf16⟩
  | .local _ .vmem, ⟨9, _⟩ => ⟨S1x640x128, .bf16⟩
  | .local _ .vmem, ⟨10, _⟩ => ⟨S1x1x640, .f32⟩
  | .local _ .vmem, ⟨11, _⟩ => ⟨S1x1x640, .f32⟩
  | .local _ .vmem, ⟨12, _⟩ => ⟨S1x1x640, .f32⟩
  | .local _ .vmem, ⟨13, _⟩ => ⟨S1x1x640, .f32⟩
  | .local _ .vmem, ⟨14, _⟩ => ⟨S1x8320x128, .f32⟩
  | .local _ .vmem, ⟨15, _⟩ => ⟨S1x8320x128, .f32⟩
  | .local _ .vmem, ⟨16, _⟩ => ⟨S1x640x128, .f32⟩
  | .local _ .vmem, ⟨17, _⟩ => ⟨S1x640x128, .f32⟩
  | .local _ .vmem, ⟨18, _⟩ => ⟨S1x640x128, .f32⟩
  | .local _ .vmem, ⟨19, _⟩ => ⟨S1x640x128, .f32⟩
  | .local _ .smem, ⟨0, _⟩ => ⟨S91, .i32⟩
  | .local _ .smem, ⟨1, _⟩ => ⟨S91, .i32⟩
  | _, _ => ⟨S8x8320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev main_v45_2 : Ref sig .tc := ⟨.hbm, 59, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 91], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c640_i32 : BitVec 32 := 640#32
  let v56 : BitVec 32 := Scalar.muli v1 c640_i32
  v56
def k0_cond3 (v1 : BitVec 32) (v3 : BitVec 32) : BitVec 1 :=
  let v10 : BitVec 1 := Scalar.cmpi .slt v3 v1
  let v11 : BitVec 32 := Scalar.extui v10
  let c0_i32_2 : BitVec 32 := 0#32
  let v12 : BitVec 1 := Scalar.cmpi .ne v11 c0_i32_2
  v12

def k0_off2 (v1 : BitVec 32) : Fin 3 → Nat :=
  let c0_39 : Index := 0#32
  let c640_i32 : BitVec 32 := 640#32
  let v56 : BitVec 32 := Scalar.muli v1 c640_i32
  let v57 : BitVec 32 := v56
  let v58 : Index := Scalar.indexCast v57
  let c0_40 : Index := 0#32
  ![0, v58.toNat, 0]
def k0_mult2 (v1 : BitVec 32) : BitVec 32 :=
  let c640_i32 : BitVec 32 := 640#32
  let v65 : BitVec 32 := Scalar.muli v1 c640_i32
  v65
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def k0_off3 (v1 : BitVec 32) : Fin 3 → Nat :=
  let c0_41 : Index := 0#32
  let c640_i32 : BitVec 32 := 640#32
  let v65 : BitVec 32 := Scalar.muli v1 c640_i32
  let v66 : BitVec 32 := v65
  let v67 : Index := Scalar.indexCast v66
  let c0_42 : Index := 0#32
  ![0, v67.toNat, 0]

def k0_chk1 (v1 : BitVec 32) (v3 : BitVec 32) : Prop :=
  (∀ (k0_h3 : k0_cond3 v1 v3 = 1#1), 640 ∣ (k0_mult1 v1).toNat) ∧
  (∀ (k0_h3 : k0_cond3 v1 v3 = 1#1), ∀ a, (k0_off2 v1) a + S1x640x128.size a ≤ S1x8320x128.size a) ∧
  (∀ (k0_h4 : k0_cond4 v1 v3 = 1#1), 640 ∣ (k0_mult2 v1).toNat) ∧
  (∀ (k0_h4 : k0_cond4 v1 v3 = 1#1), ∀ a, (k0_off3 v1) a + S1x640x128.size a ≤ S1x8320x128.size a)
theorem k0_mult1_dvd : ∀ (v1 : BitVec 32) (v3 : BitVec 32) (k0_hw1 : k0_chk1 v1 v3), ∀ (k0_h3 : k0_cond3 v1 v3 = 1#1), 640 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1x640x128.size a ≤ S1x8320x128.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 640 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v1) a + S1x640x128.size a ≤ S1x8320x128.size a := fun v1 v3 k0_hw1 k0_h4 => k0_hw1.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  let c0_i32_0 : BitVec 32 := 0#32
  ![arg0.toNat, c0_i32.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  let c0_i32_0 : BitVec 32 := 0#32
  ![arg0.toNat, v1.toNat, c0_i32.toNat]

def cc0_transform_9 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x640x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8320x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel5Ideal.lean ====
variable {F : FTy → Type} [FloatOps F] [Named F]
def κ : String → Option EReal := fun
  | "ln2" => some ((Real.log 2 : ℝ) : EReal)
  | "neg" => some ⊥
  | "sm_scale" => some (((Real.sqrt 96)⁻¹ : ℝ) : EReal)
  | _ => none
-- ==== Reference5Ideal.lean ====
abbrev S8x8320x128 : Shape := ⟨3, ![8, 8320, 128]⟩
abbrev S8320x128 : Shape := ⟨2, ![8320, 128]⟩
abbrev S1x8320x128 : Shape := ⟨3, ![1, 8320, 128]⟩
abbrev S8x8320x8320 : Shape := ⟨3, ![8, 8320, 8320]⟩
abbrev S_ : Shape := ⟨0, ![]⟩
abbrev S8320 : Shape := ⟨1, ![8320]⟩
abbrev S1x1x8320 : Shape := ⟨3, ![1, 1, 8320]⟩
abbrev S1x8320x1 : Shape := ⟨3, ![1, 8320, 1]⟩
abbrev S1x8320x8320 : Shape := ⟨3, ![1, 8320, 8320]⟩
abbrev S8x8320 : Shape := ⟨2, ![8, 8320]⟩
abbrev S8x8320x1 : Shape := ⟨3, ![8, 8320, 1]⟩
abbrev S8x128x8320 : Shape := ⟨3, ![8, 128, 8320]⟩

abbrev nBuf : Space → Nat
  | .hbm => 96
  | .vmem => 0
  | .smem => 0
  | _ => 0

abbrev bufTy : (tb : Table) → Fin (tcTables nBuf tb) → BufTy
  | .hbm, ⟨0, _⟩ => ⟨S8x8320x128, .f32⟩
  | .hbm, ⟨1, _⟩ => ⟨S8x8320x128, .bf16⟩
  | .hbm, ⟨2, _⟩ => ⟨S8320x128, .bf16⟩
  | .hbm, ⟨3, _⟩ => ⟨S8x8320x128, .bf16⟩
  | .hbm, ⟨4, _⟩ => ⟨S8x8320x128, .bf16⟩
  | .hbm, ⟨5, _⟩ => ⟨S8x8320x128, .f32⟩
  | .hbm, ⟨6, _⟩ => ⟨S8320x128, .f32⟩
  | .hbm, ⟨7, _⟩ => ⟨S1x8320x128, .f32⟩
  | .hbm, ⟨8, _⟩ => ⟨S8x8320x128, .f32⟩
  | .hbm, ⟨9, _⟩ => ⟨S8x8320x128, .f32⟩
  | .hbm, ⟨10, _⟩ => ⟨S8x8320x128, .f32⟩
  | .hbm, ⟨11, _⟩ => ⟨S8x8320x8320, .f32⟩
  | .hbm, ⟨12, _⟩ => ⟨S_, .f32⟩
  | .hbm, ⟨13, _⟩ => ⟨S_, .f32⟩
  | .hbm, ⟨14, _⟩ => ⟨S8x8320x8320, .f32⟩
  | .hbm, ⟨15, _⟩ => ⟨S8x8320x8320, .f32⟩
  | .hbm, ⟨16, _⟩ => ⟨S8320, .i32⟩
  | .hbm, ⟨17, _⟩ => ⟨S_, .i32⟩
  | .hbm, ⟨18, _⟩ => ⟨S8320, .i32⟩
  | .hbm, ⟨19, _⟩ => ⟨S8320, .i32⟩
  | .hbm, ⟨20, _⟩ => ⟨S1x1x8320, .i32⟩
  | .hbm, ⟨21, _⟩ => ⟨S1x8320x1, .i32⟩
  | .hbm, ⟨22, _⟩ => ⟨S1x8320x8320, .i32⟩
  | .hbm, ⟨23, _⟩ => ⟨S1x8320x8320, .i32⟩
  | .hbm, ⟨24, _⟩ => ⟨S1x8320x8320, .i1⟩
  | .hbm, ⟨25, _⟩ => ⟨S_, .f32⟩
  | .hbm, ⟨26, _⟩ => ⟨S_, .f32⟩
  | .hbm, ⟨27, _⟩ => ⟨S8x8320x8320, .i1⟩
  | .hbm, ⟨28, _⟩ => ⟨S8x8320x8320, .f32⟩
  | .hbm, ⟨29, _⟩ => ⟨S8x8320x8320, .f32⟩
  | .hbm, ⟨30, _⟩ => ⟨S_, .f32⟩
  | .hbm, ⟨31, _⟩ => ⟨S8x8320x8320, .f32⟩
  | .hbm, ⟨32, _⟩ => ⟨S_, .f32⟩
  | .hbm, ⟨33, _⟩ => ⟨S8x8320, .f32⟩
  | .hbm, ⟨34, _⟩ => ⟨S8x8320x1, .f32⟩
  | .hbm, ⟨35, _⟩ => ⟨S8x8320x8320, .f32⟩
  | .hbm, ⟨36, _⟩ => ⟨S8x8320x8320, .i1⟩
  | .hbm, ⟨37, _⟩ => ⟨S8x8320x8320, .f32⟩
  | .hbm, ⟨38, _⟩ => ⟨S_, .f32⟩
  | .hbm, ⟨39, _⟩ => ⟨S8x8320, .f32⟩
  | .hbm, ⟨40, _⟩ => ⟨S_, .f32⟩
  | .hbm, ⟨41, _⟩ => ⟨S8x8320, .f32⟩
  | .hbm, ⟨42, _⟩ => ⟨S8x8320, .f32⟩
  | .hbm, ⟨43, _⟩ => ⟨S_, .f32⟩
  | .hbm, ⟨44, _⟩ => ⟨S8x8320, .f32⟩
  | .hbm, ⟨45, _⟩ => ⟨S8x8320, .i1⟩
  | .hbm, ⟨46, _⟩ => ⟨S_, .f32⟩
  | .hbm, ⟨47, _⟩ => ⟨S8x8320, .f32⟩
  | .hbm, ⟨48, _⟩ => ⟨S8x8320, .i1⟩
  | .hbm, ⟨49, _⟩ => ⟨S_, .f32⟩
  | .hbm, ⟨50, _⟩ => ⟨S8x8320, .f32⟩
  | .hbm, ⟨51, _⟩ => ⟨S_, .f32⟩
  | .hbm, ⟨52, _⟩ => ⟨S8x8320, .f32⟩
  | .hbm, ⟨53, _⟩ => ⟨S_, .f32⟩
  | .hbm, ⟨54, _⟩ => ⟨S8x8320, .f32⟩
  | .hbm, ⟨55, _⟩ => ⟨S8x8320, .f32⟩
  | .hbm, ⟨56, _⟩ => ⟨S8x8320, .f32⟩
  | .hbm, ⟨57, _⟩ => ⟨S8x8320x1, .f32⟩
  | .hbm, ⟨58, _⟩ => ⟨S8x8320x8320, .f32⟩
  | .hbm, ⟨59, _⟩ => ⟨S8x8320x8320, .f32⟩
  | .hbm, ⟨60, _⟩ => ⟨S8x8320x8320, .f32⟩
  | .hbm, ⟨61, _⟩ => ⟨S_, .f32⟩
  | .hbm, ⟨62, _⟩ => ⟨S8x8320, .f32⟩
  | .hbm, ⟨63, _⟩ => ⟨S8x8320x1, .f32⟩
  | .hbm, ⟨64, _⟩ => ⟨S8x8320x8320, .f32⟩
  | .hbm, ⟨65, _⟩ => ⟨S8x8320x8320, .f32⟩
  | .hbm, ⟨66, _⟩ => ⟨S8x8320x1, .f32⟩
  | .hbm, ⟨67, _⟩ => ⟨S_, .f32⟩
  | .hbm, ⟨68, _⟩ => ⟨S8x8320x1, .f32⟩
  | .hbm, ⟨69, _⟩ => ⟨S8x8320x1, .f32⟩
  | .hbm, ⟨70, _⟩ => ⟨S8x8320x128, .f32⟩
  | .hbm, ⟨71, _⟩ => ⟨S8x8320x128, .f32⟩
  | .hbm, ⟨72, _⟩ => ⟨S8x128x8320, .f32⟩
  | .hbm, ⟨73, _⟩ => ⟨S8x8320x128, .f32⟩
  | .hbm, ⟨74, _⟩ => ⟨S8x8320x8320, .f32⟩
  | .hbm, ⟨75, _⟩ => ⟨S8x8320x8320, .f32⟩
  | .hbm, ⟨76, _⟩ => ⟨S8x8320x8320, .f32⟩
  | .hbm, ⟨77, _⟩ => ⟨S8x8320x8320, .f32⟩
  | .hbm, ⟨78, _⟩ => ⟨S_, .f32⟩
  | .hbm, ⟨79, _⟩ => ⟨S8x8320, .f32⟩
  | .hbm, ⟨80, _⟩ => ⟨S8x8320x1, .f32⟩
  | .hbm, ⟨81, _⟩ => ⟨S8x8320x1, .f32⟩
  | .hbm, ⟨82, _⟩ => ⟨S8x8320x8320, .f32⟩
  | .hbm, ⟨83, _⟩ => ⟨S8x8320x8320, .f32⟩
  | .hbm, ⟨84, _⟩ => ⟨S_, .f32⟩
  | .hbm, ⟨85, _⟩ => ⟨S8x8320, .f32⟩
  | .hbm, ⟨86, _⟩ => ⟨S8x8320x8320, .f32⟩
  | .hbm, ⟨87, _⟩ => ⟨S8x8320x8320, .f32⟩
  | .hbm, ⟨88, _⟩ => ⟨S8x8320x8320, .f32⟩
  | .hbm, ⟨89, _⟩ => ⟨S_, .f32⟩
  | .hbm, ⟨90, _⟩ => ⟨S8x8320x8320, .f32⟩
  | .hbm, ⟨91, _⟩ => ⟨S8x8320x8320, .f32⟩
  | .hbm, ⟨92, _⟩ => ⟨S8x8320x8320, .f32⟩
  | .hbm, ⟨93, _⟩ => ⟨S8x8320x8320, .f32⟩
  | .hbm, ⟨94, _⟩ => ⟨S8x8320x128, .f32⟩
  | .hbm, ⟨95, _⟩ => ⟨S8x8320x128, .f32⟩
  | _, _ => ⟨S8x8320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_v18_1 : Ref sig .tc := ⟨.hbm, 27, rfl⟩
abbrev main_call0_v2 : Ref sig .tc := ⟨.hbm, 28, rfl⟩
abbrev main_v18_0 : Ref sig .tc := ⟨.hbm, 29, rfl⟩
abbrev main_call0_cst : Ref sig .tc := ⟨.hbm, 30, rfl⟩
abbrev main_v18_2 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== Proof.Dw.Left2.lean ====
/- What each kind of grid point leaves in the result blocks, as the named payloads of the blocks read. -/
module

public import proofs.«01_k».proof.Proof.Gen.Kernel2Ideal.Frame
public import Idealize.ShloMosaic.Lib.Pipeline.Value
public import Idealize.ShloMosaic.Lib.ValueIdx

@[expose] public section

set_option maxRecDepth 16384

noncomputable section

namespace Cert.Kernel2Ideal.Dw

open Cert.Kernel2Ideal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window cellOf)

variable {F : FTy → Type} [FloatOps F]

theorem hz2 : (![0, 0] : Fin 2 → Nat) = fun _ => 0 := funext fun a => by fin_cases a <;> rfl

/-! ## Result window 3 and its copy 5 -/

theorem left_A_3 (c : Dev nD) (i : grid0.Coords) (arg2 : Memref sig .tc .vmem S640x1408 .bf16) (harg2 : arg2.IsWhole) (arg3 : Memref sig .tc .vmem S640x1408 .bf16) (harg3 : arg3.IsWhole) (arg4 : Memref sig .tc .vmem S640x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .bf16) (harg7 : arg7.IsWhole) (arg8 : Memref sig .tc .vmem S1408x1024 .bf16) (harg8 : arg8.IsWhole) (hc0 : cond0_0 i) (hc1 : ¬cond0_1 i)
    (x0 : Vec F S640x1408 .bf16) (x1 : Vec F S640x1408 .bf16) (x2 : Vec F S640x1024 .bf16) :
    out0_A_3 (F := F) c i arg2 harg2 arg3 harg3 arg4 harg4 arg5 harg5 arg6 harg6 arg7 harg7 arg8 harg8 hc0 hc1 x0 x1 x2 = k0_pay3 x2 k0_pay1 x0 := by
  unfold out0_A_3
  rw [View.read_writes_eq_canon _ _ _ (View.cover_of_tiledL (kernelRun0_A c i arg2 harg2 arg3 harg3 arg4 harg4 arg5 harg5 arg6 harg6 arg7 harg7 arg8 harg8 hc0 hc1 x0 x1 x2).1 S1408x1024.size (by sl_kernel_rfl))]
  unfold kernelRun0_A
  dsimp only
  sl_unfold_words
  simp only [View.canon_cons_unit_zero (S := S1408x1024) hz2, View.readCov_unit_zero (S := S1408x1024) _ hz2, View.readAt_eq_ld, harg2.read_unread, harg3.read_unread, harg4.read_unread, harg5.read_unread, harg6.read_unread, harg7.read_unread, harg8.read_unread, View.ld_unit_zero (S := S1408x1024) hz2, View.ld_unit_zero (S := S640x1408) hz2, View.ld_unit_zero (S := S640x1024) hz2]

theorem left_B_3 (c : Dev nD) (i : grid0.Coords) (arg2 : Memref sig .tc .vmem S640x1408 .bf16) (harg2 : arg2.IsWhole) (arg3 : Memref sig .tc .vmem S640x1408 .bf16) (harg3 : arg3.IsWhole) (arg4 : Memref sig .tc .vmem S640x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .bf16) (harg7 : arg7.IsWhole) (arg8 : Memref sig .tc .vmem S1408x1024 .bf16) (harg8 : arg8.IsWhole) (hc0 : ¬cond0_0 i) (hc1 : ¬cond0_1 i)
    (x0 : Vec F S640x1408 .bf16) (x1 : Vec F S640x1408 .bf16) (x2 : Vec F S640x1024 .bf16) (xo3 : Vec F S1408x1024 .f32) (xo4 : Vec F S1408x1024 .f32) :
    out0_B_3 (F := F) c i arg2 harg2 arg3 harg3 arg4 harg4 arg5 harg5 arg6 harg6 arg7 harg7 arg8 harg8 hc0 hc1 x0 x1 x2 xo3 xo4 = k0_pay3 x2 xo3 x0 := by
  unfold out0_B_3
  rw [View.read_writes_eq_canon _ _ _ (View.cover_of_tiledL (kernelRun0_B c i arg2 harg2 arg3 harg3 arg4 harg4 arg5 harg5 arg6 harg6 arg7 harg7 arg8 harg8 hc0 hc1 x0 x1 x2 xo3 xo4).1 S1408x1024.size (by sl_kernel_rfl))]
  unfold kernelRun0_B
  dsimp only
  sl_unfold_words
  simp only [View.canon_cons_unit_zero (S := S1408x1024) hz2, View.readCov_unit_zero (S := S1408x1024) _ hz2, View.readAt_eq_ld, harg2.read_unread, harg3.read_unread, harg4.read_unread, harg5.read_unread, harg6.read_unread, harg7.read_unread, harg8.read_unread, View.ld_unit_zero (S := S1408x1024) hz2, View.ld_unit_zero (S := S640x1408) hz2, View.ld_unit_zero (S := S640x1024) hz2]

theorem left_C_3 (c : Dev nD) (i : grid0.Coords) (arg2 : Memref sig .tc .vmem S640x1408 .bf16) (harg2 : arg2.IsWhole) (arg3 : Memref sig .tc .vmem S640x1408 .bf16) (harg3 : arg3.IsWhole) (arg4 : Memref sig .tc .vmem S640x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .bf16) (harg7 : arg7.IsWhole) (arg8 : Memref sig .tc .vmem S1408x1024 .bf16) (harg8 : arg8.IsWhole) (hc0 : ¬cond0_0 i) (hc1 : cond0_1 i)
    (x0 : Vec F S640x1408 .bf16) (x1 : Vec F S640x1408 .bf16) (x2 : Vec F S640x1024 .bf16) (xo3 : Vec F S1408x1024 .f32) (xo4 : Vec F S1408x1024 .f32) :
    out0_C_3 (F := F) c i arg2 harg2 arg3 harg3 arg4 harg4 arg5 harg5 arg6 harg6 arg7 harg7 arg8 harg8 hc0 hc1 x0 x1 x2 xo3 xo4 = k0_pay3 x2 xo3 x0 := by
  unfold out0_C_3
  rw [View.read_writes_eq_canon _ _ _ (View.cover_of_tiledL (kernelRun0_C c i arg2 harg2 arg3 harg3 arg4 harg4 arg5 harg5 arg6 harg6 arg7 harg7 arg8 harg8 hc0 hc1 x0 x1 x2 xo3 xo4).1 S1408x1024.size (by sl_kernel_rfl))]
  unfold kernelRun0_C
  dsimp only
  sl_unfold_words
  simp only [View.canon_cons_unit_zero (S := S1408x1024) hz2, View.readCov_unit_zero (S := S1408x1024) _ hz2, View.readAt_eq_ld, harg2.read_unread, harg3.read_unread, harg4.read_unread, harg5.read_unread, harg6.read_unread, harg7.read_unread, harg8.read_unread, View.ld_unit_zero (S := S1408x1024) hz2, View.ld_unit_zero (S := S640x1408) hz2, View.ld_unit_zero (S := S640x1024) hz2]

theorem left_C_5 (c : Dev nD) (i : grid0.Coords) (arg2 : Memref sig .tc .vmem S640x1408 .bf16) (harg2 : arg2.IsWhole) (arg3 : Memref sig .tc .vmem S640x1408 .bf16) (harg3 : arg3.IsWhole) (arg4 : Memref sig .tc .vmem S640x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .bf16) (harg7 : arg7.IsWhole) (arg8 : Memref sig .tc .vmem S1408x1024 .bf16) (harg8 : arg8.IsWhole) (hc0 : ¬cond0_0 i) (hc1 : cond0_1 i)
    (x0 : Vec F S640x1408 .bf16) (x1 : Vec F S640x1408 .bf16) (x2 : Vec F S640x1024 .bf16) (xo3 : Vec F S1408x1024 .f32) (xo4 : Vec F S1408x1024 .f32) :
    out0_C_5 (F := F) c i arg2 harg2 arg3 harg3 arg4 harg4 arg5 harg5 arg6 harg6 arg7 harg7 arg8 harg8 hc0 hc1 x0 x1 x2 xo3 xo4 = k0_pay5 (k0_pay3 x2 xo3 x0) := by
  unfold out0_C_5
  rw [View.read_writes_eq_canon _ _ _ (View.cover_of_tiledL (kernelRun0_C c i arg2 harg2 arg3 harg3 arg4 harg4 arg5 harg5 arg6 harg6 arg7 harg7 arg8 harg8 hc0 hc1 x0 x1 x2 xo3 xo4).2.2.1 S1408x1024.size (by sl_kernel_rfl))]
  unfold kernelRun0_C
  dsimp only
  sl_unfold_words
  simp only [View.canon_cons_unit_zero (S := S1408x1024) hz2, View.readCov_unit_zero (S := S1408x1024) _ hz2, View.readAt_eq_ld, harg2.read_unread, harg3.read_unread, harg4.read_unread, harg5.read_unread, harg6.read_unread, harg7.read_unread, harg8.read_unread, View.ld_unit_zero (S := S1408x1024) hz2, View.ld_unit_zero (S := S640x1408) hz2, View.ld_unit_zero (S := S640x1024) hz2]

/-! ## Result window 4 and its copy 6 -/

theorem left_A_4 (c : Dev nD) (i : grid0.Coords) (arg2 : Memref sig .tc .vmem S640x1408 .bf16) (harg2 : arg2.IsWhole) (arg3 : Memref sig .tc .vmem S640x1408 .bf16) (harg3 : arg3.IsWhole) (arg4 : Memref sig .tc .vmem S640x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .bf16) (harg7 : arg7.IsWhole) (arg8 : Memref sig .tc .vmem S1408x1024 .bf16) (harg8 : arg8.IsWhole) (hc0 : cond0_0 i) (hc1 : ¬cond0_1 i)
    (x0 : Vec F S640x1408 .bf16) (x1 : Vec F S640x1408 .bf16) (x2 : Vec F S640x1024 .bf16) :
    out0_A_4 (F := F) c i arg2 harg2 arg3 harg3 arg4 harg4 arg5 harg5 arg6 harg6 arg7 harg7 arg8 harg8 hc0 hc1 x0 x1 x2 = k0_pay4 x2 k0_pay2 x1 := by
  unfold out0_A_4
  rw [View.read_writes_eq_canon _ _ _ (View.cover_of_tiledL (kernelRun0_A c i arg2 harg2 arg3 harg3 arg4 harg4 arg5 harg5 arg6 harg6 arg7 harg7 arg8 harg8 hc0 hc1 x0 x1 x2).2.1 S1408x1024.size (by sl_kernel_rfl))]
  unfold kernelRun0_A
  dsimp only
  sl_unfold_words
  simp only [View.canon_cons_unit_zero (S := S1408x1024) hz2, View.readCov_unit_zero (S := S1408x1024) _ hz2, View.readAt_eq_ld, harg2.read_unread, harg3.read_unread, harg4.read_unread, harg5.read_unread, harg6.read_unread, harg7.read_unread, harg8.read_unread, View.ld_unit_zero (S := S1408x1024) hz2, View.ld_unit_zero (S := S640x1408) hz2, View.ld_unit_zero (S := S640x1024) hz2]

theorem left_B_4 (c : Dev nD) (i : grid0.Coords) (arg2 : Memref sig .tc .vmem S640x1408 .bf16) (harg2 : arg2.IsWhole) (arg3 : Memref sig .tc .vmem S640x1408 .bf16) (harg3 : arg3.IsWhole) (arg4 : Memref sig .tc .vmem S640x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .bf16) (harg7 : arg7.IsWhole) (arg8 : Memref sig .tc .vmem S1408x1024 .bf16) (harg8 : arg8.IsWhole) (hc0 : ¬cond0_0 i) (hc1 : ¬cond0_1 i)
    (x0 : Vec F S640x1408 .bf16) (x1 : Vec F S640x1408 .bf16) (x2 : Vec F S640x1024 .bf16) (xo3 : Vec F S1408x1024 .f32) (xo4 : Vec F S1408x1024 .f32) :
    out0_B_4 (F := F) c i arg2 harg2 arg3 harg3 arg4 harg4 arg5 harg5 arg6 harg6 arg7 harg7 arg8 harg8 hc0 hc1 x0 x1 x2 xo3 xo4 = k0_pay4 x2 xo4 x1 := by
  unfold out0_B_4
  rw [View.read_writes_eq_canon _ _ _ (View.cover_of_tiledL (kernelRun0_B c i arg2 harg2 arg3 harg3 arg4 harg4 arg5 harg5 arg6 harg6 arg7 harg7 arg8 harg8 hc0 hc1 x0 x1 x2 xo3 xo4).2.1 S1408x1024.size (by sl_kernel_rfl))]
  unfold kernelRun0_B
  dsimp only
  sl_unfold_words
  simp only [View.canon_cons_unit_zero (S := S1408x1024) hz2, View.readCov_unit_zero (S := S1408x1024) _ hz2, View.readAt_eq_ld, harg2.read_unread, harg3.read_unread, harg4.read_unread, harg5.read_unread, harg6.read_unread, harg7.read_unread, harg8.read_unread, View.ld_unit_zero (S := S1408x1024) hz2, View.ld_unit_zero (S := S640x1408) hz2, View.ld_unit_zero (S := S640x1024) hz2]

theorem left_C_4 (c : Dev nD) (i : grid0.Coords) (arg2 : Memref sig .tc .vmem S640x1408 .bf16) (harg2 : arg2.IsWhole) (arg3 : Memref sig .tc .vmem S640x1408 .bf16) (harg3 : arg3.IsWhole) (arg4 : Memref sig .tc .vmem S640x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .bf16) (harg7 : arg7.IsWhole) (arg8 : Memref sig .tc .vmem S1408x1024 .bf16) (harg8 : arg8.IsWhole) (hc0 : ¬cond0_0 i) (hc1 : cond0_1 i)
    (x0 : Vec F S640x1408 .bf16) (x1 : Vec F S640x1408 .bf16) (x2 : Vec F S640x1024 .bf16) (xo3 : Vec F S1408x1024 .f32) (xo4 : Vec F S1408x1024 .f32) :
    out0_C_4 (F := F) c i arg2 harg2 arg3 harg3 arg4 harg4 arg5 harg5 arg6 harg6 arg7 harg7 arg8 harg8 hc0 hc1 x0 x1 x2 xo3 xo4 = k0_pay4 x2 xo4 x1 := by
  unfold out0_C_4
  rw [View.read_writes_eq_canon _ _ _ (View.cover_of_tiledL (kernelRun0_C c i arg2 harg2 arg3 harg3 arg4 harg4 arg5 harg5 arg6 harg6 arg7 harg7 arg8 harg8 hc0 hc1 x0 x1 x2 xo3 xo4).2.1 S1408x1024.size (by sl_kernel_rfl))]
  unfold kernelRun0_C
  dsimp only
  sl_unfold_words
  simp only [View.canon_cons_unit_zero (S := S1408x1024) hz2, View.readCov_unit_zero (S := S1408x1024) _ hz2, View.readAt_eq_ld, harg2.read_unread, harg3.read_unread, harg4.read_unread, harg5.read_unread, harg6.read_unread, harg7.read_unread, harg8.read_unread, View.ld_unit_zero (S := S1408x1024) hz2, View.ld_unit_zero (S := S640x1408) hz2, View.ld_unit_zero (S := S640x1024) hz2]

theorem left_C_6 (c : Dev nD) (i : grid0.Coords) (arg2 : Memref sig .tc .vmem S640x1408 .bf16) (harg2 : arg2.IsWhole) (arg3 : Memref sig .tc .vmem S640x1408 .bf16) (harg3 : arg3.IsWhole) (arg4 : Memref sig .tc .vmem S640x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .bf16) (harg7 : arg7.IsWhole) (arg8 : Memref sig .tc .vmem S1408x1024 .bf16) (harg8 : arg8.IsWhole) (hc0 : ¬cond0_0 i) (hc1 : cond0_1 i)
    (x0 : Vec F S640x1408 .bf16) (x1 : Vec F S640x1408 .bf16) (x2 : Vec F S640x1024 .bf16) (xo3 : Vec F S1408x1024 .f32) (xo4 : Vec F S1408x1024 .f32) :
    out0_C_6 (F := F) c i arg2 harg2 arg3 harg3 arg4 harg4 arg5 harg5 arg6 harg6 arg7 harg7 arg8 harg8 hc0 hc1 x0 x1 x2 xo3 xo4 = k0_pay6 (k0_pay4 x2 xo4 x1) := by
  unfold out0_C_6
  rw [View.read_writes_eq_canon _ _ _ (View.cover_of_tiledL (kernelRun0_C c i arg2 harg2 arg3 harg3 arg4 harg4 arg5 harg5 arg6 harg6 arg7 harg7 arg8 harg8 hc0 hc1 x0 x1 x2 xo3 xo4).2.2.2.1 S1408x1024.size (by sl_kernel_rfl))]
  unfold kernelRun0_C
  dsimp only
  sl_unfold_words
  simp only [View.canon_cons_unit_zero (S := S1408x1024) hz2, View.readCov_unit_zero (S := S1408x1024) _ hz2, View.readAt_eq_ld, harg2.read_unread, harg3.read_unread, harg4.read_unread, harg5.read_unread, harg6.read_unread, harg7.read_unread, harg8.read_unread, View.ld_unit_zero (S := S1408x1024) hz2, View.ld_unit_zero (S := S640x1408) hz2, View.ld_unit_zero (S := S640x1024) hz2]

end Cert.Kernel2Ideal.Dw

end
-- ==== Proof.Dw.RowSum.lean ====
/- A sum over all the rows, taken up tile by tile. -/
module

public import Idealize.ShloMosaic.Lib.ValueIdx

@[expose] public section

noncomputable section

namespace Cert.RowSum

/-- The terms of a sum over `n` rows, zero beyond the last row. -/
def part {n : ℕ} (f : Fin n → EReal) (k : ℕ) : EReal := if h : k < n then f ⟨k, h⟩ else 0

/-- Summed over all the rows the terms give the sum. -/
theorem part_all {n : ℕ} (f : Fin n → EReal) : ∑ k ∈ Finset.range n, part f k = ∑ k, f k := by
  rw [Finset.sum_range]
  exact Finset.sum_congr rfl fun k _ => dif_pos k.isLt

/-- One more tile of `B` rows: the rows before it, and its own. -/
theorem part_tile {n : ℕ} (f : Fin n → EReal) (B b : ℕ) (h : ∀ j : Fin B, B * b + j.val < n) :
    ∑ k ∈ Finset.range (B * (b + 1)), part f k = ∑ k ∈ Finset.range (B * b), part f k + ∑ j : Fin B, f ⟨B * b + j.val, h j⟩ := by
  rw [Nat.mul_succ, Finset.sum_range_add]
  congr 1
  rw [Finset.sum_range]
  exact Finset.sum_congr rfl fun j _ => dif_pos (h j)

end Cert.RowSum

end
-- ==== Proof.Dw.Value2.lean ====
/- What the result arrays hold when the kernel has run: the product summed over all the rows. -/
module

public import proofs.«01_k».proof.Proof.Dw.Left2
public import proofs.«01_k».proof.Proof.Dw.RowSum
public import Idealize.ShloMosaic.Lib.IdealHost

@[expose] public section

set_option maxRecDepth 16384

noncomputable section

namespace Cert.Kernel2Ideal.Dw

open Cert.Kernel2Ideal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window cellOf)
open Cert.RowSum

/-! ## The payloads at an index -/

theorem dot_apply (x : FVec Ideal S640x1408 .bf16) (y : FVec Ideal S640x1024 .bf16) (p : Fin 1408) (q : Fin 1024) :
    (matmul dot_S640x1408_S640x1024_S1408x1024_0_0_1_1_n_n none x y (constant S1408x1024 .f32 0x00000000#32) : FVec Ideal S1408x1024 .f32) (ix2 p q)
      = ∑ j : Fin 640, x (ix2 j p) * y (ix2 j q) := by
  refine (Ideal.matmul_constant_zero_apply _ none _ _ _).trans ?_
  rw [← Equiv.sum_comp (contrEquiv1 dot_S640x1408_S640x1024_S1408x1024_0_0_1_1_n_n 640 rfl rfl).symm]
  refine Finset.sum_congr rfl fun j _ => ?_
  have hk := contrEquiv1_symm_val dot_S640x1408_S640x1024_S1408x1024_0_0_1_1_n_n 640 rfl rfl j
  congr 1
  · refine congrArg x (funext fun a => Fin.ext ?_)
    match a with
    | ⟨0, _⟩ => exact (dot_S640x1408_S640x1024_S1408x1024_0_0_1_1_n_n.lhsIdx_val_of_single rfl _ _).trans hk
    | ⟨1, _⟩ => exact (by
        unfold DotDims.lhsIdx
        rw [dif_neg (show ¬(1 : Fin S640x1408.rank) ∈ dot_S640x1408_S640x1024_S1408x1024_0_0_1_1_n_n.lhsBatch by decide), dif_pos (show (1 : Fin S640x1408.rank) ∈ dot_S640x1408_S640x1024_S1408x1024_0_0_1_1_n_n.lhsNonContracting by decide)]
        rfl : (dot_S640x1408_S640x1024_S1408x1024_0_0_1_1_n_n.lhsIdx (ix2 p q) _ 1).val = p.val)
  · refine congrArg y (funext fun a => Fin.ext ?_)
    match a with
    | ⟨0, _⟩ => exact (dot_S640x1408_S640x1024_S1408x1024_0_0_1_1_n_n.rhsIdx_val_of_single rfl _ _).trans hk
    | ⟨1, _⟩ => exact (by
        unfold DotDims.rhsIdx
        rw [dif_neg (show ¬(1 : Fin S640x1024.rank) ∈ dot_S640x1408_S640x1024_S1408x1024_0_0_1_1_n_n.rhsBatch by decide), dif_pos (show (1 : Fin S640x1024.rank) ∈ dot_S640x1408_S640x1024_S1408x1024_0_0_1_1_n_n.rhsNonContracting by decide)]
        rfl : (dot_S640x1408_S640x1024_S1408x1024_0_0_1_1_n_n.rhsIdx (ix2 p q) _ 1).val = q.val)

/-- A tile's product added to what the block held. -/
theorem add3_apply (x0 : FVec Ideal S640x1408 .bf16) (x2 : FVec Ideal S640x1024 .bf16) (acc : FVec Ideal S1408x1024 .f32) (p : Fin 1408) (q : Fin 1024) :
    (k0_pay3 x2 acc x0 : FVec Ideal S1408x1024 .f32) (ix2 p q) = acc (ix2 p q) + ∑ j : Fin 640, x0 (ix2 j p) * x2 (ix2 j q) := by
  refine Eq.trans (b := shapeCast S1408x1024 acc shapeCasts_S1408x1024_S1408x1024 (ix2 p q) + _) rfl ?_
  rw [shapeCast_self]
  exact congrArg (acc (ix2 p q) + ·) (dot_apply x0 x2 p q)
/-- The block starts at zero. -/
theorem zero3_apply (i : S1408x1024.Idx) : (k0_pay1 : FVec Ideal S1408x1024 .f32) i = 0 := Ideal.ofBits_zero_f32
/-- The copy holds the same numbers. -/
theorem copy3_apply (acc : FVec Ideal S1408x1024 .f32) (i : S1408x1024.Idx) : (k0_pay5 acc : FVec Ideal S1408x1024 .bf16) i = acc i := by
  refine Eq.trans (b := shapeCast S1408x1024 acc shapeCasts_S1408x1024_S1408x1024 i) rfl ?_
  rw [shapeCast_self]

/-- A tile's product added to what the block held. -/
theorem add4_apply (x0 : FVec Ideal S640x1408 .bf16) (x2 : FVec Ideal S640x1024 .bf16) (acc : FVec Ideal S1408x1024 .f32) (p : Fin 1408) (q : Fin 1024) :
    (k0_pay4 x2 acc x0 : FVec Ideal S1408x1024 .f32) (ix2 p q) = acc (ix2 p q) + ∑ j : Fin 640, x0 (ix2 j p) * x2 (ix2 j q) := by
  refine Eq.trans (b := shapeCast S1408x1024 acc shapeCasts_S1408x1024_S1408x1024 (ix2 p q) + _) rfl ?_
  rw [shapeCast_self]
  exact congrArg (acc (ix2 p q) + ·) (dot_apply x0 x2 p q)
/-- The block starts at zero. -/
theorem zero4_apply (i : S1408x1024.Idx) : (k0_pay2 : FVec Ideal S1408x1024 .f32) i = 0 := Ideal.ofBits_zero_f32
/-- The copy holds the same numbers. -/
theorem copy4_apply (acc : FVec Ideal S1408x1024 .f32) (i : S1408x1024.Idx) : (k0_pay6 acc : FVec Ideal S1408x1024 .bf16) i = acc i := by
  refine Eq.trans (b := shapeCast S1408x1024 acc shapeCasts_S1408x1024_S1408x1024 i) rfl ?_
  rw [shapeCast_self]

variable (m : (ℓ : Loc nD τ sig) → Buf (Elt Ideal) ℓ)

/-! ## Where the blocks sit -/

/-- The array's row of a tile's row: tiles of 640, 13 to a column block. -/
def rowOf (t : Fin cfg0.N) (j : Fin 640) : Fin 8320 :=
  ⟨640 * (t.val % 13) + j.val, by have := j.isLt; omega⟩
/-- The result's row of a block's row: two blocks of 1408. -/
def colOf (t : Fin cfg0.N) (p : Fin 1408) : Fin 2816 :=
  ⟨1408 * (t.val / 13) + p.val, by have := lt_of_lt_of_eq t.isLt N_0; have := p.isLt; omega⟩

theorem index0 : ∀ t : Fin cfg0.N, win0_0.index t (0 : Fin 2) = t.val % 13 ∧ win0_0.index t (1 : Fin 2) = t.val / 13 := by decide +kernel
theorem emb0 (t : Fin cfg0.N) (j : Fin 640) (p : Fin 1408) :
    ((cfg0.win 0).blk t).view.emb (ix2 j p) = ix2 (rowOf t j) (colOf t p) := by
  obtain ⟨e0, e1⟩ := index0 t
  funext a; apply Fin.ext
  match a with
  | ⟨0, _⟩ => show win0_0.index t (0 : Fin 2) * 640 + 1 * j.val = 640 * (t.val % 13) + j.val; rw [e0]; omega
  | ⟨1, _⟩ => show win0_0.index t (1 : Fin 2) * 1408 + 1 * p.val = 1408 * (t.val / 13) + p.val; rw [e1]; omega
/-- The argument, at a row and a column. -/
def a0 (c : Dev nD) (k : Fin 8320) (r : Fin 2816) : EReal := m ((c : Thread nD τ).loc main_arg0) (ix2 k r)
/-- Its tile. -/
abbrev b0 (c : Dev nD) (t : Fin cfg0.N) : FVec Ideal S640x1408 .bf16 := iblk m c 0 t
theorem b0_apply (c : Dev nD) (t : Fin cfg0.N) (j : Fin 640) (p : Fin 1408) :
    b0 m c t (ix2 j p) = a0 m c (rowOf t j) (colOf t p) := by
  show V m c main_arg0 (((cfg0.win 0).blk t).view.emb (ix2 j p)) = _
  rw [emb0, V_main_arg0]; rfl
theorem index1 : ∀ t : Fin cfg0.N, win0_1.index t (0 : Fin 2) = t.val % 13 ∧ win0_1.index t (1 : Fin 2) = t.val / 13 := by decide +kernel
theorem emb1 (t : Fin cfg0.N) (j : Fin 640) (p : Fin 1408) :
    ((cfg0.win 1).blk t).view.emb (ix2 j p) = ix2 (rowOf t j) (colOf t p) := by
  obtain ⟨e0, e1⟩ := index1 t
  funext a; apply Fin.ext
  match a with
  | ⟨0, _⟩ => show win0_1.index t (0 : Fin 2) * 640 + 1 * j.val = 640 * (t.val % 13) + j.val; rw [e0]; omega
  | ⟨1, _⟩ => show win0_1.index t (1 : Fin 2) * 1408 + 1 * p.val = 1408 * (t.val / 13) + p.val; rw [e1]; omega
/-- The argument, at a row and a column. -/
def a1 (c : Dev nD) (k : Fin 8320) (r : Fin 2816) : EReal := m ((c : Thread nD τ).loc main_arg1) (ix2 k r)
/-- Its tile. -/
abbrev b1 (c : Dev nD) (t : Fin cfg0.N) : FVec Ideal S640x1408 .bf16 := iblk m c 1 t
theorem b1_apply (c : Dev nD) (t : Fin cfg0.N) (j : Fin 640) (p : Fin 1408) :
    b1 m c t (ix2 j p) = a1 m c (rowOf t j) (colOf t p) := by
  show V m c main_arg1 (((cfg0.win 1).blk t).view.emb (ix2 j p)) = _
  rw [emb1, V_main_arg1]; rfl
theorem index2 : ∀ t : Fin cfg0.N, win0_2.index t (0 : Fin 2) = t.val % 13 ∧ win0_2.index t (1 : Fin 2) = 0 := by decide +kernel
theorem emb2 (t : Fin cfg0.N) (j : Fin 640) (q : Fin 1024) :
    ((cfg0.win 2).blk t).view.emb (ix2 j q) = ix2 (rowOf t j) q := by
  obtain ⟨e0, e1⟩ := index2 t
  funext a; apply Fin.ext
  match a with
  | ⟨0, _⟩ => show win0_2.index t (0 : Fin 2) * 640 + 1 * j.val = 640 * (t.val % 13) + j.val; rw [e0]; omega
  | ⟨1, _⟩ => show win0_2.index t (1 : Fin 2) * 1024 + 1 * q.val = q.val; rw [e1]; omega
/-- The argument, at a row and a column. -/
def a2 (c : Dev nD) (k : Fin 8320) (q : Fin 1024) : EReal := m ((c : Thread nD τ).loc main_arg2) (ix2 k q)
/-- Its tile. -/
abbrev b2 (c : Dev nD) (t : Fin cfg0.N) : FVec Ideal S640x1024 .bf16 := iblk m c 2 t
theorem b2_apply (c : Dev nD) (t : Fin cfg0.N) (j : Fin 640) (q : Fin 1024) :
    b2 m c t (ix2 j q) = a2 m c (rowOf t j) q := by
  show V m c main_arg2 (((cfg0.win 2).blk t).view.emb (ix2 j q)) = _
  rw [emb2, V_main_arg2]; rfl
theorem index3 : ∀ t : Fin cfg0.N, win0_3.index t (0 : Fin 2) = t.val / 13 ∧ win0_3.index t (1 : Fin 2) = 0 := by decide +kernel
theorem emb3 (t : Fin cfg0.N) (p : Fin 1408) (q : Fin 1024) :
    ((cfg0.win 3).blk t).view.emb (ix2 p q) = ix2 (colOf t p) q := by
  obtain ⟨e0, e1⟩ := index3 t
  funext a; apply Fin.ext
  match a with
  | ⟨0, _⟩ => show win0_3.index t (0 : Fin 2) * 1408 + 1 * p.val = 1408 * (t.val / 13) + p.val; rw [e0]; omega
  | ⟨1, _⟩ => show win0_3.index t (1 : Fin 2) * 1024 + 1 * q.val = q.val; rw [e1]; omega
theorem index4 : ∀ t : Fin cfg0.N, win0_4.index t (0 : Fin 2) = t.val / 13 ∧ win0_4.index t (1 : Fin 2) = 0 := by decide +kernel
theorem emb4 (t : Fin cfg0.N) (p : Fin 1408) (q : Fin 1024) :
    ((cfg0.win 4).blk t).view.emb (ix2 p q) = ix2 (colOf t p) q := by
  obtain ⟨e0, e1⟩ := index4 t
  funext a; apply Fin.ext
  match a with
  | ⟨0, _⟩ => show win0_4.index t (0 : Fin 2) * 1408 + 1 * p.val = 1408 * (t.val / 13) + p.val; rw [e0]; omega
  | ⟨1, _⟩ => show win0_4.index t (1 : Fin 2) * 1024 + 1 * q.val = q.val; rw [e1]; omega
theorem index5 : ∀ t : Fin cfg0.N, win0_5.index t (0 : Fin 2) = t.val / 13 ∧ win0_5.index t (1 : Fin 2) = 0 := by decide +kernel
theorem emb5 (t : Fin cfg0.N) (p : Fin 1408) (q : Fin 1024) :
    ((cfg0.win 5).blk t).view.emb (ix2 p q) = ix2 (colOf t p) q := by
  obtain ⟨e0, e1⟩ := index5 t
  funext a; apply Fin.ext
  match a with
  | ⟨0, _⟩ => show win0_5.index t (0 : Fin 2) * 1408 + 1 * p.val = 1408 * (t.val / 13) + p.val; rw [e0]; omega
  | ⟨1, _⟩ => show win0_5.index t (1 : Fin 2) * 1024 + 1 * q.val = q.val; rw [e1]; omega
theorem index6 : ∀ t : Fin cfg0.N, win0_6.index t (0 : Fin 2) = t.val / 13 ∧ win0_6.index t (1 : Fin 2) = 0 := by decide +kernel
theorem emb6 (t : Fin cfg0.N) (p : Fin 1408) (q : Fin 1024) :
    ((cfg0.win 6).blk t).view.emb (ix2 p q) = ix2 (colOf t p) q := by
  obtain ⟨e0, e1⟩ := index6 t
  funext a; apply Fin.ext
  match a with
  | ⟨0, _⟩ => show win0_6.index t (0 : Fin 2) * 1408 + 1 * p.val = 1408 * (t.val / 13) + p.val; rw [e0]; omega
  | ⟨1, _⟩ => show win0_6.index t (1 : Fin 2) * 1024 + 1 * q.val = q.val; rw [e1]; omega

/-! ## The sums -/

/-- The product of one row's entries. -/
def prod3 (c : Dev nD) (r : Fin 2816) (q : Fin 1024) (k : Fin 8320) : EReal := a0 m c k r * a2 m c k q
/-- The weights' gradient. -/
def dw3 (c : Dev nD) (r : Fin 2816) (q : Fin 1024) : EReal := ∑ k, prod3 m c r q k

theorem tile3 (c : Dev nD) (t : Fin cfg0.N) (b : ℕ) (hb : t.val % 13 = b) (p : Fin 1408) (q : Fin 1024) :
    (∑ k ∈ Finset.range (640 * b), part (prod3 m c (colOf t p) q) k) + ∑ j : Fin 640, b0 m c t (ix2 j p) * b2 m c t (ix2 j q)
      = ∑ k ∈ Finset.range (640 * (b + 1)), part (prod3 m c (colOf t p) q) k := by
  subst hb
  rw [part_tile _ 640 _ fun j => (rowOf t j).isLt]
  congr 1
  refine Finset.sum_congr rfl fun j _ => ?_
  rw [b0_apply, b2_apply]
  rfl

/-- After a point the block holds the sum over the rows of the tiles so far. -/
theorem acc3 (c : Dev nD) (b : ℕ) : ∀ (t : Fin cfg0.N), t.val % 13 = b → ∀ (p : Fin 1408) (q : Fin 1024),
    ((outsAt0 m c t.val t.isLt).1 (ix2 p q) : EReal) = ∑ k ∈ Finset.range (640 * (b + 1)), part (prod3 m c (colOf t p) q) k := by
  induction b with
  | zero =>
    intro t ht p q
    rw [outsAt0_A m c t ht (by omega)]
    dsimp only
    rw [left_A_3, ← tile3 m c t 0 ht p q]
    refine (add3_apply _ _ _ p q).trans ?_
    rw [zero3_apply]
    rfl
  | succ b ih =>
    intro t ht p q
    have hN := lt_of_lt_of_eq t.isLt N_0
    have hprev := ih ⟨t.val - 1, Nat.lt_of_le_of_lt (Nat.sub_le _ _) t.isLt⟩ (by show (t.val - 1) % 13 = b; omega) p q
    have hcol : colOf ⟨t.val - 1, Nat.lt_of_le_of_lt (Nat.sub_le _ _) t.isLt⟩ p = colOf t p := by
      apply Fin.ext; show 1408 * ((t.val - 1) / 13) + p.val = 1408 * (t.val / 13) + p.val
      rw [show (t.val - 1) / 13 = t.val / 13 by omega]
    rw [hcol] at hprev
    rw [← tile3 m c t (b + 1) ht p q, ← hprev]
    by_cases hl : t.val % 13 = 12
    · rw [outsAt0_C m c t (by omega) hl]
      dsimp only
      rw [left_C_3]
      exact add3_apply _ _ _ p q
    · rw [outsAt0_B m c t (by omega) hl]
      dsimp only
      rw [left_B_3]
      exact add3_apply _ _ _ p q

/-- After the last tile it holds the sum over all the rows. -/
theorem done3 (c : Dev nD) (t : Fin cfg0.N) (ht : t.val % 13 = 12) (p : Fin 1408) (q : Fin 1024) :
    ((outsAt0 m c t.val t.isLt).1 (ix2 p q) : EReal) = dw3 m c (colOf t p) q := by
  rw [acc3 m c 12 t ht p q]
  exact part_all _
/-- And so does its copy. -/
theorem done5 (c : Dev nD) (t : Fin cfg0.N) (ht : t.val % 13 = 12) (p : Fin 1408) (q : Fin 1024) :
    ((outsAt0 m c t.val t.isLt).2.2.1 (ix2 p q) : EReal) = dw3 m c (colOf t p) q := by
  have h := done3 m c t ht p q
  rw [outsAt0_C m c t (by omega) ht] at h ⊢
  dsimp only at h ⊢
  rw [left_C_3] at h
  rw [left_C_5]
  exact (copy3_apply _ _).trans h

/-- The product of one row's entries. -/
def prod4 (c : Dev nD) (r : Fin 2816) (q : Fin 1024) (k : Fin 8320) : EReal := a1 m c k r * a2 m c k q
/-- The weights' gradient. -/
def dw4 (c : Dev nD) (r : Fin 2816) (q : Fin 1024) : EReal := ∑ k, prod4 m c r q k

theorem tile4 (c : Dev nD) (t : Fin cfg0.N) (b : ℕ) (hb : t.val % 13 = b) (p : Fin 1408) (q : Fin 1024) :
    (∑ k ∈ Finset.range (640 * b), part (prod4 m c (colOf t p) q) k) + ∑ j : Fin 640, b1 m c t (ix2 j p) * b2 m c t (ix2 j q)
      = ∑ k ∈ Finset.range (640 * (b + 1)), part (prod4 m c (colOf t p) q) k := by
  subst hb
  rw [part_tile _ 640 _ fun j => (rowOf t j).isLt]
  congr 1
  refine Finset.sum_congr rfl fun j _ => ?_
  rw [b1_apply, b2_apply]
  rfl

/-- After a point the block holds the sum over the rows of the tiles so far. -/
theorem acc4 (c : Dev nD) (b : ℕ) : ∀ (t : Fin cfg0.N), t.val % 13 = b → ∀ (p : Fin 1408) (q : Fin 1024),
    ((outsAt0 m c t.val t.isLt).2.1 (ix2 p q) : EReal) = ∑ k ∈ Finset.range (640 * (b + 1)), part (prod4 m c (colOf t p) q) k := by
  induction b with
  | zero =>
    intro t ht p q
    rw [outsAt0_A m c t ht (by omega)]
    dsimp only
    rw [left_A_4, ← tile4 m c t 0 ht p q]
    refine (add4_apply _ _ _ p q).trans ?_
    rw [zero4_apply]
    rfl
  | succ b ih =>
    intro t ht p q
    have hN := lt_of_lt_of_eq t.isLt N_0
    have hprev := ih ⟨t.val - 1, Nat.lt_of_le_of_lt (Nat.sub_le _ _) t.isLt⟩ (by show (t.val - 1) % 13 = b; omega) p q
    have hcol : colOf ⟨t.val - 1, Nat.lt_of_le_of_lt (Nat.sub_le _ _) t.isLt⟩ p = colOf t p := by
      apply Fin.ext; show 1408 * ((t.val - 1) / 13) + p.val = 1408 * (t.val / 13) + p.val
      rw [show (t.val - 1) / 13 = t.val / 13 by omega]
    rw [hcol] at hprev
    rw [← tile4 m c t (b + 1) ht p q, ← hprev]
    by_cases hl : t.val % 13 = 12
    · rw [outsAt0_C m c t (by omega) hl]
      dsimp only
      rw [left_C_4]
      exact add4_apply _ _ _ p q
    · rw [outsAt0_B m c t (by omega) hl]
      dsimp only
      rw [left_B_4]
      exact add4_apply _ _ _ p q

/-- After the last tile it holds the sum over all the rows. -/
theorem done4 (c : Dev nD) (t : Fin cfg0.N) (ht : t.val % 13 = 12) (p : Fin 1408) (q : Fin 1024) :
    ((outsAt0 m c t.val t.isLt).2.1 (ix2 p q) : EReal) = dw4 m c (colOf t p) q := by
  rw [acc4 m c 12 t ht p q]
  exact part_all _
/-- And so does its copy. -/
theorem done6 (c : Dev nD) (t : Fin cfg0.N) (ht : t.val % 13 = 12) (p : Fin 1408) (q : Fin 1024) :
    ((outsAt0 m c t.val t.isLt).2.2.2 (ix2 p q) : EReal) = dw4 m c (colOf t p) q := by
  have h := done4 m c t ht p q
  rw [outsAt0_C m c t (by omega) ht] at h ⊢
  dsimp only at h ⊢
  rw [left_C_4] at h
  rw [left_C_6]
  exact (copy4_apply _ _).trans h

/-! ## The arrays -/

theorem mem3 (t : Fin cfg0.N) (i : S2816x1024.Idx) :
    i ∈ ((cfg0.win 3).blk t).view.set ↔ ∀ a : Fin 2, win0_3.index t a * S1408x1024.size a ≤ (i a).val ∧ (i a).val < win0_3.index t a * S1408x1024.size a + S1408x1024.size a := by
  show i ∈ ((View.whole main_v0_0).slice (win0_3.rect t)).set ↔ _
  rw [View.set_slice_whole, Rect.mem_set_unit]
  exact Iff.rfl
theorem arr3 (c : Dev nD) : (dats m 0 c).arrAt 3 cfg0.N = fun i : S2816x1024.Idx => dw3 m c (i 0) (i 1) := by
  refine (dats m 0 c).arrAt_eq_of_cover 3 (fun i : S2816x1024.Idx => dw3 m c (i 0) (i 1)) (fun t hf => ?_) fun i => ?_
  · show (cfg0.win 3).cut (grid0.coords t) ((dats m 0 c).after 3 t) = _
    rw [after0_3]
    funext y
    obtain ⟨p, q, rfl⟩ : ∃ (p : Fin 1408) (q : Fin 1024), y = ix2 p q := ⟨y 0, y 1, eq_ix2 (n0 := 1408) (n1 := 1024) y⟩
    have hx : (cfg0.win 3).xinj (grid0.coords t) (ix2 p q) = ix2 p q := by
      funext a; match a with
      | ⟨0, _⟩ => rfl
      | ⟨1, _⟩ => rfl
    show (outsAt0 m c t.val t.isLt).1 ((cfg0.win 3).xinj (grid0.coords t) (ix2 p q)) = (fun i : S2816x1024.Idx => dw3 m c (i 0) (i 1)) (((cfg0.win 3).blk t).view.emb (ix2 p q))
    rw [hx, emb3]
    exact done3 m c t ((flush0_3 t).1 hf) p q
  · have h0 : (i 0).val < 2816 := (i 0).isLt
    have h1 : (i 1).val < 1024 := (i 1).isLt
    refine ⟨⟨13 * ((i 0).val / 1408) + 12, lt_of_lt_of_eq (by omega) N_0.symm⟩, (flush0_3 _).2 (by show (13 * ((i 0).val / 1408) + 12) % 13 = 12; omega), (mem3 _ i).2 fun a => ?_⟩
    match a with
    | ⟨0, _⟩ =>
      show win0_3.index _ (0 : Fin 2) * 1408 ≤ (i 0).val ∧ (i 0).val < win0_3.index _ (0 : Fin 2) * 1408 + 1408
      rw [(index3 _).1]
      show (13 * ((i 0).val / 1408) + 12) / 13 * 1408 ≤ (i 0).val ∧ (i 0).val < (13 * ((i 0).val / 1408) + 12) / 13 * 1408 + 1408
      omega
    | ⟨1, _⟩ => show win0_3.index _ (1 : Fin 2) * 1024 ≤ (i 1).val ∧ (i 1).val < win0_3.index _ (1 : Fin 2) * 1024 + 1024; rw [(index3 _).2]; omega

theorem mem5 (t : Fin cfg0.N) (i : S2816x1024.Idx) :
    i ∈ ((cfg0.win 5).blk t).view.set ↔ ∀ a : Fin 2, win0_5.index t a * S1408x1024.size a ≤ (i a).val ∧ (i a).val < win0_5.index t a * S1408x1024.size a + S1408x1024.size a := by
  show i ∈ ((View.whole main_v0_2).slice (win0_5.rect t)).set ↔ _
  rw [View.set_slice_whole, Rect.mem_set_unit]
  exact Iff.rfl
theorem arr5 (c : Dev nD) : (dats m 0 c).arrAt 5 cfg0.N = fun i : S2816x1024.Idx => dw3 m c (i 0) (i 1) := by
  refine (dats m 0 c).arrAt_eq_of_cover 5 (fun i : S2816x1024.Idx => dw3 m c (i 0) (i 1)) (fun t hf => ?_) fun i => ?_
  · show (cfg0.win 5).cut (grid0.coords t) ((dats m 0 c).after 5 t) = _
    rw [after0_5]
    funext y
    obtain ⟨p, q, rfl⟩ : ∃ (p : Fin 1408) (q : Fin 1024), y = ix2 p q := ⟨y 0, y 1, eq_ix2 (n0 := 1408) (n1 := 1024) y⟩
    have hx : (cfg0.win 5).xinj (grid0.coords t) (ix2 p q) = ix2 p q := by
      funext a; match a with
      | ⟨0, _⟩ => rfl
      | ⟨1, _⟩ => rfl
    show (outsAt0 m c t.val t.isLt).2.2.1 ((cfg0.win 5).xinj (grid0.coords t) (ix2 p q)) = (fun i : S2816x1024.Idx => dw3 m c (i 0) (i 1)) (((cfg0.win 5).blk t).view.emb (ix2 p q))
    rw [hx, emb5]
    exact done5 m c t ((flush0_5 t).1 hf) p q
  · have h0 : (i 0).val < 2816 := (i 0).isLt
    have h1 : (i 1).val < 1024 := (i 1).isLt
    refine ⟨⟨13 * ((i 0).val / 1408) + 12, lt_of_lt_of_eq (by omega) N_0.symm⟩, (flush0_5 _).2 (by show (13 * ((i 0).val / 1408) + 12) % 13 = 12; omega), (mem5 _ i).2 fun a => ?_⟩
    match a with
    | ⟨0, _⟩ =>
      show win0_5.index _ (0 : Fin 2) * 1408 ≤ (i 0).val ∧ (i 0).val < win0_5.index _ (0 : Fin 2) * 1408 + 1408
      rw [(index5 _).1]
      show (13 * ((i 0).val / 1408) + 12) / 13 * 1408 ≤ (i 0).val ∧ (i 0).val < (13 * ((i 0).val / 1408) + 12) / 13 * 1408 + 1408
      omega
    | ⟨1, _⟩ => show win0_5.index _ (1 : Fin 2) * 1024 ≤ (i 1).val ∧ (i 1).val < win0_5.index _ (1 : Fin 2) * 1024 + 1024; rw [(index5 _).2]; omega

theorem mem4 (t : Fin cfg0.N) (i : S2816x1024.Idx) :
    i ∈ ((cfg0.win 4).blk t).view.set ↔ ∀ a : Fin 2, win0_4.index t a * S1408x1024.size a ≤ (i a).val ∧ (i a).val < win0_4.index t a * S1408x1024.size a + S1408x1024.size a := by
  show i ∈ ((View.whole main_v0_1).slice (win0_4.rect t)).set ↔ _
  rw [View.set_slice_whole, Rect.mem_set_unit]
  exact Iff.rfl
theorem arr4 (c : Dev nD) : (dats m 0 c).arrAt 4 cfg0.N = fun i : S2816x1024.Idx => dw4 m c (i 0) (i 1) := by
  refine (dats m 0 c).arrAt_eq_of_cover 4 (fun i : S2816x1024.Idx => dw4 m c (i 0) (i 1)) (fun t hf => ?_) fun i => ?_
  · show (cfg0.win 4).cut (grid0.coords t) ((dats m 0 c).after 4 t) = _
    rw [after0_4]
    funext y
    obtain ⟨p, q, rfl⟩ : ∃ (p : Fin 1408) (q : Fin 1024), y = ix2 p q := ⟨y 0, y 1, eq_ix2 (n0 := 1408) (n1 := 1024) y⟩
    have hx : (cfg0.win 4).xinj (grid0.coords t) (ix2 p q) = ix2 p q := by
      funext a; match a with
      | ⟨0, _⟩ => rfl
      | ⟨1, _⟩ => rfl
    show (outsAt0 m c t.val t.isLt).2.1 ((cfg0.win 4).xinj (grid0.coords t) (ix2 p q)) = (fun i : S2816x1024.Idx => dw4 m c (i 0) (i 1)) (((cfg0.win 4).blk t).view.emb (ix2 p q))
    rw [hx, emb4]
    exact done4 m c t ((flush0_4 t).1 hf) p q
  · have h0 : (i 0).val < 2816 := (i 0).isLt
    have h1 : (i 1).val < 1024 := (i 1).isLt
    refine ⟨⟨13 * ((i 0).val / 1408) + 12, lt_of_lt_of_eq (by omega) N_0.symm⟩, (flush0_4 _).2 (by show (13 * ((i 0).val / 1408) + 12) % 13 = 12; omega), (mem4 _ i).2 fun a => ?_⟩
    match a with
    | ⟨0, _⟩ =>
      show win0_4.index _ (0 : Fin 2) * 1408 ≤ (i 0).val ∧ (i 0).val < win0_4.index _ (0 : Fin 2) * 1408 + 1408
      rw [(index4 _).1]
      show (13 * ((i 0).val / 1408) + 12) / 13 * 1408 ≤ (i 0).val ∧ (i 0).val < (13 * ((i 0).val / 1408) + 12) / 13 * 1408 + 1408
      omega
    | ⟨1, _⟩ => show win0_4.index _ (1 : Fin 2) * 1024 ≤ (i 1).val ∧ (i 1).val < win0_4.index _ (1 : Fin 2) * 1024 + 1024; rw [(index4 _).2]; omega

theorem mem6 (t : Fin cfg0.N) (i : S2816x1024.Idx) :
    i ∈ ((cfg0.win 6).blk t).view.set ↔ ∀ a : Fin 2, win0_6.index t a * S1408x1024.size a ≤ (i a).val ∧ (i a).val < win0_6.index t a * S1408x1024.size a + S1408x1024.size a := by
  show i ∈ ((View.whole main_v0_3).slice (win0_6.rect t)).set ↔ _
  rw [View.set_slice_whole, Rect.mem_set_unit]
  exact Iff.rfl
theorem arr6 (c : Dev nD) : (dats m 0 c).arrAt 6 cfg0.N = fun i : S2816x1024.Idx => dw4 m c (i 0) (i 1) := by
  refine (dats m 0 c).arrAt_eq_of_cover 6 (fun i : S2816x1024.Idx => dw4 m c (i 0) (i 1)) (fun t hf => ?_) fun i => ?_
  · show (cfg0.win 6).cut (grid0.coords t) ((dats m 0 c).after 6 t) = _
    rw [after0_6]
    funext y
    obtain ⟨p, q, rfl⟩ : ∃ (p : Fin 1408) (q : Fin 1024), y = ix2 p q := ⟨y 0, y 1, eq_ix2 (n0 := 1408) (n1 := 1024) y⟩
    have hx : (cfg0.win 6).xinj (grid0.coords t) (ix2 p q) = ix2 p q := by
      funext a; match a with
      | ⟨0, _⟩ => rfl
      | ⟨1, _⟩ => rfl
    show (outsAt0 m c t.val t.isLt).2.2.2 ((cfg0.win 6).xinj (grid0.coords t) (ix2 p q)) = (fun i : S2816x1024.Idx => dw4 m c (i 0) (i 1)) (((cfg0.win 6).blk t).view.emb (ix2 p q))
    rw [hx, emb6]
    exact done6 m c t ((flush0_6 t).1 hf) p q
  · have h0 : (i 0).val < 2816 := (i 0).isLt
    have h1 : (i 1).val < 1024 := (i 1).isLt
    refine ⟨⟨13 * ((i 0).val / 1408) + 12, lt_of_lt_of_eq (by omega) N_0.symm⟩, (flush0_6 _).2 (by show (13 * ((i 0).val / 1408) + 12) % 13 = 12; omega), (mem6 _ i).2 fun a => ?_⟩
    match a with
    | ⟨0, _⟩ =>
      show win0_6.index _ (0 : Fin 2) * 1408 ≤ (i 0).val ∧ (i 0).val < win0_6.index _ (0 : Fin 2) * 1408 + 1408
      rw [(index6 _).1]
      show (13 * ((i 0).val / 1408) + 12) / 13 * 1408 ≤ (i 0).val ∧ (i 0).val < (13 * ((i 0).val / 1408) + 12) / 13 * 1408 + 1408
      omega
    | ⟨1, _⟩ => show win0_6.index _ (1 : Fin 2) * 1024 ≤ (i 1).val ∧ (i 1).val < win0_6.index _ (1 : Fin 2) * 1024 + 1024; rw [(index6 _).2]; omega

end Cert.Kernel2Ideal.Dw

end
-- ==== Proof.Dw.Algebraic2.lean ====
/- The kernel's results are the reference's, over the extended reals. -/
module

public import proofs.«01_k».proof.Defs
public import proofs.«01_k».proof.Proof.Dw.Value2
public import proofs.«01_k».proof.Proof.Gen.Kernel2Ideal.Value
public import proofs.«01_k».proof.Proof.Gen.Reference2Ideal.Run
public import proofs.«01_k».proof.Proof.Gen.Reference2Ideal.Read

@[expose] public section

noncomputable section

namespace Cert.Dw2

open Idealize.ShloMosaic Idealize.SL.Sem Idealize.ShloMosaic.TcCoe Idealize.ShloMosaic.ValueIdx
open Cert.Kernel2Ideal.Dw Cert.Reference2Ideal.Read
open Cert.Kernel2Ideal.Gen (dats)

/-- An index of a matrix is given by its two coordinates. -/
theorem at2 {n0 n1 : ℕ} (j : (⟨2, ![n0, n1]⟩ : Shape).Idx) (a : Fin n0) (b : Fin n1)
    (h0 : (j 0).val = a.val) (h1 : (j 1).val = b.val) : j = ix2 a b := by
  rw [eq_ix2 j]; exact congrArg₂ ix2 (Fin.ext h0) (Fin.ext h1)

variable (m : (ℓ : Loc Cert.Kernel2Ideal.nD Cert.Kernel2Ideal.τ Cert.Kernel2Ideal.sig) → Buf (Elt Ideal) ℓ) (c : Dev Cert.Kernel2Ideal.nD)

/-- The reference's gradient at an index. -/
theorem ref3_apply (r : Fin 2816) (q : Fin 1024) :
    (val_main_v13 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg2)) (ix2 r q) : EReal) = dw3 m c r q := by
  rw [val_main_v13_apply, val_main_v12_apply, val_main_v11_apply]
  refine Finset.sum_congr rfl fun k _ => ?_
  rw [(at2 _ k r rfl rfl : lidx_main_v11 (idx_main_v12 (idx_main_v13 (ix2 r q))) k = ix2 k r), (at2 _ k q rfl rfl : ridx_main_v11 (idx_main_v12 (idx_main_v13 (ix2 r q))) k = ix2 k q)]
  rfl
theorem eq3 : val_main_v13 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg2)) = (dats m 0 c).arrAt 3 Cert.Kernel2Ideal.cfg0.N := by
  rw [arr3]; funext i
  refine (congrArg _ (eq_ix2 (n0 := 2816) (n1 := 1024) i)).trans ?_
  exact ref3_apply m c _ _
theorem eq5 : val_main_v14 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg2)) = (dats m 0 c).arrAt 5 Cert.Kernel2Ideal.cfg0.N := by
  rw [arr5]; funext i
  refine (congrArg _ (eq_ix2 (n0 := 2816) (n1 := 1024) i)).trans ?_
  exact ((val_main_v14_apply _ _ _).trans rfl).trans (ref3_apply m c _ _)

/-- The reference's gradient at an index. -/
theorem ref4_apply (r : Fin 2816) (q : Fin 1024) :
    (val_main_v10 (F := Ideal) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (ix2 r q) : EReal) = dw4 m c r q := by
  rw [val_main_v10_apply, val_main_v9_apply, val_main_v8_apply]
  refine Finset.sum_congr rfl fun k _ => ?_
  rw [(at2 _ k r rfl rfl : lidx_main_v8 (idx_main_v9 (idx_main_v10 (ix2 r q))) k = ix2 k r), (at2 _ k q rfl rfl : ridx_main_v8 (idx_main_v9 (idx_main_v10 (ix2 r q))) k = ix2 k q)]
  rfl
theorem eq4 : val_main_v10 (F := Ideal) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) = (dats m 0 c).arrAt 4 Cert.Kernel2Ideal.cfg0.N := by
  rw [arr4]; funext i
  refine (congrArg _ (eq_ix2 (n0 := 2816) (n1 := 1024) i)).trans ?_
  exact ref4_apply m c _ _
theorem eq6 : val_main_v15 (F := Ideal) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) = (dats m 0 c).arrAt 6 Cert.Kernel2Ideal.cfg0.N := by
  rw [arr6]; funext i
  refine (congrArg _ (eq_ix2 (n0 := 2816) (n1 := 1024) i)).trans ?_
  exact ((val_main_v15_apply _ _ _).trans rfl).trans (ref4_apply m c _ _)

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => (dats m 0 c).arrAt 3 Cert.Kernel2Ideal.cfg0.N, fun c => (dats m 0 c).arrAt 4 Cert.Kernel2Ideal.cfg0.N, fun c => (dats m 0 c).arrAt 5 Cert.Kernel2Ideal.cfg0.N, fun c => (dats m 0 c).arrAt 6 Cert.Kernel2Ideal.cfg0.N, ?_, ?_⟩
  · exact (θ_run Cert.Kernel2Ideal.defs _ _).mono (fun r h c => h c) (Cert.Kernel2Ideal.Value.run_blocks (F := Ideal) m g)
  · refine (θ_run Cert.Reference2Ideal.defs _ _).mono (fun r h c => ?_) (Cert.Reference2Ideal.Value.run (F := Ideal) m' g')
    obtain ⟨a0, a1, a2⟩ := hagree c
    obtain ⟨h0, h1, h2, h3, hargs⟩ := h c
    refine ⟨?_, ?_, ?_, ?_, hargs⟩
    · refine h0.trans ((val_main_v13_eq _ _).trans ?_); rw [a0, a2]; exact eq3 m c
    · refine h1.trans ((val_main_v10_eq _ _).trans ?_); rw [a1, a2]; exact eq4 m c
    · refine h2.trans ((val_main_v14_eq _ _).trans ?_); rw [a0, a2]; exact eq5 m c
    · refine h3.trans ((val_main_v15_eq _ _).trans ?_); rw [a1, a2]; exact eq6 m c

end Cert.Dw2

end
-- ==== Proof.Dw.Left3.lean ====
/- What each kind of grid point leaves in the result blocks, as the named payloads of the blocks read. -/
module

public import proofs.«01_k».proof.Proof.Gen.Kernel3Ideal.Frame
public import Idealize.ShloMosaic.Lib.Pipeline.Value
public import Idealize.ShloMosaic.Lib.ValueIdx

@[expose] public section

set_option maxRecDepth 16384

noncomputable section

namespace Cert.Kernel3Ideal.Dw

open Cert.Kernel3Ideal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window cellOf)

variable {F : FTy → Type} [FloatOps F]

theorem hz2 : (![0, 0] : Fin 2 → Nat) = fun _ => 0 := funext fun a => by fin_cases a <;> rfl

/-! ## Result window 2 and its copy 3 -/

theorem left_A_2 (c : Dev nD) (i : grid0.Coords) (arg3 : Memref sig .tc .vmem S2080x1408 .bf16) (harg3 : arg3.IsWhole) (arg4 : Memref sig .tc .vmem S2080x1024 .bf16) (harg4 : arg4.IsWhole) (arg5 : Memref sig .tc .vmem S1408x1024 .f32) (harg5 : arg5.IsWhole) (arg6 : Memref sig .tc .vmem S1408x1024 .bf16) (harg6 : arg6.IsWhole) (hc0 : cond0_0 i) (hc1 : ¬cond0_1 i)
    (x0 : Vec F S2080x1408 .bf16) (x1 : Vec F S2080x1024 .bf16) :
    out0_A_2 (F := F) c i arg3 harg3 arg4 harg4 arg5 harg5 arg6 harg6 hc0 hc1 x0 x1 = k0_pay2 k0_pay1 x0 x1 := by
  unfold out0_A_2
  rw [View.read_writes_eq_canon _ _ _ (View.cover_of_tiledL (kernelRun0_A c i arg3 harg3 arg4 harg4 arg5 harg5 arg6 harg6 hc0 hc1 x0 x1).1 S1408x1024.size (by sl_kernel_rfl))]
  unfold kernelRun0_A
  dsimp only
  sl_unfold_words
  simp only [View.canon_cons_unit_zero (S := S1408x1024) hz2, View.readCov_unit_zero (S := S1408x1024) _ hz2, View.readAt_eq_ld, harg3.read_unread, harg4.read_unread, harg5.read_unread, harg6.read_unread, View.ld_unit_zero (S := S1408x1024) hz2, View.ld_unit_zero (S := S2080x1408) hz2, View.ld_unit_zero (S := S2080x1024) hz2]

theorem left_B_2 (c : Dev nD) (i : grid0.Coords) (arg3 : Memref sig .tc .vmem S2080x1408 .bf16) (harg3 : arg3.IsWhole) (arg4 : Memref sig .tc .vmem S2080x1024 .bf16) (harg4 : arg4.IsWhole) (arg5 : Memref sig .tc .vmem S1408x1024 .f32) (harg5 : arg5.IsWhole) (arg6 : Memref sig .tc .vmem S1408x1024 .bf16) (harg6 : arg6.IsWhole) (hc0 : ¬cond0_0 i) (hc1 : ¬cond0_1 i)
    (x0 : Vec F S2080x1408 .bf16) (x1 : Vec F S2080x1024 .bf16) (xo2 : Vec F S1408x1024 .f32) :
    out0_B_2 (F := F) c i arg3 harg3 arg4 harg4 arg5 harg5 arg6 harg6 hc0 hc1 x0 x1 xo2 = k0_pay2 xo2 x0 x1 := by
  unfold out0_B_2
  rw [View.read_writes_eq_canon _ _ _ (View.cover_of_tiledL (kernelRun0_B c i arg3 harg3 arg4 harg4 arg5 harg5 arg6 harg6 hc0 hc1 x0 x1 xo2).1 S1408x1024.size (by sl_kernel_rfl))]
  unfold kernelRun0_B
  dsimp only
  sl_unfold_words
  simp only [View.canon_cons_unit_zero (S := S1408x1024) hz2, View.readCov_unit_zero (S := S1408x1024) _ hz2, View.readAt_eq_ld, harg3.read_unread, harg4.read_unread, harg5.read_unread, harg6.read_unread, View.ld_unit_zero (S := S1408x1024) hz2, View.ld_unit_zero (S := S2080x1408) hz2, View.ld_unit_zero (S := S2080x1024) hz2]

theorem left_C_2 (c : Dev nD) (i : grid0.Coords) (arg3 : Memref sig .tc .vmem S2080x1408 .bf16) (harg3 : arg3.IsWhole) (arg4 : Memref sig .tc .vmem S2080x1024 .bf16) (harg4 : arg4.IsWhole) (arg5 : Memref sig .tc .vmem S1408x1024 .f32) (harg5 : arg5.IsWhole) (arg6 : Memref sig .tc .vmem S1408x1024 .bf16) (harg6 : arg6.IsWhole) (hc0 : ¬cond0_0 i) (hc1 : cond0_1 i)
    (x0 : Vec F S2080x1408 .bf16) (x1 : Vec F S2080x1024 .bf16) (xo2 : Vec F S1408x1024 .f32) :
    out0_C_2 (F := F) c i arg3 harg3 arg4 harg4 arg5 harg5 arg6 harg6 hc0 hc1 x0 x1 xo2 = k0_pay2 xo2 x0 x1 := by
  unfold out0_C_2
  rw [View.read_writes_eq_canon _ _ _ (View.cover_of_tiledL (kernelRun0_C c i arg3 harg3 arg4 harg4 arg5 harg5 arg6 harg6 hc0 hc1 x0 x1 xo2).1 S1408x1024.size (by sl_kernel_rfl))]
  unfold kernelRun0_C
  dsimp only
  sl_unfold_words
  simp only [View.canon_cons_unit_zero (S := S1408x1024) hz2, View.readCov_unit_zero (S := S1408x1024) _ hz2, View.readAt_eq_ld, harg3.read_unread, harg4.read_unread, harg5.read_unread, harg6.read_unread, View.ld_unit_zero (S := S1408x1024) hz2, View.ld_unit_zero (S := S2080x1408) hz2, View.ld_unit_zero (S := S2080x1024) hz2]

theorem left_C_3 (c : Dev nD) (i : grid0.Coords) (arg3 : Memref sig .tc .vmem S2080x1408 .bf16) (harg3 : arg3.IsWhole) (arg4 : Memref sig .tc .vmem S2080x1024 .bf16) (harg4 : arg4.IsWhole) (arg5 : Memref sig .tc .vmem S1408x1024 .f32) (harg5 : arg5.IsWhole) (arg6 : Memref sig .tc .vmem S1408x1024 .bf16) (harg6 : arg6.IsWhole) (hc0 : ¬cond0_0 i) (hc1 : cond0_1 i)
    (x0 : Vec F S2080x1408 .bf16) (x1 : Vec F S2080x1024 .bf16) (xo2 : Vec F S1408x1024 .f32) :
    out0_C_3 (F := F) c i arg3 harg3 arg4 harg4 arg5 harg5 arg6 harg6 hc0 hc1 x0 x1 xo2 = k0_pay3 (k0_pay2 xo2 x0 x1) := by
  unfold out0_C_3
  rw [View.read_writes_eq_canon _ _ _ (View.cover_of_tiledL (kernelRun0_C c i arg3 harg3 arg4 harg4 arg5 harg5 arg6 harg6 hc0 hc1 x0 x1 xo2).2.1 S1408x1024.size (by sl_kernel_rfl))]
  unfold kernelRun0_C
  dsimp only
  sl_unfold_words
  simp only [View.canon_cons_unit_zero (S := S1408x1024) hz2, View.readCov_unit_zero (S := S1408x1024) _ hz2, View.readAt_eq_ld, harg3.read_unread, harg4.read_unread, harg5.read_unread, harg6.read_unread, View.ld_unit_zero (S := S1408x1024) hz2, View.ld_unit_zero (S := S2080x1408) hz2, View.ld_unit_zero (S := S2080x1024) hz2]

end Cert.Kernel3Ideal.Dw

end
-- ==== Proof.Dw.Value3.lean ====
/- What the result arrays hold when the kernel has run: the product summed over all the rows. -/
module

public import proofs.«01_k».proof.Proof.Dw.Left3
public import proofs.«01_k».proof.Proof.Dw.RowSum
public import Idealize.ShloMosaic.Lib.IdealHost

@[expose] public section

set_option maxRecDepth 16384

noncomputable section

namespace Cert.Kernel3Ideal.Dw

open Cert.Kernel3Ideal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window cellOf)
open Cert.RowSum

/-! ## The payloads at an index -/

theorem dot_apply (x : FVec Ideal S2080x1408 .bf16) (y : FVec Ideal S2080x1024 .bf16) (p : Fin 1408) (q : Fin 1024) :
    (matmul dot_S2080x1408_S2080x1024_S1408x1024_0_0_1_1_n_n none x y (constant S1408x1024 .f32 0x00000000#32) : FVec Ideal S1408x1024 .f32) (ix2 p q)
      = ∑ j : Fin 2080, x (ix2 j p) * y (ix2 j q) := by
  refine (Ideal.matmul_constant_zero_apply _ none _ _ _).trans ?_
  rw [← Equiv.sum_comp (contrEquiv1 dot_S2080x1408_S2080x1024_S1408x1024_0_0_1_1_n_n 2080 rfl rfl).symm]
  refine Finset.sum_congr rfl fun j _ => ?_
  have hk := contrEquiv1_symm_val dot_S2080x1408_S2080x1024_S1408x1024_0_0_1_1_n_n 2080 rfl rfl j
  congr 1
  · refine congrArg x (funext fun a => Fin.ext ?_)
    match a with
    | ⟨0, _⟩ => exact (dot_S2080x1408_S2080x1024_S1408x1024_0_0_1_1_n_n.lhsIdx_val_of_single rfl _ _).trans hk
    | ⟨1, _⟩ => exact (by
        unfold DotDims.lhsIdx
        rw [dif_neg (show ¬(1 : Fin S2080x1408.rank) ∈ dot_S2080x1408_S2080x1024_S1408x1024_0_0_1_1_n_n.lhsBatch by decide), dif_pos (show (1 : Fin S2080x1408.rank) ∈ dot_S2080x1408_S2080x1024_S1408x1024_0_0_1_1_n_n.lhsNonContracting by decide)]
        rfl : (dot_S2080x1408_S2080x1024_S1408x1024_0_0_1_1_n_n.lhsIdx (ix2 p q) _ 1).val = p.val)
  · refine congrArg y (funext fun a => Fin.ext ?_)
    match a with
    | ⟨0, _⟩ => exact (dot_S2080x1408_S2080x1024_S1408x1024_0_0_1_1_n_n.rhsIdx_val_of_single rfl _ _).trans hk
    | ⟨1, _⟩ => exact (by
        unfold DotDims.rhsIdx
        rw [dif_neg (show ¬(1 : Fin S2080x1024.rank) ∈ dot_S2080x1408_S2080x1024_S1408x1024_0_0_1_1_n_n.rhsBatch by decide), dif_pos (show (1 : Fin S2080x1024.rank) ∈ dot_S2080x1408_S2080x1024_S1408x1024_0_0_1_1_n_n.rhsNonContracting by decide)]
        rfl : (dot_S2080x1408_S2080x1024_S1408x1024_0_0_1_1_n_n.rhsIdx (ix2 p q) _ 1).val = q.val)

/-- A tile's product added to what the block held. -/
theorem add2_apply (x0 : FVec Ideal S2080x1408 .bf16) (x1 : FVec Ideal S2080x1024 .bf16) (acc : FVec Ideal S1408x1024 .f32) (p : Fin 1408) (q : Fin 1024) :
    (k0_pay2 acc x0 x1 : FVec Ideal S1408x1024 .f32) (ix2 p q) = acc (ix2 p q) + ∑ j : Fin 2080, x0 (ix2 j p) * x1 (ix2 j q) := by
  refine Eq.trans (b := shapeCast S1408x1024 acc shapeCasts_S1408x1024_S1408x1024 (ix2 p q) + _) rfl ?_
  rw [shapeCast_self]
  exact congrArg (acc (ix2 p q) + ·) (dot_apply x0 x1 p q)
/-- The block starts at zero. -/
theorem zero2_apply (i : S1408x1024.Idx) : (k0_pay1 : FVec Ideal S1408x1024 .f32) i = 0 := Ideal.ofBits_zero_f32
/-- The copy holds the same numbers. -/
theorem copy2_apply (acc : FVec Ideal S1408x1024 .f32) (i : S1408x1024.Idx) : (k0_pay3 acc : FVec Ideal S1408x1024 .bf16) i = acc i := by
  refine Eq.trans (b := shapeCast S1408x1024 acc shapeCasts_S1408x1024_S1408x1024 i) rfl ?_
  rw [shapeCast_self]

variable (m : (ℓ : Loc nD τ sig) → Buf (Elt Ideal) ℓ)

/-! ## Where the blocks sit -/

/-- The array's row of a tile's row: tiles of 2080, 4 to a column block. -/
def rowOf (t : Fin cfg0.N) (j : Fin 2080) : Fin 8320 :=
  ⟨2080 * (t.val % 4) + j.val, by have := j.isLt; omega⟩
/-- The result's row of a block's row: two blocks of 1408. -/
def colOf (t : Fin cfg0.N) (p : Fin 1408) : Fin 2816 :=
  ⟨1408 * (t.val / 4) + p.val, by have := lt_of_lt_of_eq t.isLt N_0; have := p.isLt; omega⟩

theorem index0 : ∀ t : Fin cfg0.N, win0_0.index t (0 : Fin 2) = t.val % 4 ∧ win0_0.index t (1 : Fin 2) = t.val / 4 := by decide +kernel
theorem emb0 (t : Fin cfg0.N) (j : Fin 2080) (p : Fin 1408) :
    ((cfg0.win 0).blk t).view.emb (ix2 j p) = ix2 (rowOf t j) (colOf t p) := by
  obtain ⟨e0, e1⟩ := index0 t
  funext a; apply Fin.ext
  match a with
  | ⟨0, _⟩ => show win0_0.index t (0 : Fin 2) * 2080 + 1 * j.val = 2080 * (t.val % 4) + j.val; rw [e0]; omega
  | ⟨1, _⟩ => show win0_0.index t (1 : Fin 2) * 1408 + 1 * p.val = 1408 * (t.val / 4) + p.val; rw [e1]; omega
/-- The argument, at a row and a column. -/
def a0 (c : Dev nD) (k : Fin 8320) (r : Fin 2816) : EReal := m ((c : Thread nD τ).loc main_arg0) (ix2 k r)
/-- Its tile. -/
abbrev b0 (c : Dev nD) (t : Fin cfg0.N) : FVec Ideal S2080x1408 .bf16 := iblk m c 0 t
theorem b0_apply (c : Dev nD) (t : Fin cfg0.N) (j : Fin 2080) (p : Fin 1408) :
    b0 m c t (ix2 j p) = a0 m c (rowOf t j) (colOf t p) := by
  show V m c main_arg0 (((cfg0.win 0).blk t).view.emb (ix2 j p)) = _
  rw [emb0, V_main_arg0]; rfl
theorem index1 : ∀ t : Fin cfg0.N, win0_1.index t (0 : Fin 2) = t.val % 4 ∧ win0_1.index t (1 : Fin 2) = 0 := by decide +kernel
theorem emb1 (t : Fin cfg0.N) (j : Fin 2080) (q : Fin 1024) :
    ((cfg0.win 1).blk t).view.emb (ix2 j q) = ix2 (rowOf t j) q := by
  obtain ⟨e0, e1⟩ := index1 t
  funext a; apply Fin.ext
  match a with
  | ⟨0, _⟩ => show win0_1.index t (0 : Fin 2) * 2080 + 1 * j.val = 2080 * (t.val % 4) + j.val; rw [e0]; omega
  | ⟨1, _⟩ => show win0_1.index t (1 : Fin 2) * 1024 + 1 * q.val = q.val; rw [e1]; omega
/-- The argument, at a row and a column. -/
def a1 (c : Dev nD) (k : Fin 8320) (q : Fin 1024) : EReal := m ((c : Thread nD τ).loc main_arg1) (ix2 k q)
/-- Its tile. -/
abbrev b1 (c : Dev nD) (t : Fin cfg0.N) : FVec Ideal S2080x1024 .bf16 := iblk m c 1 t
theorem b1_apply (c : Dev nD) (t : Fin cfg0.N) (j : Fin 2080) (q : Fin 1024) :
    b1 m c t (ix2 j q) = a1 m c (rowOf t j) q := by
  show V m c main_arg1 (((cfg0.win 1).blk t).view.emb (ix2 j q)) = _
  rw [emb1, V_main_arg1]; rfl
theorem index2 : ∀ t : Fin cfg0.N, win0_2.index t (0 : Fin 2) = t.val / 4 ∧ win0_2.index t (1 : Fin 2) = 0 := by decide +kernel
theorem emb2 (t : Fin cfg0.N) (p : Fin 1408) (q : Fin 1024) :
    ((cfg0.win 2).blk t).view.emb (ix2 p q) = ix2 (colOf t p) q := by
  obtain ⟨e0, e1⟩ := index2 t
  funext a; apply Fin.ext
  match a with
  | ⟨0, _⟩ => show win0_2.index t (0 : Fin 2) * 1408 + 1 * p.val = 1408 * (t.val / 4) + p.val; rw [e0]; omega
  | ⟨1, _⟩ => show win0_2.index t (1 : Fin 2) * 1024 + 1 * q.val = q.val; rw [e1]; omega
theorem index3 : ∀ t : Fin cfg0.N, win0_3.index t (0 : Fin 2) = t.val / 4 ∧ win0_3.index t (1 : Fin 2) = 0 := by decide +kernel
theorem emb3 (t : Fin cfg0.N) (p : Fin 1408) (q : Fin 1024) :
    ((cfg0.win 3).blk t).view.emb (ix2 p q) = ix2 (colOf t p) q := by
  obtain ⟨e0, e1⟩ := index3 t
  funext a; apply Fin.ext
  match a with
  | ⟨0, _⟩ => show win0_3.index t (0 : Fin 2) * 1408 + 1 * p.val = 1408 * (t.val / 4) + p.val; rw [e0]; omega
  | ⟨1, _⟩ => show win0_3.index t (1 : Fin 2) * 1024 + 1 * q.val = q.val; rw [e1]; omega

/-! ## The sums -/

/-- The product of one row's entries. -/
def prod2 (c : Dev nD) (r : Fin 2816) (q : Fin 1024) (k : Fin 8320) : EReal := a0 m c k r * a1 m c k q
/-- The weights' gradient. -/
def dw2 (c : Dev nD) (r : Fin 2816) (q : Fin 1024) : EReal := ∑ k, prod2 m c r q k

theorem tile2 (c : Dev nD) (t : Fin cfg0.N) (b : ℕ) (hb : t.val % 4 = b) (p : Fin 1408) (q : Fin 1024) :
    (∑ k ∈ Finset.range (2080 * b), part (prod2 m c (colOf t p) q) k) + ∑ j : Fin 2080, b0 m c t (ix2 j p) * b1 m c t (ix2 j q)
      = ∑ k ∈ Finset.range (2080 * (b + 1)), part (prod2 m c (colOf t p) q) k := by
  subst hb
  rw [part_tile _ 2080 _ fun j => (rowOf t j).isLt]
  congr 1
  refine Finset.sum_congr rfl fun j _ => ?_
  rw [b0_apply, b1_apply]
  rfl

/-- After a point the block holds the sum over the rows of the tiles so far. -/
theorem acc2 (c : Dev nD) (b : ℕ) : ∀ (t : Fin cfg0.N), t.val % 4 = b → ∀ (p : Fin 1408) (q : Fin 1024),
    ((outsAt0 m c t.val t.isLt).1 (ix2 p q) : EReal) = ∑ k ∈ Finset.range (2080 * (b + 1)), part (prod2 m c (colOf t p) q) k := by
  induction b with
  | zero =>
    intro t ht p q
    rw [outsAt0_A m c t ht (by omega)]
    dsimp only
    rw [left_A_2, ← tile2 m c t 0 ht p q]
    refine (add2_apply _ _ _ p q).trans ?_
    rw [zero2_apply]
    rfl
  | succ b ih =>
    intro t ht p q
    have hN := lt_of_lt_of_eq t.isLt N_0
    have hprev := ih ⟨t.val - 1, Nat.lt_of_le_of_lt (Nat.sub_le _ _) t.isLt⟩ (by show (t.val - 1) % 4 = b; omega) p q
    have hcol : colOf ⟨t.val - 1, Nat.lt_of_le_of_lt (Nat.sub_le _ _) t.isLt⟩ p = colOf t p := by
      apply Fin.ext; show 1408 * ((t.val - 1) / 4) + p.val = 1408 * (t.val / 4) + p.val
      rw [show (t.val - 1) / 4 = t.val / 4 by omega]
    rw [hcol] at hprev
    rw [← tile2 m c t (b + 1) ht p q, ← hprev]
    by_cases hl : t.val % 4 = 3
    · rw [outsAt0_C m c t (by omega) hl]
      dsimp only
      rw [left_C_2]
      exact add2_apply _ _ _ p q
    · rw [outsAt0_B m c t (by omega) hl]
      dsimp only
      rw [left_B_2]
      exact add2_apply _ _ _ p q

/-- After the last tile it holds the sum over all the rows. -/
theorem done2 (c : Dev nD) (t : Fin cfg0.N) (ht : t.val % 4 = 3) (p : Fin 1408) (q : Fin 1024) :
    ((outsAt0 m c t.val t.isLt).1 (ix2 p q) : EReal) = dw2 m c (colOf t p) q := by
  rw [acc2 m c 3 t ht p q]
  exact part_all _
/-- And so does its copy. -/
theorem done3 (c : Dev nD) (t : Fin cfg0.N) (ht : t.val % 4 = 3) (p : Fin 1408) (q : Fin 1024) :
    ((outsAt0 m c t.val t.isLt).2 (ix2 p q) : EReal) = dw2 m c (colOf t p) q := by
  have h := done2 m c t ht p q
  rw [outsAt0_C m c t (by omega) ht] at h ⊢
  dsimp only at h ⊢
  rw [left_C_2] at h
  rw [left_C_3]
  exact (copy2_apply _ _).trans h

/-! ## The arrays -/

theorem mem2 (t : Fin cfg0.N) (i : S2816x1024.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v0_0).slice (win0_2.rect t)).set ↔ _
  rw [View.set_slice_whole, Rect.mem_set_unit]
  exact Iff.rfl
theorem arr2 (c : Dev nD) : (dats m 0 c).arrAt 2 cfg0.N = fun i : S2816x1024.Idx => dw2 m c (i 0) (i 1) := by
  refine (dats m 0 c).arrAt_eq_of_cover 2 (fun i : S2816x1024.Idx => dw2 m c (i 0) (i 1)) (fun t hf => ?_) fun i => ?_
  · show (cfg0.win 2).cut (grid0.coords t) ((dats m 0 c).after 2 t) = _
    rw [after0_2]
    funext y
    obtain ⟨p, q, rfl⟩ : ∃ (p : Fin 1408) (q : Fin 1024), y = ix2 p q := ⟨y 0, y 1, eq_ix2 (n0 := 1408) (n1 := 1024) y⟩
    have hx : (cfg0.win 2).xinj (grid0.coords t) (ix2 p q) = ix2 p q := by
      funext a; match a with
      | ⟨0, _⟩ => rfl
      | ⟨1, _⟩ => rfl
    show (outsAt0 m c t.val t.isLt).1 ((cfg0.win 2).xinj (grid0.coords t) (ix2 p q)) = (fun i : S2816x1024.Idx => dw2 m c (i 0) (i 1)) (((cfg0.win 2).blk t).view.emb (ix2 p q))
    rw [hx, emb2]
    exact done2 m c t ((flush0_2 t).1 hf) p q
  · have h0 : (i 0).val < 2816 := (i 0).isLt
    have h1 : (i 1).val < 1024 := (i 1).isLt
    refine ⟨⟨4 * ((i 0).val / 1408) + 3, lt_of_lt_of_eq (by omega) N_0.symm⟩, (flush0_2 _).2 (by show (4 * ((i 0).val / 1408) + 3) % 4 = 3; omega), (mem2 _ i).2 fun a => ?_⟩
    match a with
    | ⟨0, _⟩ =>
      show win0_2.index _ (0 : Fin 2) * 1408 ≤ (i 0).val ∧ (i 0).val < win0_2.index _ (0 : Fin 2) * 1408 + 1408
      rw [(index2 _).1]
      show (4 * ((i 0).val / 1408) + 3) / 4 * 1408 ≤ (i 0).val ∧ (i 0).val < (4 * ((i 0).val / 1408) + 3) / 4 * 1408 + 1408
      omega
    | ⟨1, _⟩ => show win0_2.index _ (1 : Fin 2) * 1024 ≤ (i 1).val ∧ (i 1).val < win0_2.index _ (1 : Fin 2) * 1024 + 1024; rw [(index2 _).2]; omega

theorem mem3 (t : Fin cfg0.N) (i : S2816x1024.Idx) :
    i ∈ ((cfg0.win 3).blk t).view.set ↔ ∀ a : Fin 2, win0_3.index t a * S1408x1024.size a ≤ (i a).val ∧ (i a).val < win0_3.index t a * S1408x1024.size a + S1408x1024.size a := by
  show i ∈ ((View.whole main_v0_1).slice (win0_3.rect t)).set ↔ _
  rw [View.set_slice_whole, Rect.mem_set_unit]
  exact Iff.rfl
theorem arr3 (c : Dev nD) : (dats m 0 c).arrAt 3 cfg0.N = fun i : S2816x1024.Idx => dw2 m c (i 0) (i 1) := by
  refine (dats m 0 c).arrAt_eq_of_cover 3 (fun i : S2816x1024.Idx => dw2 m c (i 0) (i 1)) (fun t hf => ?_) fun i => ?_
  · show (cfg0.win 3).cut (grid0.coords t) ((dats m 0 c).after 3 t) = _
    rw [after0_3]
    funext y
    obtain ⟨p, q, rfl⟩ : ∃ (p : Fin 1408) (q : Fin 1024), y = ix2 p q := ⟨y 0, y 1, eq_ix2 (n0 := 1408) (n1 := 1024) y⟩
    have hx : (cfg0.win 3).xinj (grid0.coords t) (ix2 p q) = ix2 p q := by
      funext a; match a with
      | ⟨0, _⟩ => rfl
      | ⟨1, _⟩ => rfl
    show (outsAt0 m c t.val t.isLt).2 ((cfg0.win 3).xinj (grid0.coords t) (ix2 p q)) = (fun i : S2816x1024.Idx => dw2 m c (i 0) (i 1)) (((cfg0.win 3).blk t).view.emb (ix2 p q))
    rw [hx, emb3]
    exact done3 m c t ((flush0_3 t).1 hf) p q
  · have h0 : (i 0).val < 2816 := (i 0).isLt
    have h1 : (i 1).val < 1024 := (i 1).isLt
    refine ⟨⟨4 * ((i 0).val / 1408) + 3, lt_of_lt_of_eq (by omega) N_0.symm⟩, (flush0_3 _).2 (by show (4 * ((i 0).val / 1408) + 3) % 4 = 3; omega), (mem3 _ i).2 fun a => ?_⟩
    match a with
    | ⟨0, _⟩ =>
      show win0_3.index _ (0 : Fin 2) * 1408 ≤ (i 0).val ∧ (i 0).val < win0_3.index _ (0 : Fin 2) * 1408 + 1408
      rw [(index3 _).1]
      show (4 * ((i 0).val / 1408) + 3) / 4 * 1408 ≤ (i 0).val ∧ (i 0).val < (4 * ((i 0).val / 1408) + 3) / 4 * 1408 + 1408
      omega
    | ⟨1, _⟩ => show win0_3.index _ (1 : Fin 2) * 1024 ≤ (i 1).val ∧ (i 1).val < win0_3.index _ (1 : Fin 2) * 1024 + 1024; rw [(index3 _).2]; omega

end Cert.Kernel3Ideal.Dw

end
-- ==== Proof.Dw.Algebraic3.lean ====
/- The kernel's results are the reference's, over the extended reals. -/
module

public import proofs.«01_k».proof.Defs
public import proofs.«01_k».proof.Proof.Dw.Value3
public import proofs.«01_k».proof.Proof.Gen.Kernel3Ideal.Value
public import proofs.«01_k».proof.Proof.Gen.Reference3Ideal.Run
public import proofs.«01_k».proof.Proof.Gen.Reference3Ideal.Read

@[expose] public section

noncomputable section

namespace Cert.Dw3

open Idealize.ShloMosaic Idealize.SL.Sem Idealize.ShloMosaic.TcCoe Idealize.ShloMosaic.ValueIdx
open Cert.Kernel3Ideal.Dw Cert.Reference3Ideal.Read
open Cert.Kernel3Ideal.Gen (dats)

/-- An index of a matrix is given by its two coordinates. -/
theorem at2 {n0 n1 : ℕ} (j : (⟨2, ![n0, n1]⟩ : Shape).Idx) (a : Fin n0) (b : Fin n1)
    (h0 : (j 0).val = a.val) (h1 : (j 1).val = b.val) : j = ix2 a b := by
  rw [eq_ix2 j]; exact congrArg₂ ix2 (Fin.ext h0) (Fin.ext h1)

variable (m : (ℓ : Loc Cert.Kernel3Ideal.nD Cert.Kernel3Ideal.τ Cert.Kernel3Ideal.sig) → Buf (Elt Ideal) ℓ) (c : Dev Cert.Kernel3Ideal.nD)

/-- The reference's gradient at an index. -/
theorem ref2_apply (r : Fin 2816) (q : Fin 1024) :
    (val_main_v5 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (ix2 r q) : EReal) = dw2 m c r q := by
  rw [val_main_v5_apply, val_main_v4_apply]
  refine Finset.sum_congr rfl fun k _ => ?_
  rw [(at2 _ k q rfl rfl : lidx_main_v4 (idx_main_v5 (ix2 r q)) k = ix2 k q), (at2 _ k r rfl rfl : ridx_main_v4 (idx_main_v5 (ix2 r q)) k = ix2 k r)]
  exact mul_comm _ _
theorem eq2 : val_main_v5 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) = (dats m 0 c).arrAt 2 Cert.Kernel3Ideal.cfg0.N := by
  rw [arr2]; funext i
  refine (congrArg _ (eq_ix2 (n0 := 2816) (n1 := 1024) i)).trans ?_
  exact ref2_apply m c _ _
theorem eq3 : val_main_v6 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) = (dats m 0 c).arrAt 3 Cert.Kernel3Ideal.cfg0.N := by
  rw [arr3]; funext i
  refine (congrArg _ (eq_ix2 (n0 := 2816) (n1 := 1024) i)).trans ?_
  exact ((val_main_v6_apply _ _ _).trans rfl).trans (ref2_apply m c _ _)

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => (dats m 0 c).arrAt 2 Cert.Kernel3Ideal.cfg0.N, fun c => (dats m 0 c).arrAt 3 Cert.Kernel3Ideal.cfg0.N, ?_, ?_⟩
  · exact (θ_run Cert.Kernel3Ideal.defs _ _).mono (fun r h c => h c) (Cert.Kernel3Ideal.Value.run_blocks (F := Ideal) m g)
  · refine (θ_run Cert.Reference3Ideal.defs _ _).mono (fun r h c => ?_) (Cert.Reference3Ideal.Value.run (F := Ideal) m' g')
    obtain ⟨a0, a1⟩ := hagree c
    obtain ⟨h0, h1, hargs⟩ := h c
    refine ⟨?_, ?_, hargs⟩
    · refine h0.trans ((val_main_v5_eq _ _).trans ?_); rw [a0, a1]; exact eq2 m c
    · refine h1.trans ((val_main_v6_eq _ _).trans ?_); rw [a0, a1]; exact eq3 m c

end Cert.Dw3

end
-- ==== Proof.Fwd.Facts.lean ====
/- Set-up of the launch of the half-step forward kernel: the branch conditions as arithmetic of the grid
   point, where an output is left alone, and the names of the staging buffers. -/
module

public import proofs.«01_k».proof.Proof.Gen.Kernel4Ideal.Frame
public import proofs.«01_k».proof.Proof.Gen.Kernel4Ideal.Skeleton
public import Idealize.ShloMosaic.Lib.Pipeline.TableIdle

@[expose] public section

set_option maxRecDepth 16384

noncomputable section

namespace Cert.Kernel4Ideal.FfnFwd

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Which branches run at which point: `t = 2 i + f` -/

/-- First column tile of a row block. -/
abbrev cond0_0 (i : grid0.Coords) : Prop := k0_cond1 i = 1#1
theorem hcond0_0 : ∀ t : Fin cfg0.N, cond0_0 (grid0.coords t) ↔ t.val % 2 = 0 :=
  (fun t => by
    have ht : t.val < 26 := Nat.lt_of_lt_of_eq t.isLt N_0
    have e0 : (grid0.coords t 0).val = t.val / 2 % 13 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

/-- Last column tile of a row block. -/
abbrev cond0_1 (i : grid0.Coords) : Prop := k0_cond2 i = 1#1
theorem hcond0_1 : ∀ t : Fin cfg0.N, cond0_1 (grid0.coords t) ↔ t.val % 2 = 1 :=
  (fun t => by
    have ht : t.val < 26 := Nat.lt_of_lt_of_eq t.isLt N_0
    have e0 : (grid0.coords t 0).val = t.val / 2 % 13 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 1)

/-! ## Where output windows are left alone -/

/-- The block's output (window 5) is stored at the last column tile only. -/
theorem idle5 : ∀ t : Fin cfg0.N, cfg0.idle 5 (grid0.coords t) = (t.val % 2 == 0) := by decide +kernel
/-- The normalised input (window 6) is stored at the first column tile only. -/
theorem idle6 : ∀ t : Fin cfg0.N, cfg0.idle 6 (grid0.coords t) = (t.val % 2 == 1) := by decide +kernel
/-- No stored value sits in window 6's buffer before the first point and right after each write-back. -/
def freshTab6 : ℕ → Bool
  | 0 => true
  | n + 1 => n % 2 == 1
theorem freshTab6_step : ∀ t : Fin cfg0.N,
    freshTab6 (t.val + 1) = ((cfg0.win 6).flush t || (cfg0.idle 6 (cfg0.grid.coords t) && freshTab6 t.val)) := by decide +kernel
theorem fresh6 (t : Fin cfg0.N) : cfg0.fresh 6 t.val = freshTab6 t.val :=
  Pipeline.Cfg.fresh_tab cfg0 6 freshTab6 rfl freshTab6_step t.val (Nat.le_of_lt t.isLt)

/-! ## The staging buffers as the body is handed them -/

/-- Each window's current staging memref at point `t`, spelled as the pipeline passes it (`bodyAt0`), and its wholeness. -/
abbrev ms0_0 (t : Fin cfg0.N) : Memref sig .tc .vmem S640x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x352x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x352x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x352x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S640x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S640x1408 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S640x1024 .f32 := Memref.whole cc0_scratch0

/-- The launch's invariant: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel4Ideal.FfnFwd

end
-- ==== Proof.Fwd.RunA.lean ====
/- The body of the half-step forward kernel run at a first column tile: what its stores leave in every buffer. -/
module

public import proofs.«01_k».proof.Proof.Fwd.Facts

@[expose] public section

set_option maxRecDepth 16384

noncomputable section

namespace Cert.Kernel4Ideal.FfnFwd

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores each buffer ends with at a first column tile, with the body's triple. -/
noncomputable def runA (c : Dev nD) (i : grid0.Coords) (arg2 : Memref sig .tc .vmem S640x1024 .f32) (harg2 : arg2.IsWhole) (arg3 : Memref sig .tc .vmem S1x1x1024 .f32) (harg3 : arg3.IsWhole) (arg4 : Memref sig .tc .vmem S4x352x1024 .bf16) (harg4 : arg4.IsWhole) (arg5 : Memref sig .tc .vmem S4x352x1024 .bf16) (harg5 : arg5.IsWhole) (arg6 : Memref sig .tc .vmem S4x352x1024 .bf16) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1408 .bf16) (harg9 : arg9.IsWhole) (arg10 : Memref sig .tc .vmem S640x1408 .bf16) (harg10 : arg10.IsWhole) (arg11 : Memref sig .tc .vmem S640x1024 .f32) (harg11 : arg11.IsWhole) (hc0 : cond0_0 i) (hc1 : ¬cond0_1 i)
    (x0 : Vec F S640x1024 .f32) (x1 : Vec F S1x1x1024 .f32) (x2 : Vec F S4x352x1024 .bf16) (x3 : Vec F S4x352x1024 .bf16) (x4 : Vec F S4x352x1024 .bf16) :
    Σ' (L5 : List (View.Piece (Elt F) S640x1024 .f32)), Σ' (L6 : List (View.Piece (Elt F) S640x1024 .bf16)), Σ' (L7 : List (View.Piece (Elt F) S640x1408 .bf16)), Σ' (L8 : List (View.Piece (Elt F) S640x1408 .bf16)), { LS0 : List (View.Piece (Elt F) S640x1024 .f32) //
      ∀ (xi5 : Vec F S640x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K } := by
  refine ⟨[], ?_, ?_, ?_, ?_, fun xi5 E K => ?run⟩
  case run =>
    simp only [cc0_ffn_fwd_eq_skeleton]; unfold cc0_ffn_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HS0

end Cert.Kernel4Ideal.FfnFwd

end
-- ==== Proof.Fwd.RunB.lean ====
/- The body of the half-step forward kernel run at a last column tile: what its stores leave in every buffer. -/
module

public import proofs.«01_k».proof.Proof.Fwd.RunA

@[expose] public section

set_option maxRecDepth 16384

noncomputable section

namespace Cert.Kernel4Ideal.FfnFwd

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores each buffer ends with at a last column tile, with the body's triple. -/
noncomputable def runB (c : Dev nD) (i : grid0.Coords) (arg2 : Memref sig .tc .vmem S640x1024 .f32) (harg2 : arg2.IsWhole) (arg3 : Memref sig .tc .vmem S1x1x1024 .f32) (harg3 : arg3.IsWhole) (arg4 : Memref sig .tc .vmem S4x352x1024 .bf16) (harg4 : arg4.IsWhole) (arg5 : Memref sig .tc .vmem S4x352x1024 .bf16) (harg5 : arg5.IsWhole) (arg6 : Memref sig .tc .vmem S4x352x1024 .bf16) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1408 .bf16) (harg9 : arg9.IsWhole) (arg10 : Memref sig .tc .vmem S640x1408 .bf16) (harg10 : arg10.IsWhole) (arg11 : Memref sig .tc .vmem S640x1024 .f32) (harg11 : arg11.IsWhole) (hc0 : ¬cond0_0 i) (hc1 : cond0_1 i)
    (x0 : Vec F S640x1024 .f32) (x1 : Vec F S1x1x1024 .f32) (x2 : Vec F S4x352x1024 .bf16) (x3 : Vec F S4x352x1024 .bf16) (x4 : Vec F S4x352x1024 .bf16) (xo6 : Vec F S640x1024 .bf16) (xs0 : Vec F S640x1024 .f32) :
    Σ' (L5 : List (View.Piece (Elt F) S640x1024 .f32)), Σ' (L7 : List (View.Piece (Elt F) S640x1408 .bf16)), Σ' (L8 : List (View.Piece (Elt F) S640x1408 .bf16)), { LS0 : List (View.Piece (Elt F) S640x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xo6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_ffn_fwd_eq_skeleton]; unfold cc0_ffn_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    isplitl [H8]; · iexists _; iexact H8
    iexists _; iexact HS0

end Cert.Kernel4Ideal.FfnFwd

end
-- ==== Proof.Fwd.LeftA.lean ====
/- What the stores of case A leave in each buffer, as the named payloads of the blocks read. -/
module

public import proofs.«01_k».proof.Proof.Fwd.RunB
public import Idealize.ShloMosaic.Lib.Pipeline.Value

@[expose] public section

set_option maxRecDepth 16384

noncomputable section

namespace Cert.Kernel4Ideal.FfnFwd

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The values a point leaves, as functions of its blocks -/

/-- One column tile's contribution added to the sum of the down product. -/
def accOf (xn : Vec F S640x1024 .bf16) (wg wu wd : Vec F S4x352x1024 .bf16) (acc : Vec F S640x1024 .f32) : Vec F S640x1024 .f32 :=
  k0_pay1 acc (k0_pay10 wd) (k0_pay11 xn wg wu)

theorem readA_6 (c : Dev nD) (i : grid0.Coords) (arg2 : Memref sig .tc .vmem S640x1024 .f32) (harg2 : arg2.IsWhole) (arg3 : Memref sig .tc .vmem S1x1x1024 .f32) (harg3 : arg3.IsWhole) (arg4 : Memref sig .tc .vmem S4x352x1024 .bf16) (harg4 : arg4.IsWhole) (arg5 : Memref sig .tc .vmem S4x352x1024 .bf16) (harg5 : arg5.IsWhole) (arg6 : Memref sig .tc .vmem S4x352x1024 .bf16) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1408 .bf16) (harg9 : arg9.IsWhole) (arg10 : Memref sig .tc .vmem S640x1408 .bf16) (harg10 : arg10.IsWhole) (arg11 : Memref sig .tc .vmem S640x1024 .f32) (harg11 : arg11.IsWhole) (hc0 : cond0_0 i) (hc1 : ¬cond0_1 i)
    (x0 : Vec F S640x1024 .f32) (x1 : Vec F S1x1x1024 .f32) (x2 : Vec F S4x352x1024 .bf16) (x3 : Vec F S4x352x1024 .bf16) (x4 : Vec F S4x352x1024 .bf16)
    (f : Buf (Elt F) (arg8.view.loc (c : Thread nD τ))) :
    arg8.view.read (Elt F) (arg8.view.writes (Elt F) f (runA c i arg2 harg2 arg3 harg3 arg4 harg4 arg5 harg5 arg6 harg6 arg7 harg7 arg8 harg8 arg9 harg9 arg10 harg10 arg11 harg11 hc0 hc1 x0 x1 x2 x3 x4).2.1) = k0_pay3 x0 x1 := by
  rw [View.read_writes_eq_canon _ _ _ (View.cover_of_tiledL (runA c i arg2 harg2 arg3 harg3 arg4 harg4 arg5 harg5 arg6 harg6 arg7 harg7 arg8 harg8 arg9 harg9 arg10 harg10 arg11 harg11 hc0 hc1 x0 x1 x2 x3 x4).2.1 S640x1024.size (by sl_kernel_rfl))]
  unfold runA
  dsimp only
  sl_unfold_words
  simp only [View.canon_cons_unit_zero (S := S640x1024) hz2, View.readCov_unit_zero (S := S640x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S640x1024) hz2, View.ld_unit_zero (S := S640x1408) hz2, View.ld_unit_zero (S := S4x352x1024) hz3, View.ld_unit_zero (S := S1x1x1024) hz3, accOf]

theorem readA_7 (c : Dev nD) (i : grid0.Coords) (arg2 : Memref sig .tc .vmem S640x1024 .f32) (harg2 : arg2.IsWhole) (arg3 : Memref sig .tc .vmem S1x1x1024 .f32) (harg3 : arg3.IsWhole) (arg4 : Memref sig .tc .vmem S4x352x1024 .bf16) (harg4 : arg4.IsWhole) (arg5 : Memref sig .tc .vmem S4x352x1024 .bf16) (harg5 : arg5.IsWhole) (arg6 : Memref sig .tc .vmem S4x352x1024 .bf16) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1408 .bf16) (harg9 : arg9.IsWhole) (arg10 : Memref sig .tc .vmem S640x1408 .bf16) (harg10 : arg10.IsWhole) (arg11 : Memref sig .tc .vmem S640x1024 .f32) (harg11 : arg11.IsWhole) (hc0 : cond0_0 i) (hc1 : ¬cond0_1 i)
    (x0 : Vec F S640x1024 .f32) (x1 : Vec F S1x1x1024 .f32) (x2 : Vec F S4x352x1024 .bf16) (x3 : Vec F S4x352x1024 .bf16) (x4 : Vec F S4x352x1024 .bf16)
    (f : Buf (Elt F) (arg9.view.loc (c : Thread nD τ))) :
    arg9.view.read (Elt F) (arg9.view.writes (Elt F) f (runA c i arg2 harg2 arg3 harg3 arg4 harg4 arg5 harg5 arg6 harg6 arg7 harg7 arg8 harg8 arg9 harg9 arg10 harg10 arg11 harg11 hc0 hc1 x0 x1 x2 x3 x4).2.2.1) = k0_pay8 (k0_pay3 x0 x1) x2 := by
  rw [View.read_writes_eq_canon _ _ _ (View.cover_of_tiledL (runA c i arg2 harg2 arg3 harg3 arg4 harg4 arg5 harg5 arg6 harg6 arg7 harg7 arg8 harg8 arg9 harg9 arg10 harg10 arg11 harg11 hc0 hc1 x0 x1 x2 x3 x4).2.2.1 S640x1408.size (by sl_kernel_rfl))]
  unfold runA
  dsimp only
  sl_unfold_words
  simp only [View.canon_cons_unit_zero (S := S640x1408) hz2, View.readCov_unit_zero (S := S640x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S640x1024) hz2, View.ld_unit_zero (S := S640x1408) hz2, View.ld_unit_zero (S := S4x352x1024) hz3, View.ld_unit_zero (S := S1x1x1024) hz3, accOf]

theorem readA_8 (c : Dev nD) (i : grid0.Coords) (arg2 : Memref sig .tc .vmem S640x1024 .f32) (harg2 : arg2.IsWhole) (arg3 : Memref sig .tc .vmem S1x1x1024 .f32) (harg3 : arg3.IsWhole) (arg4 : Memref sig .tc .vmem S4x352x1024 .bf16) (harg4 : arg4.IsWhole) (arg5 : Memref sig .tc .vmem S4x352x1024 .bf16) (harg5 : arg5.IsWhole) (arg6 : Memref sig .tc .vmem S4x352x1024 .bf16) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1408 .bf16) (harg9 : arg9.IsWhole) (arg10 : Memref sig .tc .vmem S640x1408 .bf16) (harg10 : arg10.IsWhole) (arg11 : Memref sig .tc .vmem S640x1024 .f32) (harg11 : arg11.IsWhole) (hc0 : cond0_0 i) (hc1 : ¬cond0_1 i)
    (x0 : Vec F S640x1024 .f32) (x1 : Vec F S1x1x1024 .f32) (x2 : Vec F S4x352x1024 .bf16) (x3 : Vec F S4x352x1024 .bf16) (x4 : Vec F S4x352x1024 .bf16)
    (f : Buf (Elt F) (arg10.view.loc (c : Thread nD τ))) :
    arg10.view.read (Elt F) (arg10.view.writes (Elt F) f (runA c i arg2 harg2 arg3 harg3 arg4 harg4 arg5 harg5 arg6 harg6 arg7 harg7 arg8 harg8 arg9 harg9 arg10 harg10 arg11 harg11 hc0 hc1 x0 x1 x2 x3 x4).2.2.2.1) = k0_pay9 (k0_pay3 x0 x1) x3 := by
  rw [View.read_writes_eq_canon _ _ _ (View.cover_of_tiledL (runA c i arg2 harg2 arg3 harg3 arg4 harg4 arg5 harg5 arg6 harg6 arg7 harg7 arg8 harg8 arg9 harg9 arg10 harg10 arg11 harg11 hc0 hc1 x0 x1 x2 x3 x4).2.2.2.1 S640x1408.size (by sl_kernel_rfl))]
  unfold runA
  dsimp only
  sl_unfold_words
  simp only [View.canon_cons_unit_zero (S := S640x1408) hz2, View.readCov_unit_zero (S := S640x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S640x1024) hz2, View.ld_unit_zero (S := S640x1408) hz2, View.ld_unit_zero (S := S4x352x1024) hz3, View.ld_unit_zero (S := S1x1x1024) hz3, accOf]

theorem readA_s (c : Dev nD) (i : grid0.Coords) (arg2 : Memref sig .tc .vmem S640x1024 .f32) (harg2 : arg2.IsWhole) (arg3 : Memref sig .tc .vmem S1x1x1024 .f32) (harg3 : arg3.IsWhole) (arg4 : Memref sig .tc .vmem S4x352x1024 .bf16) (harg4 : arg4.IsWhole) (arg5 : Memref sig .tc .vmem S4x352x1024 .bf16) (harg5 : arg5.IsWhole) (arg6 : Memref sig .tc .vmem S4x352x1024 .bf16) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1408 .bf16) (harg9 : arg9.IsWhole) (arg10 : Memref sig .tc .vmem S640x1408 .bf16) (harg10 : arg10.IsWhole) (arg11 : Memref sig .tc .vmem S640x1024 .f32) (harg11 : arg11.IsWhole) (hc0 : cond0_0 i) (hc1 : ¬cond0_1 i)
    (x0 : Vec F S640x1024 .f32) (x1 : Vec F S1x1x1024 .f32) (x2 : Vec F S4x352x1024 .bf16) (x3 : Vec F S4x352x1024 .bf16) (x4 : Vec F S4x352x1024 .bf16)
    (f : Buf (Elt F) (arg11.view.loc (c : Thread nD τ))) :
    arg11.view.read (Elt F) (arg11.view.writes (Elt F) f (runA c i arg2 harg2 arg3 harg3 arg4 harg4 arg5 harg5 arg6 harg6 arg7 harg7 arg8 harg8 arg9 harg9 arg10 harg10 arg11 harg11 hc0 hc1 x0 x1 x2 x3 x4).2.2.2.2.1) = accOf (k0_pay3 x0 x1) x2 x3 x4 k0_pay4 := by
  rw [View.read_writes_eq_canon _ _ _ (View.cover_of_tiledL (runA c i arg2 harg2 arg3 harg3 arg4 harg4 arg5 harg5 arg6 harg6 arg7 harg7 arg8 harg8 arg9 harg9 arg10 harg10 arg11 harg11 hc0 hc1 x0 x1 x2 x3 x4).2.2.2.2.1 S640x1024.size (by sl_kernel_rfl))]
  unfold runA
  dsimp only
  sl_unfold_words
  simp only [View.canon_cons_unit_zero (S := S640x1024) hz2, View.readCov_unit_zero (S := S640x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S640x1024) hz2, View.ld_unit_zero (S := S640x1408) hz2, View.ld_unit_zero (S := S4x352x1024) hz3, View.ld_unit_zero (S := S1x1x1024) hz3, accOf]

end Cert.Kernel4Ideal.FfnFwd

end
-- ==== Proof.Fwd.LeftB.lean ====
/- What the stores of case B leave in each buffer, as the named payloads of the blocks read. -/
module

public import proofs.«01_k».proof.Proof.Fwd.LeftA
public import Idealize.ShloMosaic.Lib.Pipeline.Value

@[expose] public section

set_option maxRecDepth 16384

noncomputable section

namespace Cert.Kernel4Ideal.FfnFwd

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem readB_5 (c : Dev nD) (i : grid0.Coords) (arg2 : Memref sig .tc .vmem S640x1024 .f32) (harg2 : arg2.IsWhole) (arg3 : Memref sig .tc .vmem S1x1x1024 .f32) (harg3 : arg3.IsWhole) (arg4 : Memref sig .tc .vmem S4x352x1024 .bf16) (harg4 : arg4.IsWhole) (arg5 : Memref sig .tc .vmem S4x352x1024 .bf16) (harg5 : arg5.IsWhole) (arg6 : Memref sig .tc .vmem S4x352x1024 .bf16) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1408 .bf16) (harg9 : arg9.IsWhole) (arg10 : Memref sig .tc .vmem S640x1408 .bf16) (harg10 : arg10.IsWhole) (arg11 : Memref sig .tc .vmem S640x1024 .f32) (harg11 : arg11.IsWhole) (hc0 : ¬cond0_0 i) (hc1 : cond0_1 i)
    (x0 : Vec F S640x1024 .f32) (x1 : Vec F S1x1x1024 .f32) (x2 : Vec F S4x352x1024 .bf16) (x3 : Vec F S4x352x1024 .bf16) (x4 : Vec F S4x352x1024 .bf16) (xo6 : Vec F S640x1024 .bf16) (xs0 : Vec F S640x1024 .f32)
    (f : Buf (Elt F) (arg7.view.loc (c : Thread nD τ))) :
    arg7.view.read (Elt F) (arg7.view.writes (Elt F) f (runB c i arg2 harg2 arg3 harg3 arg4 harg4 arg5 harg5 arg6 harg6 arg7 harg7 arg8 harg8 arg9 harg9 arg10 harg10 arg11 harg11 hc0 hc1 x0 x1 x2 x3 x4 xo6 xs0).1) = k0_pay2 x0 (accOf xo6 x2 x3 x4 xs0) := by
  rw [View.read_writes_eq_canon _ _ _ (View.cover_of_tiledL (runB c i arg2 harg2 arg3 harg3 arg4 harg4 arg5 harg5 arg6 harg6 arg7 harg7 arg8 harg8 arg9 harg9 arg10 harg10 arg11 harg11 hc0 hc1 x0 x1 x2 x3 x4 xo6 xs0).1 S640x1024.size (by sl_kernel_rfl))]
  unfold runB
  dsimp only
  sl_unfold_words
  simp only [View.canon_cons_unit_zero (S := S640x1024) hz2, View.readCov_unit_zero (S := S640x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S640x1024) hz2, View.ld_unit_zero (S := S640x1408) hz2, View.ld_unit_zero (S := S4x352x1024) hz3, View.ld_unit_zero (S := S1x1x1024) hz3, accOf]

theorem readB_7 (c : Dev nD) (i : grid0.Coords) (arg2 : Memref sig .tc .vmem S640x1024 .f32) (harg2 : arg2.IsWhole) (arg3 : Memref sig .tc .vmem S1x1x1024 .f32) (harg3 : arg3.IsWhole) (arg4 : Memref sig .tc .vmem S4x352x1024 .bf16) (harg4 : arg4.IsWhole) (arg5 : Memref sig .tc .vmem S4x352x1024 .bf16) (harg5 : arg5.IsWhole) (arg6 : Memref sig .tc .vmem S4x352x1024 .bf16) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1408 .bf16) (harg9 : arg9.IsWhole) (arg10 : Memref sig .tc .vmem S640x1408 .bf16) (harg10 : arg10.IsWhole) (arg11 : Memref sig .tc .vmem S640x1024 .f32) (harg11 : arg11.IsWhole) (hc0 : ¬cond0_0 i) (hc1 : cond0_1 i)
    (x0 : Vec F S640x1024 .f32) (x1 : Vec F S1x1x1024 .f32) (x2 : Vec F S4x352x1024 .bf16) (x3 : Vec F S4x352x1024 .bf16) (x4 : Vec F S4x352x1024 .bf16) (xo6 : Vec F S640x1024 .bf16) (xs0 : Vec F S640x1024 .f32)
    (f : Buf (Elt F) (arg9.view.loc (c : Thread nD τ))) :
    arg9.view.read (Elt F) (arg9.view.writes (Elt F) f (runB c i arg2 harg2 arg3 harg3 arg4 harg4 arg5 harg5 arg6 harg6 arg7 harg7 arg8 harg8 arg9 harg9 arg10 harg10 arg11 harg11 hc0 hc1 x0 x1 x2 x3 x4 xo6 xs0).2.1) = k0_pay8 xo6 x2 := by
  rw [View.read_writes_eq_canon _ _ _ (View.cover_of_tiledL (runB c i arg2 harg2 arg3 harg3 arg4 harg4 arg5 harg5 arg6 harg6 arg7 harg7 arg8 harg8 arg9 harg9 arg10 harg10 arg11 harg11 hc0 hc1 x0 x1 x2 x3 x4 xo6 xs0).2.1 S640x1408.size (by sl_kernel_rfl))]
  unfold runB
  dsimp only
  sl_unfold_words
  simp only [View.canon_cons_unit_zero (S := S640x1408) hz2, View.readCov_unit_zero (S := S640x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S640x1024) hz2, View.ld_unit_zero (S := S640x1408) hz2, View.ld_unit_zero (S := S4x352x1024) hz3, View.ld_unit_zero (S := S1x1x1024) hz3, accOf]

theorem readB_8 (c : Dev nD) (i : grid0.Coords) (arg2 : Memref sig .tc .vmem S640x1024 .f32) (harg2 : arg2.IsWhole) (arg3 : Memref sig .tc .vmem S1x1x1024 .f32) (harg3 : arg3.IsWhole) (arg4 : Memref sig .tc .vmem S4x352x1024 .bf16) (harg4 : arg4.IsWhole) (arg5 : Memref sig .tc .vmem S4x352x1024 .bf16) (harg5 : arg5.IsWhole) (arg6 : Memref sig .tc .vmem S4x352x1024 .bf16) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1408 .bf16) (harg9 : arg9.IsWhole) (arg10 : Memref sig .tc .vmem S640x1408 .bf16) (harg10 : arg10.IsWhole) (arg11 : Memref sig .tc .vmem S640x1024 .f32) (harg11 : arg11.IsWhole) (hc0 : ¬cond0_0 i) (hc1 : cond0_1 i)
    (x0 : Vec F S640x1024 .f32) (x1 : Vec F S1x1x1024 .f32) (x2 : Vec F S4x352x1024 .bf16) (x3 : Vec F S4x352x1024 .bf16) (x4 : Vec F S4x352x1024 .bf16) (xo6 : Vec F S640x1024 .bf16) (xs0 : Vec F S640x1024 .f32)
    (f : Buf (Elt F) (arg10.view.loc (c : Thread nD τ))) :
    arg10.view.read (Elt F) (arg10.view.writes (Elt F) f (runB c i arg2 harg2 arg3 harg3 arg4 harg4 arg5 harg5 arg6 harg6 arg7 harg7 arg8 harg8 arg9 harg9 arg10 harg10 arg11 harg11 hc0 hc1 x0 x1 x2 x3 x4 xo6 xs0).2.2.1) = k0_pay9 xo6 x3 := by
  rw [View.read_writes_eq_canon _ _ _ (View.cover_of_tiledL (runB c i arg2 harg2 arg3 harg3 arg4 harg4 arg5 harg5 arg6 harg6 arg7 harg7 arg8 harg8 arg9 harg9 arg10 harg10 arg11 harg11 hc0 hc1 x0 x1 x2 x3 x4 xo6 xs0).2.2.1 S640x1408.size (by sl_kernel_rfl))]
  unfold runB
  dsimp only
  sl_unfold_words
  simp only [View.canon_cons_unit_zero (S := S640x1408) hz2, View.readCov_unit_zero (S := S640x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S640x1024) hz2, View.ld_unit_zero (S := S640x1408) hz2, View.ld_unit_zero (S := S4x352x1024) hz3, View.ld_unit_zero (S := S1x1x1024) hz3, accOf]

theorem readB_s (c : Dev nD) (i : grid0.Coords) (arg2 : Memref sig .tc .vmem S640x1024 .f32) (harg2 : arg2.IsWhole) (arg3 : Memref sig .tc .vmem S1x1x1024 .f32) (harg3 : arg3.IsWhole) (arg4 : Memref sig .tc .vmem S4x352x1024 .bf16) (harg4 : arg4.IsWhole) (arg5 : Memref sig .tc .vmem S4x352x1024 .bf16) (harg5 : arg5.IsWhole) (arg6 : Memref sig .tc .vmem S4x352x1024 .bf16) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1408 .bf16) (harg9 : arg9.IsWhole) (arg10 : Memref sig .tc .vmem S640x1408 .bf16) (harg10 : arg10.IsWhole) (arg11 : Memref sig .tc .vmem S640x1024 .f32) (harg11 : arg11.IsWhole) (hc0 : ¬cond0_0 i) (hc1 : cond0_1 i)
    (x0 : Vec F S640x1024 .f32) (x1 : Vec F S1x1x1024 .f32) (x2 : Vec F S4x352x1024 .bf16) (x3 : Vec F S4x352x1024 .bf16) (x4 : Vec F S4x352x1024 .bf16) (xo6 : Vec F S640x1024 .bf16) (xs0 : Vec F S640x1024 .f32)
    (f : Buf (Elt F) (arg11.view.loc (c : Thread nD τ))) :
    arg11.view.read (Elt F) (arg11.view.writes (Elt F) f (runB c i arg2 harg2 arg3 harg3 arg4 harg4 arg5 harg5 arg6 harg6 arg7 harg7 arg8 harg8 arg9 harg9 arg10 harg10 arg11 harg11 hc0 hc1 x0 x1 x2 x3 x4 xo6 xs0).2.2.2.1) = accOf xo6 x2 x3 x4 xs0 := by
  rw [View.read_writes_eq_canon _ _ _ (View.cover_of_tiledL (runB c i arg2 harg2 arg3 harg3 arg4 harg4 arg5 harg5 arg6 harg6 arg7 harg7 arg8 harg8 arg9 harg9 arg10 harg10 arg11 harg11 hc0 hc1 x0 x1 x2 x3 x4 xo6 xs0).2.2.2.1 S640x1024.size (by sl_kernel_rfl))]
  unfold runB
  dsimp only
  sl_unfold_words
  simp only [View.canon_cons_unit_zero (S := S640x1024) hz2, View.readCov_unit_zero (S := S640x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S640x1024) hz2, View.ld_unit_zero (S := S640x1408) hz2, View.ld_unit_zero (S := S4x352x1024) hz3, View.ld_unit_zero (S := S1x1x1024) hz3, accOf]

end Cert.Kernel4Ideal.FfnFwd

end
-- ==== Proof.Fwd.Data.lean ====
/- The proof data of the half-step forward kernel: what every buffer holds after each grid point, as one
   function of the point and of the blocks read. -/
module

public import proofs.«01_k».proof.Proof.Fwd.LeftA
public import proofs.«01_k».proof.Proof.Fwd.LeftB

@[expose] public section

set_option maxRecDepth 16384

noncomputable section

namespace Cert.Kernel4Ideal.FfnFwd

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point number `n` of the grid, total in `n`. -/
def pt (n : ℕ) : Fin cfg0.N := ⟨n % 26, lt_of_lt_of_eq (Nat.mod_lt _ (by decide)) N_0.symm⟩
theorem pt_val (t : Fin cfg0.N) : pt t.val = t :=
  Fin.ext (Nat.mod_eq_of_lt (lt_of_lt_of_eq t.isLt N_0))

/-! ## What every buffer holds after each point -/

/-- The normalised rows of a row block: stored at its first column tile, kept at the second. -/
def xnAt (c : Dev nD) (n : ℕ) : Vec F S640x1024 .bf16 := k0_pay3 (iblk m c 0 (pt (2 * (n / 2)))) (iblk m c 1 (pt (2 * (n / 2))))
/-- One column tile's step of the scratch. -/
def stepAt (c : Dev nD) (n : ℕ) (acc : Vec F S640x1024 .f32) : Vec F S640x1024 .f32 :=
  accOf (xnAt m c n) (iblk m c 2 (pt n)) (iblk m c 3 (pt n)) (iblk m c 4 (pt n)) acc
/-- The scratch: zero plus the first tile's step, then the second's. -/
def accAt (c : Dev nD) (n : ℕ) : Vec F S640x1024 .f32 :=
  if n % 2 = 0 then stepAt m c n k0_pay4 else stepAt m c n (stepAt m c (n - 1) k0_pay4)
/-- The block's output, at a last column tile. -/
def hoAt (c : Dev nD) (n : ℕ) : Vec F S640x1024 .f32 := k0_pay2 (iblk m c 0 (pt n)) (accAt m c n)
/-- The saved gate values of a point's tile. -/
def gsAt (c : Dev nD) (n : ℕ) : Vec F S640x1408 .bf16 := k0_pay8 (xnAt m c n) (iblk m c 2 (pt n))
/-- The saved up values of a point's tile. -/
def usAt (c : Dev nD) (n : ℕ) : Vec F S640x1408 .bf16 := k0_pay9 (xnAt m c n) (iblk m c 3 (pt n))

theorem xnAt_odd (c : Dev nD) {n : ℕ} (h : n % 2 = 1) : xnAt m c n = xnAt m c (n - 1) := by
  unfold xnAt; rw [show n / 2 = (n - 1) / 2 by omega]
theorem xnAt_even (c : Dev nD) {n : ℕ} (h : n % 2 = 0) : xnAt m c n = k0_pay3 (iblk m c 0 (pt n)) (iblk m c 1 (pt n)) := by
  unfold xnAt; rw [show 2 * (n / 2) = n by omega]
theorem accAt_even (c : Dev nD) {n : ℕ} (h : n % 2 = 0) : accAt m c n = stepAt m c n k0_pay4 := if_pos h
theorem accAt_odd (c : Dev nD) {n : ℕ} (h : n % 2 = 1) : accAt m c n = stepAt m c n (accAt m c (n - 1)) := by
  rw [accAt_even m c (show (n - 1) % 2 = 0 by omega)]; exact if_neg (by omega)

/-- The invariant: before the first point the launch's; afterwards the scratch at what the point before left. -/
def PhiS (c : Dev nD) : ℕ → sProp 𝕄
  | 0 => Pipeline.ΦA spec0 c
  | n + 1 => iprop(iprop(owns (c : Thread nD τ) scM0_0 fullShare (accAt m c n)) ∗ (∃ r, prngReg c r))
theorem PhiS_pos (c : Dev nD) (n : ℕ) (h : n ≠ 0) :
    PhiS m c n = iprop(iprop(owns (c : Thread nD τ) scM0_0 fullShare (accAt m c (n - 1))) ∗ (∃ r, prngReg c r)) := by
  cases n with
  | zero => exact absurd rfl h
  | succ n => rfl
/-- Whatever the point, the invariant gives the scratch at some contents. -/
theorem PhiS_any (c : Dev nD) (n : ℕ) : PhiS m c n ⊢ iprop(iprop((∃ d, owns (c : Thread nD τ) scM0_0 fullShare d)) ∗ (∃ r, prngReg c r)) := by
  cases n with
  | zero => rw [show PhiS m c 0 = Pipeline.ΦA spec0 c from rfl, PhiA0_eq]
  | succ n =>
    unfold PhiS
    iintro ⟨HS0, Hg⟩
    isplitl [HS0]
    · iexists _; iexact HS0
    iexact Hg

/-- The pipeline's proof data: each input's buffer at its block, each output's at the value above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hoAt m c t.val
    | ⟨6, _⟩ => xnAt m c t.val
    | ⟨7, _⟩ => gsAt m c t.val
    | ⟨8, _⟩ => usAt m c t.val
  Φ t := PhiS m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hoAt m c t.val := by dsimp only [dats]
theorem after0_6 (c : Dev nD) (t : Fin cfg0.N) : (dats m 0 c).after 6 t = xnAt m c t.val := by dsimp only [dats]
theorem after0_7 (c : Dev nD) (t : Fin cfg0.N) : (dats m 0 c).after 7 t = gsAt m c t.val := by dsimp only [dats]
theorem after0_8 (c : Dev nD) (t : Fin cfg0.N) : (dats m 0 c).after 8 t = usAt m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a last column tile the normalised rows' buffer still holds what the first tile stored. -/
theorem before0_6 (c : Dev nD) (t : Fin cfg0.N) (h : t.val % 2 = 1) (d) :
    (dats m 0 c).before 6 t d = xnAt m c t.val := by
  rw [Dat.before_out_traj _ 6 rfl (fun _ _ => rfl) (fun t _ hi _ => by
      rw [idle6 t] at hi
      have h1 : t.val % 2 = 1 := by simpa using hi
      rw [after0_6, after0_6]; exact xnAt_odd m c h1) t.val t rfl d,
    if_neg (by
      rw [fresh6 t]; obtain ⟨n, hn⟩ := t
      cases n with
      | zero => exact absurd (show 0 % 2 = 1 from h) (by decide)
      | succ n => dsimp only at h ⊢; simp [freshTab6]; omega)]
  rw [after0_6]; exact (xnAt_odd m c h).symm

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

end Cert.Kernel4Ideal.FfnFwd

end
-- ==== Proof.Fwd.SoundA.lean ====
/- The body obligation of the half-step forward kernel, case A. -/
module

public import proofs.«01_k».proof.Proof.Fwd.Data

@[expose] public section

set_option maxRecDepth 16384

noncomputable section

namespace Cert.Kernel4Ideal.FfnFwd

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (c : Dev nD) (t : Fin cfg0.N) (h0 : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = iprop(iprop(owns (c : Thread nD τ) scM0_0 fullShare (accAt m c t.val)) ∗ (∃ r, prngReg c r)) from rfl]
  have hN : t.val < 26 := lt_of_lt_of_eq t.isLt N_0
  rw [show (dats m 0 c).leavesExact 0 t = owns (c : Thread nD τ) (ms0_0 t) fullShare ((dats m 0 c).after 0 t) from by
      unfold Dat.leavesExact; rw [show cfg0.idle 0 (cfg0.grid.coords t) = false from rfl], after0_0]
  rw [show (dats m 0 c).leavesExact 1 t = owns (c : Thread nD τ) (ms0_1 t) fullShare ((dats m 0 c).after 1 t) from by
      unfold Dat.leavesExact; rw [show cfg0.idle 1 (cfg0.grid.coords t) = false from rfl], after0_1]
  rw [show (dats m 0 c).leavesExact 2 t = owns (c : Thread nD τ) (ms0_2 t) fullShare ((dats m 0 c).after 2 t) from by
      unfold Dat.leavesExact; rw [show cfg0.idle 2 (cfg0.grid.coords t) = false from rfl], after0_2]
  rw [show (dats m 0 c).leavesExact 3 t = owns (c : Thread nD τ) (ms0_3 t) fullShare ((dats m 0 c).after 3 t) from by
      unfold Dat.leavesExact; rw [show cfg0.idle 3 (cfg0.grid.coords t) = false from rfl], after0_3]
  rw [show (dats m 0 c).leavesExact 4 t = owns (c : Thread nD τ) (ms0_4 t) fullShare ((dats m 0 c).after 4 t) from by
      unfold Dat.leavesExact; rw [show cfg0.idle 4 (cfg0.grid.coords t) = false from rfl], after0_4]
  rw [Dat.leavesExact_idle (dats m 0 c) 5 t ((idle5 t).trans (by simp [h0])) (Bool.eq_false_iff.mpr fun h => by have := (flush0_5 t).mp h; omega)]
  rw [show (dats m 0 c).leavesExact 6 t = owns (c : Thread nD τ) (ms0_6 t) fullShare ((dats m 0 c).after 6 t) from by
      unfold Dat.leavesExact; rw [show cfg0.idle 6 (cfg0.grid.coords t) = false from (idle6 t).trans (by simp [h0])], after0_6]
  rw [show (dats m 0 c).leavesExact 7 t = owns (c : Thread nD τ) (ms0_7 t) fullShare ((dats m 0 c).after 7 t) from by
      unfold Dat.leavesExact; rw [show cfg0.idle 7 (cfg0.grid.coords t) = false from rfl], after0_7]
  rw [show (dats m 0 c).leavesExact 8 t = owns (c : Thread nD τ) (ms0_8 t) fullShare ((dats m 0 c).after 8 t) from by
      unfold Dat.leavesExact; rw [show cfg0.idle 8 (cfg0.grid.coords t) = false from rfl], after0_8]
  rw [show (dats m 0 c).Φ t.castSucc = PhiS m c t.val from rfl]
  have hp : pt t.val = t := pt_val t
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ := (PhiS_any m c t.val) $$ HΦ
  icases HΦ with ⟨HS0, Hg⟩
  iapply ((runA c (grid0.coords t) _ _ _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  iintro ⟨H0, H1, H2, H3, H4, H5, ⟨%e6, H6⟩, ⟨%e7, H7⟩, ⟨%e8, H8⟩, ⟨%es0, HS0⟩⟩
  isplitl [HS0 Hg]
  · isplitl [HS0]
    · unfold owns; iexists _; isplitr
      swap; · iexact HS0
      ipureintro; refine (readA_s c _ _ _ _ _ _ _ _ _ _ _ _ _ _ _ _ _ _ _ _ _ _ _ _ _ _ _ _ _).trans ?_
      rw [accAt_even m c h0, stepAt, xnAt_even m c h0, hp]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]
  · unfold owns; iexists _; isplitr
    swap; · iexact H6
    ipureintro; refine (readA_6 c _ _ _ _ _ _ _ _ _ _ _ _ _ _ _ _ _ _ _ _ _ _ _ _ _ _ _ _ _).trans ?_
    rw [xnAt_even m c h0, hp]
  isplitl [H7]
  · unfold owns; iexists _; isplitr
    swap; · iexact H7
    ipureintro; refine (readA_7 c _ _ _ _ _ _ _ _ _ _ _ _ _ _ _ _ _ _ _ _ _ _ _ _ _ _ _ _ _).trans ?_
    rw [gsAt, xnAt_even m c h0, hp]
  · unfold owns; iexists _; isplitr
    swap; · iexact H8
    ipureintro; refine (readA_8 c _ _ _ _ _ _ _ _ _ _ _ _ _ _ _ _ _ _ _ _ _ _ _ _ _ _ _ _ _).trans ?_
    rw [usAt, xnAt_even m c h0, hp]

end Cert.Kernel4Ideal.FfnFwd

end
-- ==== Proof.Fwd.SoundB.lean ====
/- The body obligation of the half-step forward kernel, case B. -/
module

public import proofs.«01_k».proof.Proof.Fwd.Data

@[expose] public section

set_option maxRecDepth 16384

noncomputable section

namespace Cert.Kernel4Ideal.FfnFwd

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (c : Dev nD) (t : Fin cfg0.N) (h0 : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = iprop(iprop(owns (c : Thread nD τ) scM0_0 fullShare (accAt m c t.val)) ∗ (∃ r, prngReg c r)) from rfl]
  have hN : t.val < 26 := lt_of_lt_of_eq t.isLt N_0
  rw [show (dats m 0 c).leavesExact 0 t = owns (c : Thread nD τ) (ms0_0 t) fullShare ((dats m 0 c).after 0 t) from by
      unfold Dat.leavesExact; rw [show cfg0.idle 0 (cfg0.grid.coords t) = false from rfl], after0_0]
  rw [show (dats m 0 c).leavesExact 1 t = owns (c : Thread nD τ) (ms0_1 t) fullShare ((dats m 0 c).after 1 t) from by
      unfold Dat.leavesExact; rw [show cfg0.idle 1 (cfg0.grid.coords t) = false from rfl], after0_1]
  rw [show (dats m 0 c).leavesExact 2 t = owns (c : Thread nD τ) (ms0_2 t) fullShare ((dats m 0 c).after 2 t) from by
      unfold Dat.leavesExact; rw [show cfg0.idle 2 (cfg0.grid.coords t) = false from rfl], after0_2]
  rw [show (dats m 0 c).leavesExact 3 t = owns (c : Thread nD τ) (ms0_3 t) fullShare ((dats m 0 c).after 3 t) from by
      unfold Dat.leavesExact; rw [show cfg0.idle 3 (cfg0.grid.coords t) = false from rfl], after0_3]
  rw [show (dats m 0 c).leavesExact 4 t = owns (c : Thread nD τ) (ms0_4 t) fullShare ((dats m 0 c).after 4 t) from by
      unfold Dat.leavesExact; rw [show cfg0.idle 4 (cfg0.grid.coords t) = false from rfl], after0_4]
  rw [show (dats m 0 c).leavesExact 5 t = owns (c : Thread nD τ) (ms0_5 t) fullShare ((dats m 0 c).after 5 t) from by
      unfold Dat.leavesExact; rw [show cfg0.idle 5 (cfg0.grid.coords t) = false from (idle5 t).trans (by simp [h0])], after0_5]
  rw [show (dats m 0 c).leavesExact 6 t = owns (c : Thread nD τ) (ms0_6 t) fullShare ((dats m 0 c).after 6 t) from by
      unfold Dat.leavesExact; rw [show cfg0.idle 6 (cfg0.grid.coords t) = true from (idle6 t).trans (by simp [h0]), show (cfg0.win 6).flush t = true from (flush0_6 t).mpr h0], after0_6]
  rw [show (dats m 0 c).leavesExact 7 t = owns (c : Thread nD τ) (ms0_7 t) fullShare ((dats m 0 c).after 7 t) from by
      unfold Dat.leavesExact; rw [show cfg0.idle 7 (cfg0.grid.coords t) = false from rfl], after0_7]
  rw [show (dats m 0 c).leavesExact 8 t = owns (c : Thread nD τ) (ms0_8 t) fullShare ((dats m 0 c).after 8 t) from by
      unfold Dat.leavesExact; rw [show cfg0.idle 8 (cfg0.grid.coords t) = false from rfl], after0_8]
  rw [show (dats m 0 c).Φ t.castSucc = PhiS m c t.val from rfl, PhiS_pos m c t.val (by omega)]
  simp only [before0_6 m c t h0]
  have hp : pt t.val = t := pt_val t
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) _ _ _ _ _ _ _ _ _ _ _ _ _ _ _ _ _ _ _ _ (fun h => by have := (hcond0_0 t).mp h; omega) ((hcond0_1 t).mpr h0) (iblk m c 0 t) (iblk m c 1 t) (iblk m c 2 t) (iblk m c 3 t) (iblk m c 4 t) _ _).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [HS0]; · iexact HS0
  iintro ⟨H0, H1, H2, H3, H4, ⟨%e5, H5⟩, H6, ⟨%e7, H7⟩, ⟨%e8, H8⟩, ⟨%es0, HS0⟩⟩
  isplitl [HS0 Hg]
  · isplitl [HS0]
    · unfold owns; iexists _; isplitr
      swap; · iexact HS0
      ipureintro; refine (readB_s c _ _ _ _ _ _ _ _ _ _ _ _ _ _ _ _ _ _ _ _ _ _ _ _ _ _ _ _ _ _ _).trans ?_
      rw [accAt_odd m c h0, stepAt, hp]
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; refine (readB_5 c _ _ _ _ _ _ _ _ _ _ _ _ _ _ _ _ _ _ _ _ _ _ _ _ _ _ _ _ _ _ _).trans ?_
    rw [hoAt, accAt_odd m c h0, stepAt, hp]
  isplitl [H6]; · iexact H6
  isplitl [H7]
  · unfold owns; iexists _; isplitr
    swap; · iexact H7
    ipureintro; refine (readB_7 c _ _ _ _ _ _ _ _ _ _ _ _ _ _ _ _ _ _ _ _ _ _ _ _ _ _ _ _ _ _ _).trans ?_
    rw [gsAt, hp]
  · unfold owns; iexists _; isplitr
    swap; · iexact H8
    ipureintro; refine (readB_8 c _ _ _ _ _ _ _ _ _ _ _ _ _ _ _ _ _ _ _ _ _ _ _ _ _ _ _ _ _ _ _).trans ?_
    rw [usAt, hp]

end Cert.Kernel4Ideal.FfnFwd

end
-- ==== Proof.Fwd.Frame.lean ====
/- The launch of the half-step forward kernel: every run ends with the arrays the proof data names. -/
module

public import proofs.«01_k».proof.Proof.Fwd.SoundA
public import proofs.«01_k».proof.Proof.Fwd.SoundB
public import Idealize.ShloMosaic.Lib.Claim

@[expose] public section

set_option maxRecDepth 16384

noncomputable section

namespace Cert.Kernel4Ideal.FfnFwd

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 2 = 0
  · exact sound_A m c t h0
  · exact sound_B m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := by
  rw [PhiA0_eq]; exact PhiS_any m c cfg0.N

/-! ## The launch -/

set_option backward.isDefEq.respectTransparency.types false in
/-- Every execution ends with the arrays at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel4Ideal.FfnFwd

end
-- ==== Proof.Fwd.KernelFrame.lean ====
/- The frame of the half-step forward program at the bit-exact floats. The idealization rewrote nothing, so the two printed
   programs are one text; here they are shown equal, and the run proved for `Kernel4Ideal` over any float values is read at
   the bit-exact ones. -/
module

public import proofs.«01_k».proof.Defs
public import proofs.«01_k».proof.Proof.Gen.Kernel4
public import proofs.«01_k».proof.Proof.Fwd.Frame
public import Idealize.ShloMosaic.Adequacy
public import Idealize.ShloMosaic.Init

@[expose] public section

noncomputable section

namespace Cert.Proof.FfnFwd

open Idealize.ShloMosaic Idealize.SL.Sem

set_option maxHeartbeats 4000000 in
theorem body_same : @Cert.Kernel4.cc0_ffn_fwd Bits _ _ = @Cert.Kernel4Ideal.cc0_ffn_fwd Bits _ _ := rfl

set_option maxHeartbeats 4000000 in
theorem table_same : @Cert.Kernel4.defs₀ Bits _ _ = @Cert.Kernel4Ideal.defs₀ Bits _ _ := by
  unfold Cert.Kernel4.defs₀ Cert.Kernel4Ideal.defs₀
  congr 1
  funext l x
  match l, x with
  | ⟨0, _⟩, ⟨t, s⟩ =>
    dsimp only
    rw [body_same]
    rfl

theorem defs_same : @Cert.Kernel4.defs Bits _ _ = @Cert.Kernel4Ideal.defs Bits _ _ := by
  unfold Cert.Kernel4.defs Cert.Kernel4Ideal.defs
  rw [table_same]
  try rfl

set_option maxHeartbeats 4000000 in
theorem main_same : @Cert.Kernel4.main Bits _ _ = @Cert.Kernel4Ideal.main Bits _ _ := by
  unfold Cert.Kernel4.main Cert.Kernel4Ideal.main
  rfl

/-- The frame of `Kernel4`. -/
theorem frame_kernel : Cert.quiescent_Kernel4 (hKernel4 := Cert.Kernel4.Gen.facts) := by
  intro m ρ _
  rw [defs_same, main_same]
  exact Cert.Kernel4Ideal.FfnFwd.frame (F := Bits) m ρ

end Cert.Proof.FfnFwd

end

end
-- ==== Proof.Bwd.Spec.lean ====
/- The backward pass of the half-step feed-forward block written over plain index types, and the two identities
   of real numbers its value needs: the derivative of the gate, and the backward pass of the norm. -/
module

public import Idealize.ShloMosaic.PureOps.Ideal.Laws
public import Idealize.ShloMosaic.Lib.IdealHost

@[expose] public section

noncomputable section

namespace Cert.FfnSpec

open Idealize.ShloMosaic

/-! ## Extended reals that are real -/

/-- An extended real that is a real number. -/
def IsR (x : EReal) : Prop := ∃ r : ℝ, x = (r : EReal)

theorem IsR.coe (r : ℝ) : IsR (r : EReal) := ⟨r, rfl⟩
theorem IsR.one : IsR 1 := ⟨1, rfl⟩
theorem IsR.zero : IsR 0 := ⟨0, rfl⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.neg {x : EReal} (hx : IsR x) : IsR (-x) := by
  obtain ⟨a, rfl⟩ := hx; exact ⟨-a, (EReal.coe_neg a).symm⟩

/-- A finite sum of reals, taken in the extended reals, is their real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsR.sum {ι : Type} [Fintype ι] {f : ι → EReal} (hf : ∀ i, IsR (f i)) : IsR (∑ i, f i) := by
  choose g hg using hf
  exact ⟨∑ i, g i, by rw [← coe_sum]; exact Finset.sum_congr rfl fun i _ => hg i⟩

/-- Division by a real that is not zero. -/
theorem div_real {y : ℝ} (hy : y ≠ 0) (x : ℝ) : Ideal.div (x : EReal) (y : EReal) = ((x / y : ℝ) : EReal) := by
  rw [Ideal.div_coe hy, ← EReal.coe_mul]; congr 1; ring

theorem exp_real (r : ℝ) : Ideal.exp (r : EReal) = (Real.exp r : EReal) := rfl

theorem rsqrt_real {m : ℝ} (hm : 0 < m) : Ideal.rsqrt (m : EReal) = (((Real.sqrt m)⁻¹ : ℝ) : EReal) := by
  rw [Ideal.rsqrt_coe, if_neg (not_lt.mpr hm.le), if_neg hm.ne']

/-! ## The constants -/

def cK : EReal := Ideal.ofBits .f32 0x44800000#32
def cEps : EReal := Ideal.ofBits .f32 0x358637BD#32
def cHalf : EReal := Ideal.ofBits .f32 0x3F000000#32
def cNegHalf : EReal := Ideal.ofBits .f32 0xBF000000#32

theorem cK_eq : cK = ((1024 : ℝ) : EReal) := by
  unfold cK; simp [Ideal.ofBits, Ideal.ieee, -EReal.coe_mul]; norm_num
theorem cHalf_eq : cHalf = ((1 / 2 : ℝ) : EReal) := by
  unfold cHalf; simp [Ideal.ofBits, Ideal.ieee, -EReal.coe_mul]; norm_num
theorem cNegHalf_eq : cNegHalf = ((-(1 / 2) : ℝ) : EReal) := by
  unfold cNegHalf; simp [Ideal.ofBits, Ideal.ieee, -EReal.coe_mul, -EReal.coe_neg]; norm_num
theorem cEps_pos : ∃ e : ℝ, 0 < e ∧ cEps = (e : EReal) := by
  unfold cEps; simp only [Ideal.ofBits, Ideal.ieee]
  refine ⟨_, ?_, by simp [-EReal.coe_mul]; rfl⟩
  norm_num

/-! ## The block's backward pass -/

section
variable {P K Q : Type} [Fintype P] [Fintype K] [Fintype Q]
variable (dh h : P → K → EReal) (gam : K → EReal) (wg wu : K → Q → EReal) (wd : Q → K → EReal)

/-- The mean square of a row, with the small constant. -/
def ms (p : P) : EReal := Ideal.div (∑ k, h p k * h p k) cK + cEps
/-- The row's normaliser. -/
def rr (p : P) : EReal := Ideal.rsqrt (ms h p)
/-- The normalised row. -/
def xh (p : P) (k : K) : EReal := h p k * rr h p
/-- The normalised row times the norm's weight. -/
def xn (p : P) (k : K) : EReal := xh h p k * gam k
/-- A product of the normalised rows with a weight matrix. -/
def pre (w : K → Q → EReal) (p : P) (q : Q) : EReal := ∑ k, xn h gam p k * w k q
/-- The logistic function. -/
def sg (x : EReal) : EReal := Ideal.div 1 (1 + Ideal.exp (-x))
/-- The halved cotangent. -/
def dob (p : P) (k : K) : EReal := cHalf * dh p k
/-- The activation's cotangent. -/
def da (p : P) (q : Q) : EReal := ∑ k, dob dh p k * wd q k
/-- The activation. -/
def act (p : P) (q : Q) : EReal := pre h gam wg p q * sg (pre h gam wg p q) * pre h gam wu p q
/-- The gate product's gradient. -/
def dgv (p : P) (q : Q) : EReal :=
  da dh wd p q * pre h gam wu p q * sg (pre h gam wg p q)
    + pre h gam wg p q * (da dh wd p q * pre h gam wu p q) * (sg (pre h gam wg p q) * (1 - sg (pre h gam wg p q)))
/-- The up product's gradient. -/
def duv (p : P) (q : Q) : EReal := pre h gam wg p q * sg (pre h gam wg p q) * da dh wd p q
/-- The gradient of the normalised rows. -/
def dxn (p : P) (k : K) : EReal :=
  ∑ q, dgv dh h gam wg wu wd p q * wg k q + ∑ q, duv dh h gam wg wd p q * wu k q
/-- The gradient of the norm's weight. -/
def dgam (k : K) : EReal := ∑ p, xh h p k * dxn dh h gam wg wu wd p k
/-- The gradient of the normalised rows before the weight. -/
def dxh (p : P) (k : K) : EReal := dxn dh h gam wg wu wd p k * gam k
/-- The input's gradient. -/
def dhi (p : P) (k : K) : EReal :=
  dh p k + rr h p * (dxh dh h gam wg wu wd p k
    - xh h p k * Ideal.div (∑ j, dxh dh h gam wg wu wd p j * xh h p j) cK)
end

/-- The logistic function of a real is real. -/
theorem IsR.sg {x : EReal} (hx : IsR x) : IsR (sg x) := by
  obtain ⟨a, rfl⟩ := hx
  have hpos : (0 : ℝ) < 1 + Real.exp (-a) := by positivity
  refine ⟨1 / (1 + Real.exp (-a)), ?_⟩
  unfold Cert.FfnSpec.sg
  rw [← EReal.coe_neg, exp_real, ← EReal.coe_one, ← EReal.coe_add, div_real hpos.ne']

/-- The derivative of the gate: one factored form is the sum of the two terms, at real numbers. -/
theorem gate_bwd {a g s : EReal} (ha : IsR a) (hg : IsR g) (hs : IsR s) :
    a * (s * (1 + g * (1 - s))) = a * s + g * a * (s * (1 - s)) := by
  obtain ⟨a, rfl⟩ := ha; obtain ⟨g, rfl⟩ := hg; obtain ⟨s, rfl⟩ := hs
  rw [← EReal.coe_one]
  simp only [← EReal.coe_mul, ← EReal.coe_add, ← EReal.coe_sub]
  congr 1; ring

section
variable {P K Q : Type} [Fintype P] [Fintype K] [Fintype Q]
variable {dh h : P → K → EReal} {gam : K → EReal} {wg wu : K → Q → EReal} {wd : Q → K → EReal}

/-- A row's mean square with the small constant is a positive real. -/
theorem ms_pos (hh : ∀ p k, IsR (h p k)) (p : P) : ∃ m : ℝ, 0 < m ∧ ms h p = (m : EReal) := by
  choose a ha using hh
  obtain ⟨e, he, hE⟩ := cEps_pos
  refine ⟨(∑ k, a p k * a p k) / 1024 + e, ?_, ?_⟩
  · have : (0 : ℝ) ≤ ∑ k, a p k * a p k := Finset.sum_nonneg fun k _ => mul_self_nonneg _
    positivity
  · unfold ms
    rw [hE, cK_eq, Finset.sum_congr rfl (fun k _ => by rw [ha p k, ← EReal.coe_mul]), coe_sum,
      div_real (by norm_num), ← EReal.coe_add]

theorem IsR.rr (hh : ∀ p k, IsR (h p k)) (p : P) : IsR (rr h p) := by
  obtain ⟨m, hm, hM⟩ := ms_pos hh p
  unfold Cert.FfnSpec.rr; rw [hM, rsqrt_real hm]; exact IsR.coe _

theorem IsR.pre (hh : ∀ p k, IsR (h p k)) (hg : ∀ k, IsR (gam k)) {w : K → Q → EReal} (hw : ∀ k q, IsR (w k q))
    (p : P) (q : Q) : IsR (pre h gam w p q) :=
  IsR.sum fun k => (((hh p k).mul (IsR.rr hh p)).mul (hg k)).mul (hw k q)

theorem IsR.da (hd : ∀ p k, IsR (dh p k)) (hw : ∀ q k, IsR (wd q k)) (p : P) (q : Q) : IsR (da dh wd p q) :=
  IsR.sum fun k => (IsR.mul (cHalf_eq ▸ IsR.coe _) (hd p k)).mul (hw q k)

theorem IsR.dxh (hd : ∀ p k, IsR (dh p k)) (hh : ∀ p k, IsR (h p k)) (hg : ∀ k, IsR (gam k))
    (hwg : ∀ k q, IsR (wg k q)) (hwu : ∀ k q, IsR (wu k q)) (hwd : ∀ q k, IsR (wd q k)) (p : P) (k : K) :
    IsR (dxh dh h gam wg wu wd p k) := by
  have G := fun q => IsR.pre hh hg hwg p q
  have U := fun q => IsR.pre hh hg hwu p q
  have A := fun q => IsR.da hd hwd p q
  refine IsR.mul (IsR.add (IsR.sum fun q => ?_) (IsR.sum fun q => ?_)) (hg k)
  · exact IsR.mul (IsR.add (((A q).mul (U q)).mul (G q).sg)
      (((G q).mul ((A q).mul (U q))).mul ((G q).sg.mul (IsR.one.sub (G q).sg)))) (hwg k q)
  · exact IsR.mul (((G q).mul (G q).sg).mul (A q)) (hwu k q)

/-- The norm's backward pass in the reference's order of operations is the kernel's, at real numbers. -/
theorem norm_bwd (hh : ∀ p k, IsR (h p k)) {d : P → K → EReal} (hd : ∀ p k, IsR (d p k)) {x : EReal} (hx : IsR x)
    (p : P) (k : K) :
    ((x + d p k * rr h p) + h p k * Ideal.div ((∑ j, h p j * d p j) * (cNegHalf * Ideal.div (rr h p) (ms h p))) cK)
        + Ideal.div ((∑ j, h p j * d p j) * (cNegHalf * Ideal.div (rr h p) (ms h p))) cK * h p k
      = x + rr h p * (d p k - xh h p k * Ideal.div (∑ j, d p j * xh h p j) cK) := by
  obtain ⟨m, hm, hM⟩ := ms_pos hh p
  have hR : rr h p = (((Real.sqrt m)⁻¹ : ℝ) : EReal) := by unfold rr; rw [hM, rsqrt_real hm]
  choose a ha using hh
  choose b hb using hd
  obtain ⟨x, rfl⟩ := hx
  have hs : Real.sqrt m * Real.sqrt m = m := Real.mul_self_sqrt hm.le
  have hs0 : Real.sqrt m ≠ 0 := (Real.sqrt_pos.mpr hm).ne'
  have e1 : (∑ j, h p j * d p j) = ((∑ j, a p j * b p j : ℝ) : EReal) := by
    rw [← coe_sum]; exact Finset.sum_congr rfl fun j _ => by rw [ha, hb, EReal.coe_mul]
  have e2 : (∑ j, d p j * xh h p j) = ((∑ j, b p j * (a p j * (Real.sqrt m)⁻¹) : ℝ) : EReal) := by
    rw [← coe_sum]; exact Finset.sum_congr rfl fun j _ => by unfold xh; rw [hR, ha, hb, EReal.coe_mul, EReal.coe_mul]
  rw [e1, e2]; unfold xh
  rw [hR, hM, cK_eq, cNegHalf_eq, ha, hb, div_real hm.ne', ← EReal.coe_mul, ← EReal.coe_mul, ← EReal.coe_mul (∑ j, a p j * b p j), div_real (by norm_num),
    div_real (by norm_num)]
  simp only [← EReal.coe_mul, ← EReal.coe_add, ← EReal.coe_sub]
  congr 1
  have e3 : (∑ j, b p j * (a p j * (Real.sqrt m)⁻¹)) = (∑ j, a p j * b p j) * (Real.sqrt m)⁻¹ := by
    rw [Finset.sum_mul]; exact Finset.sum_congr rfl fun j _ => by ring
  rw [e3]
  generalize (∑ j, a p j * b p j) = S
  generalize Real.sqrt m = r at hs hs0
  subst hs
  field_simp
  ring
end

end Cert.FfnSpec
-- ==== Proof.Fwd.Payload.lean ====
/- The stored tiles of the half-step forward kernel read at an index, over the extended reals. -/
module

public import proofs.«01_k».proof.Proof.Bwd.Spec
public import proofs.«01_k».proof.Proof.Fwd.Data
public import Idealize.ShloMosaic.Lib.Pipeline.Value
public import Idealize.ShloMosaic.Lib.ValueIdx
public import Idealize.ShloMosaic.Lib.ValueLayout
public import Idealize.ShloMosaic.Lib.IdealHost

@[expose] public section

set_option maxRecDepth 16384

noncomputable section

namespace Cert.Kernel4Ideal.FfnFwd

open Cert.Kernel4Ideal.Gen
open Idealize.ShloMosaic Idealize.ShloMosaic.TcCoe Idealize.ShloMosaic.ValueIdx

theorem zeroW : (Scalar.ofBits .f32 0x00000000#32 : Ideal .f32) = (0 : EReal) := Ideal.ofBits_zero_f32
theorem oneW : (Scalar.ofBits .f32 0x3F800000#32 : Ideal .f32) = (1 : EReal) := Idealize.ShloMosaic.Ideal.ofBits_one_f32

/-- The owner and the owner's row of a tile's column. -/
def tOwn (j : Fin 1408) : Fin 4 := ⟨j.val / 352, by have := j.isLt; omega⟩
def tRow (j : Fin 1408) : Fin 352 := ⟨j.val % 352, by omega⟩

/-- Four owners' rows laid one under the other. -/
theorem rows_apply (x : FVec Ideal S4x352x1024 .bf16) (j : Fin 1408) (k : Fin 1024) :
    (shapeCast S1408x1024 (shapeCast S4x352x1024 x shapeCasts_S4x352x1024_S4x352x1024) shapeCasts_S4x352x1024_S1408x1024) (ix2 j k)
      = x (ix3 (tOwn j) (tRow j) k) := by
  rw [shapeCast_self]
  exact shapeCast_apply _ _ _ (ix3 (tOwn j) (tRow j) k) (by
    rewrite [Shape.rowMajor_val_two, Shape.rowMajor_val_three]
    show (j.val / 352 * 352 + j.val % 352) * 1024 + k.val = j.val * 1024 + k.val
    rw [Nat.div_add_mod'])

/-- A column of one broadcast over a row. -/
theorem bcol_apply (x : FVec Ideal S640x1 .f32) (i : Fin 640) (k : Fin 1024) :
    broadcastTo S640x1024 x broadcasts_S640x1_S640x1024 (ix2 i k) = x (ix2 i (0 : Fin 1)) :=
  broadcastTo_apply x broadcasts_S640x1_S640x1024 (ix2 i k) (ix2 i (0 : Fin 1)) fun ax => by
    match ax with
    | ⟨0, _⟩ => rfl
    | ⟨1, _⟩ => rfl

/-- A row's sum as a column of one. -/
theorem rowsum_apply (x : FVec Ideal S640x1024 .f32) (i : Fin 640) (u : Fin 1) :
    (shapeCast S640x1 (multiReduction .add [1] S640 x 0x00000000#32 reduces_S640x1024_S640 (.inl rfl) rfl) shapeCasts_S640_S640x1 : FVec Ideal S640x1 .f32) (ix2 i u)
      = ∑ k : Fin 1024, x (ix2 i k) := by
  refine (shapeCast_apply _ _ _ (ix1 i) (by
    rewrite [Shape.rowMajor_val_two, Shape.rowMajor_val_one]
    have := u.isLt
    show i.val = i.val * 1 + u.val; omega)).trans ?_
  refine (Ideal.multiReduction_add_single x 0x00000000#32 reduces_S640x1024_S640 (.inl rfl) rfl (ix1 i)).trans ?_
  exact Finset.sum_congr rfl fun k _ => congrArg x (funext fun a => Fin.ext (by match a with | ⟨0, _⟩ => rfl | ⟨1, _⟩ => rfl))

/-! ## The two products -/

/-- The product with a transposed tile: rows of the left operand against rows of the tile. -/
theorem dotNT_apply (x : FVec Ideal S640x1024 .bf16) (y : FVec Ideal S1408x1024 .bf16) (i : Fin 640) (j : Fin 1408) :
    (matmul dot_S640x1024_S1408x1024_S640x1408_1_1_0_0_n_n none x y (constant S640x1408 .f32 0x00000000#32) : FVec Ideal S640x1408 .f32) (ix2 i j)
      = ∑ k : Fin 1024, x (ix2 i k) * y (ix2 j k) := by
  refine (Ideal.matmul_constant_zero_apply _ none _ _ _).trans ?_
  rw [← Equiv.sum_comp (contrEquiv1 dot_S640x1024_S1408x1024_S640x1408_1_1_0_0_n_n 1024 rfl rfl).symm]
  refine Finset.sum_congr rfl fun k _ => ?_
  have hk := contrEquiv1_symm_val dot_S640x1024_S1408x1024_S640x1408_1_1_0_0_n_n 1024 rfl rfl k
  congr 1
  · refine congrArg x (funext fun a => Fin.ext ?_)
    match a with
    | ⟨0, _⟩ => exact (by
        unfold DotDims.lhsIdx
        rw [dif_neg (show ¬(0 : Fin S640x1024.rank) ∈ dot_S640x1024_S1408x1024_S640x1408_1_1_0_0_n_n.lhsBatch by decide), dif_pos (show (0 : Fin S640x1024.rank) ∈ dot_S640x1024_S1408x1024_S640x1408_1_1_0_0_n_n.lhsNonContracting by decide)]
        rfl : (dot_S640x1024_S1408x1024_S640x1408_1_1_0_0_n_n.lhsIdx (ix2 i j) _ 0).val = i.val)
    | ⟨1, _⟩ => exact (dot_S640x1024_S1408x1024_S640x1408_1_1_0_0_n_n.lhsIdx_val_of_single rfl _ _).trans hk
  · refine congrArg y (funext fun a => Fin.ext ?_)
    match a with
    | ⟨0, _⟩ => exact (by
        unfold DotDims.rhsIdx
        rw [dif_neg (show ¬(0 : Fin S1408x1024.rank) ∈ dot_S640x1024_S1408x1024_S640x1408_1_1_0_0_n_n.rhsBatch by decide), dif_pos (show (0 : Fin S1408x1024.rank) ∈ dot_S640x1024_S1408x1024_S640x1408_1_1_0_0_n_n.rhsNonContracting by decide)]
        rfl : (dot_S640x1024_S1408x1024_S640x1408_1_1_0_0_n_n.rhsIdx (ix2 i j) _ 0).val = j.val)
    | ⟨1, _⟩ => exact (dot_S640x1024_S1408x1024_S640x1408_1_1_0_0_n_n.rhsIdx_val_of_single rfl _ _).trans hk

/-- The product with a tile. -/
theorem dotNN_apply (x : FVec Ideal S640x1408 .bf16) (y : FVec Ideal S1408x1024 .bf16) (i : Fin 640) (k : Fin 1024) :
    (matmul dot_S640x1408_S1408x1024_S640x1024_1_0_0_1_n_n none x y (constant S640x1024 .f32 0x00000000#32) : FVec Ideal S640x1024 .f32) (ix2 i k)
      = ∑ j : Fin 1408, x (ix2 i j) * y (ix2 j k) := by
  refine (Ideal.matmul_constant_zero_apply _ none _ _ _).trans ?_
  rw [← Equiv.sum_comp (contrEquiv1 dot_S640x1408_S1408x1024_S640x1024_1_0_0_1_n_n 1408 rfl rfl).symm]
  refine Finset.sum_congr rfl fun j _ => ?_
  have hk := contrEquiv1_symm_val dot_S640x1408_S1408x1024_S640x1024_1_0_0_1_n_n 1408 rfl rfl j
  congr 1
  · refine congrArg x (funext fun a => Fin.ext ?_)
    match a with
    | ⟨0, _⟩ => exact (by
        unfold DotDims.lhsIdx
        rw [dif_neg (show ¬(0 : Fin S640x1408.rank) ∈ dot_S640x1408_S1408x1024_S640x1024_1_0_0_1_n_n.lhsBatch by decide), dif_pos (show (0 : Fin S640x1408.rank) ∈ dot_S640x1408_S1408x1024_S640x1024_1_0_0_1_n_n.lhsNonContracting by decide)]
        rfl : (dot_S640x1408_S1408x1024_S640x1024_1_0_0_1_n_n.lhsIdx (ix2 i k) _ 0).val = i.val)
    | ⟨1, _⟩ => exact (dot_S640x1408_S1408x1024_S640x1024_1_0_0_1_n_n.lhsIdx_val_of_single rfl _ _).trans hk
  · refine congrArg y (funext fun a => Fin.ext ?_)
    match a with
    | ⟨0, _⟩ => exact (dot_S640x1408_S1408x1024_S640x1024_1_0_0_1_n_n.rhsIdx_val_of_single rfl _ _).trans hk
    | ⟨1, _⟩ => exact (by
        unfold DotDims.rhsIdx
        rw [dif_neg (show ¬(1 : Fin S1408x1024.rank) ∈ dot_S640x1408_S1408x1024_S640x1024_1_0_0_1_n_n.rhsBatch by decide), dif_pos (show (1 : Fin S1408x1024.rank) ∈ dot_S640x1408_S1408x1024_S640x1024_1_0_0_1_n_n.rhsNonContracting by decide)]
        rfl : (dot_S640x1408_S1408x1024_S640x1024_1_0_0_1_n_n.rhsIdx (ix2 i k) _ 1).val = k.val)

/-! ## The norm -/

/-- A block's rows as a function of two indices. -/
abbrev blk2 (x : FVec Ideal S640x1024 .f32) (i : Fin 640) (k : Fin 1024) : EReal := x (ix2 i k)

theorem pay3_apply (h : FVec Ideal S640x1024 .f32) (gam : FVec Ideal S1x1x1024 .f32) (i : Fin 640) (k : Fin 1024) :
    k0_pay3 (F := Ideal) h gam (ix2 i k) = Cert.FfnSpec.xh (blk2 h) i k * gam (ix3 (0 : Fin 1) (0 : Fin 1) k) := by
  unfold k0_pay3
  refine congrArg₂ (· * ·) (congrArg (h (ix2 i k) * ·) ((bcol_apply _ _ _).trans ?_)) ?_
  · refine congrArg Ideal.rsqrt ?_
    refine congrArg (· + Cert.FfnSpec.cEps) ?_
    exact congrArg (Ideal.div · Cert.FfnSpec.cK) (rowsum_apply _ _ _)
  · refine (broadcastTo_1b_ab_apply _ _ _ _).trans ?_
    exact shapeCast_1ab_ab_apply _ _ _ _

/-! ## The gate and the sum over the columns -/

section
variable (x : FVec Ideal S640x1024 .bf16) (wg wu wd : FVec Ideal S4x352x1024 .bf16)

/-- A product of the normalised rows with a tile of weights. -/
def preT (w : FVec Ideal S4x352x1024 .bf16) (i : Fin 640) (j : Fin 1408) : EReal := ∑ k : Fin 1024, x (ix2 i k) * w (ix3 (tOwn j) (tRow j) k)

theorem pay6_apply (i : Fin 640) (j : Fin 1408) : k0_pay6 (F := Ideal) x wg (ix2 i j) = preT x wg i j := by
  unfold k0_pay6 k0_pay5 preT
  refine (dotNT_apply _ _ _ _).trans (Finset.sum_congr rfl fun k _ => ?_)
  rw [rows_apply, shapeCast_self]
theorem pay7_apply (i : Fin 640) (j : Fin 1408) : k0_pay7 (F := Ideal) x wu (ix2 i j) = preT x wu i j := by
  unfold k0_pay7 k0_pay5 preT
  refine (dotNT_apply _ _ _ _).trans (Finset.sum_congr rfl fun k _ => ?_)
  rw [rows_apply, shapeCast_self]
theorem pay8_apply (i : Fin 640) (j : Fin 1408) : k0_pay8 (F := Ideal) x wg (ix2 i j) = preT x wg i j := pay6_apply x wg i j
theorem pay9_apply (i : Fin 640) (j : Fin 1408) : k0_pay9 (F := Ideal) x wu (ix2 i j) = preT x wu i j := pay7_apply x wu i j
theorem pay11_apply (i : Fin 640) (j : Fin 1408) : k0_pay11 (F := Ideal) x wg wu (ix2 i j)
    = preT x wg i j * Cert.FfnSpec.sg (preT x wg i j) * preT x wu i j := by
  show k0_pay6 (F := Ideal) x wg (ix2 i j) * Ideal.div (Scalar.ofBits .f32 0x3F800000#32 : Ideal .f32) ((Scalar.ofBits .f32 0x3F800000#32 : Ideal .f32)
    + Ideal.exp ((Scalar.ofBits .f32 0x00000000#32 : Ideal .f32) - k0_pay6 (F := Ideal) x wg (ix2 i j))) * k0_pay7 (F := Ideal) x wu (ix2 i j) = _
  rw [pay6_apply, pay7_apply, zeroW, oneW, zero_sub]; rfl
theorem accOf_apply (acc : FVec Ideal S640x1024 .f32) (i : Fin 640) (k : Fin 1024) : accOf (F := Ideal) x wg wu wd acc (ix2 i k)
    = acc (ix2 i k) + ∑ j : Fin 1408, (preT x wg i j * Cert.FfnSpec.sg (preT x wg i j) * preT x wu i j) * wd (ix3 (tOwn j) (tRow j) k) := by
  unfold accOf k0_pay1 k0_pay10
  rw [shapeCast_self]
  refine congrArg (acc (ix2 i k) + ·) ((dotNN_apply _ _ _ _).trans (Finset.sum_congr rfl fun j _ => ?_))
  rw [rows_apply, pay11_apply]
theorem pay4_apply (y : S640x1024.Idx) : k0_pay4 (F := Ideal) y = 0 := by
  unfold k0_pay4; rw [shapeCast_self]; exact zeroW
theorem pay2_apply (h acc : FVec Ideal S640x1024 .f32) (y : S640x1024.Idx) : k0_pay2 (F := Ideal) h acc y = h y + Cert.FfnSpec.cHalf * acc y := rfl
end

end Cert.Kernel4Ideal.FfnFwd

end
-- ==== Proof.Fwd.Blocks.lean ====
/- Where each window's block sits in its array, and the blocks read at an index. -/
module

public import proofs.«01_k».proof.Proof.Gen.Kernel4Ideal.Frame
public import Idealize.ShloMosaic.Lib.Pipeline.Value
public import Idealize.ShloMosaic.Lib.ValueIdx

@[expose] public section

set_option maxRecDepth 16384

noncomputable section

namespace Cert.Kernel4Ideal.FfnFwd

open Cert.Kernel4Ideal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window cellOf)

variable {F : FTy → Type} [FloatOps F]
variable (m : (ℓ : Loc nD τ sig) → Buf (Elt F) ℓ)

/-- The array's row of a block's row: row blocks of 640, two points each. -/
def rowOf (t : Fin cfg0.N) (i : Fin 640) : Fin 8320 :=
  ⟨640 * (t.val / 2) + i.val, by have := lt_of_lt_of_eq t.isLt N_0; have := i.isLt; omega⟩
/-- The array's column of a block's column: two column tiles of 1408. -/
def colOf (t : Fin cfg0.N) (j : Fin 1408) : Fin 2816 :=
  ⟨1408 * (t.val % 2) + j.val, by have := j.isLt; omega⟩

theorem index0 : ∀ t : Fin cfg0.N, win0_0.index t (0 : Fin 2) = t.val / 2 ∧ win0_0.index t (1 : Fin 2) = 0 := by decide +kernel
theorem emb0 (t : Fin cfg0.N) (i : Fin 640) (k : Fin 1024) :
    ((cfg0.win 0).blk t).view.emb (ix2 i k) = ix2 (rowOf t i) k := by
  obtain ⟨e0, e1⟩ := index0 t
  funext a; apply Fin.ext
  match a with
  | ⟨0, _⟩ => show win0_0.index t (0 : Fin 2) * 640 + 1 * i.val = 640 * (t.val / 2) + i.val; rw [e0]; omega
  | ⟨1, _⟩ => show win0_0.index t (1 : Fin 2) * 1024 + 1 * k.val = k.val; rw [e1]; omega
theorem index5 : ∀ t : Fin cfg0.N, win0_5.index t (0 : Fin 2) = t.val / 2 ∧ win0_5.index t (1 : Fin 2) = 0 := by decide +kernel
theorem emb5 (t : Fin cfg0.N) (i : Fin 640) (k : Fin 1024) :
    ((cfg0.win 5).blk t).view.emb (ix2 i k) = ix2 (rowOf t i) k := by
  obtain ⟨e0, e1⟩ := index5 t
  funext a; apply Fin.ext
  match a with
  | ⟨0, _⟩ => show win0_5.index t (0 : Fin 2) * 640 + 1 * i.val = 640 * (t.val / 2) + i.val; rw [e0]; omega
  | ⟨1, _⟩ => show win0_5.index t (1 : Fin 2) * 1024 + 1 * k.val = k.val; rw [e1]; omega
theorem index6 : ∀ t : Fin cfg0.N, win0_6.index t (0 : Fin 2) = t.val / 2 ∧ win0_6.index t (1 : Fin 2) = 0 := by decide +kernel
theorem emb6 (t : Fin cfg0.N) (i : Fin 640) (k : Fin 1024) :
    ((cfg0.win 6).blk t).view.emb (ix2 i k) = ix2 (rowOf t i) k := by
  obtain ⟨e0, e1⟩ := index6 t
  funext a; apply Fin.ext
  match a with
  | ⟨0, _⟩ => show win0_6.index t (0 : Fin 2) * 640 + 1 * i.val = 640 * (t.val / 2) + i.val; rw [e0]; omega
  | ⟨1, _⟩ => show win0_6.index t (1 : Fin 2) * 1024 + 1 * k.val = k.val; rw [e1]; omega
theorem index7 : ∀ t : Fin cfg0.N, win0_7.index t (0 : Fin 2) = t.val / 2 ∧ win0_7.index t (1 : Fin 2) = t.val % 2 := by decide +kernel
theorem emb7 (t : Fin cfg0.N) (i : Fin 640) (j : Fin 1408) :
    ((cfg0.win 7).blk t).view.emb (ix2 i j) = ix2 (rowOf t i) (colOf t j) := by
  obtain ⟨e0, e1⟩ := index7 t
  funext a; apply Fin.ext
  match a with
  | ⟨0, _⟩ => show win0_7.index t (0 : Fin 2) * 640 + 1 * i.val = 640 * (t.val / 2) + i.val; rw [e0]; omega
  | ⟨1, _⟩ => show win0_7.index t (1 : Fin 2) * 1408 + 1 * j.val = 1408 * (t.val % 2) + j.val; rw [e1]; omega
theorem index8 : ∀ t : Fin cfg0.N, win0_8.index t (0 : Fin 2) = t.val / 2 ∧ win0_8.index t (1 : Fin 2) = t.val % 2 := by decide +kernel
theorem emb8 (t : Fin cfg0.N) (i : Fin 640) (j : Fin 1408) :
    ((cfg0.win 8).blk t).view.emb (ix2 i j) = ix2 (rowOf t i) (colOf t j) := by
  obtain ⟨e0, e1⟩ := index8 t
  funext a; apply Fin.ext
  match a with
  | ⟨0, _⟩ => show win0_8.index t (0 : Fin 2) * 640 + 1 * i.val = 640 * (t.val / 2) + i.val; rw [e0]; omega
  | ⟨1, _⟩ => show win0_8.index t (1 : Fin 2) * 1408 + 1 * j.val = 1408 * (t.val % 2) + j.val; rw [e1]; omega
theorem index1 : ∀ t : Fin cfg0.N, win0_1.index t (0 : Fin 3) = 0 ∧ win0_1.index t (1 : Fin 3) = 0 ∧ win0_1.index t (2 : Fin 3) = 0 := by decide +kernel
theorem emb1 (t : Fin cfg0.N) (i j : Fin 1) (k : Fin 1024) : ((cfg0.win 1).blk t).view.emb (ix3 i j k) = ix3 i j k := by
  obtain ⟨e0, e1, e2⟩ := index1 t
  funext a; apply Fin.ext
  match a with
  | ⟨0, _⟩ => show win0_1.index t (0 : Fin 3) * 1 + 1 * i.val = i.val; rw [e0]; omega
  | ⟨1, _⟩ => show win0_1.index t (1 : Fin 3) * 1 + 1 * j.val = j.val; rw [e1]; omega
  | ⟨2, _⟩ => show win0_1.index t (2 : Fin 3) * 1024 + 1 * k.val = k.val; rw [e2]; omega

/-- The owner of a column tile's part of the packed weights. -/
def ownOf (t : Fin cfg0.N) (a : Fin 4) : Fin 8 := ⟨4 * (t.val % 2) + a.val, by have := a.isLt; omega⟩
theorem index2 : ∀ t : Fin cfg0.N, win0_2.index t (0 : Fin 3) = t.val % 2 ∧ win0_2.index t (1 : Fin 3) = 0 ∧ win0_2.index t (2 : Fin 3) = 0 := by decide +kernel
theorem emb2 (t : Fin cfg0.N) (a : Fin 4) (r : Fin 352) (k : Fin 1024) :
    ((cfg0.win 2).blk t).view.emb (ix3 a r k) = ix3 (ownOf t a) (⟨352 * 0 + r.val, by have := r.isLt; omega⟩ : Fin 1056) k := by
  obtain ⟨e0, e1, e2⟩ := index2 t
  funext x; apply Fin.ext
  match x with
  | ⟨0, _⟩ => show win0_2.index t (0 : Fin 3) * 4 + 1 * a.val = 4 * (t.val % 2) + a.val; rw [e0]; omega
  | ⟨1, _⟩ => show win0_2.index t (1 : Fin 3) * 352 + 1 * r.val = 352 * 0 + r.val; rw [e1]; omega
  | ⟨2, _⟩ => show win0_2.index t (2 : Fin 3) * 1024 + 1 * k.val = k.val; rw [e2]; omega
theorem index3 : ∀ t : Fin cfg0.N, win0_3.index t (0 : Fin 3) = t.val % 2 ∧ win0_3.index t (1 : Fin 3) = 1 ∧ win0_3.index t (2 : Fin 3) = 0 := by decide +kernel
theorem emb3 (t : Fin cfg0.N) (a : Fin 4) (r : Fin 352) (k : Fin 1024) :
    ((cfg0.win 3).blk t).view.emb (ix3 a r k) = ix3 (ownOf t a) (⟨352 * 1 + r.val, by have := r.isLt; omega⟩ : Fin 1056) k := by
  obtain ⟨e0, e1, e2⟩ := index3 t
  funext x; apply Fin.ext
  match x with
  | ⟨0, _⟩ => show win0_3.index t (0 : Fin 3) * 4 + 1 * a.val = 4 * (t.val % 2) + a.val; rw [e0]; omega
  | ⟨1, _⟩ => show win0_3.index t (1 : Fin 3) * 352 + 1 * r.val = 352 * 1 + r.val; rw [e1]; omega
  | ⟨2, _⟩ => show win0_3.index t (2 : Fin 3) * 1024 + 1 * k.val = k.val; rw [e2]; omega
theorem index4 : ∀ t : Fin cfg0.N, win0_4.index t (0 : Fin 3) = t.val % 2 ∧ win0_4.index t (1 : Fin 3) = 2 ∧ win0_4.index t (2 : Fin 3) = 0 := by decide +kernel
theorem emb4 (t : Fin cfg0.N) (a : Fin 4) (r : Fin 352) (k : Fin 1024) :
    ((cfg0.win 4).blk t).view.emb (ix3 a r k) = ix3 (ownOf t a) (⟨352 * 2 + r.val, by have := r.isLt; omega⟩ : Fin 1056) k := by
  obtain ⟨e0, e1, e2⟩ := index4 t
  funext x; apply Fin.ext
  match x with
  | ⟨0, _⟩ => show win0_4.index t (0 : Fin 3) * 4 + 1 * a.val = 4 * (t.val % 2) + a.val; rw [e0]; omega
  | ⟨1, _⟩ => show win0_4.index t (1 : Fin 3) * 352 + 1 * r.val = 352 * 2 + r.val; rw [e1]; omega
  | ⟨2, _⟩ => show win0_4.index t (2 : Fin 3) * 1024 + 1 * k.val = k.val; rw [e2]; omega

/-! ## The blocks read at an index -/

theorem iblk0_apply (c : Dev nD) (t : Fin cfg0.N) (i : Fin 640) (k : Fin 1024) :
    iblk m c 0 t (ix2 i k) = m ((c : Thread nD τ).loc main_arg0) (ix2 (rowOf t i) k) := by
  show V m c main_arg0 (((cfg0.win 0).blk t).view.emb (ix2 i k)) = _
  rw [emb0, V_main_arg0]
theorem iblk1_apply (c : Dev nD) (t : Fin cfg0.N) (i j : Fin 1) (k : Fin 1024) :
    iblk m c 1 t (ix3 i j k) = V m c main_v9 (ix3 i j k) := by
  show V m c main_v9 (((cfg0.win 1).blk t).view.emb (ix3 i j k)) = _
  rw [emb1]
theorem iblk2_apply (c : Dev nD) (t : Fin cfg0.N) (a : Fin 4) (r : Fin 352) (k : Fin 1024) :
    iblk m c 2 t (ix3 a r k) = V m c main_v8 (ix3 (ownOf t a) (⟨352 * 0 + r.val, by have := r.isLt; omega⟩ : Fin 1056) k) := by
  show V m c main_v8 (((cfg0.win 2).blk t).view.emb (ix3 a r k)) = _
  rw [emb2]
theorem iblk3_apply (c : Dev nD) (t : Fin cfg0.N) (a : Fin 4) (r : Fin 352) (k : Fin 1024) :
    iblk m c 3 t (ix3 a r k) = V m c main_v8 (ix3 (ownOf t a) (⟨352 * 1 + r.val, by have := r.isLt; omega⟩ : Fin 1056) k) := by
  show V m c main_v8 (((cfg0.win 3).blk t).view.emb (ix3 a r k)) = _
  rw [emb3]
theorem iblk4_apply (c : Dev nD) (t : Fin cfg0.N) (a : Fin 4) (r : Fin 352) (k : Fin 1024) :
    iblk m c 4 t (ix3 a r k) = V m c main_v8 (ix3 (ownOf t a) (⟨352 * 2 + r.val, by have := r.isLt; omega⟩ : Fin 1056) k) := by
  show V m c main_v8 (((cfg0.win 4).blk t).view.emb (ix3 a r k)) = _
  rw [emb4]

end Cert.Kernel4Ideal.FfnFwd

end
-- ==== Proof.Fwd.Host.lean ====
/- What the host operations before the region leave in the arrays it reads. -/
module

public import proofs.«01_k».proof.Proof.Bwd.Spec
public import proofs.«01_k».proof.Proof.Gen.Kernel4Ideal.Frame
public import Idealize.ShloMosaic.Lib.ValueIdx
public import Idealize.ShloMosaic.Lib.ValueLayout
public import Idealize.ShloMosaic.Lib.Pipeline.Value
public import Idealize.ShloMosaic.Lib.StableHlo.Run

@[expose] public section

set_option maxRecDepth 16384

noncomputable section

namespace Cert.Kernel4Ideal.FfnFwd

open Cert.Kernel4Ideal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window cellOf)

variable (m : (ℓ : Loc nD τ sig) → Buf (Elt Ideal) ℓ)

/-- The arguments as plain functions of their indices. -/
def aH (c : Dev nD) (p : Fin 8320) (k : Fin 1024) : EReal := m ((c : Thread nD τ).loc main_arg0) (ix2 p k)
def aGam (c : Dev nD) (k : Fin 1024) : EReal := m ((c : Thread nD τ).loc main_arg1) (ix1 k)
def aWg (c : Dev nD) (k : Fin 1024) (q : Fin 2816) : EReal := m ((c : Thread nD τ).loc main_arg2) (ix2 k q)
def aWu (c : Dev nD) (k : Fin 1024) (q : Fin 2816) : EReal := m ((c : Thread nD τ).loc main_arg3) (ix2 k q)
def aWd (c : Dev nD) (q : Fin 2816) (k : Fin 1024) : EReal := m ((c : Thread nD τ).loc main_arg4) (ix2 q k)

/-- The packed weights: each owner's gate rows, up rows and down rows, one after the other. -/
theorem V_v8 (c : Dev nD) : V m c main_v8 = concatenate S8x1056x1024 1
    [⟨S8x352x1024, truncf .bf16 (shapeCast S8x352x1024 (transpose S2816x1024 [1, 0] (m ((c : Thread nD τ).loc main_arg2)) transposes_S1024x2816_S2816x1024_1_0) shapeCasts_S2816x1024_S8x352x1024 : FVec Ideal S8x352x1024 .f32) bitsLt_bf16_f32⟩,
     ⟨S8x352x1024, truncf .bf16 (shapeCast S8x352x1024 (transpose S2816x1024 [1, 0] (m ((c : Thread nD τ).loc main_arg3)) transposes_S1024x2816_S2816x1024_1_0) shapeCasts_S2816x1024_S8x352x1024 : FVec Ideal S8x352x1024 .f32) bitsLt_bf16_f32⟩,
     ⟨S8x352x1024, truncf .bf16 (shapeCast S8x352x1024 (m ((c : Thread nD τ).loc main_arg4)) shapeCasts_S2816x1024_S8x352x1024 : FVec Ideal S8x352x1024 .f32) bitsLt_bf16_f32⟩]
    concatenates_S8x352x1024_S8x352x1024_S8x352x1024_S8x1056x1024_d1 := by
  simp only [V, hostOps0, List.flatten_cons, List.flatten_nil, List.append_nil, List.cons_append, List.nil_append, TRef.binary, TRef.nullary, TRef.unary, TRef.toBuf, TRef.ofBuf, cast_eq]
  after_results_simp <;> rfl

theorem V_v9 (c : Dev nD) : V m c main_v9 = shapeCast S1x1x1024 (m ((c : Thread nD τ).loc main_arg1)) shapeCasts_S1024_S1x1x1024 := by
  simp only [V, hostOps0, List.flatten_cons, List.flatten_nil, List.append_nil, List.cons_append, List.nil_append, TRef.binary, TRef.nullary, TRef.unary, TRef.toBuf, TRef.ofBuf, cast_eq]
  after_results_simp <;> rfl

/-- The norm's weight, as the region reads it. -/
theorem V_v9_apply (c : Dev nD) (i j : Fin 1) (k : Fin 1024) : V m c main_v9 (ix3 i j k) = aGam m c k := by
  rw [V_v9]
  exact shapeCast_apply _ _ _ (ix1 k) (by
    rewrite [Shape.rowMajor_val_one, Shape.rowMajor_val_three]
    have := i.isLt; have := j.isLt
    show k.val = (i.val * 1 + j.val) * 1024 + k.val; omega)

/-- The row of the whole weight that is row `r` of owner `o`. -/
def rowOwn (o : Fin 8) (r : Fin 352) : Fin 2816 := ⟨352 * o.val + r.val, by have := o.isLt; have := r.isLt; omega⟩

/-- A matrix split among the owners, read at an owner's row. -/
theorem owners_apply (x : FVec Ideal S2816x1024 .f32) (o : Fin 8) (r : Fin 352) (k : Fin 1024) :
    (truncf .bf16 (shapeCast S8x352x1024 x shapeCasts_S2816x1024_S8x352x1024 : FVec Ideal S8x352x1024 .f32) bitsLt_bf16_f32 : FVec Ideal S8x352x1024 .bf16) (ix3 o r k)
      = x (ix2 (rowOwn o r) k) := by
  rw [truncf_apply]
  exact shapeCast_apply _ _ _ (ix2 (rowOwn o r) k) (by
    rewrite [Shape.rowMajor_val_two, Shape.rowMajor_val_three]
    show (352 * o.val + r.val) * 1024 + k.val = (o.val * 352 + r.val) * 1024 + k.val; ring)

/-- Piece 0 of the three put side by side. -/
theorem cat_apply0 (x y z : FVec Ideal S8x352x1024 .bf16) (o : Fin 8) (r : Fin 352) (k : Fin 1024) :
    concatenate S8x1056x1024 1 [⟨S8x352x1024, x⟩, ⟨S8x352x1024, y⟩, ⟨S8x352x1024, z⟩] concatenates_S8x352x1024_S8x352x1024_S8x352x1024_S8x1056x1024_d1
      (ix3 o (⟨352 * 0 + r.val, by have := r.isLt; omega⟩ : Fin 1056) k) = x (ix3 o r k) :=
  concatenate_apply_piece (t := S8x1056x1024) 1 _ _ _ 0 (by simp) S8x352x1024 _ rfl rfl (352 * 0) rfl (ix3 o r k)
    (fun b hb => by
      match b with
      | ⟨0, _⟩ => rfl
      | ⟨1, _⟩ => exact absurd rfl hb
      | ⟨2, _⟩ => rfl) rfl

/-- Piece 1 of the three put side by side. -/
theorem cat_apply1 (x y z : FVec Ideal S8x352x1024 .bf16) (o : Fin 8) (r : Fin 352) (k : Fin 1024) :
    concatenate S8x1056x1024 1 [⟨S8x352x1024, x⟩, ⟨S8x352x1024, y⟩, ⟨S8x352x1024, z⟩] concatenates_S8x352x1024_S8x352x1024_S8x352x1024_S8x1056x1024_d1
      (ix3 o (⟨352 * 1 + r.val, by have := r.isLt; omega⟩ : Fin 1056) k) = y (ix3 o r k) :=
  concatenate_apply_piece (t := S8x1056x1024) 1 _ _ _ 1 (by simp) S8x352x1024 _ rfl rfl (352 * 1) rfl (ix3 o r k)
    (fun b hb => by
      match b with
      | ⟨0, _⟩ => rfl
      | ⟨1, _⟩ => exact absurd rfl hb
      | ⟨2, _⟩ => rfl) rfl

/-- Piece 2 of the three put side by side. -/
theorem cat_apply2 (x y z : FVec Ideal S8x352x1024 .bf16) (o : Fin 8) (r : Fin 352) (k : Fin 1024) :
    concatenate S8x1056x1024 1 [⟨S8x352x1024, x⟩, ⟨S8x352x1024, y⟩, ⟨S8x352x1024, z⟩] concatenates_S8x352x1024_S8x352x1024_S8x352x1024_S8x1056x1024_d1
      (ix3 o (⟨352 * 2 + r.val, by have := r.isLt; omega⟩ : Fin 1056) k) = z (ix3 o r k) :=
  concatenate_apply_piece (t := S8x1056x1024) 1 _ _ _ 2 (by simp) S8x352x1024 _ rfl rfl (352 * 2) rfl (ix3 o r k)
    (fun b hb => by
      match b with
      | ⟨0, _⟩ => rfl
      | ⟨1, _⟩ => exact absurd rfl hb
      | ⟨2, _⟩ => rfl) rfl

theorem V_v8_Wg (c : Dev nD) (o : Fin 8) (r : Fin 352) (k : Fin 1024) :
    V m c main_v8 (ix3 o (⟨352 * 0 + r.val, by have := r.isLt; omega⟩ : Fin 1056) k) = aWg m c k (rowOwn o r) := by
  rw [V_v8, cat_apply0, owners_apply]
  exact transpose_ix2_apply _ _ _ _

theorem V_v8_Wu (c : Dev nD) (o : Fin 8) (r : Fin 352) (k : Fin 1024) :
    V m c main_v8 (ix3 o (⟨352 * 1 + r.val, by have := r.isLt; omega⟩ : Fin 1056) k) = aWu m c k (rowOwn o r) := by
  rw [V_v8, cat_apply1, owners_apply]
  exact transpose_ix2_apply _ _ _ _

theorem V_v8_Wd (c : Dev nD) (o : Fin 8) (r : Fin 352) (k : Fin 1024) :
    V m c main_v8 (ix3 o (⟨352 * 2 + r.val, by have := r.isLt; omega⟩ : Fin 1056) k) = aWd m c (rowOwn o r) k := by
  rw [V_v8, cat_apply2, owners_apply]
  rfl

end Cert.Kernel4Ideal.FfnFwd

end
-- ==== Proof.Fwd.RefSpec.lean ====
/- The reference's results, at an index, as the plain formulas of the forward pass. -/
module

public import proofs.«01_k».proof.Proof.Bwd.Spec
public import proofs.«01_k».proof.Proof.Gen.Reference4Ideal.Read
public import Idealize.ShloMosaic.Lib.ValueIdx
public import Idealize.ShloMosaic.Lib.IdealHost

@[expose] public section

noncomputable section

namespace Cert.Reference4Ideal.FfnFwd

open Cert.Reference4Ideal Cert.Reference4Ideal.Read
open Idealize.ShloMosaic Idealize.ShloMosaic.TcCoe Idealize.ShloMosaic.ValueIdx
open Cert.FfnSpec

/-- An index of a matrix is given by its two coordinates. -/
theorem at2 {n0 n1 : ℕ} (j : (⟨2, ![n0, n1]⟩ : Shape).Idx) (a : Fin n0) (b : Fin n1)
    (h0 : (j 0).val = a.val) (h1 : (j 1).val = b.val) : j = ix2 a b := by
  rw [eq_ix2 j]; exact congrArg₂ ix2 (Fin.ext h0) (Fin.ext h1)
/-- An index of a vector is given by its coordinate. -/
theorem at1 {n : ℕ} (j : (⟨1, ![n]⟩ : Shape).Idx) (a : Fin n) (h : (j 0).val = a.val) : j = ix1 a := by
  rw [eq_ix1 j]; exact congrArg ix1 (Fin.ext h)

theorem zero_cst : (FloatOps.ofBits .f32 0x00000000#32 : Ideal .f32) = 0 := Ideal.ofBits_zero_f32
theorem one_cst : (FloatOps.ofBits .f32 0x3F800000#32 : Ideal .f32) = (1 : EReal) := Idealize.ShloMosaic.Ideal.ofBits_one_f32

variable (x0 : (⟨S8320x1024, .f32⟩ : BufTy).Contents (Elt Ideal)) (x1 : (⟨S1024, .f32⟩ : BufTy).Contents (Elt Ideal))
  (x2 x3 : (⟨S1024x2816, .f32⟩ : BufTy).Contents (Elt Ideal)) (x4 : (⟨S2816x1024, .f32⟩ : BufTy).Contents (Elt Ideal))

/-- A matrix as a function of its two indices. -/
abbrev fn2 {a b : ℕ} (x : (⟨⟨2, ![a, b]⟩, .f32⟩ : BufTy).Contents (Elt Ideal)) (p : Fin a) (k : Fin b) : EReal := x (ix2 p k)
/-- A vector as a function of its index. -/
abbrev fn1 {a : ℕ} (x : (⟨⟨1, ![a]⟩, .f32⟩ : BufTy).Contents (Elt Ideal)) (k : Fin a) : EReal := x (ix1 k)

/-! ## The norm -/

theorem r_v1 (p : Fin 8320) : val_main_v1 (F := Ideal) x0 (ix1 p) = ∑ k, fn2 x0 p k * fn2 x0 p k := by
  rw [val_main_v1_apply, val_main_cst_apply, zero_cst, zero_add]
  exact Finset.sum_congr rfl fun k _ => congrArg (val_main_v0 (F := Ideal) x0) (at2 _ p k rfl rfl)
theorem r_v7 (p : Fin 8320) (j : Fin 1) : val_main_v7 (F := Ideal) x0 (ix2 p j) = rr (fn2 x0) p := by
  rw [val_main_v7_apply, val_main_v6_apply, val_main_v4_apply, val_main_v2_apply, (at1 _ p rfl : idx_main_v2 (ix2 p j) = ix1 p), r_v1,
    val_main_v3_apply, val_main_v5_apply, val_main_cst_0_apply, val_main_cst_1_apply]
  rfl
theorem r_v12 (p : Fin 8320) (k : Fin 1024) : val_main_v12 (F := Ideal) x0 x1 (ix2 p k) = xn (fn2 x0) (fn1 x1) p k := by
  rw [val_main_v12_apply, val_main_v9_apply, val_main_v8_apply, (at2 _ p 0 rfl rfl : idx_main_v8 (ix2 p k) = ix2 p 0), r_v7,
    val_main_v11_apply, val_main_v10_apply, (at1 _ k rfl : idx_main_v10 (idx_main_v11 (ix2 p k)) = ix1 k)]; rfl

/-! ## The gate and the sum over the columns -/

theorem r_v13 (p : Fin 8320) (q : Fin 2816) :
    val_main_v13 (F := Ideal) x0 x1 x2 (ix2 p q) = pre (fn2 x0) (fn1 x1) (fn2 x2) p q := by
  rw [val_main_v13_apply]
  exact Finset.sum_congr rfl fun k _ => by
    rw [(at2 _ p k rfl rfl : lidx_main_v13 (ix2 p q) k = ix2 p k), (at2 _ k q rfl rfl : ridx_main_v13 (ix2 p q) k = ix2 k q), r_v12]
theorem r_v15 (p : Fin 8320) (q : Fin 2816) :
    val_main_v15 (F := Ideal) x0 x1 x3 (ix2 p q) = pre (fn2 x0) (fn1 x1) (fn2 x3) p q := r_v13 x0 x1 x3 p q
theorem r_v23 (p : Fin 8320) (q : Fin 2816) :
    val_main_v23 (F := Ideal) x0 x1 x2 (ix2 p q) = pre (fn2 x0) (fn1 x1) (fn2 x2) p q := r_v13 x0 x1 x2 p q
theorem r_v25 (p : Fin 8320) (q : Fin 2816) :
    val_main_v25 (F := Ideal) x0 x1 x3 (ix2 p q) = pre (fn2 x0) (fn1 x1) (fn2 x3) p q := r_v13 x0 x1 x3 p q
theorem r_v21 (p : Fin 8320) (k : Fin 1024) :
    val_main_v21 (F := Ideal) x0 x1 (ix2 p k) = xn (fn2 x0) (fn1 x1) p k := r_v12 x0 x1 p k
theorem r_v16 (p : Fin 8320) (q : Fin 2816) :
    val_main_v16 (F := Ideal) x0 x1 x2 x3 (ix2 p q) = act (fn2 x0) (fn1 x1) (fn2 x2) (fn2 x3) p q := by
  rw [val_main_v16_apply, val_main_v14_apply, val_main_call0_v5_apply, val_main_call0_v4_apply, val_main_call0_v3_apply, val_main_call0_v2_apply, val_main_call0_v1_apply, val_main_call0_v0_apply, val_main_call0_cst_apply, val_main_call0_cst_0_apply, r_v13, r_v15, one_cst]; rfl
theorem r_v20 (p : Fin 8320) (k : Fin 1024) :
    val_main_v20 (F := Ideal) x0 x1 x2 x3 x4 (ix2 p k)
      = fn2 x0 p k + cHalf * ∑ q, act (fn2 x0) (fn1 x1) (fn2 x2) (fn2 x3) p q * fn2 x4 q k := by
  rw [val_main_v20_apply, val_main_v19_apply, val_main_v18_apply, val_main_cst_2_apply, val_main_v17_apply]
  refine congrArg (fn2 x0 p k + cHalf * ·) (Finset.sum_congr rfl fun q _ => ?_)
  rw [(at2 _ p q rfl rfl : lidx_main_v17 (ix2 p k) q = ix2 p q), (at2 _ q k rfl rfl : ridx_main_v17 (ix2 p k) q = ix2 q k), r_v16]

end Cert.Reference4Ideal.FfnFwd

end
-- ==== Proof.Fwd.KerSpec.lean ====
/- The values of the half-step forward kernel at each point, as the formulas of the block. -/
module

public import proofs.«01_k».proof.Proof.Fwd.Payload
public import proofs.«01_k».proof.Proof.Fwd.Data
public import proofs.«01_k».proof.Proof.Fwd.Blocks
public import proofs.«01_k».proof.Proof.Fwd.Host
public import proofs.«01_k».proof.Proof.Fwd.RefSpec

@[expose] public section

set_option maxRecDepth 16384

noncomputable section

namespace Cert.Kernel4Ideal.FfnFwd

open Cert.Kernel4Ideal.Gen
open Idealize.ShloMosaic Idealize.ShloMosaic.TcCoe Idealize.ShloMosaic.ValueIdx
open Cert.FfnSpec

variable (m : (ℓ : Loc nD τ sig) → Buf (Elt Ideal) ℓ)

/-! ## The block's forward pass -/

/-- The down product of the activation. -/
def down {P K Q : Type} [Fintype P] [Fintype K] [Fintype Q] (h : P → K → EReal) (gam : K → EReal) (wg wu : K → Q → EReal)
    (wd : Q → K → EReal) (p : P) (k : K) : EReal := ∑ q, act h gam wg wu p q * wd q k
/-- The input plus half the block's output. -/
def ho {P K Q : Type} [Fintype P] [Fintype K] [Fintype Q] (h : P → K → EReal) (gam : K → EReal) (wg wu : K → Q → EReal)
    (wd : Q → K → EReal) (p : P) (k : K) : EReal := h p k + cHalf * down h gam wg wu wd p k

/-! ## The blocks read -/

theorem own_col (t : Fin cfg0.N) (j : Fin 1408) : rowOwn (ownOf t (tOwn j)) (tRow j) = colOf t j :=
  Fin.ext (by
    show 352 * (4 * (t.val % 2) + j.val / 352) + j.val % 352 = 1408 * (t.val % 2) + j.val
    omega)
theorem blkWg (c : Dev nD) (t : Fin cfg0.N) (j : Fin 1408) (k : Fin 1024) :
    iblk m c 2 t (ix3 (tOwn j) (tRow j) k) = aWg m c k (colOf t j) := by
  rw [iblk2_apply, V_v8_Wg, own_col]
theorem blkWu (c : Dev nD) (t : Fin cfg0.N) (j : Fin 1408) (k : Fin 1024) :
    iblk m c 3 t (ix3 (tOwn j) (tRow j) k) = aWu m c k (colOf t j) := by
  rw [iblk3_apply, V_v8_Wu, own_col]
theorem blkWd (c : Dev nD) (t : Fin cfg0.N) (j : Fin 1408) (k : Fin 1024) :
    iblk m c 4 t (ix3 (tOwn j) (tRow j) k) = aWd m c (colOf t j) k := by
  rw [iblk4_apply, V_v8_Wd, own_col]
theorem blkH (c : Dev nD) (t : Fin cfg0.N) : blk2 (iblk m c 0 t) = fun i k => aH m c (rowOf t i) k :=
  funext fun i => funext fun k => iblk0_apply m c t i k
theorem blkGam (c : Dev nD) (t : Fin cfg0.N) (k : Fin 1024) : iblk m c 1 t (ix3 (0 : Fin 1) (0 : Fin 1) k) = aGam m c k := by
  rw [iblk1_apply, V_v9_apply]

/-! ## The blocks written at a point -/

theorem row_half (n : ℕ) (i : Fin 640) : rowOf (pt (2 * (n / 2))) i = rowOf (pt n) i :=
  Fin.ext (by show 640 * (2 * (n / 2) % 26 / 2) + i.val = 640 * (n % 26 / 2) + i.val; omega)

theorem xnAt_apply (c : Dev nD) (n : ℕ) (i : Fin 640) (k : Fin 1024) :
    xnAt m c n (ix2 i k) = xn (aH m c) (aGam m c) (rowOf (pt n) i) k := by
  unfold xnAt
  rw [pay3_apply, blkH, blkGam]
  have e := row_half n i
  show xh (aH m c) (rowOf (pt (2 * (n / 2))) i) k * _ = _
  rw [e]; rfl

theorem preT_g (c : Dev nD) (n : ℕ) (i : Fin 640) (j : Fin 1408) :
    preT (xnAt m c n) (iblk m c 2 (pt n)) i j = pre (aH m c) (aGam m c) (aWg m c) (rowOf (pt n) i) (colOf (pt n) j) :=
  Finset.sum_congr rfl fun k _ => by rw [xnAt_apply, blkWg]
theorem preT_u (c : Dev nD) (n : ℕ) (i : Fin 640) (j : Fin 1408) :
    preT (xnAt m c n) (iblk m c 3 (pt n)) i j = pre (aH m c) (aGam m c) (aWu m c) (rowOf (pt n) i) (colOf (pt n) j) :=
  Finset.sum_congr rfl fun k _ => by rw [xnAt_apply, blkWu]

theorem gsAt_apply (c : Dev nD) (n : ℕ) (i : Fin 640) (j : Fin 1408) :
    gsAt m c n (ix2 i j) = pre (aH m c) (aGam m c) (aWg m c) (rowOf (pt n) i) (colOf (pt n) j) := by
  unfold gsAt
  rw [pay8_apply, preT_g]
theorem usAt_apply (c : Dev nD) (n : ℕ) (i : Fin 640) (j : Fin 1408) :
    usAt m c n (ix2 i j) = pre (aH m c) (aGam m c) (aWu m c) (rowOf (pt n) i) (colOf (pt n) j) := by
  unfold usAt
  rw [pay9_apply, preT_u]

/-- One tile's share of the down product. -/
theorem stepAt_apply (c : Dev nD) (n : ℕ) (acc : FVec Ideal S640x1024 .f32) (i : Fin 640) (k : Fin 1024) :
    stepAt m c n acc (ix2 i k) = acc (ix2 i k)
      + ∑ j : Fin 1408, act (aH m c) (aGam m c) (aWg m c) (aWu m c) (rowOf (pt n) i) (colOf (pt n) j) * aWd m c (colOf (pt n) j) k := by
  unfold stepAt
  rw [accOf_apply]
  refine congrArg (acc (ix2 i k) + ·) (Finset.sum_congr rfl fun j _ => ?_)
  rw [blkWd, preT_g, preT_u]; rfl

/-- A sum over the columns is the sums over the two tiles. -/
theorem sum_tiles (f : Fin 2816 → EReal) (t0 t1 : Fin cfg0.N) (h0 : t0.val % 2 = 0) (h1 : t1.val % 2 = 1) :
    ∑ q, f q = ∑ j : Fin 1408, f (colOf t0 j) + ∑ j : Fin 1408, f (colOf t1 j) := by
  refine (Fin.sum_univ_add (a := 1408) (b := 1408) f).trans (congrArg₂ (· + ·) ?_ ?_)
  · exact Finset.sum_congr rfl fun j _ => congrArg f (Fin.ext (by show j.val = 1408 * (t0.val % 2) + j.val; omega))
  · exact Finset.sum_congr rfl fun j _ => congrArg f (Fin.ext (by show 1408 + j.val = 1408 * (t1.val % 2) + j.val; omega))

/-- After a row block's second tile the scratch holds the whole down product. -/
theorem accAt_apply (c : Dev nD) {n : ℕ} (h : n % 2 = 1) (i : Fin 640) (k : Fin 1024) :
    accAt m c n (ix2 i k) = down (aH m c) (aGam m c) (aWg m c) (aWu m c) (aWd m c) (rowOf (pt n) i) k := by
  have e : rowOf (pt (n - 1)) i = rowOf (pt n) i :=
    Fin.ext (by show 640 * ((n - 1) % 26 / 2) + i.val = 640 * (n % 26 / 2) + i.val; omega)
  rw [accAt_odd m c h, accAt_even m c (show (n - 1) % 2 = 0 by omega), stepAt_apply, stepAt_apply, pay4_apply, zero_add, e]
  unfold down
  rw [sum_tiles _ (pt (n - 1)) (pt n) (by show (n - 1) % 26 % 2 = 0; omega) (by show n % 26 % 2 = 1; omega)]

theorem hoAt_apply (c : Dev nD) {n : ℕ} (h : n % 2 = 1) (i : Fin 640) (k : Fin 1024) :
    hoAt m c n (ix2 i k) = ho (aH m c) (aGam m c) (aWg m c) (aWu m c) (aWd m c) (rowOf (pt n) i) k := by
  unfold hoAt
  rw [pay2_apply, accAt_apply m c h, iblk0_apply]; rfl

end Cert.Kernel4Ideal.FfnFwd

end
-- ==== Proof.Fwd.Final.lean ====
/- What the four result arrays hold when the kernel has run. -/
module

public import proofs.«01_k».proof.Proof.Fwd.KerSpec
public import proofs.«01_k».proof.Proof.Fwd.Frame

@[expose] public section

set_option maxRecDepth 16384

noncomputable section

namespace Cert.Kernel4Ideal.FfnFwd

open Cert.Kernel4Ideal.Gen
open Idealize.ShloMosaic Idealize.ShloMosaic.TcCoe Idealize.ShloMosaic.ValueIdx
open Idealize.ShloMosaic.Pipeline (Dat Cfg Window cellOf)
open Cert.FfnSpec

variable {m : (ℓ : Loc nD τ sig) → Buf (Elt Ideal) ℓ} {c : Dev nD}

/-- An index is in a point's block when each coordinate is in the block's range. -/
theorem mem5 (t : Fin cfg0.N) (i : S8320x1024.Idx) :
    i ∈ ((cfg0.win 5).blk t).view.set ↔ ∀ a : Fin 2, win0_5.index t a * S640x1024.size a ≤ (i a).val ∧ (i a).val < win0_5.index t a * S640x1024.size a + S640x1024.size a := by
  show i ∈ ((View.whole main_v10_0).slice (win0_5.rect t)).set ↔ _
  rw [View.set_slice_whole, Rect.mem_set_unit]
  exact Iff.rfl
theorem arr5 : (dats m 0 c).arrAt 5 cfg0.N = fun i : S8320x1024.Idx => ho (aH m c) (aGam m c) (aWg m c) (aWu m c) (aWd m c) (i 0) (i 1) := by
  refine (dats m 0 c).arrAt_eq_of_cover 5 (fun i : S8320x1024.Idx => ho (aH m c) (aGam m c) (aWg m c) (aWu m c) (aWd m c) (i 0) (i 1)) (fun t hf => ?_) fun i => ?_
  · show (cfg0.win 5).cut (grid0.coords t) ((dats m 0 c).after 5 t) = _
    rw [after0_5]
    funext y
    obtain ⟨i, k, rfl⟩ : ∃ (i : Fin 640) (k : Fin 1024), y = ix2 i k := ⟨y 0, y 1, eq_ix2 (n0 := 640) (n1 := 1024) y⟩
    have hx : (cfg0.win 5).xinj (grid0.coords t) (ix2 i k) = ix2 i k := by
      funext a; match a with
      | ⟨0, _⟩ => rfl
      | ⟨1, _⟩ => rfl
    show hoAt m c t.val ((cfg0.win 5).xinj (grid0.coords t) (ix2 i k)) = (fun i : S8320x1024.Idx => ho (aH m c) (aGam m c) (aWg m c) (aWu m c) (aWd m c) (i 0) (i 1)) (((cfg0.win 5).blk t).view.emb (ix2 i k))
    rw [hx, emb5]
    refine (hoAt_apply m c ((flush0_5 t).1 hf) i k).trans ?_
    rw [pt_val]
  · have h0 : (i 0).val < 8320 := (i 0).isLt
    have h1 : (i 1).val < 1024 := (i 1).isLt
    refine ⟨⟨2 * ((i 0).val / 640) + 1, lt_of_lt_of_eq (by omega) N_0.symm⟩, (flush0_5 _).2 (by show (2 * ((i 0).val / 640) + 1) % 2 = 1; omega), (mem5 _ i).2 fun a => ?_⟩
    match a with
    | ⟨0, _⟩ =>
      show win0_5.index _ (0 : Fin 2) * 640 ≤ (i 0).val ∧ (i 0).val < win0_5.index _ (0 : Fin 2) * 640 + 640
      rw [(index5 _).1]
      show (2 * ((i 0).val / 640) + 1) / 2 * 640 ≤ (i 0).val ∧ (i 0).val < (2 * ((i 0).val / 640) + 1) / 2 * 640 + 640
      omega
    | ⟨1, _⟩ => show win0_5.index _ (1 : Fin 2) * 1024 ≤ (i 1).val ∧ (i 1).val < win0_5.index _ (1 : Fin 2) * 1024 + 1024; rw [(index5 _).2]; omega

/-- An index is in a point's block when each coordinate is in the block's range. -/
theorem mem6 (t : Fin cfg0.N) (i : S8320x1024.Idx) :
    i ∈ ((cfg0.win 6).blk t).view.set ↔ ∀ a : Fin 2, win0_6.index t a * S640x1024.size a ≤ (i a).val ∧ (i a).val < win0_6.index t a * S640x1024.size a + S640x1024.size a := by
  show i ∈ ((View.whole main_v10_1).slice (win0_6.rect t)).set ↔ _
  rw [View.set_slice_whole, Rect.mem_set_unit]
  exact Iff.rfl
theorem arr6 : (dats m 0 c).arrAt 6 cfg0.N = fun i : S8320x1024.Idx => xn (aH m c) (aGam m c) (i 0) (i 1) := by
  refine (dats m 0 c).arrAt_eq_of_cover 6 (fun i : S8320x1024.Idx => xn (aH m c) (aGam m c) (i 0) (i 1)) (fun t hf => ?_) fun i => ?_
  · show (cfg0.win 6).cut (grid0.coords t) ((dats m 0 c).after 6 t) = _
    rw [after0_6]
    funext y
    obtain ⟨i, k, rfl⟩ : ∃ (i : Fin 640) (k : Fin 1024), y = ix2 i k := ⟨y 0, y 1, eq_ix2 (n0 := 640) (n1 := 1024) y⟩
    have hx : (cfg0.win 6).xinj (grid0.coords t) (ix2 i k) = ix2 i k := by
      funext a; match a with
      | ⟨0, _⟩ => rfl
      | ⟨1, _⟩ => rfl
    show xnAt m c t.val ((cfg0.win 6).xinj (grid0.coords t) (ix2 i k)) = (fun i : S8320x1024.Idx => xn (aH m c) (aGam m c) (i 0) (i 1)) (((cfg0.win 6).blk t).view.emb (ix2 i k))
    rw [hx, emb6]
    refine (xnAt_apply m c t.val i k).trans ?_
    rw [pt_val]
  · have h0 : (i 0).val < 8320 := (i 0).isLt
    have h1 : (i 1).val < 1024 := (i 1).isLt
    refine ⟨⟨2 * ((i 0).val / 640) + 1, lt_of_lt_of_eq (by omega) N_0.symm⟩, (flush0_6 _).2 (by show (2 * ((i 0).val / 640) + 1) % 2 = 1; omega), (mem6 _ i).2 fun a => ?_⟩
    match a with
    | ⟨0, _⟩ =>
      show win0_6.index _ (0 : Fin 2) * 640 ≤ (i 0).val ∧ (i 0).val < win0_6.index _ (0 : Fin 2) * 640 + 640
      rw [(index6 _).1]
      show (2 * ((i 0).val / 640) + 1) / 2 * 640 ≤ (i 0).val ∧ (i 0).val < (2 * ((i 0).val / 640) + 1) / 2 * 640 + 640
      omega
    | ⟨1, _⟩ => show win0_6.index _ (1 : Fin 2) * 1024 ≤ (i 1).val ∧ (i 1).val < win0_6.index _ (1 : Fin 2) * 1024 + 1024; rw [(index6 _).2]; omega

/-- An index is in a point's block when each coordinate is in the block's range. -/
theorem mem7 (t : Fin cfg0.N) (i : S8320x2816.Idx) :
    i ∈ ((cfg0.win 7).blk t).view.set ↔ ∀ a : Fin 2, win0_7.index t a * S640x1408.size a ≤ (i a).val ∧ (i a).val < win0_7.index t a * S640x1408.size a + S640x1408.size a := by
  show i ∈ ((View.whole main_v10_2).slice (win0_7.rect t)).set ↔ _
  rw [View.set_slice_whole, Rect.mem_set_unit]
  exact Iff.rfl
theorem arr7 : (dats m 0 c).arrAt 7 cfg0.N = fun i : S8320x2816.Idx => pre (aH m c) (aGam m c) (aWg m c) (i 0) (i 1) := by
  refine (dats m 0 c).arrAt_eq_of_cover 7 (fun i : S8320x2816.Idx => pre (aH m c) (aGam m c) (aWg m c) (i 0) (i 1)) (fun t hf => ?_) fun i => ?_
  · show (cfg0.win 7).cut (grid0.coords t) ((dats m 0 c).after 7 t) = _
    rw [after0_7]
    funext y
    obtain ⟨i, k, rfl⟩ : ∃ (i : Fin 640) (k : Fin 1408), y = ix2 i k := ⟨y 0, y 1, eq_ix2 (n0 := 640) (n1 := 1408) y⟩
    have hx : (cfg0.win 7).xinj (grid0.coords t) (ix2 i k) = ix2 i k := by
      funext a; match a with
      | ⟨0, _⟩ => rfl
      | ⟨1, _⟩ => rfl
    show gsAt m c t.val ((cfg0.win 7).xinj (grid0.coords t) (ix2 i k)) = (fun i : S8320x2816.Idx => pre (aH m c) (aGam m c) (aWg m c) (i 0) (i 1)) (((cfg0.win 7).blk t).view.emb (ix2 i k))
    rw [hx, emb7]
    refine (gsAt_apply m c t.val i k).trans ?_
    rw [pt_val]
  · have h0 : (i 0).val < 8320 := (i 0).isLt
    have h1 : (i 1).val < 2816 := (i 1).isLt
    refine ⟨⟨2 * ((i 0).val / 640) + (i 1).val / 1408, lt_of_lt_of_eq (by omega) N_0.symm⟩, flush0_7 _, (mem7 _ i).2 fun a => ?_⟩
    match a with
    | ⟨0, _⟩ =>
      show win0_7.index _ (0 : Fin 2) * 640 ≤ (i 0).val ∧ (i 0).val < win0_7.index _ (0 : Fin 2) * 640 + 640
      rw [(index7 _).1]
      show (2 * ((i 0).val / 640) + (i 1).val / 1408) / 2 * 640 ≤ (i 0).val ∧ (i 0).val < (2 * ((i 0).val / 640) + (i 1).val / 1408) / 2 * 640 + 640
      omega
    | ⟨1, _⟩ => show win0_7.index _ (1 : Fin 2) * 1408 ≤ (i 1).val ∧ (i 1).val < win0_7.index _ (1 : Fin 2) * 1408 + 1408; rw [(index7 _).2]; show (2 * ((i 0).val / 640) + (i 1).val / 1408) % 2 * 1408 ≤ (i 1).val ∧ (i 1).val < (2 * ((i 0).val / 640) + (i 1).val / 1408) % 2 * 1408 + 1408; omega

/-- An index is in a point's block when each coordinate is in the block's range. -/
theorem mem8 (t : Fin cfg0.N) (i : S8320x2816.Idx) :
    i ∈ ((cfg0.win 8).blk t).view.set ↔ ∀ a : Fin 2, win0_8.index t a * S640x1408.size a ≤ (i a).val ∧ (i a).val < win0_8.index t a * S640x1408.size a + S640x1408.size a := by
  show i ∈ ((View.whole main_v10_3).slice (win0_8.rect t)).set ↔ _
  rw [View.set_slice_whole, Rect.mem_set_unit]
  exact Iff.rfl
theorem arr8 : (dats m 0 c).arrAt 8 cfg0.N = fun i : S8320x2816.Idx => pre (aH m c) (aGam m c) (aWu m c) (i 0) (i 1) := by
  refine (dats m 0 c).arrAt_eq_of_cover 8 (fun i : S8320x2816.Idx => pre (aH m c) (aGam m c) (aWu m c) (i 0) (i 1)) (fun t hf => ?_) fun i => ?_
  · show (cfg0.win 8).cut (grid0.coords t) ((dats m 0 c).after 8 t) = _
    rw [after0_8]
    funext y
    obtain ⟨i, k, rfl⟩ : ∃ (i : Fin 640) (k : Fin 1408), y = ix2 i k := ⟨y 0, y 1, eq_ix2 (n0 := 640) (n1 := 1408) y⟩
    have hx : (cfg0.win 8).xinj (grid0.coords t) (ix2 i k) = ix2 i k := by
      funext a; match a with
      | ⟨0, _⟩ => rfl
      | ⟨1, _⟩ => rfl
    show usAt m c t.val ((cfg0.win 8).xinj (grid0.coords t) (ix2 i k)) = (fun i : S8320x2816.Idx => pre (aH m c) (aGam m c) (aWu m c) (i 0) (i 1)) (((cfg0.win 8).blk t).view.emb (ix2 i k))
    rw [hx, emb8]
    refine (usAt_apply m c t.val i k).trans ?_
    rw [pt_val]
  · have h0 : (i 0).val < 8320 := (i 0).isLt
    have h1 : (i 1).val < 2816 := (i 1).isLt
    refine ⟨⟨2 * ((i 0).val / 640) + (i 1).val / 1408, lt_of_lt_of_eq (by omega) N_0.symm⟩, flush0_8 _, (mem8 _ i).2 fun a => ?_⟩
    match a with
    | ⟨0, _⟩ =>
      show win0_8.index _ (0 : Fin 2) * 640 ≤ (i 0).val ∧ (i 0).val < win0_8.index _ (0 : Fin 2) * 640 + 640
      rw [(index8 _).1]
      show (2 * ((i 0).val / 640) + (i 1).val / 1408) / 2 * 640 ≤ (i 0).val ∧ (i 0).val < (2 * ((i 0).val / 640) + (i 1).val / 1408) / 2 * 640 + 640
      omega
    | ⟨1, _⟩ => show win0_8.index _ (1 : Fin 2) * 1408 ≤ (i 1).val ∧ (i 1).val < win0_8.index _ (1 : Fin 2) * 1408 + 1408; rw [(index8 _).2]; show (2 * ((i 0).val / 640) + (i 1).val / 1408) % 2 * 1408 ≤ (i 1).val ∧ (i 1).val < (2 * ((i 0).val / 640) + (i 1).val / 1408) % 2 * 1408 + 1408; omega

end Cert.Kernel4Ideal.FfnFwd

end
-- ==== Proof.Fwd.Algebraic.lean ====
/- The half-step forward kernel's results are the reference's, over the extended reals. -/
module

public import proofs.«01_k».proof.Defs
public import proofs.«01_k».proof.Proof.Fwd.Final
public import proofs.«01_k».proof.Proof.Gen.Reference4Ideal
public import proofs.«01_k».proof.Proof.Gen.Reference4Ideal.Run
public import proofs.«01_k».proof.Proof.Fwd.RefSpec

@[expose] public section

noncomputable section

namespace Cert.FfnFwd

open Idealize.ShloMosaic Idealize.SL.Sem Idealize.ShloMosaic.TcCoe Idealize.ShloMosaic.ValueIdx
open Cert.FfnSpec Cert.Kernel4Ideal.FfnFwd
open Cert.Reference4Ideal.Read

section
variable {m : (ℓ : Loc Cert.Kernel4Ideal.nD Cert.Kernel4Ideal.τ Cert.Kernel4Ideal.sig) → Buf (Elt Ideal) ℓ} {c : Dev Cert.Kernel4Ideal.nD}

/-- The kernel's argument arrays. -/
abbrev K0 (m : (ℓ : Loc Cert.Kernel4Ideal.nD Cert.Kernel4Ideal.τ Cert.Kernel4Ideal.sig) → Buf (Elt Ideal) ℓ) (c : Dev Cert.Kernel4Ideal.nD) := m ((c : Thread Cert.Kernel4Ideal.nD Cert.Kernel4Ideal.τ).loc Cert.Kernel4Ideal.main_arg0)
abbrev K1 (m : (ℓ : Loc Cert.Kernel4Ideal.nD Cert.Kernel4Ideal.τ Cert.Kernel4Ideal.sig) → Buf (Elt Ideal) ℓ) (c : Dev Cert.Kernel4Ideal.nD) := m ((c : Thread Cert.Kernel4Ideal.nD Cert.Kernel4Ideal.τ).loc Cert.Kernel4Ideal.main_arg1)
abbrev K2 (m : (ℓ : Loc Cert.Kernel4Ideal.nD Cert.Kernel4Ideal.τ Cert.Kernel4Ideal.sig) → Buf (Elt Ideal) ℓ) (c : Dev Cert.Kernel4Ideal.nD) := m ((c : Thread Cert.Kernel4Ideal.nD Cert.Kernel4Ideal.τ).loc Cert.Kernel4Ideal.main_arg2)
abbrev K3 (m : (ℓ : Loc Cert.Kernel4Ideal.nD Cert.Kernel4Ideal.τ Cert.Kernel4Ideal.sig) → Buf (Elt Ideal) ℓ) (c : Dev Cert.Kernel4Ideal.nD) := m ((c : Thread Cert.Kernel4Ideal.nD Cert.Kernel4Ideal.τ).loc Cert.Kernel4Ideal.main_arg3)
abbrev K4 (m : (ℓ : Loc Cert.Kernel4Ideal.nD Cert.Kernel4Ideal.τ Cert.Kernel4Ideal.sig) → Buf (Elt Ideal) ℓ) (c : Dev Cert.Kernel4Ideal.nD) := m ((c : Thread Cert.Kernel4Ideal.nD Cert.Kernel4Ideal.τ).loc Cert.Kernel4Ideal.main_arg4)

theorem eq0 : val_main_v20 (F := Ideal) (K0 m c) (K1 m c) (K2 m c) (K3 m c) (K4 m c) = (dats m 0 c).arrAt 5 Cert.Kernel4Ideal.cfg0.N := by
  rw [arr5]; funext i
  refine (congrArg _ (eq_ix2 (n0 := 8320) (n1 := 1024) i)).trans ?_
  exact Cert.Reference4Ideal.FfnFwd.r_v20 _ _ _ _ _ _ _
theorem eq1 : val_main_v21 (F := Ideal) (K0 m c) (K1 m c) = (dats m 0 c).arrAt 6 Cert.Kernel4Ideal.cfg0.N := by
  rw [arr6]; funext i
  refine (congrArg _ (eq_ix2 (n0 := 8320) (n1 := 1024) i)).trans ?_
  exact Cert.Reference4Ideal.FfnFwd.r_v21 _ _ _ _
theorem eq2 : val_main_v23 (F := Ideal) (K0 m c) (K1 m c) (K2 m c) = (dats m 0 c).arrAt 7 Cert.Kernel4Ideal.cfg0.N := by
  rw [arr7]; funext i
  refine (congrArg _ (eq_ix2 (n0 := 8320) (n1 := 2816) i)).trans ?_
  exact Cert.Reference4Ideal.FfnFwd.r_v23 _ _ _ _ _
theorem eq3 : val_main_v25 (F := Ideal) (K0 m c) (K1 m c) (K3 m c) = (dats m 0 c).arrAt 8 Cert.Kernel4Ideal.cfg0.N := by
  rw [arr8]; funext i
  refine (congrArg _ (eq_ix2 (n0 := 8320) (n1 := 2816) i)).trans ?_
  exact Cert.Reference4Ideal.FfnFwd.r_v25 _ _ _ _ _
end

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => (dats m 0 c).arrAt 5 Cert.Kernel4Ideal.cfg0.N, fun c => (dats m 0 c).arrAt 6 Cert.Kernel4Ideal.cfg0.N,
    fun c => (dats m 0 c).arrAt 7 Cert.Kernel4Ideal.cfg0.N, fun c => (dats m 0 c).arrAt 8 Cert.Kernel4Ideal.cfg0.N, ?_, ?_⟩
  · have hr := θ_run_and (run_main (F := Ideal) m g) (frame (F := Ideal) m g)
    exact (θ_run Cert.Kernel4Ideal.defs _ _).mono (fun r h c => ⟨(h.1 c).1 5, (h.1 c).1 6, (h.1 c).1 7, (h.1 c).1 8, h.2.1 c⟩) hr
  · refine (θ_run Cert.Reference4Ideal.defs _ _).mono (fun r h c => ?_) (Cert.Reference4Ideal.Value.run (F := Ideal) m' g')
    obtain ⟨a0, a1, a2, a3, a4⟩ := hagree c
    obtain ⟨h0, h1, h2, h3, hargs⟩ := h c
    refine ⟨?_, ?_, ?_, ?_, hargs⟩
    · refine h0.trans ((val_main_v20_eq _ _ _ _ _).trans ?_); rw [a0, a1, a2, a3, a4]; exact eq0
    · refine h1.trans ((val_main_v21_eq _ _).trans ?_); rw [a0, a1]; exact eq1
    · refine h2.trans ((val_main_v23_eq _ _ _).trans ?_); rw [a0, a1, a2]; exact eq2
    · refine h3.trans ((val_main_v25_eq _ _ _).trans ?_); rw [a0, a1, a3]; exact eq3

end Cert.FfnFwd

end
-- ==== Proof.Bwd.Facts.lean ====
/- Set-up of the launch of the half-step backward kernel: the branch conditions as arithmetic of the grid
   point, where an output is left alone, and the names of the staging buffers. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Which branches run at which point: `t = 2 i + f` -/

/-- First column tile of a row block. -/
abbrev cond0_0 (i : grid0.Coords) : Prop := k0_cond1 i = 1#1
theorem hcond0_0 : ∀ t : Fin cfg0.N, cond0_0 (grid0.coords t) ↔ t.val % 2 = 0 :=
  (fun t => by
    have ht : t.val < 40 := Nat.lt_of_lt_of_eq t.isLt N_0
    have e0 : (grid0.coords t 0).val = t.val / 2 % 20 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

/-- The very first point. -/
abbrev cond0_1 (i : grid0.Coords) : Prop := k0_cond2 i = 1#1
theorem hcond0_1 : ∀ t : Fin cfg0.N, cond0_1 (grid0.coords t) ↔ t.val % 40 = 0 :=
  (fun t => by
    have ht : t.val < 40 := Nat.lt_of_lt_of_eq t.isLt N_0
    have e0 : (grid0.coords t 0).val = t.val / 2 % 20 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 40 = 0)

/-- Last column tile of a row block. -/
abbrev cond0_2 (i : grid0.Coords) : Prop := k0_cond3 i = 1#1
theorem hcond0_2 : ∀ t : Fin cfg0.N, cond0_2 (grid0.coords t) ↔ t.val % 2 = 1 :=
  (fun t => by
    have ht : t.val < 40 := Nat.lt_of_lt_of_eq t.isLt N_0
    have e0 : (grid0.coords t 0).val = t.val / 2 % 20 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ t.val % 2 = 1)

/-! ## Where output windows are left alone -/

/-- The input gradient (window 8) is stored at the last column tile only. -/
theorem idle8 : ∀ t : Fin cfg0.N, cfg0.idle 8 (grid0.coords t) = (t.val % 2 == 0) := by decide +kernel
/-- The halved cotangent (window 12) is stored at the first column tile only. -/
theorem idle12 : ∀ t : Fin cfg0.N, cfg0.idle 12 (grid0.coords t) = (t.val % 2 == 1) := by decide +kernel
/-- The norm weight's gradient (window 13) is stored at the first point and at every last column tile. -/
theorem idle13 : ∀ t : Fin cfg0.N, cfg0.idle 13 (grid0.coords t) = (t.val % 2 == 0 && t.val % 40 != 0) := by decide +kernel
/-- No stored value sits in window 12's buffer before the first point and right after each write-back. -/
def freshTab12 : ℕ → Bool
  | 0 => true
  | n + 1 => n % 2 == 1
theorem freshTab12_step : ∀ t : Fin cfg0.N,
    freshTab12 (t.val + 1) = ((cfg0.win 12).flush t || (cfg0.idle 12 (cfg0.grid.coords t) && freshTab12 t.val)) := by decide +kernel
theorem fresh12 (t : Fin cfg0.N) : cfg0.fresh 12 t.val = freshTab12 t.val :=
  Pipeline.Cfg.fresh_tab cfg0 12 freshTab12 rfl freshTab12_step t.val (Nat.le_of_lt t.isLt)
/-- Window 13's buffer is filled at the first point and written back after the last. -/
def freshTab13 : ℕ → Bool
  | 0 => true
  | n + 1 => n == 39
theorem freshTab13_step : ∀ t : Fin cfg0.N,
    freshTab13 (t.val + 1) = ((cfg0.win 13).flush t || (cfg0.idle 13 (cfg0.grid.coords t) && freshTab13 t.val)) := by decide +kernel
theorem fresh13 (t : Fin cfg0.N) : cfg0.fresh 13 t.val = freshTab13 t.val :=
  Pipeline.Cfg.fresh_tab cfg0 13 freshTab13 rfl freshTab13_step t.val (Nat.le_of_lt t.isLt)

/-! ## The staging buffers as the body is handed them -/

/-- Each window's current staging memref at point `t`, spelled as the pipeline passes it (`bodyAt0`), and its wholeness. -/
abbrev ms0_0 (t : Fin cfg0.N) : Memref sig .tc .vmem S416x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S416x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S416x1408 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S416x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x352x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x352x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x352x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S416x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S416x1408 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S416x1408 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S416x1408 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S416x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S416x1024 .f32 := Memref.whole cc0_scratch0

/-- The launch's invariant: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.FfnBwd

end
-- ==== Proof.Bwd.RunA.lean ====
/- The body of the half-step backward kernel run at the first point: what its stores leave in every buffer. -/
module

public import proofs.«01_k».proof.Proof.Bwd.Facts

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores each buffer ends with at the first point, with the body's triple. -/
noncomputable def runA (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16) :
    Σ' (L8 : List (View.Piece (Elt F) S416x1024 .f32)), Σ' (L9 : List (View.Piece (Elt F) S416x1408 .bf16)), Σ' (L10 : List (View.Piece (Elt F) S416x1408 .bf16)), Σ' (L11 : List (View.Piece (Elt F) S416x1408 .bf16)), Σ' (L12 : List (View.Piece (Elt F) S416x1024 .bf16)), Σ' (L13 : List (View.Piece (Elt F) S1x1024 .f32)), { LS0 : List (View.Piece (Elt F) S416x1024 .f32) //
      ∀ (xi8 : Vec F S416x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, ?_, ?_, fun xi8 E K => ?run⟩
  case run =>
    simp only [cc0_ffn_bwd_eq_skeleton]; unfold cc0_ffn_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.FfnBwd

end
-- ==== Proof.Bwd.RunB.lean ====
/- The body of the half-step backward kernel run at a last column tile: what its stores leave in every buffer. -/
module

public import proofs.«01_k».proof.Proof.Bwd.RunA

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores each buffer ends with at a last column tile, with the body's triple. -/
noncomputable def runB (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : ¬cond0_0 i) (hc1 : ¬cond0_1 i) (hc2 : cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16) (xo12 : Vec F S416x1024 .bf16) (xo13 : Vec F S1x1024 .f32) (xs0 : Vec F S416x1024 .f32) :
    Σ' (L8 : List (View.Piece (Elt F) S416x1024 .f32)), Σ' (L9 : List (View.Piece (Elt F) S416x1408 .bf16)), Σ' (L10 : List (View.Piece (Elt F) S416x1408 .bf16)), Σ' (L11 : List (View.Piece (Elt F) S416x1408 .bf16)), Σ' (L13 : List (View.Piece (Elt F) S1x1024 .f32)), { LS0 : List (View.Piece (Elt F) S416x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo12 ∗ owns (c : Thread nD τ) arg15 fullShare xo13 ∗ owns (c : Thread nD τ) arg16 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xo12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_ffn_bwd_eq_skeleton]; unfold cc0_ffn_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hf12; obtain rfl := harg15.eq_unread hf13; obtain rfl := harg16.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]
    · iexists _; isplitr; · ipureintro; exact harg14.read_unread _
      iexact H12
    isplitl [H13]; · iexists _; iexact H13
    iexists _; iexact HS0

end Cert.KernelIdeal.FfnBwd

end
-- ==== Proof.Bwd.RunC.lean ====
/- The body of the half-step backward kernel run at a later first column tile: what its stores leave in every buffer. -/
module

public import proofs.«01_k».proof.Proof.Bwd.RunB

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores each buffer ends with at a later first column tile, with the body's triple. -/
noncomputable def runC (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : ¬cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16) :
    Σ' (L8 : List (View.Piece (Elt F) S416x1024 .f32)), Σ' (L9 : List (View.Piece (Elt F) S416x1408 .bf16)), Σ' (L10 : List (View.Piece (Elt F) S416x1408 .bf16)), Σ' (L11 : List (View.Piece (Elt F) S416x1408 .bf16)), Σ' (L12 : List (View.Piece (Elt F) S416x1024 .bf16)), Σ' (L13 : List (View.Piece (Elt F) S1x1024 .f32)), { LS0 : List (View.Piece (Elt F) S416x1024 .f32) //
      ∀ (xi8 : Vec F S416x1024 .f32) (xi13 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xi13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xi13 ∗ (∃ f, arg16.view.loc (c : Thread nD τ) ↦[arg16.view.set]{fullShare} arg16.view.writes (Elt F) f LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, [], ?_, fun xi8 xi13 E K => ?run⟩
  case run =>
    simp only [cc0_ffn_bwd_eq_skeleton]; unfold cc0_ffn_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg15.eq_unread hf13
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]
    · iexists _; isplitr; · ipureintro; exact harg15.read_unread _
      iexact H13
    iexists _; iexact HS0

end Cert.KernelIdeal.FfnBwd

end
-- ==== Proof.Bwd.LeftA.lean ====
/- What the stores of case A leave in each buffer, as the named payloads of the blocks read. -/
module

public import proofs.«01_k».proof.Proof.Bwd.RunC
public import Idealize.ShloMosaic.Lib.Pipeline.Value

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The values a point leaves, as functions of its blocks -/

/-- The gate's gradient tile, from the saved gate and up values, the halved cotangent and the down weights. -/
def dgOf (g u : Vec F S416x1408 .bf16) (d : Vec F S416x1024 .bf16) (wd : Vec F S4x352x1024 .bf16) : Vec F S416x1408 .bf16 :=
  k0_pay1 (k0_pay11 g) (k0_pay13 g) (k0_pay17 u d wd) (k0_pay18 g)
/-- The up product's gradient tile. -/
def duOf (g : Vec F S416x1408 .bf16) (d : Vec F S416x1024 .bf16) (wd : Vec F S4x352x1024 .bf16) : Vec F S416x1408 .bf16 :=
  k0_pay2 (k0_pay14 g) (k0_pay15 d wd)
/-- One column tile's contribution added to the gradient of the normalised input. -/
def dxOf (g u : Vec F S416x1408 .bf16) (d : Vec F S416x1024 .bf16) (wg wu wd : Vec F S4x352x1024 .bf16) (acc : Vec F S416x1024 .f32) : Vec F S416x1024 .f32 :=
  k0_pay3 (k0_pay11 g) (k0_pay13 g) (k0_pay14 g) (k0_pay15 d wd) (k0_pay17 u d wd) (k0_pay18 g) acc wg wu

theorem readA_9 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg11.view.loc (c : Thread nD τ))) :
    arg11.view.read (Elt F) (arg11.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.1) = dgOf x2 x3 (k0_pay9 x0) x7 := by
  rw [View.read_writes_eq_canon _ _ _ (View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.1 S416x1408.size (by sl_kernel_rfl))]
  unfold runA
  dsimp only
  sl_unfold_words
  simp only [View.canon_cons_unit_zero (S := S416x1408) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readA_10 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg12.view.loc (c : Thread nD τ))) :
    arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.1) = duOf x2 (k0_pay9 x0) x7 := by
  rw [View.read_writes_eq_canon _ _ _ (View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.1 S416x1408.size (by sl_kernel_rfl))]
  unfold runA
  dsimp only
  sl_unfold_words
  simp only [View.canon_cons_unit_zero (S := S416x1408) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readA_11 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg13.view.loc (c : Thread nD τ))) :
    arg13.view.read (Elt F) (arg13.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.1) = k0_pay16 x2 x3 := by
  rw [View.read_writes_eq_canon _ _ _ (View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.1 S416x1408.size (by sl_kernel_rfl))]
  unfold runA
  dsimp only
  sl_unfold_words
  simp only [View.canon_cons_unit_zero (S := S416x1408) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readA_12 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg14.view.loc (c : Thread nD τ))) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.1) = k0_pay9 x0 := by
  rw [View.read_writes_eq_canon _ _ _ (View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.1 S416x1024.size (by sl_kernel_rfl))]
  unfold runA
  dsimp only
  sl_unfold_words
  simp only [View.canon_cons_unit_zero (S := S416x1024) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readA_13 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg15.view.loc (c : Thread nD τ))) :
    arg15.view.read (Elt F) (arg15.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.2.1) = k0_pay10 := by
  rw [View.read_writes_eq_canon _ _ _ (View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.2.1 S1x1024.size (by sl_kernel_rfl))]
  unfold runA
  dsimp only
  sl_unfold_words
  simp only [View.canon_cons_unit_zero (S := S1x1024) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readA_s (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg16.view.loc (c : Thread nD τ))) :
    arg16.view.read (Elt F) (arg16.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.2.2.1) = dxOf x2 x3 (k0_pay9 x0) x5 x6 x7 k0_pay8 := by
  rw [View.read_writes_eq_canon _ _ _ (View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.2.2.1 S416x1024.size (by sl_kernel_rfl))]
  unfold runA
  dsimp only
  sl_unfold_words
  simp only [View.canon_cons_unit_zero (S := S416x1024) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

end Cert.KernelIdeal.FfnBwd

end
-- ==== Proof.Bwd.LeftB.lean ====
/- What the stores of case B leave in each buffer, as the named payloads of the blocks read. -/
module

public import proofs.«01_k».proof.Proof.Bwd.LeftA
public import Idealize.ShloMosaic.Lib.Pipeline.Value

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem readB_8 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : ¬cond0_0 i) (hc1 : ¬cond0_1 i) (hc2 : cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16) (xo12 : Vec F S416x1024 .bf16) (xo13 : Vec F S1x1024 .f32) (xs0 : Vec F S416x1024 .f32)
    (f : Buf (Elt F) (arg10.view.loc (c : Thread nD τ))) :
    arg10.view.read (Elt F) (arg10.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).1) = k0_pay6 x4 x1 (dxOf x2 x3 xo12 x5 x6 x7 xs0) x0 := by
  rw [View.read_writes_eq_canon _ _ _ (View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).1 S416x1024.size (by sl_kernel_rfl))]
  unfold runB
  dsimp only
  sl_unfold_words
  simp only [View.canon_cons_unit_zero (S := S416x1024) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readB_9 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : ¬cond0_0 i) (hc1 : ¬cond0_1 i) (hc2 : cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16) (xo12 : Vec F S416x1024 .bf16) (xo13 : Vec F S1x1024 .f32) (xs0 : Vec F S416x1024 .f32)
    (f : Buf (Elt F) (arg11.view.loc (c : Thread nD τ))) :
    arg11.view.read (Elt F) (arg11.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).2.1) = dgOf x2 x3 xo12 x7 := by
  rw [View.read_writes_eq_canon _ _ _ (View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).2.1 S416x1408.size (by sl_kernel_rfl))]
  unfold runB
  dsimp only
  sl_unfold_words
  simp only [View.canon_cons_unit_zero (S := S416x1408) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readB_10 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : ¬cond0_0 i) (hc1 : ¬cond0_1 i) (hc2 : cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16) (xo12 : Vec F S416x1024 .bf16) (xo13 : Vec F S1x1024 .f32) (xs0 : Vec F S416x1024 .f32)
    (f : Buf (Elt F) (arg12.view.loc (c : Thread nD τ))) :
    arg12.view.read (Elt F) (arg12.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).2.2.1) = duOf x2 xo12 x7 := by
  rw [View.read_writes_eq_canon _ _ _ (View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).2.2.1 S416x1408.size (by sl_kernel_rfl))]
  unfold runB
  dsimp only
  sl_unfold_words
  simp only [View.canon_cons_unit_zero (S := S416x1408) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readB_11 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : ¬cond0_0 i) (hc1 : ¬cond0_1 i) (hc2 : cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16) (xo12 : Vec F S416x1024 .bf16) (xo13 : Vec F S1x1024 .f32) (xs0 : Vec F S416x1024 .f32)
    (f : Buf (Elt F) (arg13.view.loc (c : Thread nD τ))) :
    arg13.view.read (Elt F) (arg13.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).2.2.2.1) = k0_pay16 x2 x3 := by
  rw [View.read_writes_eq_canon _ _ _ (View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).2.2.2.1 S416x1408.size (by sl_kernel_rfl))]
  unfold runB
  dsimp only
  sl_unfold_words
  simp only [View.canon_cons_unit_zero (S := S416x1408) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readB_13 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : ¬cond0_0 i) (hc1 : ¬cond0_1 i) (hc2 : cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16) (xo12 : Vec F S416x1024 .bf16) (xo13 : Vec F S1x1024 .f32) (xs0 : Vec F S416x1024 .f32)
    (f : Buf (Elt F) (arg15.view.loc (c : Thread nD τ))) :
    arg15.view.read (Elt F) (arg15.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).2.2.2.2.1) = k0_pay7 x1 (dxOf x2 x3 xo12 x5 x6 x7 xs0) xo13 := by
  rw [View.read_writes_eq_canon _ _ _ (View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).2.2.2.2.1 S1x1024.size (by sl_kernel_rfl))]
  unfold runB
  dsimp only
  sl_unfold_words
  simp only [View.canon_cons_unit_zero (S := S1x1024) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readB_s (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : ¬cond0_0 i) (hc1 : ¬cond0_1 i) (hc2 : cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16) (xo12 : Vec F S416x1024 .bf16) (xo13 : Vec F S1x1024 .f32) (xs0 : Vec F S416x1024 .f32)
    (f : Buf (Elt F) (arg16.view.loc (c : Thread nD τ))) :
    arg16.view.read (Elt F) (arg16.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).2.2.2.2.2.1) = dxOf x2 x3 xo12 x5 x6 x7 xs0 := by
  rw [View.read_writes_eq_canon _ _ _ (View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xo12 xo13 xs0).2.2.2.2.2.1 S416x1024.size (by sl_kernel_rfl))]
  unfold runB
  dsimp only
  sl_unfold_words
  simp only [View.canon_cons_unit_zero (S := S416x1024) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

end Cert.KernelIdeal.FfnBwd

end
-- ==== Proof.Bwd.LeftC.lean ====
/- What the stores of case C leave in each buffer, as the named payloads of the blocks read. -/
module

public import proofs.«01_k».proof.Proof.Bwd.LeftA
public import Idealize.ShloMosaic.Lib.Pipeline.Value

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem readC_9 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : ¬cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg11.view.loc (c : Thread nD τ))) :
    arg11.view.read (Elt F) (arg11.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.1) = dgOf x2 x3 (k0_pay9 x0) x7 := by
  rw [View.read_writes_eq_canon _ _ _ (View.cover_of_tiledL (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.1 S416x1408.size (by sl_kernel_rfl))]
  unfold runC
  dsimp only
  sl_unfold_words
  simp only [View.canon_cons_unit_zero (S := S416x1408) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readC_10 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : ¬cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg12.view.loc (c : Thread nD τ))) :
    arg12.view.read (Elt F) (arg12.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.1) = duOf x2 (k0_pay9 x0) x7 := by
  rw [View.read_writes_eq_canon _ _ _ (View.cover_of_tiledL (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.1 S416x1408.size (by sl_kernel_rfl))]
  unfold runC
  dsimp only
  sl_unfold_words
  simp only [View.canon_cons_unit_zero (S := S416x1408) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readC_11 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : ¬cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg13.view.loc (c : Thread nD τ))) :
    arg13.view.read (Elt F) (arg13.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.1) = k0_pay16 x2 x3 := by
  rw [View.read_writes_eq_canon _ _ _ (View.cover_of_tiledL (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.1 S416x1408.size (by sl_kernel_rfl))]
  unfold runC
  dsimp only
  sl_unfold_words
  simp only [View.canon_cons_unit_zero (S := S416x1408) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readC_12 (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : ¬cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg14.view.loc (c : Thread nD τ))) :
    arg14.view.read (Elt F) (arg14.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.1) = k0_pay9 x0 := by
  rw [View.read_writes_eq_canon _ _ _ (View.cover_of_tiledL (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.1 S416x1024.size (by sl_kernel_rfl))]
  unfold runC
  dsimp only
  sl_unfold_words
  simp only [View.canon_cons_unit_zero (S := S416x1024) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

theorem readC_s (c : Dev nD) (i : grid0.Coords) (arg2 : Memref sig .tc .vmem S416x1024 .f32) (harg2 : arg2.IsWhole) (arg3 : Memref sig .tc .vmem S416x1024 .f32) (harg3 : arg3.IsWhole) (arg4 : Memref sig .tc .vmem S416x1408 .bf16) (harg4 : arg4.IsWhole) (arg5 : Memref sig .tc .vmem S416x1408 .bf16) (harg5 : arg5.IsWhole) (arg6 : Memref sig .tc .vmem S1x1x1024 .f32) (harg6 : arg6.IsWhole) (arg7 : Memref sig .tc .vmem S4x352x1024 .bf16) (harg7 : arg7.IsWhole) (arg8 : Memref sig .tc .vmem S4x352x1024 .bf16) (harg8 : arg8.IsWhole) (arg9 : Memref sig .tc .vmem S4x352x1024 .bf16) (harg9 : arg9.IsWhole) (arg10 : Memref sig .tc .vmem S416x1024 .f32) (harg10 : arg10.IsWhole) (arg11 : Memref sig .tc .vmem S416x1408 .bf16) (harg11 : arg11.IsWhole) (arg12 : Memref sig .tc .vmem S416x1408 .bf16) (harg12 : arg12.IsWhole) (arg13 : Memref sig .tc .vmem S416x1408 .bf16) (harg13 : arg13.IsWhole) (arg14 : Memref sig .tc .vmem S416x1024 .bf16) (harg14 : arg14.IsWhole) (arg15 : Memref sig .tc .vmem S1x1024 .f32) (harg15 : arg15.IsWhole) (arg16 : Memref sig .tc .vmem S416x1024 .f32) (harg16 : arg16.IsWhole) (hc0 : cond0_0 i) (hc1 : ¬cond0_1 i) (hc2 : ¬cond0_2 i)
    (x0 : Vec F S416x1024 .f32) (x1 : Vec F S416x1024 .f32) (x2 : Vec F S416x1408 .bf16) (x3 : Vec F S416x1408 .bf16) (x4 : Vec F S1x1x1024 .f32) (x5 : Vec F S4x352x1024 .bf16) (x6 : Vec F S4x352x1024 .bf16) (x7 : Vec F S4x352x1024 .bf16)
    (f : Buf (Elt F) (arg16.view.loc (c : Thread nD τ))) :
    arg16.view.read (Elt F) (arg16.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.2.2.1) = dxOf x2 x3 (k0_pay9 x0) x5 x6 x7 k0_pay8 := by
  rw [View.read_writes_eq_canon _ _ _ (View.cover_of_tiledL (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7).2.2.2.2.2.2.1 S416x1024.size (by sl_kernel_rfl))]
  unfold runC
  dsimp only
  sl_unfold_words
  simp only [View.canon_cons_unit_zero (S := S416x1024) hz2, View.readCov_unit_zero (S := S416x1024) _ hz2, View.readCov_unit_zero (S := S1x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S416x1024) hz2, View.ld_unit_zero (S := S416x1408) hz2, View.ld_unit_zero (S := S1x1024) hz2, View.ld_unit_zero (S := S4x352x1024) hz3, View.ld_unit_zero (S := S1x1x1024) hz3, dgOf, duOf, dxOf]

end Cert.KernelIdeal.FfnBwd

end
-- ==== Proof.Bwd.Data.lean ====
/- The proof data of the half-step backward kernel: what every buffer holds after each grid point, as one
   function of the point and of the blocks read. -/
module

public import proofs.«01_k».proof.Proof.Bwd.LeftA
public import proofs.«01_k».proof.Proof.Bwd.LeftB
public import proofs.«01_k».proof.Proof.Bwd.LeftC

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N40 : cfg0.N = 40 := N_0

/-- Point number `n` of the grid, total in `n`. -/
def pt (n : ℕ) : Fin cfg0.N := ⟨n % 40, lt_of_lt_of_eq (Nat.mod_lt _ (by decide)) N_0.symm⟩
theorem pt_val (t : Fin cfg0.N) : pt t.val = t :=
  Fin.ext (Nat.mod_eq_of_lt (lt_of_lt_of_eq t.isLt N_0))

/-! ## What every buffer holds after each point -/

/-- The halved cotangent of a row block: stored at its first column tile, kept at the second. -/
def dobAt (c : Dev nD) (n : ℕ) : Vec F S416x1024 .bf16 := k0_pay9 (iblk m c 0 (pt (2 * (n / 2))))
/-- One column tile's step of the scratch. -/
def stepAt (c : Dev nD) (n : ℕ) (acc : Vec F S416x1024 .f32) : Vec F S416x1024 .f32 :=
  dxOf (iblk m c 2 (pt n)) (iblk m c 3 (pt n)) (dobAt m c n) (iblk m c 5 (pt n)) (iblk m c 6 (pt n)) (iblk m c 7 (pt n)) acc
/-- The scratch: zero plus the first tile's step, then the second's. -/
def dxnAt (c : Dev nD) (n : ℕ) : Vec F S416x1024 .f32 :=
  if n % 2 = 0 then stepAt m c n k0_pay8 else stepAt m c n (stepAt m c (n - 1) k0_pay8)
/-- The norm weight's gradient after `k` row blocks. -/
def gamAt (c : Dev nD) : ℕ → Vec F S1x1024 .f32
  | 0 => k0_pay10
  | k + 1 => k0_pay7 (iblk m c 1 (pt (2 * k + 1))) (dxnAt m c (2 * k + 1)) (gamAt c k)
/-- The input gradient's block, at a last column tile. -/
def dhiAt (c : Dev nD) (n : ℕ) : Vec F S416x1024 .f32 :=
  k0_pay6 (iblk m c 4 (pt n)) (iblk m c 1 (pt n)) (dxnAt m c n) (iblk m c 0 (pt n))
def dgAt (c : Dev nD) (n : ℕ) : Vec F S416x1408 .bf16 :=
  dgOf (iblk m c 2 (pt n)) (iblk m c 3 (pt n)) (dobAt m c n) (iblk m c 7 (pt n))
def duAt (c : Dev nD) (n : ℕ) : Vec F S416x1408 .bf16 :=
  duOf (iblk m c 2 (pt n)) (dobAt m c n) (iblk m c 7 (pt n))
def actAt (c : Dev nD) (n : ℕ) : Vec F S416x1408 .bf16 := k0_pay16 (iblk m c 2 (pt n)) (iblk m c 3 (pt n))

theorem dobAt_odd (c : Dev nD) {n : ℕ} (h : n % 2 = 1) : dobAt m c n = dobAt m c (n - 1) := by
  unfold dobAt; rw [show n / 2 = (n - 1) / 2 by omega]
theorem dobAt_even (c : Dev nD) {n : ℕ} (h : n % 2 = 0) : dobAt m c n = k0_pay9 (iblk m c 0 (pt n)) := by
  unfold dobAt; rw [show 2 * (n / 2) = n by omega]
theorem dxnAt_even (c : Dev nD) {n : ℕ} (h : n % 2 = 0) : dxnAt m c n = stepAt m c n k0_pay8 := if_pos h
theorem dxnAt_odd (c : Dev nD) {n : ℕ} (h : n % 2 = 1) : dxnAt m c n = stepAt m c n (dxnAt m c (n - 1)) := by
  rw [dxnAt_even m c (show (n - 1) % 2 = 0 by omega)]; exact if_neg (by omega)

/-- The invariant: before the first point the launch's; afterwards the scratch at what the point before left. -/
def PhiS (c : Dev nD) : ℕ → sProp 𝕄
  | 0 => Pipeline.ΦA spec0 c
  | n + 1 => iprop(iprop(owns (c : Thread nD τ) scM0_0 fullShare (dxnAt m c n)) ∗ (∃ r, prngReg c r))
theorem PhiS_pos (c : Dev nD) (n : ℕ) (h : n ≠ 0) :
    PhiS m c n = iprop(iprop(owns (c : Thread nD τ) scM0_0 fullShare (dxnAt m c (n - 1))) ∗ (∃ r, prngReg c r)) := by
  cases n with
  | zero => exact absurd rfl h
  | succ n => rfl
/-- Whatever the point, the invariant gives the scratch at some contents. -/
theorem PhiS_any (c : Dev nD) (n : ℕ) : PhiS m c n ⊢ iprop(iprop((∃ d, owns (c : Thread nD τ) scM0_0 fullShare d)) ∗ (∃ r, prngReg c r)) := by
  cases n with
  | zero => rw [show PhiS m c 0 = Pipeline.ΦA spec0 c from rfl, PhiA0_eq]
  | succ n =>
    unfold PhiS
    iintro ⟨HS0, Hg⟩
    isplitl [HS0]
    · iexists _; iexact HS0
    iexact Hg

/-- The pipeline's proof data: each input's buffer at its block, each output's at the value above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dhiAt m c t.val
    | ⟨9, _⟩ => dgAt m c t.val
    | ⟨10, _⟩ => duAt m c t.val
    | ⟨11, _⟩ => actAt m c t.val
    | ⟨12, _⟩ => dobAt m c t.val
    | ⟨13, _⟩ => gamAt m c ((t.val + 1) / 2)
  Φ t := PhiS m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dhiAt m c t.val := by dsimp only [dats]
theorem after0_9 (c : Dev nD) (t : Fin cfg0.N) : (dats m 0 c).after 9 t = dgAt m c t.val := by dsimp only [dats]
theorem after0_10 (c : Dev nD) (t : Fin cfg0.N) : (dats m 0 c).after 10 t = duAt m c t.val := by dsimp only [dats]
theorem after0_11 (c : Dev nD) (t : Fin cfg0.N) : (dats m 0 c).after 11 t = actAt m c t.val := by dsimp only [dats]
theorem after0_12 (c : Dev nD) (t : Fin cfg0.N) : (dats m 0 c).after 12 t = dobAt m c t.val := by dsimp only [dats]
theorem after0_13 (c : Dev nD) (t : Fin cfg0.N) : (dats m 0 c).after 13 t = gamAt m c ((t.val + 1) / 2) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a last column tile the halved cotangent's buffer still holds what the first tile stored. -/
theorem before0_12 (c : Dev nD) (t : Fin cfg0.N) (h : t.val % 2 = 1) (d) :
    (dats m 0 c).before 12 t d = dobAt m c t.val := by
  rw [Dat.before_out_traj _ 12 rfl (fun _ _ => rfl) (fun t _ hi _ => by
      rw [idle12 t] at hi
      have h1 : t.val % 2 = 1 := by simpa using hi
      rw [after0_12, after0_12]; exact dobAt_odd m c h1) t.val t rfl d,
    if_neg (by
      rw [fresh12 t]; obtain ⟨n, hn⟩ := t
      cases n with
      | zero => exact absurd (show 0 % 2 = 1 from h) (by decide)
      | succ n => dsimp only at h ⊢; simp [freshTab12]; omega)]
  rw [after0_12]; exact (dobAt_odd m c h).symm

/-- After the first point the norm weight's gradient buffer holds the sum so far. -/
theorem before0_13 (c : Dev nD) (t : Fin cfg0.N) (h : t.val ≠ 0) (d) :
    (dats m 0 c).before 13 t d = gamAt m c (t.val / 2) := by
  have hN : t.val < 40 := lt_of_lt_of_eq t.isLt N_0
  rw [Dat.before_out_traj _ 13 rfl (fun _ _ => rfl) (fun t _ hi _ => by
      rw [idle13 t] at hi
      have h1 : t.val % 2 = 0 := by simp at hi; exact hi.1
      have hp : t.val ≠ 0 := by assumption
      rw [after0_13, after0_13]
      show gamAt m c ((t.val + 1) / 2) = gamAt m c ((t.val - 1 + 1) / 2)
      rw [show (t.val + 1) / 2 = (t.val - 1 + 1) / 2 by omega]) t.val t rfl d,
    if_neg (by
      rw [fresh13 t]; obtain ⟨n, hn⟩ := t
      cases n with
      | zero => exact absurd rfl h
      | succ n => dsimp only at h hN ⊢; simp [freshTab13]; omega)]
  rw [after0_13]
  show gamAt m c ((t.val - 1 + 1) / 2) = _
  rw [show (t.val - 1 + 1) / 2 = t.val / 2 by omega]

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

end Cert.KernelIdeal.FfnBwd

end
-- ==== Proof.Bwd.SoundA.lean ====
/- The body obligation of the half-step backward kernel, case A. -/
module

public import proofs.«01_k».proof.Proof.Bwd.Data

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (c : Dev nD) (t : Fin cfg0.N) (h0 : t.val % 2 = 0) (h1 : t.val % 40 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = iprop(iprop(owns (c : Thread nD τ) scM0_0 fullShare (dxnAt m c t.val)) ∗ (∃ r, prngReg c r)) from rfl]
  have hN : t.val < 40 := lt_of_lt_of_eq t.isLt N_0
  rw [show (dats m 0 c).leavesExact 0 t = owns (c : Thread nD τ) (ms0_0 t) fullShare ((dats m 0 c).after 0 t) from by
      unfold Dat.leavesExact; rw [show cfg0.idle 0 (cfg0.grid.coords t) = false from rfl], after0_0]
  rw [show (dats m 0 c).leavesExact 1 t = owns (c : Thread nD τ) (ms0_1 t) fullShare ((dats m 0 c).after 1 t) from by
      unfold Dat.leavesExact; rw [show cfg0.idle 1 (cfg0.grid.coords t) = false from rfl], after0_1]
  rw [show (dats m 0 c).leavesExact 2 t = owns (c : Thread nD τ) (ms0_2 t) fullShare ((dats m 0 c).after 2 t) from by
      unfold Dat.leavesExact; rw [show cfg0.idle 2 (cfg0.grid.coords t) = false from rfl], after0_2]
  rw [show (dats m 0 c).leavesExact 3 t = owns (c : Thread nD τ) (ms0_3 t) fullShare ((dats m 0 c).after 3 t) from by
      unfold Dat.leavesExact; rw [show cfg0.idle 3 (cfg0.grid.coords t) = false from rfl], after0_3]
  rw [show (dats m 0 c).leavesExact 4 t = owns (c : Thread nD τ) (ms0_4 t) fullShare ((dats m 0 c).after 4 t) from by
      unfold Dat.leavesExact; rw [show cfg0.idle 4 (cfg0.grid.coords t) = false from rfl], after0_4]
  rw [show (dats m 0 c).leavesExact 5 t = owns (c : Thread nD τ) (ms0_5 t) fullShare ((dats m 0 c).after 5 t) from by
      unfold Dat.leavesExact; rw [show cfg0.idle 5 (cfg0.grid.coords t) = false from rfl], after0_5]
  rw [show (dats m 0 c).leavesExact 6 t = owns (c : Thread nD τ) (ms0_6 t) fullShare ((dats m 0 c).after 6 t) from by
      unfold Dat.leavesExact; rw [show cfg0.idle 6 (cfg0.grid.coords t) = false from rfl], after0_6]
  rw [show (dats m 0 c).leavesExact 7 t = owns (c : Thread nD τ) (ms0_7 t) fullShare ((dats m 0 c).after 7 t) from by
      unfold Dat.leavesExact; rw [show cfg0.idle 7 (cfg0.grid.coords t) = false from rfl], after0_7]
  rw [Dat.leavesExact_idle (dats m 0 c) 8 t ((idle8 t).trans (by simp [h0])) (Bool.eq_false_iff.mpr fun h => by have := (flush0_8 t).mp h; omega)]
  rw [show (dats m 0 c).leavesExact 9 t = owns (c : Thread nD τ) (ms0_9 t) fullShare ((dats m 0 c).after 9 t) from by
      unfold Dat.leavesExact; rw [show cfg0.idle 9 (cfg0.grid.coords t) = false from rfl], after0_9]
  rw [show (dats m 0 c).leavesExact 10 t = owns (c : Thread nD τ) (ms0_10 t) fullShare ((dats m 0 c).after 10 t) from by
      unfold Dat.leavesExact; rw [show cfg0.idle 10 (cfg0.grid.coords t) = false from rfl], after0_10]
  rw [show (dats m 0 c).leavesExact 11 t = owns (c : Thread nD τ) (ms0_11 t) fullShare ((dats m 0 c).after 11 t) from by
      unfold Dat.leavesExact; rw [show cfg0.idle 11 (cfg0.grid.coords t) = false from rfl], after0_11]
  rw [show (dats m 0 c).leavesExact 12 t = owns (c : Thread nD τ) (ms0_12 t) fullShare ((dats m 0 c).after 12 t) from by
      unfold Dat.leavesExact; rw [show cfg0.idle 12 (cfg0.grid.coords t) = false from (idle12 t).trans (by simp [h0])], after0_12]
  rw [show (dats m 0 c).leavesExact 13 t = owns (c : Thread nD τ) (ms0_13 t) fullShare ((dats m 0 c).after 13 t) from by
      unfold Dat.leavesExact; rw [show cfg0.idle 13 (cfg0.grid.coords t) = false from (idle13 t).trans (by simp [h1])], after0_13]
  rw [show (dats m 0 c).Φ t.castSucc = PhiS m c t.val from rfl]
  have hp : pt t.val = t := pt_val t
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HΦ := (PhiS_any m c t.val) $$ HΦ
  icases HΦ with ⟨HS0, Hg⟩
  iapply ((runA c (grid0.coords t) _ _ _ _ _ _ _ _ _ _ _ _ _ _ _ _ _ _ _ _ _ _ _ _ _ _ _ _ _ _ ((hcond0_0 t).mpr h0) ((hcond0_1 t).mpr h1) (fun h => by have := (hcond0_2 t).mp h; omega) (iblk m c 0 t) (iblk m c 1 t) (iblk m c 2 t) (iblk m c 3 t) (iblk m c 4 t) (iblk m c 5 t) (iblk m c 6 t) (iblk m c 7 t)).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  iintro ⟨H0, H1, H2, H3, H4, H5, H6, H7, H8, ⟨%e9, H9⟩, ⟨%e10, H10⟩, ⟨%e11, H11⟩, ⟨%e12, H12⟩, ⟨%e13, H13⟩, ⟨%es0, HS0⟩⟩
  isplitl [HS0 Hg]
  · isplitl [HS0]
    · unfold owns; iexists _; isplitr
      swap; · iexact HS0
      ipureintro; refine (readA_s c _ _ _ _ _ _ _ _ _ _ _ _ _ _ _ _ _ _ _ _ _ _ _ _ _ _ _ _ _ _ _ _ _ _ _ _ _ _ _ _ _ _ _).trans ?_
      rw [dxnAt_even m c h0, stepAt, dobAt_even m c h0, hp]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]
  · unfold owns; iexists _; isplitr
    swap; · iexact H9
    ipureintro; refine (readA_9 c _ _ _ _ _ _ _ _ _ _ _ _ _ _ _ _ _ _ _ _ _ _ _ _ _ _ _ _ _ _ _ _ _ _ _ _ _ _ _ _ _ _ _).trans ?_
    rw [dgAt, dobAt_even m c h0, hp]
  isplitl [H10]
  · unfold owns; iexists _; isplitr
    swap; · iexact H10
    ipureintro; refine (readA_10 c _ _ _ _ _ _ _ _ _ _ _ _ _ _ _ _ _ _ _ _ _ _ _ _ _ _ _ _ _ _ _ _ _ _ _ _ _ _ _ _ _ _ _).trans ?_
    rw [duAt, dobAt_even m c h0, hp]
  isplitl [H11]
  · unfold owns; iexists _; isplitr
    swap; · iexact H11
    ipureintro; refine (readA_11 c _ _ _ _ _ _ _ _ _ _ _ _ _ _ _ _ _ _ _ _ _ _ _ _ _ _ _ _ _ _ _ _ _ _ _ _ _ _ _ _ _ _ _).trans ?_
    rw [actAt, hp]
  isplitl [H12]
  · unfold owns; iexists _; isplitr
    swap; · iexact H12
    ipureintro; refine (readA_12 c _ _ _ _ _ _ _ _ _ _ _ _ _ _ _ _ _ _ _ _ _ _ _ _ _ _ _ _ _ _ _ _ _ _ _ _ _ _ _ _ _ _ _).trans ?_
    rw [dobAt_even m c h0, hp]
  · unfold owns; iexists _; isplitr
    swap; · iexact H13
    ipureintro; refine (readA_13 c _ _ _ _ _ _ _ _ _ _ _ _ _ _ _ _ _ _ _ _ _ _ _ _ _ _ _ _ _ _ _ _ _ _ _ _ _ _ _ _ _ _ _).trans ?_
    rw [show (t.val + 1) / 2 = 0 by omega, gamAt]

end Cert.KernelIdeal.FfnBwd

end
-- ==== Proof.Bwd.SoundB.lean ====
/- The body obligation of the half-step backward kernel, case B. -/
module

public import proofs.«01_k».proof.Proof.Bwd.Data

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (c : Dev nD) (t : Fin cfg0.N) (h0 : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = iprop(iprop(owns (c : Thread nD τ) scM0_0 fullShare (dxnAt m c t.val)) ∗ (∃ r, prngReg c r)) from rfl]
  have hN : t.val < 40 := lt_of_lt_of_eq t.isLt N_0
  rw [show (dats m 0 c).leavesExact 0 t = owns (c : Thread nD τ) (ms0_0 t) fullShare ((dats m 0 c).after 0 t) from by
      unfold Dat.leavesExact; rw [show cfg0.idle 0 (cfg0.grid.coords t) = false from rfl], after0_0]
  rw [show (dats m 0 c).leavesExact 1 t = owns (c : Thread nD τ) (ms0_1 t) fullShare ((dats m 0 c).after 1 t) from by
      unfold Dat.leavesExact; rw [show cfg0.idle 1 (cfg0.grid.coords t) = false from rfl], after0_1]
  rw [show (dats m 0 c).leavesExact 2 t = owns (c : Thread nD τ) (ms0_2 t) fullShare ((dats m 0 c).after 2 t) from by
      unfold Dat.leavesExact; rw [show cfg0.idle 2 (cfg0.grid.coords t) = false from rfl], after0_2]
  rw [show (dats m 0 c).leavesExact 3 t = owns (c : Thread nD τ) (ms0_3 t) fullShare ((dats m 0 c).after 3 t) from by
      unfold Dat.leavesExact; rw [show cfg0.idle 3 (cfg0.grid.coords t) = false from rfl], after0_3]
  rw [show (dats m 0 c).leavesExact 4 t = owns (c : Thread nD τ) (ms0_4 t) fullShare ((dats m 0 c).after 4 t) from by
      unfold Dat.leavesExact; rw [show cfg0.idle 4 (cfg0.grid.coords t) = false from rfl], after0_4]
  rw [show (dats m 0 c).leavesExact 5 t = owns (c : Thread nD τ) (ms0_5 t) fullShare ((dats m 0 c).after 5 t) from by
      unfold Dat.leavesExact; rw [show cfg0.idle 5 (cfg0.grid.coords t) = false from rfl], after0_5]
  rw [show (dats m 0 c).leavesExact 6 t = owns (c : Thread nD τ) (ms0_6 t) fullShare ((dats m 0 c).after 6 t) from by
      unfold Dat.leavesExact; rw [show cfg0.idle 6 (cfg0.grid.coords t) = false from rfl], after0_6]
  rw [show (dats m 0 c).leavesExact 7 t = owns (c : Thread nD τ) (ms0_7 t) fullShare ((dats m 0 c).after 7 t) from by
      unfold Dat.leavesExact; rw [show cfg0.idle 7 (cfg0.grid.coords t) = false from rfl], after0_7]
  rw [show (dats m 0 c).leavesExact 8 t = owns (c : Thread nD τ) (ms0_8 t) fullShare ((dats m 0 c).after 8 t) from by
      unfold Dat.leavesExact; rw [show cfg0.idle 8 (cfg0.grid.coords t) = false from (idle8 t).trans (by simp [h0])], after0_8]
  rw [show (dats m 0 c).leavesExact 9 t = owns (c : Thread nD τ) (ms0_9 t) fullShare ((dats m 0 c).after 9 t) from by
      unfold Dat.leavesExact; rw [show cfg0.idle 9 (cfg0.grid.coords t) = false from rfl], after0_9]
  rw [show (dats m 0 c).leavesExact 10 t = owns (c : Thread nD τ) (ms0_10 t) fullShare ((dats m 0 c).after 10 t) from by
      unfold Dat.leavesExact; rw [show cfg0.idle 10 (cfg0.grid.coords t) = false from rfl], after0_10]
  rw [show (dats m 0 c).leavesExact 11 t = owns (c : Thread nD τ) (ms0_11 t) fullShare ((dats m 0 c).after 11 t) from by
      unfold Dat.leavesExact; rw [show cfg0.idle 11 (cfg0.grid.coords t) = false from rfl], after0_11]
  rw [show (dats m 0 c).leavesExact 12 t = owns (c : Thread nD τ) (ms0_12 t) fullShare ((dats m 0 c).after 12 t) from by
      unfold Dat.leavesExact; rw [show cfg0.idle 12 (cfg0.grid.coords t) = true from (idle12 t).trans (by simp [h0]), show (cfg0.win 12).flush t = true from (flush0_12 t).mpr h0], after0_12]
  rw [show (dats m 0 c).leavesExact 13 t = owns (c : Thread nD τ) (ms0_13 t) fullShare ((dats m 0 c).after 13 t) from by
      unfold Dat.leavesExact; rw [show cfg0.idle 13 (cfg0.grid.coords t) = false from (idle13 t).trans (by simp [h0])], after0_13]
  rw [show (dats m 0 c).Φ t.castSucc = PhiS m c t.val from rfl, PhiS_pos m c t.val (by omega)]
  simp only [before0_12 m c t h0, before0_13 m c t (by omega)]
  have hp : pt t.val = t := pt_val t
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB c (grid0.coords t) _ _ _ _ _ _ _ _ _ _ _ _ _ _ _ _ _ _ _ _ _ _ _ _ _ _ _ _ _ _ (fun h => by have := (hcond0_0 t).mp h; omega) (fun h => by have := (hcond0_1 t).mp h; omega) ((hcond0_2 t).mpr h0) (iblk m c 0 t) (iblk m c 1 t) (iblk m c 2 t) (iblk m c 3 t) (iblk m c 4 t) (iblk m c 5 t) (iblk m c 6 t) (iblk m c 7 t) _ _ _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexact H12
  isplitl [H13]; · iexact H13
  isplitl [HS0]; · iexact HS0
  iintro ⟨H0, H1, H2, H3, H4, H5, H6, H7, ⟨%e8, H8⟩, ⟨%e9, H9⟩, ⟨%e10, H10⟩, ⟨%e11, H11⟩, H12, ⟨%e13, H13⟩, ⟨%es0, HS0⟩⟩
  isplitl [HS0 Hg]
  · isplitl [HS0]
    · unfold owns; iexists _; isplitr
      swap; · iexact HS0
      ipureintro; refine (readB_s c _ _ _ _ _ _ _ _ _ _ _ _ _ _ _ _ _ _ _ _ _ _ _ _ _ _ _ _ _ _ _ _ _ _ _ _ _ _ _ _ _ _ _ _ _ _).trans ?_
      rw [dxnAt_odd m c h0, stepAt, hp]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; refine (readB_8 c _ _ _ _ _ _ _ _ _ _ _ _ _ _ _ _ _ _ _ _ _ _ _ _ _ _ _ _ _ _ _ _ _ _ _ _ _ _ _ _ _ _ _ _ _ _).trans ?_
    rw [dhiAt, dxnAt_odd m c h0, stepAt, hp]
  isplitl [H9]
  · unfold owns; iexists _; isplitr
    swap; · iexact H9
    ipureintro; refine (readB_9 c _ _ _ _ _ _ _ _ _ _ _ _ _ _ _ _ _ _ _ _ _ _ _ _ _ _ _ _ _ _ _ _ _ _ _ _ _ _ _ _ _ _ _ _ _ _).trans ?_
    rw [dgAt, hp]
  isplitl [H10]
  · unfold owns; iexists _; isplitr
    swap; · iexact H10
    ipureintro; refine (readB_10 c _ _ _ _ _ _ _ _ _ _ _ _ _ _ _ _ _ _ _ _ _ _ _ _ _ _ _ _ _ _ _ _ _ _ _ _ _ _ _ _ _ _ _ _ _ _).trans ?_
    rw [duAt, hp]
  isplitl [H11]
  · unfold owns; iexists _; isplitr
    swap; · iexact H11
    ipureintro; refine (readB_11 c _ _ _ _ _ _ _ _ _ _ _ _ _ _ _ _ _ _ _ _ _ _ _ _ _ _ _ _ _ _ _ _ _ _ _ _ _ _ _ _ _ _ _ _ _ _).trans ?_
    rw [actAt, hp]
  isplitl [H12]; · iexact H12
  · unfold owns; iexists _; isplitr
    swap; · iexact H13
    ipureintro; refine (readB_13 c _ _ _ _ _ _ _ _ _ _ _ _ _ _ _ _ _ _ _ _ _ _ _ _ _ _ _ _ _ _ _ _ _ _ _ _ _ _ _ _ _ _ _ _ _ _).trans ?_
    rw [show (t.val + 1) / 2 = t.val / 2 + 1 by omega, gamAt, show 2 * (t.val / 2) + 1 = t.val by omega, dxnAt_odd m c h0, stepAt, hp]

end Cert.KernelIdeal.FfnBwd

end
-- ==== Proof.Bwd.SoundC.lean ====
/- The body obligation of the half-step backward kernel, case C. -/
module

public import proofs.«01_k».proof.Proof.Bwd.Data

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_C (c : Dev nD) (t : Fin cfg0.N) (h0 : t.val % 2 = 0) (h1 : ¬t.val % 40 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = iprop(iprop(owns (c : Thread nD τ) scM0_0 fullShare (dxnAt m c t.val)) ∗ (∃ r, prngReg c r)) from rfl]
  have hN : t.val < 40 := lt_of_lt_of_eq t.isLt N_0
  rw [show (dats m 0 c).leavesExact 0 t = owns (c : Thread nD τ) (ms0_0 t) fullShare ((dats m 0 c).after 0 t) from by
      unfold Dat.leavesExact; rw [show cfg0.idle 0 (cfg0.grid.coords t) = false from rfl], after0_0]
  rw [show (dats m 0 c).leavesExact 1 t = owns (c : Thread nD τ) (ms0_1 t) fullShare ((dats m 0 c).after 1 t) from by
      unfold Dat.leavesExact; rw [show cfg0.idle 1 (cfg0.grid.coords t) = false from rfl], after0_1]
  rw [show (dats m 0 c).leavesExact 2 t = owns (c : Thread nD τ) (ms0_2 t) fullShare ((dats m 0 c).after 2 t) from by
      unfold Dat.leavesExact; rw [show cfg0.idle 2 (cfg0.grid.coords t) = false from rfl], after0_2]
  rw [show (dats m 0 c).leavesExact 3 t = owns (c : Thread nD τ) (ms0_3 t) fullShare ((dats m 0 c).after 3 t) from by
      unfold Dat.leavesExact; rw [show cfg0.idle 3 (cfg0.grid.coords t) = false from rfl], after0_3]
  rw [show (dats m 0 c).leavesExact 4 t = owns (c : Thread nD τ) (ms0_4 t) fullShare ((dats m 0 c).after 4 t) from by
      unfold Dat.leavesExact; rw [show cfg0.idle 4 (cfg0.grid.coords t) = false from rfl], after0_4]
  rw [show (dats m 0 c).leavesExact 5 t = owns (c : Thread nD τ) (ms0_5 t) fullShare ((dats m 0 c).after 5 t) from by
      unfold Dat.leavesExact; rw [show cfg0.idle 5 (cfg0.grid.coords t) = false from rfl], after0_5]
  rw [show (dats m 0 c).leavesExact 6 t = owns (c : Thread nD τ) (ms0_6 t) fullShare ((dats m 0 c).after 6 t) from by
      unfold Dat.leavesExact; rw [show cfg0.idle 6 (cfg0.grid.coords t) = false from rfl], after0_6]
  rw [show (dats m 0 c).leavesExact 7 t = owns (c : Thread nD τ) (ms0_7 t) fullShare ((dats m 0 c).after 7 t) from by
      unfold Dat.leavesExact; rw [show cfg0.idle 7 (cfg0.grid.coords t) = false from rfl], after0_7]
  rw [Dat.leavesExact_idle (dats m 0 c) 8 t ((idle8 t).trans (by simp [h0])) (Bool.eq_false_iff.mpr fun h => by have := (flush0_8 t).mp h; omega)]
  rw [show (dats m 0 c).leavesExact 9 t = owns (c : Thread nD τ) (ms0_9 t) fullShare ((dats m 0 c).after 9 t) from by
      unfold Dat.leavesExact; rw [show cfg0.idle 9 (cfg0.grid.coords t) = false from rfl], after0_9]
  rw [show (dats m 0 c).leavesExact 10 t = owns (c : Thread nD τ) (ms0_10 t) fullShare ((dats m 0 c).after 10 t) from by
      unfold Dat.leavesExact; rw [show cfg0.idle 10 (cfg0.grid.coords t) = false from rfl], after0_10]
  rw [show (dats m 0 c).leavesExact 11 t = owns (c : Thread nD τ) (ms0_11 t) fullShare ((dats m 0 c).after 11 t) from by
      unfold Dat.leavesExact; rw [show cfg0.idle 11 (cfg0.grid.coords t) = false from rfl], after0_11]
  rw [show (dats m 0 c).leavesExact 12 t = owns (c : Thread nD τ) (ms0_12 t) fullShare ((dats m 0 c).after 12 t) from by
      unfold Dat.leavesExact; rw [show cfg0.idle 12 (cfg0.grid.coords t) = false from (idle12 t).trans (by simp [h0])], after0_12]
  rw [Dat.leavesExact_idle (dats m 0 c) 13 t ((idle13 t).trans (by simp [h0, h1])) (Bool.eq_false_iff.mpr fun h => by have := (flush0_13 t).mp h; omega)]
  rw [show (dats m 0 c).Φ t.castSucc = PhiS m c t.val from rfl]
  have hp : pt t.val = t := pt_val t
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HΦ := (PhiS_any m c t.val) $$ HΦ
  icases HΦ with ⟨HS0, Hg⟩
  iapply ((runC c (grid0.coords t) _ _ _ _ _ _ _ _ _ _ _ _ _ _ _ _ _ _ _ _ _ _ _ _ _ _ _ _ _ _ ((hcond0_0 t).mpr h0) (fun h => h1 ((hcond0_1 t).mp h)) (fun h => by have := (hcond0_2 t).mp h; omega) (iblk m c 0 t) (iblk m c 1 t) (iblk m c 2 t) (iblk m c 3 t) (iblk m c 4 t) (iblk m c 5 t) (iblk m c 6 t) (iblk m c 7 t)).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexact H13
  isplitl [HS0]; · iexact HS0
  iintro ⟨H0, H1, H2, H3, H4, H5, H6, H7, H8, ⟨%e9, H9⟩, ⟨%e10, H10⟩, ⟨%e11, H11⟩, ⟨%e12, H12⟩, H13, ⟨%es0, HS0⟩⟩
  isplitl [HS0 Hg]
  · isplitl [HS0]
    · unfold owns; iexists _; isplitr
      swap; · iexact HS0
      ipureintro; refine (readC_s c _ _ _ _ _ _ _ _ _ _ _ _ _ _ _ _ _ _ _ _ _ _ _ _ _ _ _ _ _ _ _ _ _ _ _ _ _ _ _ _ _ _ _).trans ?_
      rw [dxnAt_even m c h0, stepAt, dobAt_even m c h0, hp]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]
  · unfold owns; iexists _; isplitr
    swap; · iexact H9
    ipureintro; refine (readC_9 c _ _ _ _ _ _ _ _ _ _ _ _ _ _ _ _ _ _ _ _ _ _ _ _ _ _ _ _ _ _ _ _ _ _ _ _ _ _ _ _ _ _ _).trans ?_
    rw [dgAt, dobAt_even m c h0, hp]
  isplitl [H10]
  · unfold owns; iexists _; isplitr
    swap; · iexact H10
    ipureintro; refine (readC_10 c _ _ _ _ _ _ _ _ _ _ _ _ _ _ _ _ _ _ _ _ _ _ _ _ _ _ _ _ _ _ _ _ _ _ _ _ _ _ _ _ _ _ _).trans ?_
    rw [duAt, dobAt_even m c h0, hp]
  isplitl [H11]
  · unfold owns; iexists _; isplitr
    swap; · iexact H11
    ipureintro; refine (readC_11 c _ _ _ _ _ _ _ _ _ _ _ _ _ _ _ _ _ _ _ _ _ _ _ _ _ _ _ _ _ _ _ _ _ _ _ _ _ _ _ _ _ _ _).trans ?_
    rw [actAt, hp]
  isplitl [H12]
  · unfold owns; iexists _; isplitr
    swap; · iexact H12
    ipureintro; refine (readC_12 c _ _ _ _ _ _ _ _ _ _ _ _ _ _ _ _ _ _ _ _ _ _ _ _ _ _ _ _ _ _ _ _ _ _ _ _ _ _ _ _ _ _ _).trans ?_
    rw [dobAt_even m c h0, hp]
  · iexists _; iexact H13

end Cert.KernelIdeal.FfnBwd

end
-- ==== Proof.Bwd.Frame.lean ====
/- The launch of the half-step backward kernel: every run ends with the arrays the proof data names. -/
module

public import proofs.«01_k».proof.Proof.Bwd.SoundA
public import proofs.«01_k».proof.Proof.Bwd.SoundB
public import proofs.«01_k».proof.Proof.Bwd.SoundC
public import Idealize.ShloMosaic.Lib.Claim

@[expose] public section

set_option maxRecDepth 16384

noncomputable section

namespace Cert.KernelIdeal.FfnBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 2 = 0
  · by_cases h1 : t.val % 40 = 0
    · exact sound_A m c t h0 h1
    · exact sound_C m c t h0 h1
  · exact sound_B m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := by
  rw [PhiA0_eq]; exact PhiS_any m c cfg0.N

/-! ## The launch -/

set_option backward.isDefEq.respectTransparency.types false in
/-- Every execution ends with the arrays at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.FfnBwd

end
-- ==== Proof.Bwd.KernelFrame.lean ====
/- The frame of the half-step backward program at the bit-exact floats. The idealization rewrote nothing, so the two printed
   programs are one text; here they are shown equal, and the run proved for `KernelIdeal` over any float values is read at
   the bit-exact ones. -/
module

public import proofs.«01_k».proof.Defs
public import proofs.«01_k».proof.Proof.Gen.Kernel
public import proofs.«01_k».proof.Proof.Bwd.Frame
public import Idealize.ShloMosaic.Adequacy
public import Idealize.ShloMosaic.Init

@[expose] public section

noncomputable section

namespace Cert.Proof.FfnBwd

open Idealize.ShloMosaic Idealize.SL.Sem

set_option maxHeartbeats 4000000 in
theorem body_same : @Cert.Kernel.cc0_ffn_bwd Bits _ _ = @Cert.KernelIdeal.cc0_ffn_bwd Bits _ _ := rfl

set_option maxHeartbeats 4000000 in
theorem table_same : @Cert.Kernel.defs₀ Bits _ _ = @Cert.KernelIdeal.defs₀ Bits _ _ := by
  unfold Cert.Kernel.defs₀ Cert.KernelIdeal.defs₀
  congr 1
  funext l x
  match l, x with
  | ⟨0, _⟩, ⟨t, s⟩ =>
    dsimp only
    rw [body_same]
    rfl

theorem defs_same : @Cert.Kernel.defs Bits _ _ = @Cert.KernelIdeal.defs Bits _ _ := by
  unfold Cert.Kernel.defs Cert.KernelIdeal.defs
  rw [table_same]
  try rfl

set_option maxHeartbeats 4000000 in
theorem main_same : @Cert.Kernel.main Bits _ _ = @Cert.KernelIdeal.main Bits _ _ := by
  unfold Cert.Kernel.main Cert.KernelIdeal.main
  rfl

/-- The frame of `Kernel`. -/
theorem frame_kernel : Cert.quiescent_Kernel (hKernel := Cert.Kernel.Gen.facts) := by
  intro m ρ _
  rw [defs_same, main_same]
  exact Cert.KernelIdeal.FfnBwd.frame (F := Bits) m ρ

end Cert.Proof.FfnBwd

end

end
-- ==== Proof.Bwd.Payload.lean ====
/- What the body computes, at an index. -/
module

public import proofs.«01_k».proof.Proof.Bwd.Spec
public import proofs.«01_k».proof.Proof.Bwd.LeftA
public import Idealize.ShloMosaic.Lib.Pipeline.Value
public import Idealize.ShloMosaic.Lib.ValueIdx
public import Idealize.ShloMosaic.Lib.ValueLayout
public import Idealize.ShloMosaic.Lib.IdealHost

@[expose] public section

set_option maxRecDepth 16384

noncomputable section

namespace Cert.KernelIdeal.FfnBwd

open Cert.KernelIdeal.Gen
open Idealize.ShloMosaic Idealize.ShloMosaic.TcCoe Idealize.ShloMosaic.ValueIdx

theorem zeroW : (Scalar.ofBits .f32 0x00000000#32 : Ideal .f32) = (0 : EReal) := Ideal.ofBits_zero_f32
theorem oneW : (Scalar.ofBits .f32 0x3F800000#32 : Ideal .f32) = (1 : EReal) := Idealize.ShloMosaic.Ideal.ofBits_one_f32

/-- The owner and the owner's row of a tile's column. -/
def tOwn (j : Fin 1408) : Fin 4 := ⟨j.val / 352, by have := j.isLt; omega⟩
def tRow (j : Fin 1408) : Fin 352 := ⟨j.val % 352, by omega⟩

/-- Four owners' rows laid one under the other. -/
theorem rows_apply (x : FVec Ideal S4x352x1024 .bf16) (j : Fin 1408) (k : Fin 1024) :
    (shapeCast S1408x1024 (shapeCast S4x352x1024 x shapeCasts_S4x352x1024_S4x352x1024) shapeCasts_S4x352x1024_S1408x1024) (ix2 j k)
      = x (ix3 (tOwn j) (tRow j) k) := by
  rw [shapeCast_self]
  exact shapeCast_apply _ _ _ (ix3 (tOwn j) (tRow j) k) (by
    rewrite [Shape.rowMajor_val_two, Shape.rowMajor_val_three]
    show (j.val / 352 * 352 + j.val % 352) * 1024 + k.val = j.val * 1024 + k.val
    rw [Nat.div_add_mod'])

/-- A column of one broadcast over a row. -/
theorem bcol_apply (x : FVec Ideal S416x1 .f32) (i : Fin 416) (k : Fin 1024) :
    broadcastTo S416x1024 x broadcasts_S416x1_S416x1024 (ix2 i k) = x (ix2 i (0 : Fin 1)) :=
  broadcastTo_apply x broadcasts_S416x1_S416x1024 (ix2 i k) (ix2 i (0 : Fin 1)) fun ax => by
    match ax with
    | ⟨0, _⟩ => rfl
    | ⟨1, _⟩ => rfl

/-- A row's sum as a column of one. -/
theorem rowsum_apply (x : FVec Ideal S416x1024 .f32) (i : Fin 416) (u : Fin 1) :
    (shapeCast S416x1 (multiReduction .add [1] S416 x 0x00000000#32 reduces_S416x1024_S416 (.inl rfl) rfl) shapeCasts_S416_S416x1 : FVec Ideal S416x1 .f32) (ix2 i u)
      = ∑ k : Fin 1024, x (ix2 i k) := by
  refine (shapeCast_apply _ _ _ (ix1 i) (by
    rewrite [Shape.rowMajor_val_two, Shape.rowMajor_val_one]
    have := u.isLt
    show i.val = i.val * 1 + u.val; omega)).trans ?_
  refine (Ideal.multiReduction_add_single x 0x00000000#32 reduces_S416x1024_S416 (.inl rfl) rfl (ix1 i)).trans ?_
  exact Finset.sum_congr rfl fun k _ => congrArg x (funext fun a => Fin.ext (by match a with | ⟨0, _⟩ => rfl | ⟨1, _⟩ => rfl))

/-- A column's sum as a row. -/
theorem colsum_apply (x : FVec Ideal S416x1024 .f32) (u : Fin 1) (k : Fin 1024) :
    (shapeCast S1x1024 (multiReduction .add [0] S1024 x 0x00000000#32 reduces_S416x1024_S1024 (.inl rfl) rfl) shapeCasts_S1024_S1x1024 : FVec Ideal S1x1024 .f32) (ix2 u k)
      = ∑ i : Fin 416, x (ix2 i k) := by
  refine (shapeCast_apply _ _ _ (ix1 k) (by
    rewrite [Shape.rowMajor_val_two, Shape.rowMajor_val_one]
    have := u.isLt
    show k.val = u.val * 1024 + k.val; omega)).trans ?_
  refine (Ideal.multiReduction_add_single x 0x00000000#32 reduces_S416x1024_S1024 (.inl rfl) rfl (ix1 k)).trans ?_
  exact Finset.sum_congr rfl fun i _ => congrArg x (funext fun a => Fin.ext (by match a with | ⟨0, _⟩ => rfl | ⟨1, _⟩ => rfl))

/-! ## The two products -/

/-- The product with a transposed tile: rows of the left operand against rows of the tile. -/
theorem dotNT_apply (x : FVec Ideal S416x1024 .bf16) (y : FVec Ideal S1408x1024 .bf16) (i : Fin 416) (j : Fin 1408) :
    (matmul dot_S416x1024_S1408x1024_S416x1408_1_1_0_0_n_n none x y (constant S416x1408 .f32 0x00000000#32) : FVec Ideal S416x1408 .f32) (ix2 i j)
      = ∑ k : Fin 1024, x (ix2 i k) * y (ix2 j k) := by
  refine (Ideal.matmul_constant_zero_apply _ none _ _ _).trans ?_
  rw [← Equiv.sum_comp (contrEquiv1 dot_S416x1024_S1408x1024_S416x1408_1_1_0_0_n_n 1024 rfl rfl).symm]
  refine Finset.sum_congr rfl fun k _ => ?_
  have hk := contrEquiv1_symm_val dot_S416x1024_S1408x1024_S416x1408_1_1_0_0_n_n 1024 rfl rfl k
  congr 1
  · refine congrArg x (funext fun a => Fin.ext ?_)
    match a with
    | ⟨0, _⟩ => exact (by
        unfold DotDims.lhsIdx
        rw [dif_neg (show ¬(0 : Fin S416x1024.rank) ∈ dot_S416x1024_S1408x1024_S416x1408_1_1_0_0_n_n.lhsBatch by decide), dif_pos (show (0 : Fin S416x1024.rank) ∈ dot_S416x1024_S1408x1024_S416x1408_1_1_0_0_n_n.lhsNonContracting by decide)]
        rfl : (dot_S416x1024_S1408x1024_S416x1408_1_1_0_0_n_n.lhsIdx (ix2 i j) _ 0).val = i.val)
    | ⟨1, _⟩ => exact (dot_S416x1024_S1408x1024_S416x1408_1_1_0_0_n_n.lhsIdx_val_of_single rfl _ _).trans hk
  · refine congrArg y (funext fun a => Fin.ext ?_)
    match a with
    | ⟨0, _⟩ => exact (by
        unfold DotDims.rhsIdx
        rw [dif_neg (show ¬(0 : Fin S1408x1024.rank) ∈ dot_S416x1024_S1408x1024_S416x1408_1_1_0_0_n_n.rhsBatch by decide), dif_pos (show (0 : Fin S1408x1024.rank) ∈ dot_S416x1024_S1408x1024_S416x1408_1_1_0_0_n_n.rhsNonContracting by decide)]
        rfl : (dot_S416x1024_S1408x1024_S416x1408_1_1_0_0_n_n.rhsIdx (ix2 i j) _ 0).val = j.val)
    | ⟨1, _⟩ => exact (dot_S416x1024_S1408x1024_S416x1408_1_1_0_0_n_n.rhsIdx_val_of_single rfl _ _).trans hk

/-- The product with a tile. -/
theorem dotNN_apply (x : FVec Ideal S416x1408 .bf16) (y : FVec Ideal S1408x1024 .bf16) (i : Fin 416) (k : Fin 1024) :
    (matmul dot_S416x1408_S1408x1024_S416x1024_1_0_0_1_n_n none x y (constant S416x1024 .f32 0x00000000#32) : FVec Ideal S416x1024 .f32) (ix2 i k)
      = ∑ j : Fin 1408, x (ix2 i j) * y (ix2 j k) := by
  refine (Ideal.matmul_constant_zero_apply _ none _ _ _).trans ?_
  rw [← Equiv.sum_comp (contrEquiv1 dot_S416x1408_S1408x1024_S416x1024_1_0_0_1_n_n 1408 rfl rfl).symm]
  refine Finset.sum_congr rfl fun j _ => ?_
  have hk := contrEquiv1_symm_val dot_S416x1408_S1408x1024_S416x1024_1_0_0_1_n_n 1408 rfl rfl j
  congr 1
  · refine congrArg x (funext fun a => Fin.ext ?_)
    match a with
    | ⟨0, _⟩ => exact (by
        unfold DotDims.lhsIdx
        rw [dif_neg (show ¬(0 : Fin S416x1408.rank) ∈ dot_S416x1408_S1408x1024_S416x1024_1_0_0_1_n_n.lhsBatch by decide), dif_pos (show (0 : Fin S416x1408.rank) ∈ dot_S416x1408_S1408x1024_S416x1024_1_0_0_1_n_n.lhsNonContracting by decide)]
        rfl : (dot_S416x1408_S1408x1024_S416x1024_1_0_0_1_n_n.lhsIdx (ix2 i k) _ 0).val = i.val)
    | ⟨1, _⟩ => exact (dot_S416x1408_S1408x1024_S416x1024_1_0_0_1_n_n.lhsIdx_val_of_single rfl _ _).trans hk
  · refine congrArg y (funext fun a => Fin.ext ?_)
    match a with
    | ⟨0, _⟩ => exact (dot_S416x1408_S1408x1024_S416x1024_1_0_0_1_n_n.rhsIdx_val_of_single rfl _ _).trans hk
    | ⟨1, _⟩ => exact (by
        unfold DotDims.rhsIdx
        rw [dif_neg (show ¬(1 : Fin S1408x1024.rank) ∈ dot_S416x1408_S1408x1024_S416x1024_1_0_0_1_n_n.rhsBatch by decide), dif_pos (show (1 : Fin S1408x1024.rank) ∈ dot_S416x1408_S1408x1024_S416x1024_1_0_0_1_n_n.rhsNonContracting by decide)]
        rfl : (dot_S416x1408_S1408x1024_S416x1024_1_0_0_1_n_n.rhsIdx (ix2 i k) _ 1).val = k.val)

/-! ## The gate -/

section
variable (g u : FVec Ideal S416x1408 .bf16) (d : FVec Ideal S416x1024 .bf16) (wg wu wd : FVec Ideal S4x352x1024 .bf16)

theorem pay11_apply (x : S416x1408.Idx) : k0_pay11 (F := Ideal) g x = g x := by
  unfold k0_pay11; rw [shapeCast_self]; rfl
theorem pay12_apply (x : S416x1408.Idx) : k0_pay12 (F := Ideal) u x = u x := by
  unfold k0_pay12; rw [shapeCast_self]; rfl
theorem pay13_apply (x : S416x1408.Idx) : k0_pay13 (F := Ideal) g x = Cert.FfnSpec.sg (g x) := by
  show Ideal.div (Scalar.ofBits .f32 0x3F800000#32 : Ideal .f32) ((Scalar.ofBits .f32 0x3F800000#32 : Ideal .f32)
    + Ideal.exp ((Scalar.ofBits .f32 0x00000000#32 : Ideal .f32) - k0_pay11 (F := Ideal) g x)) = _
  rw [pay11_apply, zeroW, oneW, zero_sub]; rfl
theorem pay14_apply (x : S416x1408.Idx) : k0_pay14 (F := Ideal) g x = g x * Cert.FfnSpec.sg (g x) := by
  show k0_pay11 (F := Ideal) g x * k0_pay13 (F := Ideal) g x = _
  rw [pay11_apply, pay13_apply]
theorem pay16_apply (x : S416x1408.Idx) : k0_pay16 (F := Ideal) g u x = g x * Cert.FfnSpec.sg (g x) * u x := by
  show k0_pay14 (F := Ideal) g x * k0_pay12 (F := Ideal) u x = _
  rw [pay14_apply, pay12_apply]
theorem pay18_apply (x : S416x1408.Idx) : k0_pay18 (F := Ideal) g x = 1 - Cert.FfnSpec.sg (g x) := by
  show (Scalar.ofBits .f32 0x3F800000#32 : Ideal .f32) - k0_pay13 (F := Ideal) g x = _
  rw [pay13_apply, oneW]

/-- The activation's cotangent in a tile. -/
def daT (i : Fin 416) (j : Fin 1408) : EReal := ∑ k : Fin 1024, d (ix2 i k) * wd (ix3 (tOwn j) (tRow j) k)

theorem pay15_apply (i : Fin 416) (j : Fin 1408) : k0_pay15 (F := Ideal) d wd (ix2 i j) = daT d wd i j := by
  unfold k0_pay15 daT
  refine (dotNT_apply _ _ _ _).trans (Finset.sum_congr rfl fun k _ => ?_)
  rw [rows_apply, shapeCast_self]
theorem pay17_apply (i : Fin 416) (j : Fin 1408) : k0_pay17 (F := Ideal) u d wd (ix2 i j) = daT d wd i j * u (ix2 i j) := by
  show k0_pay15 (F := Ideal) d wd (ix2 i j) * k0_pay12 (F := Ideal) u (ix2 i j) = _
  rw [pay15_apply, pay12_apply]

theorem dgOf_apply (i : Fin 416) (j : Fin 1408) : dgOf (F := Ideal) g u d wd (ix2 i j)
    = (daT d wd i j * u (ix2 i j)) * (Cert.FfnSpec.sg (g (ix2 i j)) * (1 + g (ix2 i j) * (1 - Cert.FfnSpec.sg (g (ix2 i j))))) := by
  show k0_pay17 (F := Ideal) u d wd (ix2 i j) * (k0_pay13 (F := Ideal) g (ix2 i j) * ((Scalar.ofBits .f32 0x3F800000#32 : Ideal .f32)
    + k0_pay11 (F := Ideal) g (ix2 i j) * k0_pay18 (F := Ideal) g (ix2 i j))) = _
  rw [pay17_apply, pay13_apply, pay11_apply, pay18_apply, oneW]
theorem duOf_apply (i : Fin 416) (j : Fin 1408) : duOf (F := Ideal) g d wd (ix2 i j)
    = g (ix2 i j) * Cert.FfnSpec.sg (g (ix2 i j)) * daT d wd i j := by
  show k0_pay15 (F := Ideal) d wd (ix2 i j) * k0_pay14 (F := Ideal) g (ix2 i j) = _
  rw [pay15_apply, pay14_apply]; exact mul_comm _ _

theorem dxOf_apply (acc : FVec Ideal S416x1024 .f32) (i : Fin 416) (k : Fin 1024) : dxOf (F := Ideal) g u d wg wu wd acc (ix2 i k)
    = acc (ix2 i k) + (∑ j : Fin 1408, dgOf (F := Ideal) g u d wd (ix2 i j) * wg (ix3 (tOwn j) (tRow j) k)
        + ∑ j : Fin 1408, duOf (F := Ideal) g d wd (ix2 i j) * wu (ix3 (tOwn j) (tRow j) k)) := by
  unfold dxOf k0_pay3
  rw [shapeCast_self]
  refine congrArg (acc (ix2 i k) + ·) (congrArg₂ (· + ·) ?_ ?_)
  · refine (dotNN_apply _ _ _ _).trans (Finset.sum_congr rfl fun j _ => ?_)
    rw [rows_apply]; rfl
  · refine (dotNN_apply _ _ _ _).trans (Finset.sum_congr rfl fun j _ => ?_)
    rw [rows_apply]; rfl

theorem pay8_apply (x : S416x1024.Idx) : k0_pay8 (F := Ideal) x = 0 := by
  unfold k0_pay8; rw [shapeCast_self]; exact zeroW
theorem pay10_apply (x : S1x1024.Idx) : k0_pay10 (F := Ideal) x = 0 := zeroW
end

/-! ## The norm -/

section
variable (h : FVec Ideal S416x1024 .f32)
/-- A block's rows as a function of two indices. -/
abbrev blk2 (x : FVec Ideal S416x1024 .f32) (i : Fin 416) (k : Fin 1024) : EReal := x (ix2 i k)

theorem pay4_apply (i : Fin 416) (u : Fin 1) : k0_pay4 (F := Ideal) h (ix2 i u) = Cert.FfnSpec.rr (blk2 h) i := by
  unfold k0_pay4
  refine congrArg Ideal.rsqrt ?_
  refine congrArg (· + Cert.FfnSpec.cEps) ?_
  exact congrArg (Ideal.div · Cert.FfnSpec.cK) (rowsum_apply _ _ _)
theorem pay5_apply (i : Fin 416) (k : Fin 1024) : k0_pay5 (F := Ideal) h (ix2 i k) = Cert.FfnSpec.xh (blk2 h) i k := by
  unfold k0_pay5
  refine congrArg (h (ix2 i k) * ·) ?_
  rw [bcol_apply, pay4_apply]
theorem pay6_apply (gam : FVec Ideal S1x1x1024 .f32) (dxn dh : FVec Ideal S416x1024 .f32) (i : Fin 416) (k : Fin 1024) :
    k0_pay6 (F := Ideal) gam h dxn dh (ix2 i k)
      = dh (ix2 i k) + Cert.FfnSpec.rr (blk2 h) i * (dxn (ix2 i k) * gam (ix3 (0 : Fin 1) (0 : Fin 1) k)
          - Cert.FfnSpec.xh (blk2 h) i k * Ideal.div (∑ j : Fin 1024, dxn (ix2 i j) * gam (ix3 (0 : Fin 1) (0 : Fin 1) j) * Cert.FfnSpec.xh (blk2 h) i j) Cert.FfnSpec.cK) := by
  have eg : ∀ (i : Fin 416) (k : Fin 1024), broadcastTo S416x1024 (shapeCast S1x1024 gam shapeCasts_S1x1x1024_S1x1024) broadcasts_S1x1024_S416x1024 (ix2 i k)
      = gam (ix3 (0 : Fin 1) (0 : Fin 1) k) := fun i k => by
    refine (broadcastTo_1b_ab_apply _ _ _ _).trans ?_
    exact shapeCast_1ab_ab_apply _ _ _ _
  unfold k0_pay6
  refine congrArg (dh (ix2 i k) + ·) (congrArg₂ (· * ·) ?_ (congrArg₂ (· - ·) ?_ (congrArg₂ (· * ·) ?_ ?_)))
  · rw [bcol_apply, pay4_apply]
  · exact congrArg (dxn (ix2 i k) * ·) (eg i k)
  · exact pay5_apply h i k
  · rw [bcol_apply]
    refine congrArg (Ideal.div · Cert.FfnSpec.cK) ((rowsum_apply _ _ _).trans (Finset.sum_congr rfl fun j _ => ?_))
    exact congrArg₂ (· * ·) (congrArg (dxn (ix2 i j) * ·) (eg i j)) (pay5_apply h i j)
theorem pay7_apply (dxn : FVec Ideal S416x1024 .f32) (acc : FVec Ideal S1x1024 .f32) (u : Fin 1) (k : Fin 1024) :
    k0_pay7 (F := Ideal) h dxn acc (ix2 u k) = acc (ix2 u k) + ∑ i : Fin 416, Cert.FfnSpec.xh (blk2 h) i k * dxn (ix2 i k) := by
  unfold k0_pay7
  rw [shapeCast_self]
  refine congrArg (acc (ix2 u k) + ·) ((colsum_apply _ _ _).trans (Finset.sum_congr rfl fun i _ => ?_))
  refine (congrArg (dxn (ix2 i k) * ·) (pay5_apply h i k)).trans (mul_comm _ _)
theorem pay9_apply (x : S416x1024.Idx) : k0_pay9 (F := Ideal) h x = Cert.FfnSpec.cHalf * h x := rfl
end

end Cert.KernelIdeal.FfnBwd

end
-- ==== Proof.Bwd.Blocks.lean ====
/- Where each window's block sits in its array, and the blocks read at an index. -/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.KernelIdeal.FfnBwd

open Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window cellOf)

variable {F : FTy → Type} [FloatOps F]
variable (m : (ℓ : Loc nD τ sig) → Buf (Elt F) ℓ)

/-- The array's row of a block's row: row blocks of 416, two points each. -/
def rowOf (t : Fin cfg0.N) (i : Fin 416) : Fin 8320 :=
  ⟨416 * (t.val / 2) + i.val, by have := lt_of_lt_of_eq t.isLt N_0; have := i.isLt; omega⟩
/-- The array's column of a block's column: two column tiles of 1408. -/
def colOf (t : Fin cfg0.N) (j : Fin 1408) : Fin 2816 :=
  ⟨1408 * (t.val % 2) + j.val, by have := j.isLt; omega⟩

theorem index0 : ∀ t : Fin cfg0.N, win0_0.index t (0 : Fin 2) = t.val / 2 ∧ win0_0.index t (1 : Fin 2) = 0 := by decide +kernel
theorem emb0 (t : Fin cfg0.N) (i : Fin 416) (k : Fin 1024) :
    ((cfg0.win 0).blk t).view.emb (ix2 i k) = ix2 (rowOf t i) k := by
  obtain ⟨e0, e1⟩ := index0 t
  funext a; apply Fin.ext
  match a with
  | ⟨0, _⟩ => show win0_0.index t (0 : Fin 2) * 416 + 1 * i.val = 416 * (t.val / 2) + i.val; rw [e0]; omega
  | ⟨1, _⟩ => show win0_0.index t (1 : Fin 2) * 1024 + 1 * k.val = k.val; rw [e1]; omega
theorem index1 : ∀ t : Fin cfg0.N, win0_1.index t (0 : Fin 2) = t.val / 2 ∧ win0_1.index t (1 : Fin 2) = 0 := by decide +kernel
theorem emb1 (t : Fin cfg0.N) (i : Fin 416) (k : Fin 1024) :
    ((cfg0.win 1).blk t).view.emb (ix2 i k) = ix2 (rowOf t i) k := by
  obtain ⟨e0, e1⟩ := index1 t
  funext a; apply Fin.ext
  match a with
  | ⟨0, _⟩ => show win0_1.index t (0 : Fin 2) * 416 + 1 * i.val = 416 * (t.val / 2) + i.val; rw [e0]; omega
  | ⟨1, _⟩ => show win0_1.index t (1 : Fin 2) * 1024 + 1 * k.val = k.val; rw [e1]; omega
theorem index8 : ∀ t : Fin cfg0.N, win0_8.index t (0 : Fin 2) = t.val / 2 ∧ win0_8.index t (1 : Fin 2) = 0 := by decide +kernel
theorem emb8 (t : Fin cfg0.N) (i : Fin 416) (k : Fin 1024) :
    ((cfg0.win 8).blk t).view.emb (ix2 i k) = ix2 (rowOf t i) k := by
  obtain ⟨e0, e1⟩ := index8 t
  funext a; apply Fin.ext
  match a with
  | ⟨0, _⟩ => show win0_8.index t (0 : Fin 2) * 416 + 1 * i.val = 416 * (t.val / 2) + i.val; rw [e0]; omega
  | ⟨1, _⟩ => show win0_8.index t (1 : Fin 2) * 1024 + 1 * k.val = k.val; rw [e1]; omega
theorem index12 : ∀ t : Fin cfg0.N, win0_12.index t (0 : Fin 2) = t.val / 2 ∧ win0_12.index t (1 : Fin 2) = 0 := by decide +kernel
theorem emb12 (t : Fin cfg0.N) (i : Fin 416) (k : Fin 1024) :
    ((cfg0.win 12).blk t).view.emb (ix2 i k) = ix2 (rowOf t i) k := by
  obtain ⟨e0, e1⟩ := index12 t
  funext a; apply Fin.ext
  match a with
  | ⟨0, _⟩ => show win0_12.index t (0 : Fin 2) * 416 + 1 * i.val = 416 * (t.val / 2) + i.val; rw [e0]; omega
  | ⟨1, _⟩ => show win0_12.index t (1 : Fin 2) * 1024 + 1 * k.val = k.val; rw [e1]; omega
theorem index2 : ∀ t : Fin cfg0.N, win0_2.index t (0 : Fin 2) = t.val / 2 ∧ win0_2.index t (1 : Fin 2) = t.val % 2 := by decide +kernel
theorem emb2 (t : Fin cfg0.N) (i : Fin 416) (j : Fin 1408) :
    ((cfg0.win 2).blk t).view.emb (ix2 i j) = ix2 (rowOf t i) (colOf t j) := by
  obtain ⟨e0, e1⟩ := index2 t
  funext a; apply Fin.ext
  match a with
  | ⟨0, _⟩ => show win0_2.index t (0 : Fin 2) * 416 + 1 * i.val = 416 * (t.val / 2) + i.val; rw [e0]; omega
  | ⟨1, _⟩ => show win0_2.index t (1 : Fin 2) * 1408 + 1 * j.val = 1408 * (t.val % 2) + j.val; rw [e1]; omega
theorem index3 : ∀ t : Fin cfg0.N, win0_3.index t (0 : Fin 2) = t.val / 2 ∧ win0_3.index t (1 : Fin 2) = t.val % 2 := by decide +kernel
theorem emb3 (t : Fin cfg0.N) (i : Fin 416) (j : Fin 1408) :
    ((cfg0.win 3).blk t).view.emb (ix2 i j) = ix2 (rowOf t i) (colOf t j) := by
  obtain ⟨e0, e1⟩ := index3 t
  funext a; apply Fin.ext
  match a with
  | ⟨0, _⟩ => show win0_3.index t (0 : Fin 2) * 416 + 1 * i.val = 416 * (t.val / 2) + i.val; rw [e0]; omega
  | ⟨1, _⟩ => show win0_3.index t (1 : Fin 2) * 1408 + 1 * j.val = 1408 * (t.val % 2) + j.val; rw [e1]; omega
theorem index9 : ∀ t : Fin cfg0.N, win0_9.index t (0 : Fin 2) = t.val / 2 ∧ win0_9.index t (1 : Fin 2) = t.val % 2 := by decide +kernel
theorem emb9 (t : Fin cfg0.N) (i : Fin 416) (j : Fin 1408) :
    ((cfg0.win 9).blk t).view.emb (ix2 i j) = ix2 (rowOf t i) (colOf t j) := by
  obtain ⟨e0, e1⟩ := index9 t
  funext a; apply Fin.ext
  match a with
  | ⟨0, _⟩ => show win0_9.index t (0 : Fin 2) * 416 + 1 * i.val = 416 * (t.val / 2) + i.val; rw [e0]; omega
  | ⟨1, _⟩ => show win0_9.index t (1 : Fin 2) * 1408 + 1 * j.val = 1408 * (t.val % 2) + j.val; rw [e1]; omega
theorem index10 : ∀ t : Fin cfg0.N, win0_10.index t (0 : Fin 2) = t.val / 2 ∧ win0_10.index t (1 : Fin 2) = t.val % 2 := by decide +kernel
theorem emb10 (t : Fin cfg0.N) (i : Fin 416) (j : Fin 1408) :
    ((cfg0.win 10).blk t).view.emb (ix2 i j) = ix2 (rowOf t i) (colOf t j) := by
  obtain ⟨e0, e1⟩ := index10 t
  funext a; apply Fin.ext
  match a with
  | ⟨0, _⟩ => show win0_10.index t (0 : Fin 2) * 416 + 1 * i.val = 416 * (t.val / 2) + i.val; rw [e0]; omega
  | ⟨1, _⟩ => show win0_10.index t (1 : Fin 2) * 1408 + 1 * j.val = 1408 * (t.val % 2) + j.val; rw [e1]; omega
theorem index11 : ∀ t : Fin cfg0.N, win0_11.index t (0 : Fin 2) = t.val / 2 ∧ win0_11.index t (1 : Fin 2) = t.val % 2 := by decide +kernel
theorem emb11 (t : Fin cfg0.N) (i : Fin 416) (j : Fin 1408) :
    ((cfg0.win 11).blk t).view.emb (ix2 i j) = ix2 (rowOf t i) (colOf t j) := by
  obtain ⟨e0, e1⟩ := index11 t
  funext a; apply Fin.ext
  match a with
  | ⟨0, _⟩ => show win0_11.index t (0 : Fin 2) * 416 + 1 * i.val = 416 * (t.val / 2) + i.val; rw [e0]; omega
  | ⟨1, _⟩ => show win0_11.index t (1 : Fin 2) * 1408 + 1 * j.val = 1408 * (t.val % 2) + j.val; rw [e1]; omega
theorem index4 : ∀ t : Fin cfg0.N, win0_4.index t (0 : Fin 3) = 0 ∧ win0_4.index t (1 : Fin 3) = 0 ∧ win0_4.index t (2 : Fin 3) = 0 := by decide +kernel
theorem emb4 (t : Fin cfg0.N) (i j : Fin 1) (k : Fin 1024) : ((cfg0.win 4).blk t).view.emb (ix3 i j k) = ix3 i j k := by
  obtain ⟨e0, e1, e2⟩ := index4 t
  funext a; apply Fin.ext
  match a with
  | ⟨0, _⟩ => show win0_4.index t (0 : Fin 3) * 1 + 1 * i.val = i.val; rw [e0]; omega
  | ⟨1, _⟩ => show win0_4.index t (1 : Fin 3) * 1 + 1 * j.val = j.val; rw [e1]; omega
  | ⟨2, _⟩ => show win0_4.index t (2 : Fin 3) * 1024 + 1 * k.val = k.val; rw [e2]; omega
theorem index13 : ∀ t : Fin cfg0.N, win0_13.index t (0 : Fin 2) = 0 ∧ win0_13.index t (1 : Fin 2) = 0 := by decide +kernel
theorem emb13 (t : Fin cfg0.N) (i : Fin 1) (k : Fin 1024) : ((cfg0.win 13).blk t).view.emb (ix2 i k) = ix2 i k := by
  obtain ⟨e0, e1⟩ := index13 t
  funext a; apply Fin.ext
  match a with
  | ⟨0, _⟩ => show win0_13.index t (0 : Fin 2) * 1 + 1 * i.val = i.val; rw [e0]; omega
  | ⟨1, _⟩ => show win0_13.index t (1 : Fin 2) * 1024 + 1 * k.val = k.val; rw [e1]; omega

/-- The owner of a column tile's part of the gathered weights. -/
def ownOf (t : Fin cfg0.N) (a : Fin 4) : Fin 8 := ⟨4 * (t.val % 2) + a.val, by have := a.isLt; omega⟩
theorem index5 : ∀ t : Fin cfg0.N, win0_5.index t (0 : Fin 3) = t.val % 2 ∧ win0_5.index t (1 : Fin 3) = 0 ∧ win0_5.index t (2 : Fin 3) = 0 := by decide +kernel
theorem emb5 (t : Fin cfg0.N) (a : Fin 4) (r : Fin 352) (k : Fin 1024) :
    ((cfg0.win 5).blk t).view.emb (ix3 a r k) = ix3 (ownOf t a) (⟨352 * 0 + r.val, by have := r.isLt; omega⟩ : Fin 1056) k := by
  obtain ⟨e0, e1, e2⟩ := index5 t
  funext x; apply Fin.ext
  match x with
  | ⟨0, _⟩ => show win0_5.index t (0 : Fin 3) * 4 + 1 * a.val = 4 * (t.val % 2) + a.val; rw [e0]; omega
  | ⟨1, _⟩ => show win0_5.index t (1 : Fin 3) * 352 + 1 * r.val = 352 * 0 + r.val; rw [e1]; omega
  | ⟨2, _⟩ => show win0_5.index t (2 : Fin 3) * 1024 + 1 * k.val = k.val; rw [e2]; omega
theorem index6 : ∀ t : Fin cfg0.N, win0_6.index t (0 : Fin 3) = t.val % 2 ∧ win0_6.index t (1 : Fin 3) = 1 ∧ win0_6.index t (2 : Fin 3) = 0 := by decide +kernel
theorem emb6 (t : Fin cfg0.N) (a : Fin 4) (r : Fin 352) (k : Fin 1024) :
    ((cfg0.win 6).blk t).view.emb (ix3 a r k) = ix3 (ownOf t a) (⟨352 * 1 + r.val, by have := r.isLt; omega⟩ : Fin 1056) k := by
  obtain ⟨e0, e1, e2⟩ := index6 t
  funext x; apply Fin.ext
  match x with
  | ⟨0, _⟩ => show win0_6.index t (0 : Fin 3) * 4 + 1 * a.val = 4 * (t.val % 2) + a.val; rw [e0]; omega
  | ⟨1, _⟩ => show win0_6.index t (1 : Fin 3) * 352 + 1 * r.val = 352 * 1 + r.val; rw [e1]; omega
  | ⟨2, _⟩ => show win0_6.index t (2 : Fin 3) * 1024 + 1 * k.val = k.val; rw [e2]; omega
theorem index7 : ∀ t : Fin cfg0.N, win0_7.index t (0 : Fin 3) = t.val % 2 ∧ win0_7.index t (1 : Fin 3) = 2 ∧ win0_7.index t (2 : Fin 3) = 0 := by decide +kernel
theorem emb7 (t : Fin cfg0.N) (a : Fin 4) (r : Fin 352) (k : Fin 1024) :
    ((cfg0.win 7).blk t).view.emb (ix3 a r k) = ix3 (ownOf t a) (⟨352 * 2 + r.val, by have := r.isLt; omega⟩ : Fin 1056) k := by
  obtain ⟨e0, e1, e2⟩ := index7 t
  funext x; apply Fin.ext
  match x with
  | ⟨0, _⟩ => show win0_7.index t (0 : Fin 3) * 4 + 1 * a.val = 4 * (t.val % 2) + a.val; rw [e0]; omega
  | ⟨1, _⟩ => show win0_7.index t (1 : Fin 3) * 352 + 1 * r.val = 352 * 2 + r.val; rw [e1]; omega
  | ⟨2, _⟩ => show win0_7.index t (2 : Fin 3) * 1024 + 1 * k.val = k.val; rw [e2]; omega

/-! ## The blocks read at an index -/

theorem iblk0_apply (c : Dev nD) (t : Fin cfg0.N) (i : Fin 416) (k : Fin 1024) :
    iblk m c 0 t (ix2 i k) = m ((c : Thread nD τ).loc main_arg0) (ix2 (rowOf t i) k) := by
  show V m c main_arg0 (((cfg0.win 0).blk t).view.emb (ix2 i k)) = _
  rw [emb0, V_main_arg0]
theorem iblk1_apply (c : Dev nD) (t : Fin cfg0.N) (i : Fin 416) (k : Fin 1024) :
    iblk m c 1 t (ix2 i k) = m ((c : Thread nD τ).loc main_arg1) (ix2 (rowOf t i) k) := by
  show V m c main_arg1 (((cfg0.win 1).blk t).view.emb (ix2 i k)) = _
  rw [emb1, V_main_arg1]
theorem iblk2_apply (c : Dev nD) (t : Fin cfg0.N) (i : Fin 416) (j : Fin 1408) :
    iblk m c 2 t (ix2 i j) = V m c main_v14 (ix2 (rowOf t i) (colOf t j)) := by
  show V m c main_v14 (((cfg0.win 2).blk t).view.emb (ix2 i j)) = _
  rw [emb2]
theorem iblk3_apply (c : Dev nD) (t : Fin cfg0.N) (i : Fin 416) (j : Fin 1408) :
    iblk m c 3 t (ix2 i j) = V m c main_v16 (ix2 (rowOf t i) (colOf t j)) := by
  show V m c main_v16 (((cfg0.win 3).blk t).view.emb (ix2 i j)) = _
  rw [emb3]
theorem iblk4_apply (c : Dev nD) (t : Fin cfg0.N) (i j : Fin 1) (k : Fin 1024) :
    iblk m c 4 t (ix3 i j k) = V m c main_v26 (ix3 i j k) := by
  show V m c main_v26 (((cfg0.win 4).blk t).view.emb (ix3 i j k)) = _
  rw [emb4]
theorem iblk5_apply (c : Dev nD) (t : Fin cfg0.N) (a : Fin 4) (r : Fin 352) (k : Fin 1024) :
    iblk m c 5 t (ix3 a r k) = V m c main_v25 (ix3 (ownOf t a) (⟨352 * 0 + r.val, by have := r.isLt; omega⟩ : Fin 1056) k) := by
  show V m c main_v25 (((cfg0.win 5).blk t).view.emb (ix3 a r k)) = _
  rw [emb5]
theorem iblk6_apply (c : Dev nD) (t : Fin cfg0.N) (a : Fin 4) (r : Fin 352) (k : Fin 1024) :
    iblk m c 6 t (ix3 a r k) = V m c main_v25 (ix3 (ownOf t a) (⟨352 * 1 + r.val, by have := r.isLt; omega⟩ : Fin 1056) k) := by
  show V m c main_v25 (((cfg0.win 6).blk t).view.emb (ix3 a r k)) = _
  rw [emb6]
theorem iblk7_apply (c : Dev nD) (t : Fin cfg0.N) (a : Fin 4) (r : Fin 352) (k : Fin 1024) :
    iblk m c 7 t (ix3 a r k) = V m c main_v25 (ix3 (ownOf t a) (⟨352 * 2 + r.val, by have := r.isLt; omega⟩ : Fin 1056) k) := by
  show V m c main_v25 (((cfg0.win 7).blk t).view.emb (ix3 a r k)) = _
  rw [emb7]

end Cert.KernelIdeal.FfnBwd

end
-- ==== Proof.Bwd.Host.lean ====
/- What the host operations before the region leave in the arrays it reads. -/
module

public import proofs.«01_k».proof.Proof.Bwd.Spec
public import proofs.«01_k».proof.Proof.Gen.KernelIdeal.Frame
public import proofs.«01_k».proof.Proof.Gen.ReferenceIdeal.Read
public import Idealize.ShloMosaic.Lib.ValueIdx
public import Idealize.ShloMosaic.Lib.ValueLayout
public import Idealize.ShloMosaic.Lib.Pipeline.Value
public import Idealize.ShloMosaic.Lib.StableHlo.Run

@[expose] public section

set_option maxRecDepth 16384

noncomputable section

namespace Cert.KernelIdeal.FfnBwd

open Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window cellOf)

variable (m : (ℓ : Loc nD τ sig) → Buf (Elt Ideal) ℓ)

/-- The arguments as plain functions of their indices. -/
def aDh (c : Dev nD) (p : Fin 8320) (k : Fin 1024) : EReal := m ((c : Thread nD τ).loc main_arg0) (ix2 p k)
def aH (c : Dev nD) (p : Fin 8320) (k : Fin 1024) : EReal := m ((c : Thread nD τ).loc main_arg1) (ix2 p k)
def aGam (c : Dev nD) (k : Fin 1024) : EReal := m ((c : Thread nD τ).loc main_arg2) (ix1 k)
def aWg (c : Dev nD) (k : Fin 1024) (q : Fin 2816) : EReal := m ((c : Thread nD τ).loc main_arg3) (ix2 k q)
def aWu (c : Dev nD) (k : Fin 1024) (q : Fin 2816) : EReal := m ((c : Thread nD τ).loc main_arg4) (ix2 k q)
def aWd (c : Dev nD) (q : Fin 2816) (k : Fin 1024) : EReal := m ((c : Thread nD τ).loc main_arg5) (ix2 q k)

/-- The gate product the region finds is the reference's. -/
theorem V_v14 (c : Dev nD) : V m c main_v14 = Cert.ReferenceIdeal.Read.val_main_v16 (F := Ideal) (m ((c : Thread nD τ).loc main_arg1)) (m ((c : Thread nD τ).loc main_arg2)) (m ((c : Thread nD τ).loc main_arg3)) := by
  simp only [V, hostOps0, List.flatten_cons, List.flatten_nil, List.append_nil, List.cons_append, List.nil_append, TRef.binary, TRef.nullary, TRef.unary, TRef.toBuf, TRef.ofBuf, cast_eq]
  after_results_simp <;> rfl
theorem V_v16 (c : Dev nD) : V m c main_v16 = Cert.ReferenceIdeal.Read.val_main_v18 (F := Ideal) (m ((c : Thread nD τ).loc main_arg1)) (m ((c : Thread nD τ).loc main_arg2)) (m ((c : Thread nD τ).loc main_arg4)) := by
  simp only [V, hostOps0, List.flatten_cons, List.flatten_nil, List.append_nil, List.cons_append, List.nil_append, TRef.binary, TRef.nullary, TRef.unary, TRef.toBuf, TRef.ofBuf, cast_eq]
  after_results_simp <;> rfl

/-- The gathered weights: each owner's gate rows, up rows and down rows, one after the other. -/
theorem V_v25 (c : Dev nD) : V m c main_v25 = concatenate S8x1056x1024 1
    [⟨S8x352x1024, truncf .bf16 (shapeCast S8x352x1024 (transpose S2816x1024 [1, 0] (m ((c : Thread nD τ).loc main_arg3)) transposes_S1024x2816_S2816x1024_1_0) shapeCasts_S2816x1024_S8x352x1024 : FVec Ideal S8x352x1024 .f32) bitsLt_bf16_f32⟩,
     ⟨S8x352x1024, truncf .bf16 (shapeCast S8x352x1024 (transpose S2816x1024 [1, 0] (m ((c : Thread nD τ).loc main_arg4)) transposes_S1024x2816_S2816x1024_1_0) shapeCasts_S2816x1024_S8x352x1024 : FVec Ideal S8x352x1024 .f32) bitsLt_bf16_f32⟩,
     ⟨S8x352x1024, truncf .bf16 (shapeCast S8x352x1024 (m ((c : Thread nD τ).loc main_arg5)) shapeCasts_S2816x1024_S8x352x1024 : FVec Ideal S8x352x1024 .f32) bitsLt_bf16_f32⟩]
    concatenates_S8x352x1024_S8x352x1024_S8x352x1024_S8x1056x1024_d1 := by
  simp only [V, hostOps0, List.flatten_cons, List.flatten_nil, List.append_nil, List.cons_append, List.nil_append, TRef.binary, TRef.nullary, TRef.unary, TRef.toBuf, TRef.ofBuf, cast_eq]
  after_results_simp <;> rfl

theorem V_v26 (c : Dev nD) : V m c main_v26 = shapeCast S1x1x1024 (m ((c : Thread nD τ).loc main_arg2)) shapeCasts_S1024_S1x1x1024 := by
  simp only [V, hostOps0, List.flatten_cons, List.flatten_nil, List.append_nil, List.cons_append, List.nil_append, TRef.binary, TRef.nullary, TRef.unary, TRef.toBuf, TRef.ofBuf, cast_eq]
  after_results_simp <;> rfl

/-- The norm's weight, as the region reads it. -/
theorem V_v26_apply (c : Dev nD) (i j : Fin 1) (k : Fin 1024) : V m c main_v26 (ix3 i j k) = aGam m c k := by
  rw [V_v26]
  exact shapeCast_apply _ _ _ (ix1 k) (by
    rewrite [Shape.rowMajor_val_one, Shape.rowMajor_val_three]
    have := i.isLt; have := j.isLt
    show k.val = (i.val * 1 + j.val) * 1024 + k.val; omega)

/-- The row of the whole weight that is row `r` of owner `o`. -/
def rowOwn (o : Fin 8) (r : Fin 352) : Fin 2816 := ⟨352 * o.val + r.val, by have := o.isLt; have := r.isLt; omega⟩

/-- A matrix split among the owners, read at an owner's row. -/
theorem owners_apply (x : FVec Ideal S2816x1024 .f32) (o : Fin 8) (r : Fin 352) (k : Fin 1024) :
    (truncf .bf16 (shapeCast S8x352x1024 x shapeCasts_S2816x1024_S8x352x1024 : FVec Ideal S8x352x1024 .f32) bitsLt_bf16_f32 : FVec Ideal S8x352x1024 .bf16) (ix3 o r k)
      = x (ix2 (rowOwn o r) k) := by
  rw [truncf_apply]
  exact shapeCast_apply _ _ _ (ix2 (rowOwn o r) k) (by
    rewrite [Shape.rowMajor_val_two, Shape.rowMajor_val_three]
    show (352 * o.val + r.val) * 1024 + k.val = (o.val * 352 + r.val) * 1024 + k.val; ring)

/-- Piece 0 of the three put side by side. -/
theorem cat_apply0 (x y z : FVec Ideal S8x352x1024 .bf16) (o : Fin 8) (r : Fin 352) (k : Fin 1024) :
    concatenate S8x1056x1024 1 [⟨S8x352x1024, x⟩, ⟨S8x352x1024, y⟩, ⟨S8x352x1024, z⟩] concatenates_S8x352x1024_S8x352x1024_S8x352x1024_S8x1056x1024_d1
      (ix3 o (⟨352 * 0 + r.val, by have := r.isLt; omega⟩ : Fin 1056) k) = x (ix3 o r k) :=
  concatenate_apply_piece (t := S8x1056x1024) 1 _ _ _ 0 (by simp) S8x352x1024 _ rfl rfl (352 * 0) rfl (ix3 o r k)
    (fun b hb => by
      match b with
      | ⟨0, _⟩ => rfl
      | ⟨1, _⟩ => exact absurd rfl hb
      | ⟨2, _⟩ => rfl) rfl

/-- Piece 1 of the three put side by side. -/
theorem cat_apply1 (x y z : FVec Ideal S8x352x1024 .bf16) (o : Fin 8) (r : Fin 352) (k : Fin 1024) :
    concatenate S8x1056x1024 1 [⟨S8x352x1024, x⟩, ⟨S8x352x1024, y⟩, ⟨S8x352x1024, z⟩] concatenates_S8x352x1024_S8x352x1024_S8x352x1024_S8x1056x1024_d1
      (ix3 o (⟨352 * 1 + r.val, by have := r.isLt; omega⟩ : Fin 1056) k) = y (ix3 o r k) :=
  concatenate_apply_piece (t := S8x1056x1024) 1 _ _ _ 1 (by simp) S8x352x1024 _ rfl rfl (352 * 1) rfl (ix3 o r k)
    (fun b hb => by
      match b with
      | ⟨0, _⟩ => rfl
      | ⟨1, _⟩ => exact absurd rfl hb
      | ⟨2, _⟩ => rfl) rfl

/-- Piece 2 of the three put side by side. -/
theorem cat_apply2 (x y z : FVec Ideal S8x352x1024 .bf16) (o : Fin 8) (r : Fin 352) (k : Fin 1024) :
    concatenate S8x1056x1024 1 [⟨S8x352x1024, x⟩, ⟨S8x352x1024, y⟩, ⟨S8x352x1024, z⟩] concatenates_S8x352x1024_S8x352x1024_S8x352x1024_S8x1056x1024_d1
      (ix3 o (⟨352 * 2 + r.val, by have := r.isLt; omega⟩ : Fin 1056) k) = z (ix3 o r k) :=
  concatenate_apply_piece (t := S8x1056x1024) 1 _ _ _ 2 (by simp) S8x352x1024 _ rfl rfl (352 * 2) rfl (ix3 o r k)
    (fun b hb => by
      match b with
      | ⟨0, _⟩ => rfl
      | ⟨1, _⟩ => exact absurd rfl hb
      | ⟨2, _⟩ => rfl) rfl

theorem V_v25_Wg (c : Dev nD) (o : Fin 8) (r : Fin 352) (k : Fin 1024) :
    V m c main_v25 (ix3 o (⟨352 * 0 + r.val, by have := r.isLt; omega⟩ : Fin 1056) k) = aWg m c k (rowOwn o r) := by
  rw [V_v25, cat_apply0, owners_apply]
  exact transpose_ix2_apply _ _ _ _

theorem V_v25_Wu (c : Dev nD) (o : Fin 8) (r : Fin 352) (k : Fin 1024) :
    V m c main_v25 (ix3 o (⟨352 * 1 + r.val, by have := r.isLt; omega⟩ : Fin 1056) k) = aWu m c k (rowOwn o r) := by
  rw [V_v25, cat_apply1, owners_apply]
  exact transpose_ix2_apply _ _ _ _

theorem V_v25_Wd (c : Dev nD) (o : Fin 8) (r : Fin 352) (k : Fin 1024) :
    V m c main_v25 (ix3 o (⟨352 * 2 + r.val, by have := r.isLt; omega⟩ : Fin 1056) k) = aWd m c (rowOwn o r) k := by
  rw [V_v25, cat_apply2, owners_apply]
  rfl

end Cert.KernelIdeal.FfnBwd

end
-- ==== Proof.Bwd.RefSpec.lean ====
/- The reference's results, at an index, as the plain formulas of the backward pass. -/
module

public import proofs.«01_k».proof.Proof.Bwd.Spec
public import proofs.«01_k».proof.Proof.Gen.ReferenceIdeal.Read
public import Idealize.ShloMosaic.Lib.ValueIdx
public import Idealize.ShloMosaic.Lib.IdealHost

@[expose] public section

noncomputable section

namespace Cert.ReferenceIdeal.FfnBwd

open Cert.ReferenceIdeal Cert.ReferenceIdeal.Read
open Idealize.ShloMosaic Idealize.ShloMosaic.TcCoe Idealize.ShloMosaic.ValueIdx
open Cert.FfnSpec

/-- An index of a matrix is given by its two coordinates. -/
theorem at2 {n0 n1 : ℕ} (j : (⟨2, ![n0, n1]⟩ : Shape).Idx) (a : Fin n0) (b : Fin n1)
    (h0 : (j 0).val = a.val) (h1 : (j 1).val = b.val) : j = ix2 a b := by
  rw [eq_ix2 j]; exact congrArg₂ ix2 (Fin.ext h0) (Fin.ext h1)
/-- An index of a vector is given by its coordinate. -/
theorem at1 {n : ℕ} (j : (⟨1, ![n]⟩ : Shape).Idx) (a : Fin n) (h : (j 0).val = a.val) : j = ix1 a := by
  rw [eq_ix1 j]; exact congrArg ix1 (Fin.ext h)

theorem zero_cst : (FloatOps.ofBits .f32 0x00000000#32 : Ideal .f32) = 0 := Ideal.ofBits_zero_f32
theorem one_cst : (FloatOps.ofBits .f32 0x3F800000#32 : Ideal .f32) = (1 : EReal) := Idealize.ShloMosaic.Ideal.ofBits_one_f32

variable (x0 x1 : (⟨S8320x1024, .f32⟩ : BufTy).Contents (Elt Ideal)) (x2 : (⟨S1024, .f32⟩ : BufTy).Contents (Elt Ideal))
  (x3 x4 : (⟨S1024x2816, .f32⟩ : BufTy).Contents (Elt Ideal)) (x5 : (⟨S2816x1024, .f32⟩ : BufTy).Contents (Elt Ideal))

/-- A matrix as a function of its two indices. -/
abbrev fn2 {a b : ℕ} (x : (⟨⟨2, ![a, b]⟩, .f32⟩ : BufTy).Contents (Elt Ideal)) (p : Fin a) (k : Fin b) : EReal := x (ix2 p k)
/-- A vector as a function of its index. -/
abbrev fn1 {a : ℕ} (x : (⟨⟨1, ![a]⟩, .f32⟩ : BufTy).Contents (Elt Ideal)) (k : Fin a) : EReal := x (ix1 k)

/-! ## The norm -/

theorem r_v1 (p : Fin 8320) : val_main_v1 (F := Ideal) x1 (ix1 p) = ∑ k, fn2 x1 p k * fn2 x1 p k := by
  rw [val_main_v1_apply, val_main_cst_apply, zero_cst, zero_add]
  exact Finset.sum_congr rfl fun k _ => congrArg (val_main_v0 (F := Ideal) x1) (at2 _ p k rfl rfl)
theorem r_v6 (p : Fin 8320) (j : Fin 1) : val_main_v6 (F := Ideal) x1 (ix2 p j) = ms (fn2 x1) p := by
  rw [val_main_v6_apply, val_main_v4_apply, val_main_v2_apply, (at1 _ p rfl : idx_main_v2 (ix2 p j) = ix1 p), r_v1,
    val_main_v3_apply, val_main_v5_apply, val_main_cst_0_apply, val_main_cst_1_apply]
  rfl
theorem r_v7 (p : Fin 8320) (j : Fin 1) : val_main_v7 (F := Ideal) x1 (ix2 p j) = rr (fn2 x1) p := by
  rw [val_main_v7_apply, r_v6]; rfl
theorem r_v12 (p : Fin 8320) (k : Fin 1024) : val_main_v12 (F := Ideal) x1 (ix2 p k) = xh (fn2 x1) p k := by
  rw [val_main_v12_apply, val_main_v11_apply, (at2 _ p 0 rfl rfl : idx_main_v11 (ix2 p k) = ix2 p 0), r_v7]; rfl
theorem r_v15 (p : Fin 8320) (k : Fin 1024) : val_main_v15 (F := Ideal) x1 x2 (ix2 p k) = xn (fn2 x1) (fn1 x2) p k := by
  rw [val_main_v15_apply, r_v12, val_main_v14_apply, val_main_v13_apply,
    (at1 _ k rfl : idx_main_v13 (idx_main_v14 (ix2 p k)) = ix1 k)]; rfl

/-! ## The gate -/

theorem r_v16 (p : Fin 8320) (q : Fin 2816) :
    val_main_v16 (F := Ideal) x1 x2 x3 (ix2 p q) = pre (fn2 x1) (fn1 x2) (fn2 x3) p q := by
  rw [val_main_v16_apply]
  exact Finset.sum_congr rfl fun k _ => by
    rw [(at2 _ p k rfl rfl : lidx_main_v16 (ix2 p q) k = ix2 p k), (at2 _ k q rfl rfl : ridx_main_v16 (ix2 p q) k = ix2 k q), r_v15]
theorem r_v18 (p : Fin 8320) (q : Fin 2816) :
    val_main_v18 (F := Ideal) x1 x2 x4 (ix2 p q) = pre (fn2 x1) (fn1 x2) (fn2 x4) p q := r_v16 x1 x2 x4 p q
theorem r_sg (p : Fin 8320) (q : Fin 2816) :
    val_main_v17_2 (F := Ideal) x1 x2 x3 (ix2 p q) = sg (pre (fn2 x1) (fn1 x2) (fn2 x3) p q) := by
  rw [val_main_v17_2_apply, val_main_call0_v4_apply, val_main_call0_v3_apply, val_main_call0_v2_apply, val_main_call0_v1_apply,
    val_main_call0_v0_apply, val_main_call0_cst_apply, val_main_call0_cst_0_apply, r_v16, one_cst]; rfl
theorem r_v17_1 (p : Fin 8320) (q : Fin 2816) : val_main_v17_1 (F := Ideal) x1 x2 x3 (ix2 p q)
    = sg (pre (fn2 x1) (fn1 x2) (fn2 x3) p q) * (1 - sg (pre (fn2 x1) (fn1 x2) (fn2 x3) p q)) := by
  rw [val_main_v17_1_apply, val_main_call0_v7_apply, val_main_call0_v6_apply, val_main_call0_cst_1_apply, r_sg, one_cst]; rfl
theorem r_v26 (p : Fin 8320) (k : Fin 1024) : val_main_v26 (F := Ideal) x0 (ix2 p k) = dob (fn2 x0) p k := by
  rw [val_main_v26_apply, val_main_v25_apply, val_main_cst_4_apply, val_main_v24_apply,
    (at2 _ p k (by show (p.val * 1024 + k.val) / 1024 = p.val; have := p.isLt; have := k.isLt; omega)
      (by show (p.val * 1024 + k.val) % 1024 = k.val; have := k.isLt; omega) : idx_main_v24 (ix2 p k) = ix2 p k)]; rfl
theorem r_v29 (p : Fin 8320) (q : Fin 2816) : val_main_v29 (F := Ideal) x0 x5 (ix2 p q) = da (fn2 x0) (fn2 x5) p q := by
  rw [val_main_v29_apply]
  exact Finset.sum_congr rfl fun k _ => by
    rw [(at2 _ p k rfl rfl : lidx_main_v29 (ix2 p q) k = ix2 p k), (at2 _ q k rfl rfl : ridx_main_v29 (ix2 p q) k = ix2 q k), r_v26]
theorem r_v30 (p : Fin 8320) (q : Fin 2816) : val_main_v30 (F := Ideal) x0 x1 x2 x3 x5 (ix2 p q)
    = duv (fn2 x0) (fn2 x1) (fn1 x2) (fn2 x3) (fn2 x5) p q := by
  rw [val_main_v30_apply, val_main_v17_0_apply, r_v16, r_sg, r_v29]; rfl
theorem r_v35 (p : Fin 8320) (q : Fin 2816) : val_main_v35 (F := Ideal) x0 x1 x2 x3 x4 x5 (ix2 p q)
    = dgv (fn2 x0) (fn2 x1) (fn1 x2) (fn2 x3) (fn2 x4) (fn2 x5) p q := by
  rw [val_main_v35_apply, val_main_call1_v1_apply, val_main_call1_v2_apply, val_main_call1_v0_apply, val_main_v31_apply,
    r_v16, r_sg, r_v17_1, r_v29, r_v18]; rfl

/-! ## The gradient of the normalised rows, and the norm's backward pass -/

theorem r_v39 (p : Fin 8320) (k : Fin 1024) : val_main_v39 (F := Ideal) x0 x1 x2 x3 x4 x5 (ix2 p k)
    = dxn (fn2 x0) (fn2 x1) (fn1 x2) (fn2 x3) (fn2 x4) (fn2 x5) p k := by
  rw [val_main_v39_apply, val_main_v34_apply, val_main_v38_apply]
  refine (add_comm _ _).trans ?_
  unfold dxn
  congr 1
  · exact Finset.sum_congr rfl fun q _ => by
      rw [(at2 _ p q rfl rfl : lidx_main_v38 (ix2 p k) q = ix2 p q), (at2 _ k q rfl rfl : ridx_main_v38 (ix2 p k) q = ix2 k q), r_v35]
  · exact Finset.sum_congr rfl fun q _ => by
      rw [(at2 _ p q rfl rfl : lidx_main_v34 (ix2 p k) q = ix2 p q), (at2 _ k q rfl rfl : ridx_main_v34 (ix2 p k) q = ix2 k q), r_v30]
theorem r_v44 (p : Fin 8320) (k : Fin 1024) : val_main_v44 (F := Ideal) x0 x1 x2 x3 x4 x5 (ix2 p k)
    = dxh (fn2 x0) (fn2 x1) (fn1 x2) (fn2 x3) (fn2 x4) (fn2 x5) p k := by
  rw [val_main_v44_apply, r_v39, val_main_v43_apply, val_main_v13_apply,
    (at1 _ k rfl : idx_main_v13 (idx_main_v43 (ix2 p k)) = ix1 k)]; rfl
theorem r_v93 (j : Fin 1) (k : Fin 1024) : val_main_v93 (F := Ideal) x0 x1 x2 x3 x4 x5 (ix2 j k)
    = dgam (fn2 x0) (fn2 x1) (fn1 x2) (fn2 x3) (fn2 x4) (fn2 x5) k := by
  have hj : j.val = 0 := by have := j.isLt; omega
  rw [val_main_v93_apply, (at1 _ k (by show j.val * 1024 + k.val = k.val; omega) : idx_main_v93 (ix2 j k) = ix1 k),
    val_main_v45_apply, val_main_cst_6_apply, zero_cst, zero_add, Fin.sum_univ_one, val_main_v42_apply,
    (at1 _ k (by show 0 * 1024 + k.val = k.val; omega) : idx_main_v42 (idx_main_v45 (ix1 k) 0) = ix1 k),
    val_main_v41_apply, val_main_cst_5_apply, zero_cst, zero_add]
  exact Finset.sum_congr rfl fun p _ => by
    rw [(at2 _ p k rfl rfl : idx_main_v41 (ix1 k) p = ix2 p k), val_main_v40_apply, r_v12, r_v39]; rfl

/-- The row's correction as the reference has it. -/
theorem r_v56 (p : Fin 8320) (k : Fin 1024) : val_main_v56 (F := Ideal) x0 x1 x2 x3 x4 x5 (ix2 p k)
    = Ideal.div ((∑ j, fn2 x1 p j * dxh (fn2 x0) (fn2 x1) (fn1 x2) (fn2 x3) (fn2 x4) (fn2 x5) p j)
        * (cNegHalf * Ideal.div (rr (fn2 x1) p) (ms (fn2 x1) p))) cK := by
  rw [val_main_v56_apply, (at1 _ p rfl : idx_main_v56 (ix2 p k) = ix1 p), val_main_v55_apply, val_main_cst_9_apply, zero_cst, zero_add,
    Fin.sum_univ_one, (at2 _ p 0 rfl rfl : idx_main_v55 (ix1 p) 0 = ix2 p 0), val_main_v54_apply, val_main_v52_apply,
    val_main_v48_apply, (at1 _ p (by show p.val * 1 + 0 = p.val; omega) : idx_main_v48 (ix2 p 0) = ix1 p), val_main_v47_apply, val_main_cst_7_apply, zero_cst, zero_add,
    val_main_v10_apply, val_main_v9_apply, val_main_cst_2_apply, val_main_v8_apply, r_v7, r_v6, val_main_v53_apply, val_main_cst_8_apply]
  have e : (∑ j : Fin 1024, val_main_v46 (F := Ideal) x0 x1 x2 x3 x4 x5 (idx_main_v47 (ix1 p) j))
      = ∑ j, fn2 x1 p j * dxh (fn2 x0) (fn2 x1) (fn1 x2) (fn2 x3) (fn2 x4) (fn2 x5) p j :=
    Finset.sum_congr rfl fun j _ => by
      rw [(at2 _ p j rfl rfl : idx_main_v47 (ix1 p) j = ix2 p j), val_main_v46_apply, r_v44]; rfl
  rw [e]; rfl

/-- The input's gradient, at real arguments. -/
theorem r_v60 (h0 : ∀ p k, IsR (fn2 x0 p k)) (h1 : ∀ p k, IsR (fn2 x1 p k)) (h2 : ∀ k, IsR (fn1 x2 k))
    (h3 : ∀ k q, IsR (fn2 x3 k q)) (h4 : ∀ k q, IsR (fn2 x4 k q)) (h5 : ∀ q k, IsR (fn2 x5 q k)) (p : Fin 8320) (k : Fin 1024) :
    val_main_v60 (F := Ideal) x0 x1 x2 x3 x4 x5 (ix2 p k) = dhi (fn2 x0) (fn2 x1) (fn1 x2) (fn2 x3) (fn2 x4) (fn2 x5) p k := by
  rw [val_main_v60_apply, val_main_v58_apply, val_main_v59_apply, val_main_v57_apply, val_main_v51_apply, val_main_v50_apply,
    val_main_v49_apply, (at2 _ p 0 rfl rfl : idx_main_v49 (ix2 p k) = ix2 p 0), r_v7, r_v44, r_v56]
  exact norm_bwd h1 (fun p k => IsR.dxh h0 h1 h2 h3 h4 h5 p k) (h0 p k) p k

/-! ## The other results -/

theorem r_v85 (p : Fin 8320) (q : Fin 2816) : val_main_v85 (F := Ideal) x0 x1 x2 x3 x4 x5 (ix2 p q)
    = dgv (fn2 x0) (fn2 x1) (fn1 x2) (fn2 x3) (fn2 x4) (fn2 x5) p q := by
  have e : val_main_v81 (F := Ideal) x0 x5 (ix2 p q) = da (fn2 x0) (fn2 x5) p q := by
    rw [val_main_v81_apply]
    exact Finset.sum_congr rfl fun k _ => by
      rw [(at2 _ p k rfl rfl : lidx_main_v81 (ix2 p q) k = ix2 p k), (at2 _ k q rfl rfl : ridx_main_v81 (ix2 p q) k = ix2 k q),
        val_main_v80_apply, (at2 _ q k rfl rfl : idx_main_v80 (ix2 k q) = ix2 q k)]; rfl
  rw [val_main_v85_apply, val_main_v84_apply, val_main_call3_v1_apply, val_main_call3_v2_apply, val_main_call3_v0_apply, val_main_v83_apply, e,
    ← r_v35, val_main_v35_apply, val_main_call1_v1_apply, val_main_call1_v2_apply, val_main_call1_v0_apply, val_main_v31_apply, r_v29]; rfl
theorem r_v86 (p : Fin 8320) (q : Fin 2816) : val_main_v86 (F := Ideal) x0 x1 x2 x3 x5 (ix2 p q)
    = duv (fn2 x0) (fn2 x1) (fn1 x2) (fn2 x3) (fn2 x5) p q := by
  have e : val_main_v81 (F := Ideal) x0 x5 (ix2 p q) = da (fn2 x0) (fn2 x5) p q := by
    rw [val_main_v81_apply]
    exact Finset.sum_congr rfl fun k _ => by
      rw [(at2 _ p k rfl rfl : lidx_main_v81 (ix2 p q) k = ix2 p k), (at2 _ k q rfl rfl : ridx_main_v81 (ix2 p q) k = ix2 k q),
        val_main_v80_apply, (at2 _ q k rfl rfl : idx_main_v80 (ix2 k q) = ix2 q k)]; rfl
  rw [val_main_v86_apply, val_main_v82_apply, e, ← r_v30, val_main_v30_apply, r_v29]; rfl
theorem r_v89 (p : Fin 8320) (q : Fin 2816) : val_main_v89 (F := Ideal) x1 x2 x3 x4 (ix2 p q)
    = act (fn2 x1) (fn1 x2) (fn2 x3) (fn2 x4) p q := by
  rw [val_main_v89_apply, val_main_v88_apply, val_main_v87_apply]
  unfold act
  rw [← r_sg, ← r_v16, ← r_v18]
  rfl
theorem r_v92 (p : Fin 8320) (k : Fin 1024) : val_main_v92 (F := Ideal) x0 (ix2 p k) = dob (fn2 x0) p k := rfl

end Cert.ReferenceIdeal.FfnBwd

end
-- ==== Proof.Bwd.KerSpec.lean ====
/- The blocks the kernel writes are blocks of the backward pass's plain formulas. -/
module

public import proofs.«01_k».proof.Proof.Bwd.Payload
public import proofs.«01_k».proof.Proof.Bwd.Data
public import proofs.«01_k».proof.Proof.Bwd.Blocks
public import proofs.«01_k».proof.Proof.Bwd.Host
public import proofs.«01_k».proof.Proof.Bwd.RefSpec

@[expose] public section

set_option maxRecDepth 16384

noncomputable section

namespace Cert.KernelIdeal.FfnBwd

open Cert.KernelIdeal.Gen
open Idealize.ShloMosaic Idealize.ShloMosaic.TcCoe Idealize.ShloMosaic.ValueIdx
open Cert.FfnSpec

variable (m : (ℓ : Loc nD τ sig) → Buf (Elt Ideal) ℓ)

/-- Every element of every argument is a real number. -/
structure Reals (c : Dev nD) : Prop where
  dh : ∀ p k, IsR (aDh m c p k)
  h : ∀ p k, IsR (aH m c p k)
  gam : ∀ k, IsR (aGam m c k)
  wg : ∀ k q, IsR (aWg m c k q)
  wu : ∀ k q, IsR (aWu m c k q)
  wd : ∀ q k, IsR (aWd m c q k)

/-- The formulas at the arguments. -/
abbrev sDg (c : Dev nD) := dgv (aDh m c) (aH m c) (aGam m c) (aWg m c) (aWu m c) (aWd m c)
abbrev sDu (c : Dev nD) := duv (aDh m c) (aH m c) (aGam m c) (aWg m c) (aWd m c)
abbrev sDxn (c : Dev nD) := dxn (aDh m c) (aH m c) (aGam m c) (aWg m c) (aWu m c) (aWd m c)

/-! ## The blocks read -/

theorem own_col (t : Fin cfg0.N) (j : Fin 1408) : rowOwn (ownOf t (tOwn j)) (tRow j) = colOf t j :=
  Fin.ext (by
    show 352 * (4 * (t.val % 2) + j.val / 352) + j.val % 352 = 1408 * (t.val % 2) + j.val
    omega)

theorem blkG (c : Dev nD) (t : Fin cfg0.N) (i : Fin 416) (j : Fin 1408) :
    iblk m c 2 t (ix2 i j) = pre (aH m c) (aGam m c) (aWg m c) (rowOf t i) (colOf t j) := by
  rw [iblk2_apply, V_v14]; exact Cert.ReferenceIdeal.FfnBwd.r_v16 _ _ _ _ _
theorem blkU (c : Dev nD) (t : Fin cfg0.N) (i : Fin 416) (j : Fin 1408) :
    iblk m c 3 t (ix2 i j) = pre (aH m c) (aGam m c) (aWu m c) (rowOf t i) (colOf t j) := by
  rw [iblk3_apply, V_v16]; exact Cert.ReferenceIdeal.FfnBwd.r_v18 _ _ _ _ _
theorem blkWg (c : Dev nD) (t : Fin cfg0.N) (j : Fin 1408) (k : Fin 1024) :
    iblk m c 5 t (ix3 (tOwn j) (tRow j) k) = aWg m c k (colOf t j) := by
  rw [iblk5_apply, V_v25_Wg, own_col]
theorem blkWu (c : Dev nD) (t : Fin cfg0.N) (j : Fin 1408) (k : Fin 1024) :
    iblk m c 6 t (ix3 (tOwn j) (tRow j) k) = aWu m c k (colOf t j) := by
  rw [iblk6_apply, V_v25_Wu, own_col]
theorem blkWd (c : Dev nD) (t : Fin cfg0.N) (j : Fin 1408) (k : Fin 1024) :
    iblk m c 7 t (ix3 (tOwn j) (tRow j) k) = aWd m c (colOf t j) k := by
  rw [iblk7_apply, V_v25_Wd, own_col]
theorem blkH (c : Dev nD) (t : Fin cfg0.N) : blk2 (iblk m c 1 t) = fun i k => aH m c (rowOf t i) k :=
  funext fun i => funext fun k => iblk1_apply m c t i k
theorem blkGam (c : Dev nD) (t : Fin cfg0.N) (k : Fin 1024) : iblk m c 4 t (ix3 (0 : Fin 1) (0 : Fin 1) k) = aGam m c k := by
  rw [iblk4_apply, V_v26_apply]

/-! ## The blocks written at a point -/

theorem row_half (n : ℕ) (i : Fin 416) : rowOf (pt (2 * (n / 2))) i = rowOf (pt n) i :=
  Fin.ext (by show 416 * (2 * (n / 2) % 40 / 2) + i.val = 416 * (n % 40 / 2) + i.val; omega)

theorem dobAt_apply (c : Dev nD) (n : ℕ) (i : Fin 416) (k : Fin 1024) :
    dobAt m c n (ix2 i k) = dob (aDh m c) (rowOf (pt n) i) k := by
  unfold dobAt
  rw [pay9_apply]
  refine congrArg (cHalf * ·) ?_
  rw [iblk0_apply, row_half]; rfl

theorem daT_apply (c : Dev nD) (n : ℕ) (i : Fin 416) (j : Fin 1408) :
    daT (dobAt m c n) (iblk m c 7 (pt n)) i j = da (aDh m c) (aWd m c) (rowOf (pt n) i) (colOf (pt n) j) :=
  Finset.sum_congr rfl fun k _ => by rw [dobAt_apply, blkWd]

theorem duAt_apply (c : Dev nD) (n : ℕ) (i : Fin 416) (j : Fin 1408) :
    duAt m c n (ix2 i j) = sDu m c (rowOf (pt n) i) (colOf (pt n) j) := by
  unfold duAt
  rw [duOf_apply, daT_apply, blkG]; rfl
theorem actAt_apply (c : Dev nD) (n : ℕ) (i : Fin 416) (j : Fin 1408) :
    actAt m c n (ix2 i j) = act (aH m c) (aGam m c) (aWg m c) (aWu m c) (rowOf (pt n) i) (colOf (pt n) j) := by
  unfold actAt
  rw [pay16_apply, blkG, blkU]; rfl

section
variable {m} {c : Dev nD} (R : Reals m c)
include R

theorem dgAt_apply (n : ℕ) (i : Fin 416) (j : Fin 1408) :
    dgAt m c n (ix2 i j) = sDg m c (rowOf (pt n) i) (colOf (pt n) j) := by
  unfold dgAt
  rw [dgOf_apply, daT_apply, blkG, blkU]
  have G := IsR.pre R.h R.gam R.wg (rowOf (pt n) i) (colOf (pt n) j)
  exact gate_bwd ((IsR.da R.dh R.wd _ _).mul (IsR.pre R.h R.gam R.wu _ _)) G G.sg

/-- One tile's share of the normalised rows' gradient. -/
theorem stepAt_apply (n : ℕ) (acc : FVec Ideal S416x1024 .f32) (i : Fin 416) (k : Fin 1024) :
    stepAt m c n acc (ix2 i k) = acc (ix2 i k)
      + (∑ j : Fin 1408, sDg m c (rowOf (pt n) i) (colOf (pt n) j) * aWg m c k (colOf (pt n) j)
        + ∑ j : Fin 1408, sDu m c (rowOf (pt n) i) (colOf (pt n) j) * aWu m c k (colOf (pt n) j)) := by
  unfold stepAt
  rw [dxOf_apply]
  refine congrArg (acc (ix2 i k) + ·) (congrArg₂ (· + ·) ?_ ?_)
  · refine Finset.sum_congr rfl fun j _ => ?_
    rw [blkWg]; exact congrArg (· * _) (dgAt_apply R n i j)
  · refine Finset.sum_congr rfl fun j _ => ?_
    rw [blkWu]; exact congrArg (· * _) (duAt_apply m c n i j)
end

/-- A sum over the columns is the sums over the two tiles. -/
theorem sum_tiles (f : Fin 2816 → EReal) (t0 t1 : Fin cfg0.N) (h0 : t0.val % 2 = 0) (h1 : t1.val % 2 = 1) :
    ∑ q, f q = ∑ j : Fin 1408, f (colOf t0 j) + ∑ j : Fin 1408, f (colOf t1 j) := by
  refine (Fin.sum_univ_add (a := 1408) (b := 1408) f).trans (congrArg₂ (· + ·) ?_ ?_)
  · exact Finset.sum_congr rfl fun j _ => congrArg f (Fin.ext (by show j.val = 1408 * (t0.val % 2) + j.val; omega))
  · exact Finset.sum_congr rfl fun j _ => congrArg f (Fin.ext (by show 1408 + j.val = 1408 * (t1.val % 2) + j.val; omega))

section
variable {m} {c : Dev nD} (R : Reals m c)
include R

/-- After a row block's second tile the scratch holds the whole gradient of the normalised rows. -/
theorem dxnAt_apply {n : ℕ} (h : n % 2 = 1) (i : Fin 416) (k : Fin 1024) :
    dxnAt m c n (ix2 i k) = sDxn m c (rowOf (pt n) i) k := by
  have e : rowOf (pt (n - 1)) i = rowOf (pt n) i :=
    Fin.ext (by show 416 * ((n - 1) % 40 / 2) + i.val = 416 * (n % 40 / 2) + i.val; omega)
  rw [dxnAt_odd m c h, dxnAt_even m c (show (n - 1) % 2 = 0 by omega), stepAt_apply R, stepAt_apply R, pay8_apply, zero_add, e]
  unfold sDxn dxn
  rw [sum_tiles _ (pt (n - 1)) (pt n) (by show (n - 1) % 40 % 2 = 0; omega) (by show n % 40 % 2 = 1; omega),
    sum_tiles (fun q => duv (aDh m c) (aH m c) (aGam m c) (aWg m c) (aWd m c) (rowOf (pt n) i) q * aWu m c k q)
      (pt (n - 1)) (pt n) (by show (n - 1) % 40 % 2 = 0; omega) (by show n % 40 % 2 = 1; omega)]
  exact add_add_add_comm _ _ _ _

theorem dhiAt_apply {n : ℕ} (h : n % 2 = 1) (i : Fin 416) (k : Fin 1024) :
    dhiAt m c n (ix2 i k) = dhi (aDh m c) (aH m c) (aGam m c) (aWg m c) (aWu m c) (aWd m c) (rowOf (pt n) i) k := by
  unfold dhiAt
  rw [pay6_apply, blkH, blkGam, dxnAt_apply R h, iblk0_apply]
  have es : (∑ j : Fin 1024, dxnAt m c n (ix2 i j) * iblk m c 4 (pt n) (ix3 (0 : Fin 1) (0 : Fin 1) j) * xh (fun i k => aH m c (rowOf (pt n) i) k) i j)
      = ∑ j : Fin 1024, dxh (aDh m c) (aH m c) (aGam m c) (aWg m c) (aWu m c) (aWd m c) (rowOf (pt n) i) j * xh (aH m c) (rowOf (pt n) i) j :=
    Finset.sum_congr rfl fun j _ => by rw [dxnAt_apply R h, blkGam]; rfl
  rw [es]; rfl

/-- A row's term of the norm weight's gradient, by the row's number. -/
def gTerm (m : (ℓ : Loc nD τ sig) → Buf (Elt Ideal) ℓ) (c : Dev nD) (k : Fin 1024) (n : ℕ) : EReal :=
  if h : n < 8320 then xh (aH m c) ⟨n, h⟩ k * sDxn m c ⟨n, h⟩ k else 0

theorem gamAt_apply (b : ℕ) (hb : b ≤ 20) (u : Fin 1) (k : Fin 1024) :
    gamAt m c b (ix2 u k) = ∑ n ∈ Finset.range (416 * b), gTerm m c k n := by
  induction b with
  | zero => exact (pay10_apply _).trans (by simp)
  | succ b ih =>
    rw [Nat.mul_succ, Finset.sum_range_add, ← ih (by omega)]
    show k0_pay7 (iblk m c 1 (pt (2 * b + 1))) (dxnAt m c (2 * b + 1)) (gamAt m c b) (ix2 u k) = _
    rw [pay7_apply, blkH]
    refine congrArg (gamAt m c b (ix2 u k) + ·) ?_
    rw [← Fin.sum_univ_eq_sum_range (fun i => gTerm m c k (416 * b + i)) 416]
    refine Finset.sum_congr rfl fun i _ => ?_
    have hi := i.isLt
    rw [dxnAt_apply R (by omega), gTerm, dif_pos (by omega)]
    have e : rowOf (pt (2 * b + 1)) i = ⟨416 * b + i.val, by omega⟩ :=
      Fin.ext (by show 416 * ((2 * b + 1) % 40 / 2) + i.val = 416 * b + i.val; omega)
    rw [← e]; rfl

/-- After the last row block the accumulator holds the norm weight's gradient. -/
theorem gamAt_last (u : Fin 1) (k : Fin 1024) :
    gamAt m c 20 (ix2 u k) = dgam (aDh m c) (aH m c) (aGam m c) (aWg m c) (aWu m c) (aWd m c) k := by
  rw [gamAt_apply R 20 le_rfl, show 416 * 20 = 8320 from rfl, ← Fin.sum_univ_eq_sum_range (gTerm m c k) 8320]
  exact Finset.sum_congr rfl fun p _ => dif_pos p.isLt
end

end Cert.KernelIdeal.FfnBwd

end
-- ==== Proof.Bwd.Final.lean ====
/- What the six result arrays hold when the kernel has run. -/
module

public import proofs.«01_k».proof.Proof.Bwd.KerSpec
public import proofs.«01_k».proof.Proof.Bwd.Frame

@[expose] public section

set_option maxRecDepth 16384

noncomputable section

namespace Cert.KernelIdeal.FfnBwd

open Cert.KernelIdeal.Gen
open Idealize.ShloMosaic Idealize.ShloMosaic.TcCoe Idealize.ShloMosaic.ValueIdx
open Idealize.ShloMosaic.Pipeline (Dat Cfg Window cellOf)
open Cert.FfnSpec

variable {m : (ℓ : Loc nD τ sig) → Buf (Elt Ideal) ℓ} {c : Dev nD}

/-- An index is in a point's block when each coordinate is in the block's range. -/
theorem mem8 (t : Fin cfg0.N) (i : S8320x1024.Idx) :
    i ∈ ((cfg0.win 8).blk t).view.set ↔ ∀ a : Fin 2, win0_8.index t a * S416x1024.size a ≤ (i a).val ∧ (i a).val < win0_8.index t a * S416x1024.size a + S416x1024.size a := by
  show i ∈ ((View.whole main_v27_0).slice (win0_8.rect t)).set ↔ _
  rw [View.set_slice_whole, Rect.mem_set_unit]
  exact Iff.rfl
theorem arr8 (R : Reals m c) : (dats m 0 c).arrAt 8 cfg0.N = fun i : S8320x1024.Idx => dhi (aDh m c) (aH m c) (aGam m c) (aWg m c) (aWu m c) (aWd m c) (i 0) (i 1) := by
  refine (dats m 0 c).arrAt_eq_of_cover 8 (fun i : S8320x1024.Idx => dhi (aDh m c) (aH m c) (aGam m c) (aWg m c) (aWu m c) (aWd m c) (i 0) (i 1)) (fun t hf => ?_) fun i => ?_
  · show (cfg0.win 8).cut (grid0.coords t) ((dats m 0 c).after 8 t) = _
    rw [after0_8]
    funext y
    obtain ⟨i, k, rfl⟩ : ∃ (i : Fin 416) (k : Fin 1024), y = ix2 i k := ⟨y 0, y 1, eq_ix2 (n0 := 416) (n1 := 1024) y⟩
    have hx : (cfg0.win 8).xinj (grid0.coords t) (ix2 i k) = ix2 i k := by
      funext a; match a with
      | ⟨0, _⟩ => rfl
      | ⟨1, _⟩ => rfl
    show dhiAt m c t.val ((cfg0.win 8).xinj (grid0.coords t) (ix2 i k)) = (fun i : S8320x1024.Idx => dhi (aDh m c) (aH m c) (aGam m c) (aWg m c) (aWu m c) (aWd m c) (i 0) (i 1)) (((cfg0.win 8).blk t).view.emb (ix2 i k))
    rw [hx, emb8]
    refine (dhiAt_apply R ((flush0_8 t).1 hf) i k).trans ?_
    rw [pt_val]
  · have h0 : (i 0).val < 8320 := (i 0).isLt
    have h1 : (i 1).val < 1024 := (i 1).isLt
    refine ⟨⟨2 * ((i 0).val / 416) + 1, lt_of_lt_of_eq (by omega) N_0.symm⟩, (flush0_8 _).2 (by show (2 * ((i 0).val / 416) + 1) % 2 = 1; omega), (mem8 _ i).2 fun a => ?_⟩
    match a with
    | ⟨0, _⟩ =>
      show win0_8.index _ (0 : Fin 2) * 416 ≤ (i 0).val ∧ (i 0).val < win0_8.index _ (0 : Fin 2) * 416 + 416
      rw [(index8 _).1]
      show (2 * ((i 0).val / 416) + 1) / 2 * 416 ≤ (i 0).val ∧ (i 0).val < (2 * ((i 0).val / 416) + 1) / 2 * 416 + 416
      omega
    | ⟨1, _⟩ => show win0_8.index _ (1 : Fin 2) * 1024 ≤ (i 1).val ∧ (i 1).val < win0_8.index _ (1 : Fin 2) * 1024 + 1024; rw [(index8 _).2]; omega

/-- An index is in a point's block when each coordinate is in the block's range. -/
theorem mem9 (t : Fin cfg0.N) (i : S8320x2816.Idx) :
    i ∈ ((cfg0.win 9).blk t).view.set ↔ ∀ a : Fin 2, win0_9.index t a * S416x1408.size a ≤ (i a).val ∧ (i a).val < win0_9.index t a * S416x1408.size a + S416x1408.size a := by
  show i ∈ ((View.whole main_v27_1).slice (win0_9.rect t)).set ↔ _
  rw [View.set_slice_whole, Rect.mem_set_unit]
  exact Iff.rfl
theorem arr9 (R : Reals m c) : (dats m 0 c).arrAt 9 cfg0.N = fun i : S8320x2816.Idx => dgv (aDh m c) (aH m c) (aGam m c) (aWg m c) (aWu m c) (aWd m c) (i 0) (i 1) := by
  refine (dats m 0 c).arrAt_eq_of_cover 9 (fun i : S8320x2816.Idx => dgv (aDh m c) (aH m c) (aGam m c) (aWg m c) (aWu m c) (aWd m c) (i 0) (i 1)) (fun t hf => ?_) fun i => ?_
  · show (cfg0.win 9).cut (grid0.coords t) ((dats m 0 c).after 9 t) = _
    rw [after0_9]
    funext y
    obtain ⟨i, k, rfl⟩ : ∃ (i : Fin 416) (k : Fin 1408), y = ix2 i k := ⟨y 0, y 1, eq_ix2 (n0 := 416) (n1 := 1408) y⟩
    have hx : (cfg0.win 9).xinj (grid0.coords t) (ix2 i k) = ix2 i k := by
      funext a; match a with
      | ⟨0, _⟩ => rfl
      | ⟨1, _⟩ => rfl
    show dgAt m c t.val ((cfg0.win 9).xinj (grid0.coords t) (ix2 i k)) = (fun i : S8320x2816.Idx => dgv (aDh m c) (aH m c) (aGam m c) (aWg m c) (aWu m c) (aWd m c) (i 0) (i 1)) (((cfg0.win 9).blk t).view.emb (ix2 i k))
    rw [hx, emb9]
    refine (dgAt_apply R t.val i k).trans ?_
    rw [pt_val]
  · have h0 : (i 0).val < 8320 := (i 0).isLt
    have h1 : (i 1).val < 2816 := (i 1).isLt
    refine ⟨⟨2 * ((i 0).val / 416) + (i 1).val / 1408, lt_of_lt_of_eq (by omega) N_0.symm⟩, flush0_9 _, (mem9 _ i).2 fun a => ?_⟩
    match a with
    | ⟨0, _⟩ =>
      show win0_9.index _ (0 : Fin 2) * 416 ≤ (i 0).val ∧ (i 0).val < win0_9.index _ (0 : Fin 2) * 416 + 416
      rw [(index9 _).1]
      show (2 * ((i 0).val / 416) + (i 1).val / 1408) / 2 * 416 ≤ (i 0).val ∧ (i 0).val < (2 * ((i 0).val / 416) + (i 1).val / 1408) / 2 * 416 + 416
      omega
    | ⟨1, _⟩ => show win0_9.index _ (1 : Fin 2) * 1408 ≤ (i 1).val ∧ (i 1).val < win0_9.index _ (1 : Fin 2) * 1408 + 1408; rw [(index9 _).2]; show (2 * ((i 0).val / 416) + (i 1).val / 1408) % 2 * 1408 ≤ (i 1).val ∧ (i 1).val < (2 * ((i 0).val / 416) + (i 1).val / 1408) % 2 * 1408 + 1408; omega

/-- An index is in a point's block when each coordinate is in the block's range. -/
theorem mem10 (t : Fin cfg0.N) (i : S8320x2816.Idx) :
    i ∈ ((cfg0.win 10).blk t).view.set ↔ ∀ a : Fin 2, win0_10.index t a * S416x1408.size a ≤ (i a).val ∧ (i a).val < win0_10.index t a * S416x1408.size a + S416x1408.size a := by
  show i ∈ ((View.whole main_v27_2).slice (win0_10.rect t)).set ↔ _
  rw [View.set_slice_whole, Rect.mem_set_unit]
  exact Iff.rfl
theorem arr10 : (dats m 0 c).arrAt 10 cfg0.N = fun i : S8320x2816.Idx => duv (aDh m c) (aH m c) (aGam m c) (aWg m c) (aWd m c) (i 0) (i 1) := by
  refine (dats m 0 c).arrAt_eq_of_cover 10 (fun i : S8320x2816.Idx => duv (aDh m c) (aH m c) (aGam m c) (aWg m c) (aWd m c) (i 0) (i 1)) (fun t hf => ?_) fun i => ?_
  · show (cfg0.win 10).cut (grid0.coords t) ((dats m 0 c).after 10 t) = _
    rw [after0_10]
    funext y
    obtain ⟨i, k, rfl⟩ : ∃ (i : Fin 416) (k : Fin 1408), y = ix2 i k := ⟨y 0, y 1, eq_ix2 (n0 := 416) (n1 := 1408) y⟩
    have hx : (cfg0.win 10).xinj (grid0.coords t) (ix2 i k) = ix2 i k := by
      funext a; match a with
      | ⟨0, _⟩ => rfl
      | ⟨1, _⟩ => rfl
    show duAt m c t.val ((cfg0.win 10).xinj (grid0.coords t) (ix2 i k)) = (fun i : S8320x2816.Idx => duv (aDh m c) (aH m c) (aGam m c) (aWg m c) (aWd m c) (i 0) (i 1)) (((cfg0.win 10).blk t).view.emb (ix2 i k))
    rw [hx, emb10]
    refine (duAt_apply m c t.val i k).trans ?_
    rw [pt_val]
  · have h0 : (i 0).val < 8320 := (i 0).isLt
    have h1 : (i 1).val < 2816 := (i 1).isLt
    refine ⟨⟨2 * ((i 0).val / 416) + (i 1).val / 1408, lt_of_lt_of_eq (by omega) N_0.symm⟩, flush0_10 _, (mem10 _ i).2 fun a => ?_⟩
    match a with
    | ⟨0, _⟩ =>
      show win0_10.index _ (0 : Fin 2) * 416 ≤ (i 0).val ∧ (i 0).val < win0_10.index _ (0 : Fin 2) * 416 + 416
      rw [(index10 _).1]
      show (2 * ((i 0).val / 416) + (i 1).val / 1408) / 2 * 416 ≤ (i 0).val ∧ (i 0).val < (2 * ((i 0).val / 416) + (i 1).val / 1408) / 2 * 416 + 416
      omega
    | ⟨1, _⟩ => show win0_10.index _ (1 : Fin 2) * 1408 ≤ (i 1).val ∧ (i 1).val < win0_10.index _ (1 : Fin 2) * 1408 + 1408; rw [(index10 _).2]; show (2 * ((i 0).val / 416) + (i 1).val / 1408) % 2 * 1408 ≤ (i 1).val ∧ (i 1).val < (2 * ((i 0).val / 416) + (i 1).val / 1408) % 2 * 1408 + 1408; omega

/-- An index is in a point's block when each coordinate is in the block's range. -/
theorem mem11 (t : Fin cfg0.N) (i : S8320x2816.Idx) :
    i ∈ ((cfg0.win 11).blk t).view.set ↔ ∀ a : Fin 2, win0_11.index t a * S416x1408.size a ≤ (i a).val ∧ (i a).val < win0_11.index t a * S416x1408.size a + S416x1408.size a := by
  show i ∈ ((View.whole main_v27_3).slice (win0_11.rect t)).set ↔ _
  rw [View.set_slice_whole, Rect.mem_set_unit]
  exact Iff.rfl
theorem arr11 : (dats m 0 c).arrAt 11 cfg0.N = fun i : S8320x2816.Idx => act (aH m c) (aGam m c) (aWg m c) (aWu m c) (i 0) (i 1) := by
  refine (dats m 0 c).arrAt_eq_of_cover 11 (fun i : S8320x2816.Idx => act (aH m c) (aGam m c) (aWg m c) (aWu m c) (i 0) (i 1)) (fun t hf => ?_) fun i => ?_
  · show (cfg0.win 11).cut (grid0.coords t) ((dats m 0 c).after 11 t) = _
    rw [after0_11]
    funext y
    obtain ⟨i, k, rfl⟩ : ∃ (i : Fin 416) (k : Fin 1408), y = ix2 i k := ⟨y 0, y 1, eq_ix2 (n0 := 416) (n1 := 1408) y⟩
    have hx : (cfg0.win 11).xinj (grid0.coords t) (ix2 i k) = ix2 i k := by
      funext a; match a with
      | ⟨0, _⟩ => rfl
      | ⟨1, _⟩ => rfl
    show actAt m c t.val ((cfg0.win 11).xinj (grid0.coords t) (ix2 i k)) = (fun i : S8320x2816.Idx => act (aH m c) (aGam m c) (aWg m c) (aWu m c) (i 0) (i 1)) (((cfg0.win 11).blk t).view.emb (ix2 i k))
    rw [hx, emb11]
    refine (actAt_apply m c t.val i k).trans ?_
    rw [pt_val]
  · have h0 : (i 0).val < 8320 := (i 0).isLt
    have h1 : (i 1).val < 2816 := (i 1).isLt
    refine ⟨⟨2 * ((i 0).val / 416) + (i 1).val / 1408, lt_of_lt_of_eq (by omega) N_0.symm⟩, flush0_11 _, (mem11 _ i).2 fun a => ?_⟩
    match a with
    | ⟨0, _⟩ =>
      show win0_11.index _ (0 : Fin 2) * 416 ≤ (i 0).val ∧ (i 0).val < win0_11.index _ (0 : Fin 2) * 416 + 416
      rw [(index11 _).1]
      show (2 * ((i 0).val / 416) + (i 1).val / 1408) / 2 * 416 ≤ (i 0).val ∧ (i 0).val < (2 * ((i 0).val / 416) + (i 1).val / 1408) / 2 * 416 + 416
      omega
    | ⟨1, _⟩ => show win0_11.index _ (1 : Fin 2) * 1408 ≤ (i 1).val ∧ (i 1).val < win0_11.index _ (1 : Fin 2) * 1408 + 1408; rw [(index11 _).2]; show (2 * ((i 0).val / 416) + (i 1).val / 1408) % 2 * 1408 ≤ (i 1).val ∧ (i 1).val < (2 * ((i 0).val / 416) + (i 1).val / 1408) % 2 * 1408 + 1408; omega

/-- An index is in a point's block when each coordinate is in the block's range. -/
theorem mem12 (t : Fin cfg0.N) (i : S8320x1024.Idx) :
    i ∈ ((cfg0.win 12).blk t).view.set ↔ ∀ a : Fin 2, win0_12.index t a * S416x1024.size a ≤ (i a).val ∧ (i a).val < win0_12.index t a * S416x1024.size a + S416x1024.size a := by
  show i ∈ ((View.whole main_v27_4).slice (win0_12.rect t)).set ↔ _
  rw [View.set_slice_whole, Rect.mem_set_unit]
  exact Iff.rfl
theorem arr12 : (dats m 0 c).arrAt 12 cfg0.N = fun i : S8320x1024.Idx => dob (aDh m c) (i 0) (i 1) := by
  refine (dats m 0 c).arrAt_eq_of_cover 12 (fun i : S8320x1024.Idx => dob (aDh m c) (i 0) (i 1)) (fun t hf => ?_) fun i => ?_
  · show (cfg0.win 12).cut (grid0.coords t) ((dats m 0 c).after 12 t) = _
    rw [after0_12]
    funext y
    obtain ⟨i, k, rfl⟩ : ∃ (i : Fin 416) (k : Fin 1024), y = ix2 i k := ⟨y 0, y 1, eq_ix2 (n0 := 416) (n1 := 1024) y⟩
    have hx : (cfg0.win 12).xinj (grid0.coords t) (ix2 i k) = ix2 i k := by
      funext a; match a with
      | ⟨0, _⟩ => rfl
      | ⟨1, _⟩ => rfl
    show dobAt m c t.val ((cfg0.win 12).xinj (grid0.coords t) (ix2 i k)) = (fun i : S8320x1024.Idx => dob (aDh m c) (i 0) (i 1)) (((cfg0.win 12).blk t).view.emb (ix2 i k))
    rw [hx, emb12]
    refine (dobAt_apply m c t.val i k).trans ?_
    rw [pt_val]
  · have h0 : (i 0).val < 8320 := (i 0).isLt
    have h1 : (i 1).val < 1024 := (i 1).isLt
    refine ⟨⟨2 * ((i 0).val / 416) + 1, lt_of_lt_of_eq (by omega) N_0.symm⟩, (flush0_12 _).2 (by show (2 * ((i 0).val / 416) + 1) % 2 = 1; omega), (mem12 _ i).2 fun a => ?_⟩
    match a with
    | ⟨0, _⟩ =>
      show win0_12.index _ (0 : Fin 2) * 416 ≤ (i 0).val ∧ (i 0).val < win0_12.index _ (0 : Fin 2) * 416 + 416
      rw [(index12 _).1]
      show (2 * ((i 0).val / 416) + 1) / 2 * 416 ≤ (i 0).val ∧ (i 0).val < (2 * ((i 0).val / 416) + 1) / 2 * 416 + 416
      omega
    | ⟨1, _⟩ => show win0_12.index _ (1 : Fin 2) * 1024 ≤ (i 1).val ∧ (i 1).val < win0_12.index _ (1 : Fin 2) * 1024 + 1024; rw [(index12 _).2]; omega

theorem mem13 (t : Fin cfg0.N) (i : S1x1024.Idx) :
    i ∈ ((cfg0.win 13).blk t).view.set ↔ ∀ a : Fin 2, win0_13.index t a * S1x1024.size a ≤ (i a).val ∧ (i a).val < win0_13.index t a * S1x1024.size a + S1x1024.size a := by
  show i ∈ ((View.whole main_v27_5).slice (win0_13.rect t)).set ↔ _
  rw [View.set_slice_whole, Rect.mem_set_unit]
  exact Iff.rfl
theorem arr13 (R : Reals m c) : (dats m 0 c).arrAt 13 cfg0.N = fun i : S1x1024.Idx => dgam (aDh m c) (aH m c) (aGam m c) (aWg m c) (aWu m c) (aWd m c) (i 1) := by
  refine (dats m 0 c).arrAt_eq_of_cover 13 (fun i : S1x1024.Idx => dgam (aDh m c) (aH m c) (aGam m c) (aWg m c) (aWu m c) (aWd m c) (i 1)) (fun t hf => ?_) fun i => ?_
  · show (cfg0.win 13).cut (grid0.coords t) ((dats m 0 c).after 13 t) = _
    rw [after0_13]
    funext y
    obtain ⟨i, k, rfl⟩ : ∃ (i : Fin 1) (k : Fin 1024), y = ix2 i k := ⟨y 0, y 1, eq_ix2 (n0 := 1) (n1 := 1024) y⟩
    have hx : (cfg0.win 13).xinj (grid0.coords t) (ix2 i k) = ix2 i k := by
      funext a; match a with
      | ⟨0, _⟩ => rfl
      | ⟨1, _⟩ => rfl
    have ht := (flush0_13 t).1 hf
    have hN := lt_of_lt_of_eq t.isLt N_0
    show gamAt m c ((t.val + 1) / 2) ((cfg0.win 13).xinj (grid0.coords t) (ix2 i k)) = (fun i : S1x1024.Idx => dgam (aDh m c) (aH m c) (aGam m c) (aWg m c) (aWu m c) (aWd m c) (i 1)) (((cfg0.win 13).blk t).view.emb (ix2 i k))
    rw [hx, emb13, show (t.val + 1) / 2 = 20 by omega]
    exact gamAt_last R i k
  · have h0 : (i 0).val < 1 := (i 0).isLt
    have h1 : (i 1).val < 1024 := (i 1).isLt
    refine ⟨⟨39, lt_of_lt_of_eq (by omega) N_0.symm⟩, (flush0_13 _).2 rfl, (mem13 _ i).2 fun a => ?_⟩
    match a with
    | ⟨0, _⟩ =>
      show win0_13.index _ (0 : Fin 2) * 1 ≤ (i 0).val ∧ (i 0).val < win0_13.index _ (0 : Fin 2) * 1 + 1
      rw [(index13 _).1]; omega
    | ⟨1, _⟩ =>
      show win0_13.index _ (1 : Fin 2) * 1024 ≤ (i 1).val ∧ (i 1).val < win0_13.index _ (1 : Fin 2) * 1024 + 1024
      rw [(index13 _).2]; omega

end Cert.KernelIdeal.FfnBwd

end
-- ==== Proof.Bwd.Pre.lean ====
/- The precondition says that every element of every argument is a real number. -/
module

public import proofs.«01_k».proof.Defs
public import proofs.«01_k».proof.Proof.Bwd.KerSpec
public import proofs.«01_k».proof.Proof.Gen.Pre_finite
public import Idealize.ShloMosaic.Lib.ReduceAll

@[expose] public section

noncomputable section

namespace Cert.KernelIdeal.FfnBwd

open Cert.KernelIdeal Cert.KernelIdeal.Gen
open Idealize.ShloMosaic Idealize.ShloMosaic.TcCoe Idealize.ShloMosaic.ValueIdx
open Cert.FfnSpec

/-- A number whose absolute value is below infinity is real. -/
theorem isR_of_abs_lt {x : EReal} (h : Ideal.cmp .olt (max x (-x)) (Ideal.ofBits .f32 0x7F800000#32) = 1#1) : IsR x := by
  have e : Ideal.ofBits .f32 0x7F800000#32 = ⊤ := by simp [Ideal.ofBits, Ideal.ieee]
  rw [e] at h
  have hlt : max x (-x) < ⊤ := by
    by_contra hn
    unfold Ideal.cmp at h
    simp [hn] at h
  induction x with
  | bot => simp at hlt
  | top => simp at hlt
  | coe a => exact ⟨a, rfl⟩

/-- A check of one array that comes out true says that each of its elements is real. -/
theorem all_real {s t : Shape} {axes : List (Fin s.rank)} [Subsingleton t.Idx] (x : FVec Ideal s .f32) (d : Fin t.rank → Fin s.rank) (hb : t.BroadcastsInDim s d)
    (init : t.Idx → BitVec 1) (h : s.ReducesTo axes t) (hu : 0 < t.numel) (j : t.Idx)
    (e : Host.reduce IntOp.andi (cmpf .olt (Host.absf x) (broadcastInDim s d hb (constant t .f32 0x7F800000#32))) init h hu j = 1#1) (i : s.Idx) : IsR (x i) :=
  isR_of_abs_lt (Host.reduce_andi_all _ init h hu j e i)

theorem reals_of_pre {m : (ℓ : Loc nD τ sig) → Buf (Elt Ideal) ℓ} (h : Cert.Pre_KernelIdeal_finite (hPre_finite := Cert.Pre_finite.Gen.facts) m) (c : Dev nD) :
    Reals m c := by
  have e := congrFun (h c) (Shape.Idx.first Cert.Pre_finite.Facts.h_S_)
  haveI : Subsingleton (Cert.Pre_finite.S_).Idx := ⟨fun a b => funext fun x => x.elim0⟩
  unfold Cert.Pre_finite.fn Cert.Pre_finite.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun p k => all_real _ _ _ _ _ _ _ e0 (ix2 p k), fun p k => all_real _ _ _ _ _ _ _ e1 (ix2 p k),
    fun k => all_real _ _ _ _ _ _ _ e2 (ix1 k), fun p k => all_real _ _ _ _ _ _ _ e3 (ix2 p k),
    fun p k => all_real _ _ _ _ _ _ _ e4 (ix2 p k), fun p k => all_real _ _ _ _ _ _ _ e5 (ix2 p k)⟩

end Cert.KernelIdeal.FfnBwd

end
-- ==== Proof.Bwd.Algebraic.lean ====
/- The kernel's results are the reference's, over the extended reals, at real arguments. -/
module

public import proofs.«01_k».proof.Proof.Bwd.Final
public import proofs.«01_k».proof.Proof.Bwd.Pre
public import proofs.«01_k».proof.Proof.Gen.ReferenceIdeal.Run
public import proofs.«01_k».proof.Proof.Bwd.RefSpec

@[expose] public section

noncomputable section

namespace Cert.FfnBwd

open Idealize.ShloMosaic Idealize.SL.Sem Idealize.ShloMosaic.TcCoe Idealize.ShloMosaic.ValueIdx
open Cert.FfnSpec Cert.KernelIdeal.FfnBwd
open Cert.ReferenceIdeal.Read

section
variable {m : (ℓ : Loc Cert.KernelIdeal.nD Cert.KernelIdeal.τ Cert.KernelIdeal.sig) → Buf (Elt Ideal) ℓ} {c : Dev Cert.KernelIdeal.nD}

/-- The kernel's argument arrays. -/
abbrev K0 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg0)
abbrev K1 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg1)
abbrev K2 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg2)
abbrev K3 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg3)
abbrev K4 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg4)
abbrev K5 (m : (ℓ : Loc Cert.KernelIdeal.nD Cert.KernelIdeal.τ Cert.KernelIdeal.sig) → Buf (Elt Ideal) ℓ) (c : Dev Cert.KernelIdeal.nD) := m ((c : Thread Cert.KernelIdeal.nD Cert.KernelIdeal.τ).loc Cert.KernelIdeal.main_arg5)

theorem eq0 (R : Reals m c) : val_main_v60 (F := Ideal) (K0 m c) (K1 m c) (K2 m c) (K3 m c) (K4 m c) (K5 m c) = (dats m 0 c).arrAt 8 Cert.KernelIdeal.cfg0.N := by
  rw [arr8 R]; funext i
  refine (congrArg _ (eq_ix2 (n0 := 8320) (n1 := 1024) i)).trans ?_
  exact Cert.ReferenceIdeal.FfnBwd.r_v60 _ _ _ _ _ _ R.dh R.h R.gam R.wg R.wu R.wd _ _
theorem eq1 (R : Reals m c) : val_main_v85 (F := Ideal) (K0 m c) (K1 m c) (K2 m c) (K3 m c) (K4 m c) (K5 m c) = (dats m 0 c).arrAt 9 Cert.KernelIdeal.cfg0.N := by
  rw [arr9 R]; funext i
  refine (congrArg _ (eq_ix2 (n0 := 8320) (n1 := 2816) i)).trans ?_
  exact Cert.ReferenceIdeal.FfnBwd.r_v85 _ _ _ _ _ _ _ _
theorem eq2 : val_main_v86 (F := Ideal) (K0 m c) (K1 m c) (K2 m c) (K3 m c) (K5 m c) = (dats m 0 c).arrAt 10 Cert.KernelIdeal.cfg0.N := by
  rw [arr10]; funext i
  refine (congrArg _ (eq_ix2 (n0 := 8320) (n1 := 2816) i)).trans ?_
  exact Cert.ReferenceIdeal.FfnBwd.r_v86 _ _ _ _ _ _ _
theorem eq3 : val_main_v89 (F := Ideal) (K1 m c) (K2 m c) (K3 m c) (K4 m c) = (dats m 0 c).arrAt 11 Cert.KernelIdeal.cfg0.N := by
  rw [arr11]; funext i
  refine (congrArg _ (eq_ix2 (n0 := 8320) (n1 := 2816) i)).trans ?_
  exact Cert.ReferenceIdeal.FfnBwd.r_v89 _ _ _ _ _ _
theorem eq4 : val_main_v92 (F := Ideal) (K0 m c) = (dats m 0 c).arrAt 12 Cert.KernelIdeal.cfg0.N := by
  rw [arr12]; funext i
  refine (congrArg _ (eq_ix2 (n0 := 8320) (n1 := 1024) i)).trans ?_
  exact Cert.ReferenceIdeal.FfnBwd.r_v92 _ _ _
theorem eq5 (R : Reals m c) : val_main_v93 (F := Ideal) (K0 m c) (K1 m c) (K2 m c) (K3 m c) (K4 m c) (K5 m c) = (dats m 0 c).arrAt 13 Cert.KernelIdeal.cfg0.N := by
  rw [arr13 R]; funext i
  refine (congrArg _ (eq_ix2 (n0 := 1) (n1 := 1024) i)).trans ?_
  exact Cert.ReferenceIdeal.FfnBwd.r_v93 _ _ _ _ _ _ _ _
end

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have R := fun c => reals_of_pre hpre c
  refine ⟨fun c => (dats m 0 c).arrAt 8 Cert.KernelIdeal.cfg0.N, fun c => (dats m 0 c).arrAt 9 Cert.KernelIdeal.cfg0.N,
    fun c => (dats m 0 c).arrAt 10 Cert.KernelIdeal.cfg0.N, fun c => (dats m 0 c).arrAt 11 Cert.KernelIdeal.cfg0.N,
    fun c => (dats m 0 c).arrAt 12 Cert.KernelIdeal.cfg0.N, fun c => (dats m 0 c).arrAt 13 Cert.KernelIdeal.cfg0.N, ?_, ?_⟩
  · have hr := θ_run_and (run_main (F := Ideal) m g) (frame (F := Ideal) m g)
    exact (θ_run Cert.KernelIdeal.defs _ _).mono (fun r h c => ⟨(h.1 c).1 8, (h.1 c).1 9, (h.1 c).1 10, (h.1 c).1 11, (h.1 c).1 12, (h.1 c).1 13,
      h.2.1 c⟩) hr
  · refine (θ_run Cert.ReferenceIdeal.defs _ _).mono (fun r h c => ?_) (Cert.ReferenceIdeal.Value.run (F := Ideal) m' g')
    obtain ⟨a0, a1, a2, a3, a4, a5⟩ := hagree c
    obtain ⟨h0, h1, h2, h3, h4, h5, hargs⟩ := h c
    refine ⟨?_, ?_, ?_, ?_, ?_, ?_, hargs⟩
    · rw [h0, val_main_v60_eq, a0, a1, a2, a3, a4, a5]; exact eq0 (R c)
    · rw [h1, val_main_v85_eq, a0, a1, a2, a3, a4, a5]; exact eq1 (R c)
    · refine h2.trans ((val_main_v86_eq _ _ _ _ _).trans ?_); rw [a0, a1, a2, a3, a5]; exact eq2
    · refine h3.trans ((val_main_v89_eq _ _ _ _).trans ?_); rw [a1, a2, a3, a4]; exact eq3
    · refine h4.trans ((val_main_v92_eq _).trans ?_); rw [a0]; exact eq4
    · rw [h5, val_main_v93_eq, a0, a1, a2, a3, a4, a5]; exact eq5 (R c)

end Cert.FfnBwd

end
-- ==== Proof.Att.Tables.lean ====
/- The two prefetched tables of the attention backward kernel: query block and key block of every step of the
   causal sweep, as literal words; the index maps, the branch conditions and the schedule at those words. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The words -/

/-- Query block of step `s`, as the table's word; and key block. -/
def iw (s : Fin 91) : BitVec 32 := lit0 s
def jw (s : Fin 91) : BitVec 32 := lit1 s

/-- The tables' contents. -/
def pfT : pre0.Contents (Elt F) := fun j => match j with
  | ⟨0, _⟩ => fun x => lit0 (S91.rowMajor x)
  | ⟨1, _⟩ => fun x => lit1 (S91.rowMajor x)

theorem row_of : ∀ i : grid0.Coords,
    (S91.rowMajor ((Rect.unit (s := S91) (k0_off1 i) S1.size (k0_off1_inb i)).emb (Shape.Idx.first (numel1_S1.symm ▸ Nat.one_pos)))).val = (i 1).val := by
  decide +kernel

theorem at0 (i : grid0.Coords) : (pfT (F := F)).at 0 (Rect.unit (s := S91) (k0_off1 i) S1.size (k0_off1_inb i)) numel1_S1 = iw (i 1) :=
  congrArg lit0 (Fin.ext (row_of i))
theorem at1 (i : grid0.Coords) : (pfT (F := F)).at 1 (Rect.unit (s := S91) (k0_off1 i) S1.size (k0_off1_inb i)) numel1_S1 = jw (i 1) :=
  congrArg lit1 (Fin.ext (row_of i))

/-- A word at the offsets of a step, spelled by the multi-index. -/
theorem off1_lt : ∀ i : grid0.Coords, ∀ a, k0_off1 i a + 1 ≤ S91.size a := by decide +kernel
theorem rowD_of : ∀ i : grid0.Coords, (S91.rowMajor (fun a => ⟨k0_off1 i a, off1_lt i a⟩)).val = (i 1).val := by
  decide +kernel
theorem atD0 (i : grid0.Coords) : (pfT (F := F)).atD 0 (k0_off1 i) = iw (i 1) :=
  (dif_pos (off1_lt i)).trans (congrArg lit0 (Fin.ext (rowD_of i)))
theorem atD1 (i : grid0.Coords) : (pfT (F := F)).atD 1 (k0_off1 i) = jw (i 1) :=
  (dif_pos (off1_lt i)).trans (congrArg lit1 (Fin.ext (rowD_of i)))

/-! ## The index maps at those words -/

def mapI (i : grid0.Coords) : Fin 3 → Nat := ![(i 0).val, (iw (i 1)).toNat, 0]
def mapJ (i : grid0.Coords) : Fin 3 → Nat := ![(i 0).val, (jw (i 1)).toNat, 0]
def mapJ2 (i : grid0.Coords) : Fin 2 → Nat := ![(jw (i 1)).toNat, 0]
def mapL (i : grid0.Coords) : Fin 3 → Nat := ![(i 0).val, 0, (iw (i 1)).toNat]

theorem head_word : ∀ i : grid0.Coords, (BitVec.ofNat 32 (i 0).val).toNat = (i 0).val := by decide +kernel

theorem tr0 (i : grid0.Coords) : cc0_transform_0 k0_off1_inb numel1_S1 (pfT (F := F)) i = mapI i := by
  have e := at0 (F := F) i
  have h := head_word i
  unfold cc0_transform_0 mapI
  exact congrArg₂ (fun (a b : ℕ) => (![a, b, 0] : Fin 3 → ℕ)) h (congrArg BitVec.toNat e)
theorem tr1 (i : grid0.Coords) : cc0_transform_1 k0_off1_inb numel1_S1 (pfT (F := F)) i = mapJ i := by
  have e := at1 (F := F) i
  have h := head_word i
  unfold cc0_transform_1 mapJ
  exact congrArg₂ (fun (a b : ℕ) => (![a, b, 0] : Fin 3 → ℕ)) h (congrArg BitVec.toNat e)
theorem tr2 (i : grid0.Coords) : cc0_transform_2 k0_off1_inb numel1_S1 (pfT (F := F)) i = mapJ2 i := by
  have e := at1 (F := F) i
  unfold cc0_transform_2 mapJ2
  exact congrArg (fun (b : ℕ) => (![b, 0] : Fin 2 → ℕ)) (congrArg BitVec.toNat e)
theorem tr3 (i : grid0.Coords) : cc0_transform_3 k0_off1_inb numel1_S1 (pfT (F := F)) i = mapJ i := tr1 i
theorem tr4 (i : grid0.Coords) : cc0_transform_4 k0_off1_inb numel1_S1 (pfT (F := F)) i = mapI i := tr0 i
theorem tr5 (i : grid0.Coords) : cc0_transform_5 k0_off1_inb numel1_S1 (pfT (F := F)) i = mapL i := by
  have e := at0 (F := F) i
  have h := head_word i
  unfold cc0_transform_5 mapL
  exact congrArg₂ (fun (a b : ℕ) => (![a, 0, b] : Fin 3 → ℕ)) h (congrArg BitVec.toNat e)
theorem tr6 (i : grid0.Coords) : cc0_transform_6 k0_off1_inb numel1_S1 (pfT (F := F)) i = mapL i := tr5 i
theorem tr8 (i : grid0.Coords) : cc0_transform_8 k0_off1_inb numel1_S1 (pfT (F := F)) i = mapJ i := tr1 i
theorem tr9 (i : grid0.Coords) : cc0_transform_9 k0_off1_inb numel1_S1 (pfT (F := F)) i = mapJ i := tr1 i

theorem boundI : ∀ i : grid0.Coords, ∀ a, (mapI i a + 1) * S1x640x128.size a ≤ S8x8320x128.size a := by decide +kernel
theorem boundJ : ∀ i : grid0.Coords, ∀ a, (mapJ i a + 1) * S1x640x128.size a ≤ S8x8320x128.size a := by decide +kernel
theorem boundJ2 : ∀ i : grid0.Coords, ∀ a, (mapJ2 i a + 1) * S640x128.size a ≤ S8320x128.size a := by decide +kernel
theorem boundL : ∀ i : grid0.Coords, ∀ a, (mapL i a + 1) * S1x1x640.size a ≤ S8x1x8320.size a := by decide +kernel

/-- Every block is inside its array and its transfer ends on a whole word. -/
theorem ok_pfT : ok0 (pfT (F := F)) := by
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inl rfl⟩, fun i => ⟨?_, .inl rfl⟩, fun i => ⟨?_, .inl rfl⟩, fun i => ⟨?_, .inl rfl⟩⟩
  · rw [tr0]; exact boundI i
  · rw [tr1]; exact boundJ i
  · rw [tr2]; exact boundJ2 i
  · rw [tr3]; exact boundJ i
  · rw [tr4]; exact boundI i
  · rw [tr5]; exact boundL i
  · rw [tr6]; exact boundL i
  · rw [tr8]; exact boundJ i
  · rw [tr9]; exact boundJ i

/-- The pipeline at those tables. -/
abbrev admT : (pcfg0 (F := F)).Adm := ⟨pfT, ok_pfT⟩
abbrev cfgT : Pipeline.Cfg sig Λ₀ := cfg0 (admT (F := F))

/-! ## The steps: which branches run, where blocks change -/

/-- Grid point `t` is step `t % 91` of head `t / 91`. -/
theorem coords_step (t : Fin grid0.N) : (grid0.coords t 1).val = t.val % 91 := by
  have e : (grid0.coords t 1).val = t.val / 1 % 91 := Pipeline.Grid.coords_val t 1 (by decide) rfl
  rw [e, Nat.div_one]
theorem coords_head (t : Fin grid0.N) : (grid0.coords t 0).val = t.val / 91 := by
  have h : t.val < 728 := lt_of_lt_of_eq t.isLt N_0
  have e : (grid0.coords t 0).val = t.val / 91 % 8 := Pipeline.Grid.coords_val t 0 (by decide) rfl
  rw [e]; exact Nat.mod_eq_of_lt (by omega)

/-- Query block and key block of step `n % 91`, as numbers. -/
def itN (n : ℕ) : ℕ := (iw ⟨n % 91, Nat.mod_lt _ (by decide)⟩).toNat
def jtN (n : ℕ) : ℕ := (jw ⟨n % 91, Nat.mod_lt _ (by decide)⟩).toNat

theorem chk_all : ∀ s : Fin 91, k0_chk1 (iw s) (jw s) := by decide +kernel
theorem cond1_iff : ∀ i : grid0.Coords, k0_cond1 i = 1#1 ↔ (i 1).val = 0 := by decide +kernel
theorem cond2_iff : ∀ s : Fin 91, k0_cond2 (iw s) (jw s) = 1#1 ↔ iw s = jw s := by decide +kernel
theorem cond3_iff : ∀ s : Fin 91, k0_cond3 (iw s) (jw s) = 1#1 ↔ iw s ≠ jw s := by decide +kernel
theorem cond4_iff : ∀ s : Fin 91, k0_cond4 (iw s) (jw s) = 1#1 ↔ iw s = jw s := by decide +kernel
theorem iw0 : iw 0 = jw 0 := by decide +kernel
theorem off2_eq : ∀ s : Fin 91, k0_off2 (iw s) = ![0, 640 * (iw s).toNat, 0] := by decide +kernel
theorem off3_eq : ∀ s : Fin 91, k0_off3 (iw s) = ![0, 640 * (iw s).toNat, 0] := by decide +kernel

/-- No output window is ever left alone. -/
theorem idle7 (i : grid0.Coords) : (cfgT (F := F)).idle 7 i = false := by
  show (!(k0_cond1 i == 1#1) && !(k0_cond3 ((pfT (F := F)).atD 0 (k0_off1 i)) ((pfT (F := F)).atD 1 (k0_off1 i)) == 1#1) && !(k0_cond4 ((pfT (F := F)).atD 0 (k0_off1 i)) ((pfT (F := F)).atD 1 (k0_off1 i)) == 1#1)) = false
  rw [atD0, atD1]
  by_cases h : iw (i 1) = jw (i 1)
  · simp [(cond4_iff _).mpr h]
  · simp [(cond3_iff _).mpr h]
theorem idle8 (i : grid0.Coords) : (cfgT (F := F)).idle 8 i = false := by
  show (!(k0_cond2 ((pfT (F := F)).atD 0 (k0_off1 i)) ((pfT (F := F)).atD 1 (k0_off1 i)) == 1#1) && !(k0_cond3 ((pfT (F := F)).atD 0 (k0_off1 i)) ((pfT (F := F)).atD 1 (k0_off1 i)) == 1#1) && !(k0_cond4 ((pfT (F := F)).atD 0 (k0_off1 i)) ((pfT (F := F)).atD 1 (k0_off1 i)) == 1#1)) = false
  rw [atD0, atD1]
  by_cases h : iw (i 1) = jw (i 1)
  · simp [(cond4_iff _).mpr h]
  · simp [(cond3_iff _).mpr h]
theorem idle9 (i : grid0.Coords) : (cfgT (F := F)).idle 9 i = false := idle8 i

end Cert.Kernel5Ideal.Att

end

end
-- ==== Proof.Att.Kit.lean ====
/- The frame kit of the attention backward launch at the literal tables: the host operations before the region, the arrays
   the region finds, each window's block at a point, the schedule of the three outputs, and the frame read off a run. -/
module

public import proofs.«01_k».proof.Proof.Att.Tables

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The literal tables are what the region finds. -/
theorem V_pre (c : Dev nD) (j : Fin 2) : V m c (pre0.ref j) = (pfT (F := F)) j := by
  match j with
  | ⟨0, _⟩ =>
    show V m c main_c = fun x => lit0 (S91.rowMajor x)
    simp only [V, hostOps0, List.flatten_cons, List.flatten_nil, List.append_nil, List.cons_append, List.nil_append]
    after_results_simp <;> rfl
  | ⟨1, _⟩ =>
    show V m c main_c_0 = fun x => lit1 (S91.rowMajor x)
    simp only [V, hostOps0, List.flatten_cons, List.flatten_nil, List.append_nil, List.cons_append, List.nil_append]
    after_results_simp <;> rfl

/-- Each table as the body is handed it: its whole buffer as a memref, and that memref's wholeness. -/
abbrev tbM0_0 : Memref sig .tc .smem S91 .i32 := Memref.whole main_c
abbrev htbM0_0 : tbM0_0.IsWhole := Memref.isWhole_whole _
abbrev tbM0_1 : Memref sig .tc .smem S91 .i32 := Memref.whole main_c_0
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 pfT c : sProp 𝕄) = iprop(tbPt0 c tbM0_0 (pfT 0) ∗ tbPt0 c tbM0_1 (pfT 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfgT (F := F)) c) (hA : dat.A 0 = V m c (Pipeline.arrRef spec0 0))
    (hafter : ∀ t, dat.after 0 t = iblk m c 0 t) (t : Fin (cfgT (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfgT (F := F)) c) (hA : dat.A 1 = V m c (Pipeline.arrRef spec0 1))
    (hafter : ∀ t, dat.after 1 t = iblk m c 1 t) (t : Fin (cfgT (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfgT (F := F)) c) (hA : dat.A 2 = V m c (Pipeline.arrRef spec0 2))
    (hafter : ∀ t, dat.after 2 t = iblk m c 2 t) (t : Fin (cfgT (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfgT (F := F)) c) (hA : dat.A 3 = V m c (Pipeline.arrRef spec0 3))
    (hafter : ∀ t, dat.after 3 t = iblk m c 3 t) (t : Fin (cfgT (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfgT (F := F)) c) (hA : dat.A 4 = V m c (Pipeline.arrRef spec0 4))
    (hafter : ∀ t, dat.after 4 t = iblk m c 4 t) (t : Fin (cfgT (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfgT (F := F)) c) (hA : dat.A 5 = V m c (Pipeline.arrRef spec0 5))
    (hafter : ∀ t, dat.after 5 t = iblk m c 5 t) (t : Fin (cfgT (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ (cfgT (F := F)) c) (hA : dat.A 6 = V m c (Pipeline.arrRef spec0 6))
    (hafter : ∀ t, dat.after 6 t = iblk m c 6 t) (t : Fin (cfgT (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ ((Pipeline.pin pcfgs fun _ => (admT (F := F))) p) c)
    (hA : ∀ c w, (dats 0 c).A w = V m c (Pipeline.arrRef spec0 w))
    (h : θ_run defs (onTc (τ := τ) (main (F := F))) (s₀ m ρ) (Pipeline.FramePost (Pipeline.pin pcfgs fun _ => (admT (F := F))) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-- The current staging memref of each window at point `t`: which of its buffers it is on. -/
abbrev st0_0 (t : Fin (cfgT (F := F)).N) := ((cfgT (F := F)).win 0).stage ((cfgT (F := F)).slots t 0)
abbrev st0_1 (t : Fin (cfgT (F := F)).N) := ((cfgT (F := F)).win 1).stage ((cfgT (F := F)).slots t 1)
abbrev st0_2 (t : Fin (cfgT (F := F)).N) := ((cfgT (F := F)).win 2).stage ((cfgT (F := F)).slots t 2)
abbrev st0_3 (t : Fin (cfgT (F := F)).N) := ((cfgT (F := F)).win 3).stage ((cfgT (F := F)).slots t 3)
abbrev st0_4 (t : Fin (cfgT (F := F)).N) := ((cfgT (F := F)).win 4).stage ((cfgT (F := F)).slots t 4)
abbrev st0_5 (t : Fin (cfgT (F := F)).N) := ((cfgT (F := F)).win 5).stage ((cfgT (F := F)).slots t 5)
abbrev st0_6 (t : Fin (cfgT (F := F)).N) := ((cfgT (F := F)).win 6).stage ((cfgT (F := F)).slots t 6)
abbrev st0_7 (t : Fin (cfgT (F := F)).N) := ((cfgT (F := F)).win 7).stage ((cfgT (F := F)).slots t 7)
abbrev st0_8 (t : Fin (cfgT (F := F)).N) := ((cfgT (F := F)).win 8).stage ((cfgT (F := F)).slots t 8)
abbrev st0_9 (t : Fin (cfgT (F := F)).N) := ((cfgT (F := F)).win 9).stage ((cfgT (F := F)).slots t 9)

/-- The kernel body at point `t`, on what the pipeline calls it with (`defs₀`'s row at the slots). -/
abbrev bodyAt0 (t : Fin (cfgT (F := F)).N) : Prog (TpuEff nD τ sig (Elt F) Λ₀ .tc) PUnit :=
  cc0_attn_bwd (grid0.coords t) (Memref.whole main_c) (Memref.isWhole_whole _) (Memref.whole main_c_0) (Memref.isWhole_whole _) (spec0_0.stage ((cfgT (F := F)).slots t 0)) (hstage0_0 (((cfgT (F := F)).slots t 0).cast nbuf0_0)) (spec0_1.stage ((cfgT (F := F)).slots t 1)) (hstage0_1 (((cfgT (F := F)).slots t 1).cast nbuf0_1)) (spec0_2.stage ((cfgT (F := F)).slots t 2)) (hstage0_2 (((cfgT (F := F)).slots t 2).cast nbuf0_2)) (spec0_3.stage ((cfgT (F := F)).slots t 3)) (hstage0_3 (((cfgT (F := F)).slots t 3).cast nbuf0_3)) (spec0_4.stage ((cfgT (F := F)).slots t 4)) (hstage0_4 (((cfgT (F := F)).slots t 4).cast nbuf0_4)) (spec0_5.stage ((cfgT (F := F)).slots t 5)) (hstage0_5 (((cfgT (F := F)).slots t 5).cast nbuf0_5)) (spec0_6.stage ((cfgT (F := F)).slots t 6)) (hstage0_6 (((cfgT (F := F)).slots t 6).cast nbuf0_6)) (spec0_7.stage ((cfgT (F := F)).slots t 7)) (hstage0_7 (((cfgT (F := F)).slots t 7).cast nbuf0_7)) (spec0_8.stage ((cfgT (F := F)).slots t 8)) (hstage0_8 (((cfgT (F := F)).slots t 8).cast nbuf0_8)) (spec0_9.stage ((cfgT (F := F)).slots t 9)) (hstage0_9 (((cfgT (F := F)).slots t 9).cast nbuf0_9))

/-! ## Where the outputs are written back -/

theorem flushOfJ : ∀ t : Fin grid0.N, Pipeline.Window.flushOf grid0 true mapJ t = decide (itN t.val = 12) := by decide +kernel
theorem flush8 (t : Fin (cfgT (F := F)).N) : ((cfgT (F := F)).win 8).flush t = decide (itN t.val = 12) := by
  have h : ((cfgT (F := F)).win 8).flush t = Pipeline.Window.flushOf grid0 true (cc0_transform_8 k0_off1_inb numel1_S1 (pfT (F := F))) t := rfl
  rw [h, show cc0_transform_8 k0_off1_inb numel1_S1 (pfT (F := F)) = mapJ from funext tr8]; exact flushOfJ t
theorem flush9 (t : Fin (cfgT (F := F)).N) : ((cfgT (F := F)).win 9).flush t = decide (itN t.val = 12) := by
  have h : ((cfgT (F := F)).win 9).flush t = Pipeline.Window.flushOf grid0 true (cc0_transform_9 k0_off1_inb numel1_S1 (pfT (F := F))) t := rfl
  rw [h, show cc0_transform_9 k0_off1_inb numel1_S1 (pfT (F := F)) = mapJ from funext tr9]; exact flushOfJ t
theorem flushOf7 : ∀ t : Fin grid0.N, Pipeline.Window.flushOf grid0 true cc0_transform_7 t = decide (t.val % 91 = 90) := by decide +kernel
theorem flush7 (t : Fin (cfgT (F := F)).N) : ((cfgT (F := F)).win 7).flush t = decide (t.val % 91 = 90) := flushOf7 t

theorem it_eq (t : Fin grid0.N) : (iw (grid0.coords t 1)).toNat = itN t.val :=
  congrArg (fun s : Fin 91 => (iw s).toNat) (Fin.ext (coords_step t))
theorem jt_eq (t : Fin grid0.N) : (jw (grid0.coords t 1)).toNat = jtN t.val :=
  congrArg (fun s : Fin 91 => (jw s).toNat) (Fin.ext (coords_step t))
theorem same_iff (t : Fin grid0.N) : iw (grid0.coords t 1) = jw (grid0.coords t 1) ↔ itN t.val = jtN t.val := by
  rw [← it_eq, ← jt_eq]; exact BitVec.toNat_inj.symm
/-- Off the diagonal the step before is of the same column, one row block up, and not its last. -/
theorem prev_off : ∀ s : Fin 91, itN s.val ≠ jtN s.val → s.val ≠ 0 ∧ itN (s.val - 1) ≠ 12 ∧ jtN (s.val - 1) = jtN s.val ∧ itN (s.val - 1) + 1 = itN s.val := by decide +kernel
theorem diag0 : itN 0 = jtN 0 := by decide +kernel
theorem itN_mod (n : ℕ) : itN (n % 91) = itN n := by unfold itN; simp only [Nat.mod_mod]
theorem jtN_mod (n : ℕ) : jtN (n % 91) = jtN n := by unfold jtN; simp only [Nat.mod_mod]

end Cert.Kernel5Ideal.Att

end

end
-- ==== Proof.Att.Vals.lean ====
/- The three gradients after one tile of the attention backward kernel, as functions of the blocks read and of what was there. -/
module

public import proofs.«01_k».proof.Proof.Att.Kit
public import Idealize.ShloMosaic.Lib.VecWindow
public import Idealize.ShloMosaic.Lib.Pipeline.Value

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The offsets of row block `n` of the query gradient. -/
def offR (n : Fin 13) : Fin 3 → ℕ := ![0, 640 * n.val, 0]
theorem offR_inb (n : Fin 13) : ∀ a : Fin S1x8320x128.rank, offR n a + S1x640x128.size a ≤ S1x8320x128.size a := by
  have h := n.isLt
  intro a
  match a with
  | ⟨0, _⟩ => exact Nat.le_refl 1
  | ⟨1, _⟩ => show 640 * n.val + 640 ≤ 8320; omega
  | ⟨2, _⟩ => exact Nat.le_refl 128

/-- Row block `n` of a query gradient. -/
def getR (o : Vec F S1x8320x128 .f32) (n : Fin 13) : Vec F S1x640x128 .f32 := VecWindow.window o (offR n) S1x640x128.size (offR_inb n)
/-- A query gradient with row block `n` replaced. -/
def putR (o : Vec F S1x8320x128 .f32) (n : Fin 13) (w : Vec F S1x640x128 .f32) : Vec F S1x8320x128 .f32 := VecWindow.put o (offR n) S1x640x128.size w

/-- A load of a row block. -/
theorem ld_off {off : Fin 3 → ℕ} {n : Fin 13} (h : off = offR n) (o : Vec F S1x8320x128 .f32) (inb : ∀ a : Fin S1x8320x128.rank, off a + S1x640x128.size a ≤ S1x8320x128.size a) :
    View.ld o (Rect.unit (s := S1x8320x128) off S1x640x128.size inb) = getR o n := by subst h; rfl

section values
variable (x0 x1 : Vec F S1x640x128 .bf16) (x2 : Vec F S640x128 .bf16) (x3 x4 : Vec F S1x640x128 .bf16) (x5 x6 : Vec F S1x1x640 .f32)

/-- One tile's step of the three gradients, off the diagonal, -/
def dvOff (o : Vec F S1x640x128 .f32) : Vec F S1x640x128 .f32 := k0_pay14 x1 x2 x0 x4 x5 o
def dkOff (o : Vec F S1x640x128 .f32) : Vec F S1x640x128 .f32 := k0_pay4 (k0_pay10 x0) (k0_pay13 x1 x2 x0 x4 x5 x3 x6) o
def dqOff (o : Vec F S1x640x128 .f32) : Vec F S1x640x128 .f32 := k0_pay5 (k0_pay9 x1 x2) (k0_pay13 x1 x2 x0 x4 x5 x3 x6) o
/-- and on it. -/
def dvDia (o : Vec F S1x640x128 .f32) : Vec F S1x640x128 .f32 := k0_pay6 (k0_pay17 x4) (k0_pay18 x1 x2 x0 x5) o
def dkDia (o : Vec F S1x640x128 .f32) : Vec F S1x640x128 .f32 := k0_pay7 (k0_pay16 x0) (k0_pay19 x1 x2 x0 x4 x5 x3 x6) o
def dqDia (o : Vec F S1x640x128 .f32) : Vec F S1x640x128 .f32 := k0_pay8 (k0_pay15 x1 x2) (k0_pay19 x1 x2 x0 x4 x5 x3 x6) o
end values

/-- A table's word at a point, as a scalar read of the table's buffer. -/
abbrev wordAt (i : grid0.Coords) (c : Dev nD) (M : Memref sig .tc .smem S91 .i32) (f : TbBuf0 (F := F) c M) : BitVec 32 :=
  M.view.readAt (Elt F) (Rect.unit (s := S91) (k0_off1 i) S1.size (k0_off1_inb i)).toLoadRect f (Shape.Idx.first (numel1_S1.symm ▸ Nat.one_pos))

theorem hz3 : (![0, 0, 0] : Fin 3 → ℕ) = fun _ => 0 := by funext a; fin_cases a <;> rfl
theorem hz2 : (![0, 0] : Fin 2 → ℕ) = fun _ => 0 := by funext a; fin_cases a <;> rfl

end Cert.Kernel5Ideal.Att

end

end
-- ==== Proof.Att.Data.lean ====
/- The proof data of the attention backward kernel: what every buffer holds after each grid point, as one function of the point and of the blocks read. -/
module

public import proofs.«01_k».proof.Proof.Att.Vals

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Point number `n` of the grid, total in `n`. -/
def pt (n : ℕ) : Fin (cfgT (F := F)).N := ⟨n % 728, lt_of_lt_of_eq (Nat.mod_lt _ (by decide)) N_0.symm⟩
theorem pt_val (t : Fin (cfgT (F := F)).N) : pt t.val = t :=
  Fin.ext (Nat.mod_eq_of_lt (lt_of_lt_of_eq t.isLt N_0))

theorem iw_lt : ∀ s : Fin 91, (iw s).toNat < 13 := by decide +kernel
/-- The row block of point `n`. -/
def itF (n : ℕ) : Fin 13 := ⟨itN n, iw_lt _⟩

/-! ## The blocks read at point `n` -/

def b0 (c : Dev nD) (n : ℕ) : Vec F S1x640x128 .bf16 := iblk m c 0 (pt n)
def b1 (c : Dev nD) (n : ℕ) : Vec F S1x640x128 .bf16 := iblk m c 1 (pt n)
def b2 (c : Dev nD) (n : ℕ) : Vec F S640x128 .bf16 := iblk m c 2 (pt n)
def b3 (c : Dev nD) (n : ℕ) : Vec F S1x640x128 .bf16 := iblk m c 3 (pt n)
def b4 (c : Dev nD) (n : ℕ) : Vec F S1x640x128 .bf16 := iblk m c 4 (pt n)
def b5 (c : Dev nD) (n : ℕ) : Vec F S1x1x640 .f32 := iblk m c 5 (pt n)
def b6 (c : Dev nD) (n : ℕ) : Vec F S1x1x640 .f32 := iblk m c 6 (pt n)

/-! ## What the three gradients hold after each point -/

/-- One point's step of the query gradient, -/
def dqStep (c : Dev nD) (n : ℕ) (o : Vec F S1x8320x128 .f32) : Vec F S1x8320x128 .f32 :=
  putR o (itF n) (if itN n = jtN n then dqDia (b0 m c n) (b1 m c n) (b2 m c n) (b3 m c n) (b4 m c n) (b5 m c n) (b6 m c n) (getR o (itF n)) else dqOff (b0 m c n) (b1 m c n) (b2 m c n) (b3 m c n) (b4 m c n) (b5 m c n) (b6 m c n) (getR o (itF n)))
/-- of the key gradient, -/
def dkStep (c : Dev nD) (n : ℕ) (o : Vec F S1x640x128 .f32) : Vec F S1x640x128 .f32 :=
  if itN n = jtN n then dkDia (b0 m c n) (b1 m c n) (b2 m c n) (b3 m c n) (b4 m c n) (b5 m c n) (b6 m c n) k0_pay2 else dkOff (b0 m c n) (b1 m c n) (b2 m c n) (b3 m c n) (b4 m c n) (b5 m c n) (b6 m c n) o
/-- and of the value gradient. -/
def dvStep (c : Dev nD) (n : ℕ) (o : Vec F S1x640x128 .f32) : Vec F S1x640x128 .f32 :=
  if itN n = jtN n then dvDia (b0 m c n) (b1 m c n) (b2 m c n) (b4 m c n) (b5 m c n) k0_pay3 else dvOff (b0 m c n) (b1 m c n) (b2 m c n) (b4 m c n) (b5 m c n) o

/-- The query gradient after point `n`: zero at the first point of a head, then each point's step. -/
def dqAt (c : Dev nD) : ℕ → Vec F S1x8320x128 .f32
  | 0 => dqStep m c 0 k0_pay1
  | n + 1 => if (n + 1) % 91 = 0 then dqStep m c (n + 1) k0_pay1 else dqStep m c (n + 1) (dqAt c n)
/-- The key gradient after point `n`: each point's step, which starts afresh on the diagonal. -/
def dkAt (c : Dev nD) : ℕ → Vec F S1x640x128 .f32
  | 0 => dkStep m c 0 k0_pay2
  | n + 1 => dkStep m c (n + 1) (dkAt c n)
/-- The value gradient likewise. -/
def dvAt (c : Dev nD) : ℕ → Vec F S1x640x128 .f32
  | 0 => dvStep m c 0 k0_pay3
  | n + 1 => dvStep m c (n + 1) (dvAt c n)

theorem dqAt_head (c : Dev nD) {n : ℕ} (h : n % 91 = 0) : dqAt m c n = dqStep m c n k0_pay1 := by
  cases n with
  | zero => rfl
  | succ n => exact if_pos h
theorem dqAt_later (c : Dev nD) {n : ℕ} (h : ¬ n % 91 = 0) : dqAt m c n = dqStep m c n (dqAt m c (n - 1)) := by
  cases n with
  | zero => exact absurd rfl h
  | succ n => exact if_neg h
theorem dkAt_dia (c : Dev nD) {n : ℕ} (h : itN n = jtN n) : dkAt m c n = dkDia (b0 m c n) (b1 m c n) (b2 m c n) (b3 m c n) (b4 m c n) (b5 m c n) (b6 m c n) k0_pay2 := by
  cases n with
  | zero => simp only [dkAt, dkStep, if_pos h]
  | succ n => simp only [dkAt, dkStep, if_pos h]
theorem dvAt_dia (c : Dev nD) {n : ℕ} (h : itN n = jtN n) : dvAt m c n = dvDia (b0 m c n) (b1 m c n) (b2 m c n) (b4 m c n) (b5 m c n) k0_pay3 := by
  cases n with
  | zero => simp only [dvAt, dvStep, if_pos h]
  | succ n => simp only [dvAt, dvStep, if_pos h]
theorem dkAt_off (c : Dev nD) {n : ℕ} (h : ¬ itN n = jtN n) : dkAt m c n = dkOff (b0 m c n) (b1 m c n) (b2 m c n) (b3 m c n) (b4 m c n) (b5 m c n) (b6 m c n) (dkAt m c (n - 1)) := by
  cases n with
  | zero => exact absurd diag0 h
  | succ n => exact if_neg h
theorem dvAt_off (c : Dev nD) {n : ℕ} (h : ¬ itN n = jtN n) : dvAt m c n = dvOff (b0 m c n) (b1 m c n) (b2 m c n) (b4 m c n) (b5 m c n) (dvAt m c (n - 1)) := by
  cases n with
  | zero => exact absurd diag0 h
  | succ n => exact if_neg h

/-- The pipeline's proof data: each input's buffer at its block, each output's at the value above. -/
def dats (_ : Fin 1) (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t.val
    | ⟨8, _⟩ => dkAt m c t.val
    | ⟨9, _⟩ => dvAt m c t.val
  Φ _ := iprop(Pipeline.ΦA spec0 c ∗ Pipeline.ΦT pre0 pfT c)
  q w := Pipeline.shareOf spec0 w
  owed _ := 0

theorem A_eq (c : Dev nD) (w : Fin (cfgT (F := F)).W) : (dats m 0 c).A w = V m c (Pipeline.arrRef spec0 w) := by
  dsimp only [dats]
theorem after0_0 (c : Dev nD) (t : Fin (cfgT (F := F)).N) : (dats m 0 c).after 0 t = iblk m c 0 t := by dsimp only [dats]; try rfl
theorem after0_1 (c : Dev nD) (t : Fin (cfgT (F := F)).N) : (dats m 0 c).after 1 t = iblk m c 1 t := by dsimp only [dats]; try rfl
theorem after0_2 (c : Dev nD) (t : Fin (cfgT (F := F)).N) : (dats m 0 c).after 2 t = iblk m c 2 t := by dsimp only [dats]; try rfl
theorem after0_3 (c : Dev nD) (t : Fin (cfgT (F := F)).N) : (dats m 0 c).after 3 t = iblk m c 3 t := by dsimp only [dats]; try rfl
theorem after0_4 (c : Dev nD) (t : Fin (cfgT (F := F)).N) : (dats m 0 c).after 4 t = iblk m c 4 t := by dsimp only [dats]; try rfl
theorem after0_5 (c : Dev nD) (t : Fin (cfgT (F := F)).N) : (dats m 0 c).after 5 t = iblk m c 5 t := by dsimp only [dats]; try rfl
theorem after0_6 (c : Dev nD) (t : Fin (cfgT (F := F)).N) : (dats m 0 c).after 6 t = iblk m c 6 t := by dsimp only [dats]; try rfl
theorem after0_7 (c : Dev nD) (t : Fin (cfgT (F := F)).N) : (dats m 0 c).after 7 t = dqAt m c t.val := by dsimp only [dats]; try rfl
theorem after0_8 (c : Dev nD) (t : Fin (cfgT (F := F)).N) : (dats m 0 c).after 8 t = dkAt m c t.val := by dsimp only [dats]; try rfl
theorem after0_9 (c : Dev nD) (t : Fin (cfgT (F := F)).N) : (dats m 0 c).after 9 t = dvAt m c t.val := by dsimp only [dats]; try rfl
theorem before0_0 (c : Dev nD) (t : Fin (cfgT (F := F)).N) (d) : (dats m 0 c).before 0 t d = iblk m c 0 t :=
  before0_0_of m (dats m 0 c) (A_eq m c 0) (after0_0 m c) t d
theorem before0_1 (c : Dev nD) (t : Fin (cfgT (F := F)).N) (d) : (dats m 0 c).before 1 t d = iblk m c 1 t :=
  before0_1_of m (dats m 0 c) (A_eq m c 1) (after0_1 m c) t d
theorem before0_2 (c : Dev nD) (t : Fin (cfgT (F := F)).N) (d) : (dats m 0 c).before 2 t d = iblk m c 2 t :=
  before0_2_of m (dats m 0 c) (A_eq m c 2) (after0_2 m c) t d
theorem before0_3 (c : Dev nD) (t : Fin (cfgT (F := F)).N) (d) : (dats m 0 c).before 3 t d = iblk m c 3 t :=
  before0_3_of m (dats m 0 c) (A_eq m c 3) (after0_3 m c) t d
theorem before0_4 (c : Dev nD) (t : Fin (cfgT (F := F)).N) (d) : (dats m 0 c).before 4 t d = iblk m c 4 t :=
  before0_4_of m (dats m 0 c) (A_eq m c 4) (after0_4 m c) t d
theorem before0_5 (c : Dev nD) (t : Fin (cfgT (F := F)).N) (d) : (dats m 0 c).before 5 t d = iblk m c 5 t :=
  before0_5_of m (dats m 0 c) (A_eq m c 5) (after0_5 m c) t d
theorem before0_6 (c : Dev nD) (t : Fin (cfgT (F := F)).N) (d) : (dats m 0 c).before 6 t d = iblk m c 6 t :=
  before0_6_of m (dats m 0 c) (A_eq m c 6) (after0_6 m c) t d

/-- Off the diagonal the point before is of the same head and column, and did not write the column back. -/
theorem prev_not_last {n : ℕ} (h : ¬ itN n = jtN n) : n % 91 ≠ 0 ∧ itN (n - 1) ≠ 12 ∧ jtN (n - 1) = jtN n ∧ itN (n - 1) + 1 = itN n := by
  have hp := prev_off ⟨n % 91, Nat.mod_lt _ (by decide)⟩ (by rw [itN_mod, jtN_mod]; exact h)
  have e : (n - 1) % 91 = n % 91 - 1 := by have := hp.1; dsimp only at this; omega
  have h1 : itN (n - 1) = itN (n % 91 - 1) := by rw [← e, itN_mod]
  have h2 : jtN (n - 1) = jtN (n % 91 - 1) := by rw [← e, jtN_mod]
  rw [h1, h2]
  refine ⟨hp.1, hp.2.1, hp.2.2.1.trans (jtN_mod n), hp.2.2.2.trans (itN_mod n)⟩

/-- After the first point of a head the query gradient's buffer holds what the point before left. -/
theorem before0_7 (c : Dev nD) (t : Fin (cfgT (F := F)).N) (h : ¬ t.val % 91 = 0) (d) : (dats m 0 c).before 7 t d = dqAt m c (t.val - 1) := by
  rw [Dat.before_out_kept (dats m 0 c) 7 rfl t (fun h0 => h (by rw [h0])) (by rw [flush7]; simp only [decide_eq_false_iff_not]; omega) idle7 (fun _ _ => rfl) d, after0_7]
/-- Off the diagonal the key gradient's buffer holds what the point before left, -/
theorem before0_8 (c : Dev nD) (t : Fin (cfgT (F := F)).N) (h : ¬ itN t.val = jtN t.val) (d) : (dats m 0 c).before 8 t d = dkAt m c (t.val - 1) := by
  rw [Dat.before_out_kept (dats m 0 c) 8 rfl t (fun h0 => (prev_not_last h).1 (by rw [h0])) (by rw [flush8]; simp only [decide_eq_false_iff_not]; exact (prev_not_last h).2.1) idle8 (fun _ _ => rfl) d, after0_8]
/-- and the value gradient's likewise. -/
theorem before0_9 (c : Dev nD) (t : Fin (cfgT (F := F)).N) (h : ¬ itN t.val = jtN t.val) (d) : (dats m 0 c).before 9 t d = dvAt m c (t.val - 1) := by
  rw [Dat.before_out_kept (dats m 0 c) 9 rfl t (fun h0 => (prev_not_last h).1 (by rw [h0])) (by rw [flush9]; simp only [decide_eq_false_iff_not]; exact (prev_not_last h).2.1) idle9 (fun _ _ => rfl) d, after0_9]

/-- The tables' words at a point. -/
theorem word0 (c : Dev nD) (i : grid0.Coords) : wordAt (F := F) i c tbM0_0 (pfT 0) = iw (i 1) := at0 (F := F) i
theorem word1 (c : Dev nD) (i : grid0.Coords) : wordAt (F := F) i c tbM0_1 (pfT 1) = jw (i 1) := at1 (F := F) i

/-! ## The body at a generic point -/

/-- What the body is called with at point `t`, window by window, -/
def bodyPre (c : Dev nD) (t : Fin (cfgT (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- and what it returns. -/
def bodyPost (c : Dev nD) (t : Fin (cfgT (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

end Cert.Kernel5Ideal.Att

end

end
-- ==== Proof.Att.RunA.lean ====
/- The body of the attention backward kernel run at the first step of a head. -/
module

public import proofs.«01_k».proof.Proof.Att.Vals

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first step of a head: all three gradients are zeroed, then the diagonal tile is added. -/
theorem runA (c : Dev nD) (i : grid0.Coords) (arg4 : Memref sig .tc .vmem S1x640x128 .bf16) (harg4 : arg4.IsWhole) (arg5 : Memref sig .tc .vmem S1x640x128 .bf16) (harg5 : arg5.IsWhole) (arg6 : Memref sig .tc .vmem S640x128 .bf16) (harg6 : arg6.IsWhole) (arg7 : Memref sig .tc .vmem S1x640x128 .bf16) (harg7 : arg7.IsWhole) (arg8 : Memref sig .tc .vmem S1x640x128 .bf16) (harg8 : arg8.IsWhole) (arg9 : Memref sig .tc .vmem S1x1x640 .f32) (harg9 : arg9.IsWhole) (arg10 : Memref sig .tc .vmem S1x1x640 .f32) (harg10 : arg10.IsWhole) (arg11 : Memref sig .tc .vmem S1x8320x128 .f32) (harg11 : arg11.IsWhole) (arg12 : Memref sig .tc .vmem S1x640x128 .f32) (harg12 : arg12.IsWhole) (arg13 : Memref sig .tc .vmem S1x640x128 .f32) (harg13 : arg13.IsWhole)
    (g0 : TbBuf0 (F := F) c tbM0_0) (g1 : TbBuf0 (F := F) c tbM0_1) (hck : k0_chk1 (wordAt i c tbM0_0 g0) (wordAt i c tbM0_1 g1)) (hc1 : k0_cond1 i = 1#1) (hc2 : k0_cond2 (wordAt i c tbM0_0 g0) (wordAt i c tbM0_1 g1) = 1#1) (hc3 : ¬ (k0_cond3 (wordAt i c tbM0_0 g0) (wordAt i c tbM0_1 g1) = 1#1)) (hc4 : k0_cond4 (wordAt i c tbM0_0 g0) (wordAt i c tbM0_1 g1) = 1#1) (n : Fin 13) (hoff : k0_off3 (wordAt i c tbM0_0 g0) = offR n)
    (x0 x1 : Vec F S1x640x128 .bf16) (x2 : Vec F S640x128 .bf16) (x3 x4 : Vec F S1x640x128 .bf16) (x5 x6 : Vec F S1x1x640 .f32)  (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ tbPt0 c tbM0_0 g0 ∗ tbPt0 c tbM0_1 g1
      ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (putR k0_pay1 n (dqDia x0 x1 x2 x3 x4 x5 x6 (getR k0_pay1 n))) ∗ owns (c : Thread nD τ) arg12 fullShare (dkDia x0 x1 x2 x3 x4 x5 x6 k0_pay2) ∗ owns (c : Thread nD τ) arg13 fullShare (dvDia x0 x1 x2 x4 x5 k0_pay3) ∗ tbPt0 c tbM0_0 g0 ∗ tbPt0 c tbM0_1 g1) -∗ K ⟨⟩))
      ⊢ wp frame (wpE (defs₀ (F := F)) Variants.none c none) E (cc0_attn_bwd i tbM0_0 htbM0_0 tbM0_1 htbM0_1 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hck | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    unfold putR dqDia
    rw [View.read_writes_cons_put _ _ _ _ _ hoff]
    have e : ∀ f : Buf (Elt F) (arg11.view.loc (c : Thread nD τ)), arg11.view.read (Elt F) (arg11.view.writes (Elt F) f [⟨Rect.unit ![0, 0, 0] ![1, 8320, 128] inb_S1x8320x128_S1x8320x128_0_0_0, k0_pay1⟩]) = k0_pay1 := fun f => View.read_writes_full _ _ _ _ _
    sl_unfold_words
    simp only [e, View.readCov, View.readAt_eq_ld, harg4.read_unread, harg5.read_unread, harg6.read_unread, harg7.read_unread, harg8.read_unread, harg9.read_unread, harg10.read_unread, harg11.read_unread, harg12.read_unread, harg13.read_unread, View.readCov_unit_zero (S := S1x640x128) _ hz3, View.ld_unit_zero (S := S1x640x128) hz3, View.ld_unit_zero (S := S640x128) hz2, View.ld_unit_zero (S := S1x1x640) hz3]
    congr 2
    all_goals (refine ld_off (F := F) ?_ _ _; exact hoff)
  isplitl [H8]
  · iexists _; isplitr
    swap; · iexact H8
    ipureintro
    unfold dkDia
    refine (View.read_writes_full _ _ _ _ _).trans ?_
    sl_unfold_words
    simp only [View.readAt_eq_ld, harg4.read_unread, harg5.read_unread, harg6.read_unread, harg7.read_unread, harg8.read_unread, harg9.read_unread, harg10.read_unread, harg11.read_unread, harg12.read_unread, harg13.read_unread, View.readCov_unit_zero (S := S1x640x128) _ hz3, View.ld_unit_zero (S := S1x640x128) hz3, View.ld_unit_zero (S := S640x128) hz2, View.ld_unit_zero (S := S1x1x640) hz3]
  isplitl [H9]
  · iexists _; isplitr
    swap; · iexact H9
    ipureintro
    unfold dvDia
    refine (View.read_writes_full _ _ _ _ _).trans ?_
    sl_unfold_words
    simp only [View.readAt_eq_ld, harg4.read_unread, harg5.read_unread, harg6.read_unread, harg7.read_unread, harg8.read_unread, harg9.read_unread, harg10.read_unread, harg11.read_unread, harg12.read_unread, harg13.read_unread, View.readCov_unit_zero (S := S1x640x128) _ hz3, View.ld_unit_zero (S := S1x640x128) hz3, View.ld_unit_zero (S := S640x128) hz2, View.ld_unit_zero (S := S1x1x640) hz3]
  isplitl [HT0]; · iexact HT0
  iexact HT1

end Cert.Kernel5Ideal.Att

end

end
-- ==== Proof.Att.SoundA.lean ====
/- The body obligation of the attention backward kernel at the first point of a head. -/
module

public import proofs.«01_k».proof.Proof.Att.Data
public import proofs.«01_k».proof.Proof.Att.RunA

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (c : Dev nD) (t : Fin (cfgT (F := F)).N) (h0 : t.val % 91 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = iprop(Pipeline.ΦA spec0 c ∗ Pipeline.ΦT pre0 pfT c) from rfl, show (dats m 0 c).Φ t.castSucc = iprop(Pipeline.ΦA spec0 c ∗ Pipeline.ΦT pre0 pfT c) from rfl, PhiT0_eq]
  rw [show (dats m 0 c).leavesExact 0 t = owns (c : Thread nD τ) (st0_0 t) fullShare ((dats m 0 c).after 0 t) from by
      unfold Dat.leavesExact; rw [show (cfgT (F := F)).idle 0 ((cfgT (F := F)).grid.coords t) = false from rfl], after0_0]
  rw [show (dats m 0 c).leavesExact 1 t = owns (c : Thread nD τ) (st0_1 t) fullShare ((dats m 0 c).after 1 t) from by
      unfold Dat.leavesExact; rw [show (cfgT (F := F)).idle 1 ((cfgT (F := F)).grid.coords t) = false from rfl], after0_1]
  rw [show (dats m 0 c).leavesExact 2 t = owns (c : Thread nD τ) (st0_2 t) fullShare ((dats m 0 c).after 2 t) from by
      unfold Dat.leavesExact; rw [show (cfgT (F := F)).idle 2 ((cfgT (F := F)).grid.coords t) = false from rfl], after0_2]
  rw [show (dats m 0 c).leavesExact 3 t = owns (c : Thread nD τ) (st0_3 t) fullShare ((dats m 0 c).after 3 t) from by
      unfold Dat.leavesExact; rw [show (cfgT (F := F)).idle 3 ((cfgT (F := F)).grid.coords t) = false from rfl], after0_3]
  rw [show (dats m 0 c).leavesExact 4 t = owns (c : Thread nD τ) (st0_4 t) fullShare ((dats m 0 c).after 4 t) from by
      unfold Dat.leavesExact; rw [show (cfgT (F := F)).idle 4 ((cfgT (F := F)).grid.coords t) = false from rfl], after0_4]
  rw [show (dats m 0 c).leavesExact 5 t = owns (c : Thread nD τ) (st0_5 t) fullShare ((dats m 0 c).after 5 t) from by
      unfold Dat.leavesExact; rw [show (cfgT (F := F)).idle 5 ((cfgT (F := F)).grid.coords t) = false from rfl], after0_5]
  rw [show (dats m 0 c).leavesExact 6 t = owns (c : Thread nD τ) (st0_6 t) fullShare ((dats m 0 c).after 6 t) from by
      unfold Dat.leavesExact; rw [show (cfgT (F := F)).idle 6 ((cfgT (F := F)).grid.coords t) = false from rfl], after0_6]
  rw [show (dats m 0 c).leavesExact 7 t = owns (c : Thread nD τ) (st0_7 t) fullShare ((dats m 0 c).after 7 t) from by
      unfold Dat.leavesExact; rw [show (cfgT (F := F)).idle 7 ((cfgT (F := F)).grid.coords t) = false from idle7 _], after0_7]
  rw [show (dats m 0 c).leavesExact 8 t = owns (c : Thread nD τ) (st0_8 t) fullShare ((dats m 0 c).after 8 t) from by
      unfold Dat.leavesExact; rw [show (cfgT (F := F)).idle 8 ((cfgT (F := F)).grid.coords t) = false from idle8 _], after0_8]
  rw [show (dats m 0 c).leavesExact 9 t = owns (c : Thread nD τ) (st0_9 t) fullShare ((dats m 0 c).after 9 t) from by
      unfold Dat.leavesExact; rw [show (cfgT (F := F)).idle 9 ((cfgT (F := F)).grid.coords t) = false from idle9 _], after0_9]
  have hd : itN t.val = jtN t.val := by rw [← itN_mod, ← jtN_mod, h0]; exact diag0
  have hp : pt t.val = t := pt_val t
  have e0 := word0 (F := F) c (grid0.coords t)
  have e1 := word1 (F := F) c (grid0.coords t)
  have hck : k0_chk1 (wordAt (F := F) (grid0.coords t) c tbM0_0 (pfT 0)) (wordAt (F := F) (grid0.coords t) c tbM0_1 (pfT 1)) := by rw [e0, e1]; exact chk_all _
  have hc1 : k0_cond1 (grid0.coords t) = 1#1 := (cond1_iff _).mpr ((coords_step t).trans h0)
  have hc2 : k0_cond2 (wordAt (F := F) (grid0.coords t) c tbM0_0 (pfT 0)) (wordAt (F := F) (grid0.coords t) c tbM0_1 (pfT 1)) = 1#1 := by rw [e0, e1]; exact (cond2_iff _).mpr ((same_iff t).mpr hd)
  have hc3 : ¬ (k0_cond3 (wordAt (F := F) (grid0.coords t) c tbM0_0 (pfT 0)) (wordAt (F := F) (grid0.coords t) c tbM0_1 (pfT 1)) = 1#1) := by rw [e0, e1]; exact fun h => (cond3_iff _).mp h ((same_iff t).mpr hd)
  have hc4 : k0_cond4 (wordAt (F := F) (grid0.coords t) c tbM0_0 (pfT 0)) (wordAt (F := F) (grid0.coords t) c tbM0_1 (pfT 1)) = 1#1 := by rw [e0, e1]; exact (cond4_iff _).mpr ((same_iff t).mpr hd)
  have hoff : k0_off3 (wordAt (F := F) (grid0.coords t) c tbM0_0 (pfT 0)) = offR (itF t.val) := by
    rw [e0]; refine (off3_eq _).trans ?_
    exact congrArg (fun n : ℕ => (![0, 640 * n, 0] : Fin 3 → ℕ)) (it_eq t)
  iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA c (grid0.coords t) _ _ _ _ _ _ _ _ _ _ _ _ _ _ _ _ _ _ _ _ _ _ hck hc1 hc2 hc3 hc4 (itF t.val) hoff (iblk m c 0 t) (iblk m c 1 t) (iblk m c 2 t) (iblk m c 3 t) (iblk m c 4 t) (iblk m c 5 t) (iblk m c 6 t)  Set.univ _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HT0]; · iexact HT0
  isplitl [HT1]; · iexact HT1
  iintro ⟨H0, H1, H2, H3, H4, H5, H6, H7, H8, H9, HT0, HT1⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [dqAt_head m c h0, dqStep, if_pos hd, b0, b1, b2, b3, b4, b5, b6, hp]; iexact H7
  isplitl [H8]
  · rw [dkAt_dia m c hd, b0, b1, b2, b3, b4, b5, b6, hp]; iexact H8
  rw [dvAt_dia m c hd, b0, b1, b2, b4, b5, hp]; iexact H9

end Cert.Kernel5Ideal.Att

end

end
-- ==== Proof.Att.RunB.lean ====
/- The body of the attention backward kernel run at a later diagonal tile. -/
module

public import proofs.«01_k».proof.Proof.Att.Vals

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later diagonal tile: the key and value gradients are zeroed, then the tile is added. -/
theorem runB (c : Dev nD) (i : grid0.Coords) (arg4 : Memref sig .tc .vmem S1x640x128 .bf16) (harg4 : arg4.IsWhole) (arg5 : Memref sig .tc .vmem S1x640x128 .bf16) (harg5 : arg5.IsWhole) (arg6 : Memref sig .tc .vmem S640x128 .bf16) (harg6 : arg6.IsWhole) (arg7 : Memref sig .tc .vmem S1x640x128 .bf16) (harg7 : arg7.IsWhole) (arg8 : Memref sig .tc .vmem S1x640x128 .bf16) (harg8 : arg8.IsWhole) (arg9 : Memref sig .tc .vmem S1x1x640 .f32) (harg9 : arg9.IsWhole) (arg10 : Memref sig .tc .vmem S1x1x640 .f32) (harg10 : arg10.IsWhole) (arg11 : Memref sig .tc .vmem S1x8320x128 .f32) (harg11 : arg11.IsWhole) (arg12 : Memref sig .tc .vmem S1x640x128 .f32) (harg12 : arg12.IsWhole) (arg13 : Memref sig .tc .vmem S1x640x128 .f32) (harg13 : arg13.IsWhole)
    (g0 : TbBuf0 (F := F) c tbM0_0) (g1 : TbBuf0 (F := F) c tbM0_1) (hck : k0_chk1 (wordAt i c tbM0_0 g0) (wordAt i c tbM0_1 g1)) (hc1 : ¬ (k0_cond1 i = 1#1)) (hc2 : k0_cond2 (wordAt i c tbM0_0 g0) (wordAt i c tbM0_1 g1) = 1#1) (hc3 : ¬ (k0_cond3 (wordAt i c tbM0_0 g0) (wordAt i c tbM0_1 g1) = 1#1)) (hc4 : k0_cond4 (wordAt i c tbM0_0 g0) (wordAt i c tbM0_1 g1) = 1#1) (n : Fin 13) (hoff : k0_off3 (wordAt i c tbM0_0 g0) = offR n)
    (x0 x1 : Vec F S1x640x128 .bf16) (x2 : Vec F S640x128 .bf16) (x3 x4 : Vec F S1x640x128 .bf16) (x5 x6 : Vec F S1x1x640 .f32) (o7 : Vec F S1x8320x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare o7 ∗ (∃ d, owns (c : Thread nD τ) arg12 fullShare d) ∗ (∃ d, owns (c : Thread nD τ) arg13 fullShare d) ∗ tbPt0 c tbM0_0 g0 ∗ tbPt0 c tbM0_1 g1
      ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (putR o7 n (dqDia x0 x1 x2 x3 x4 x5 x6 (getR o7 n))) ∗ owns (c : Thread nD τ) arg12 fullShare (dkDia x0 x1 x2 x3 x4 x5 x6 k0_pay2) ∗ owns (c : Thread nD τ) arg13 fullShare (dvDia x0 x1 x2 x4 x5 k0_pay3) ∗ tbPt0 c tbM0_0 g0 ∗ tbPt0 c tbM0_1 g1) -∗ K ⟨⟩))
      ⊢ wp frame (wpE (defs₀ (F := F)) Variants.none c none) E (cc0_attn_bwd i tbM0_0 htbM0_0 tbM0_1 htbM0_1 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hck | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    unfold putR dqDia
    rw [View.read_writes_cons_put _ _ _ _ _ hoff]
    sl_unfold_words
    simp only [View.writes_nil, View.readAt_eq_ld, harg4.read_unread, harg5.read_unread, harg6.read_unread, harg7.read_unread, harg8.read_unread, harg9.read_unread, harg10.read_unread, harg11.read_unread, harg12.read_unread, harg13.read_unread, View.readCov_unit_zero (S := S1x640x128) _ hz3, View.ld_unit_zero (S := S1x640x128) hz3, View.ld_unit_zero (S := S640x128) hz2, View.ld_unit_zero (S := S1x1x640) hz3]
    congr 2
    all_goals (refine ld_off (F := F) ?_ _ _; exact hoff)
  isplitl [H8]
  · iexists _; isplitr
    swap; · iexact H8
    ipureintro
    unfold dkDia
    refine (View.read_writes_full _ _ _ _ _).trans ?_
    sl_unfold_words
    simp only [View.readAt_eq_ld, harg4.read_unread, harg5.read_unread, harg6.read_unread, harg7.read_unread, harg8.read_unread, harg9.read_unread, harg10.read_unread, harg11.read_unread, harg12.read_unread, harg13.read_unread, View.readCov_unit_zero (S := S1x640x128) _ hz3, View.ld_unit_zero (S := S1x640x128) hz3, View.ld_unit_zero (S := S640x128) hz2, View.ld_unit_zero (S := S1x1x640) hz3]
  isplitl [H9]
  · iexists _; isplitr
    swap; · iexact H9
    ipureintro
    unfold dvDia
    refine (View.read_writes_full _ _ _ _ _).trans ?_
    sl_unfold_words
    simp only [View.readAt_eq_ld, harg4.read_unread, harg5.read_unread, harg6.read_unread, harg7.read_unread, harg8.read_unread, harg9.read_unread, harg10.read_unread, harg11.read_unread, harg12.read_unread, harg13.read_unread, View.readCov_unit_zero (S := S1x640x128) _ hz3, View.ld_unit_zero (S := S1x640x128) hz3, View.ld_unit_zero (S := S640x128) hz2, View.ld_unit_zero (S := S1x1x640) hz3]
  isplitl [HT0]; · iexact HT0
  iexact HT1

end Cert.Kernel5Ideal.Att

end

end
-- ==== Proof.Att.SoundB.lean ====
/- The body obligation of the attention backward kernel at a later diagonal point. -/
module

public import proofs.«01_k».proof.Proof.Att.Data
public import proofs.«01_k».proof.Proof.Att.RunB

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (c : Dev nD) (t : Fin (cfgT (F := F)).N) (h0 : ¬ t.val % 91 = 0) (hd : itN t.val = jtN t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = iprop(Pipeline.ΦA spec0 c ∗ Pipeline.ΦT pre0 pfT c) from rfl, show (dats m 0 c).Φ t.castSucc = iprop(Pipeline.ΦA spec0 c ∗ Pipeline.ΦT pre0 pfT c) from rfl, PhiT0_eq]
  rw [show (dats m 0 c).leavesExact 0 t = owns (c : Thread nD τ) (st0_0 t) fullShare ((dats m 0 c).after 0 t) from by
      unfold Dat.leavesExact; rw [show (cfgT (F := F)).idle 0 ((cfgT (F := F)).grid.coords t) = false from rfl], after0_0]
  rw [show (dats m 0 c).leavesExact 1 t = owns (c : Thread nD τ) (st0_1 t) fullShare ((dats m 0 c).after 1 t) from by
      unfold Dat.leavesExact; rw [show (cfgT (F := F)).idle 1 ((cfgT (F := F)).grid.coords t) = false from rfl], after0_1]
  rw [show (dats m 0 c).leavesExact 2 t = owns (c : Thread nD τ) (st0_2 t) fullShare ((dats m 0 c).after 2 t) from by
      unfold Dat.leavesExact; rw [show (cfgT (F := F)).idle 2 ((cfgT (F := F)).grid.coords t) = false from rfl], after0_2]
  rw [show (dats m 0 c).leavesExact 3 t = owns (c : Thread nD τ) (st0_3 t) fullShare ((dats m 0 c).after 3 t) from by
      unfold Dat.leavesExact; rw [show (cfgT (F := F)).idle 3 ((cfgT (F := F)).grid.coords t) = false from rfl], after0_3]
  rw [show (dats m 0 c).leavesExact 4 t = owns (c : Thread nD τ) (st0_4 t) fullShare ((dats m 0 c).after 4 t) from by
      unfold Dat.leavesExact; rw [show (cfgT (F := F)).idle 4 ((cfgT (F := F)).grid.coords t) = false from rfl], after0_4]
  rw [show (dats m 0 c).leavesExact 5 t = owns (c : Thread nD τ) (st0_5 t) fullShare ((dats m 0 c).after 5 t) from by
      unfold Dat.leavesExact; rw [show (cfgT (F := F)).idle 5 ((cfgT (F := F)).grid.coords t) = false from rfl], after0_5]
  rw [show (dats m 0 c).leavesExact 6 t = owns (c : Thread nD τ) (st0_6 t) fullShare ((dats m 0 c).after 6 t) from by
      unfold Dat.leavesExact; rw [show (cfgT (F := F)).idle 6 ((cfgT (F := F)).grid.coords t) = false from rfl], after0_6]
  rw [show (dats m 0 c).leavesExact 7 t = owns (c : Thread nD τ) (st0_7 t) fullShare ((dats m 0 c).after 7 t) from by
      unfold Dat.leavesExact; rw [show (cfgT (F := F)).idle 7 ((cfgT (F := F)).grid.coords t) = false from idle7 _], after0_7]
  rw [show (dats m 0 c).leavesExact 8 t = owns (c : Thread nD τ) (st0_8 t) fullShare ((dats m 0 c).after 8 t) from by
      unfold Dat.leavesExact; rw [show (cfgT (F := F)).idle 8 ((cfgT (F := F)).grid.coords t) = false from idle8 _], after0_8]
  rw [show (dats m 0 c).leavesExact 9 t = owns (c : Thread nD τ) (st0_9 t) fullShare ((dats m 0 c).after 9 t) from by
      unfold Dat.leavesExact; rw [show (cfgT (F := F)).idle 9 ((cfgT (F := F)).grid.coords t) = false from idle9 _], after0_9]
  simp only [before0_7 m c t h0]
  have hp : pt t.val = t := pt_val t
  have e0 := word0 (F := F) c (grid0.coords t)
  have e1 := word1 (F := F) c (grid0.coords t)
  have hck : k0_chk1 (wordAt (F := F) (grid0.coords t) c tbM0_0 (pfT 0)) (wordAt (F := F) (grid0.coords t) c tbM0_1 (pfT 1)) := by rw [e0, e1]; exact chk_all _
  have hc1 : ¬ (k0_cond1 (grid0.coords t) = 1#1) := fun h => h0 ((coords_step t).symm.trans ((cond1_iff _).mp h))
  have hc2 : k0_cond2 (wordAt (F := F) (grid0.coords t) c tbM0_0 (pfT 0)) (wordAt (F := F) (grid0.coords t) c tbM0_1 (pfT 1)) = 1#1 := by rw [e0, e1]; exact (cond2_iff _).mpr ((same_iff t).mpr hd)
  have hc3 : ¬ (k0_cond3 (wordAt (F := F) (grid0.coords t) c tbM0_0 (pfT 0)) (wordAt (F := F) (grid0.coords t) c tbM0_1 (pfT 1)) = 1#1) := by rw [e0, e1]; exact fun h => (cond3_iff _).mp h ((same_iff t).mpr hd)
  have hc4 : k0_cond4 (wordAt (F := F) (grid0.coords t) c tbM0_0 (pfT 0)) (wordAt (F := F) (grid0.coords t) c tbM0_1 (pfT 1)) = 1#1 := by rw [e0, e1]; exact (cond4_iff _).mpr ((same_iff t).mpr hd)
  have hoff : k0_off3 (wordAt (F := F) (grid0.coords t) c tbM0_0 (pfT 0)) = offR (itF t.val) := by
    rw [e0]; refine (off3_eq _).trans ?_
    exact congrArg (fun n : ℕ => (![0, 640 * n, 0] : Fin 3 → ℕ)) (it_eq t)
  iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) _ _ _ _ _ _ _ _ _ _ _ _ _ _ _ _ _ _ _ _ _ _ hck hc1 hc2 hc3 hc4 (itF t.val) hoff (iblk m c 0 t) (iblk m c 1 t) (iblk m c 2 t) (iblk m c 3 t) (iblk m c 4 t) (iblk m c 5 t) (iblk m c 6 t) _ Set.univ _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HT0]; · iexact HT0
  isplitl [HT1]; · iexact HT1
  iintro ⟨H0, H1, H2, H3, H4, H5, H6, H7, H8, H9, HT0, HT1⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [dqAt_later m c h0, dqStep, if_pos hd, b0, b1, b2, b3, b4, b5, b6, hp]; iexact H7
  isplitl [H8]
  · rw [dkAt_dia m c hd, b0, b1, b2, b3, b4, b5, b6, hp]; iexact H8
  rw [dvAt_dia m c hd, b0, b1, b2, b4, b5, hp]; iexact H9

end Cert.Kernel5Ideal.Att

end

end
-- ==== Proof.Att.RunC.lean ====
/- The body of the attention backward kernel run at a tile off the diagonal. -/
module

public import proofs.«01_k».proof.Proof.Att.Vals

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a tile off the diagonal: the tile is added to all three gradients. -/
theorem runC (c : Dev nD) (i : grid0.Coords) (arg4 : Memref sig .tc .vmem S1x640x128 .bf16) (harg4 : arg4.IsWhole) (arg5 : Memref sig .tc .vmem S1x640x128 .bf16) (harg5 : arg5.IsWhole) (arg6 : Memref sig .tc .vmem S640x128 .bf16) (harg6 : arg6.IsWhole) (arg7 : Memref sig .tc .vmem S1x640x128 .bf16) (harg7 : arg7.IsWhole) (arg8 : Memref sig .tc .vmem S1x640x128 .bf16) (harg8 : arg8.IsWhole) (arg9 : Memref sig .tc .vmem S1x1x640 .f32) (harg9 : arg9.IsWhole) (arg10 : Memref sig .tc .vmem S1x1x640 .f32) (harg10 : arg10.IsWhole) (arg11 : Memref sig .tc .vmem S1x8320x128 .f32) (harg11 : arg11.IsWhole) (arg12 : Memref sig .tc .vmem S1x640x128 .f32) (harg12 : arg12.IsWhole) (arg13 : Memref sig .tc .vmem S1x640x128 .f32) (harg13 : arg13.IsWhole)
    (g0 : TbBuf0 (F := F) c tbM0_0) (g1 : TbBuf0 (F := F) c tbM0_1) (hck : k0_chk1 (wordAt i c tbM0_0 g0) (wordAt i c tbM0_1 g1)) (hc1 : ¬ (k0_cond1 i = 1#1)) (hc2 : ¬ (k0_cond2 (wordAt i c tbM0_0 g0) (wordAt i c tbM0_1 g1) = 1#1)) (hc3 : k0_cond3 (wordAt i c tbM0_0 g0) (wordAt i c tbM0_1 g1) = 1#1) (hc4 : ¬ (k0_cond4 (wordAt i c tbM0_0 g0) (wordAt i c tbM0_1 g1) = 1#1)) (n : Fin 13) (hoff : k0_off2 (wordAt i c tbM0_0 g0) = offR n)
    (x0 x1 : Vec F S1x640x128 .bf16) (x2 : Vec F S640x128 .bf16) (x3 x4 : Vec F S1x640x128 .bf16) (x5 x6 : Vec F S1x1x640 .f32) (o7 : Vec F S1x8320x128 .f32) (o8 o9 : Vec F S1x640x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare o7 ∗ owns (c : Thread nD τ) arg12 fullShare o8 ∗ owns (c : Thread nD τ) arg13 fullShare o9 ∗ tbPt0 c tbM0_0 g0 ∗ tbPt0 c tbM0_1 g1
      ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (putR o7 n (dqOff x0 x1 x2 x3 x4 x5 x6 (getR o7 n))) ∗ owns (c : Thread nD τ) arg12 fullShare (dkOff x0 x1 x2 x3 x4 x5 x6 o8) ∗ owns (c : Thread nD τ) arg13 fullShare (dvOff x0 x1 x2 x4 x5 o9) ∗ tbPt0 c tbM0_0 g0 ∗ tbPt0 c tbM0_1 g1) -∗ K ⟨⟩))
      ⊢ wp frame (wpE (defs₀ (F := F)) Variants.none c none) E (cc0_attn_bwd i tbM0_0 htbM0_0 tbM0_1 htbM0_1 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9
  sl_exec (disch := first | sl_exact hck | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    unfold putR dqOff
    rw [View.read_writes_cons_put _ _ _ _ _ hoff]
    sl_unfold_words
    simp only [View.writes_nil, View.readAt_eq_ld, harg4.read_unread, harg5.read_unread, harg6.read_unread, harg7.read_unread, harg8.read_unread, harg9.read_unread, harg10.read_unread, harg11.read_unread, harg12.read_unread, harg13.read_unread, View.readCov_unit_zero (S := S1x640x128) _ hz3, View.ld_unit_zero (S := S1x640x128) hz3, View.ld_unit_zero (S := S640x128) hz2, View.ld_unit_zero (S := S1x1x640) hz3]
    congr 2
    all_goals (refine ld_off (F := F) ?_ _ _; exact hoff)
  isplitl [H8]
  · iexists _; isplitr
    swap; · iexact H8
    ipureintro
    unfold dkOff
    refine (View.read_writes_full _ _ _ _ _).trans ?_
    sl_unfold_words
    simp only [View.readAt_eq_ld, harg4.read_unread, harg5.read_unread, harg6.read_unread, harg7.read_unread, harg8.read_unread, harg9.read_unread, harg10.read_unread, harg11.read_unread, harg12.read_unread, harg13.read_unread, View.readCov_unit_zero (S := S1x640x128) _ hz3, View.ld_unit_zero (S := S1x640x128) hz3, View.ld_unit_zero (S := S640x128) hz2, View.ld_unit_zero (S := S1x1x640) hz3]
  isplitl [H9]
  · iexists _; isplitr
    swap; · iexact H9
    ipureintro
    unfold dvOff
    refine (View.read_writes_full _ _ _ _ _).trans ?_
    sl_unfold_words
    simp only [View.readAt_eq_ld, harg4.read_unread, harg5.read_unread, harg6.read_unread, harg7.read_unread, harg8.read_unread, harg9.read_unread, harg10.read_unread, harg11.read_unread, harg12.read_unread, harg13.read_unread, View.readCov_unit_zero (S := S1x640x128) _ hz3, View.ld_unit_zero (S := S1x640x128) hz3, View.ld_unit_zero (S := S640x128) hz2, View.ld_unit_zero (S := S1x1x640) hz3]
  isplitl [HT0]; · iexact HT0
  iexact HT1

end Cert.Kernel5Ideal.Att

end

end
-- ==== Proof.Att.SoundC.lean ====
/- The body obligation of the attention backward kernel at a point off the diagonal. -/
module

public import proofs.«01_k».proof.Proof.Att.Data
public import proofs.«01_k».proof.Proof.Att.RunC

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_C (c : Dev nD) (t : Fin (cfgT (F := F)).N) (hd : ¬ itN t.val = jtN t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = iprop(Pipeline.ΦA spec0 c ∗ Pipeline.ΦT pre0 pfT c) from rfl, show (dats m 0 c).Φ t.castSucc = iprop(Pipeline.ΦA spec0 c ∗ Pipeline.ΦT pre0 pfT c) from rfl, PhiT0_eq]
  rw [show (dats m 0 c).leavesExact 0 t = owns (c : Thread nD τ) (st0_0 t) fullShare ((dats m 0 c).after 0 t) from by
      unfold Dat.leavesExact; rw [show (cfgT (F := F)).idle 0 ((cfgT (F := F)).grid.coords t) = false from rfl], after0_0]
  rw [show (dats m 0 c).leavesExact 1 t = owns (c : Thread nD τ) (st0_1 t) fullShare ((dats m 0 c).after 1 t) from by
      unfold Dat.leavesExact; rw [show (cfgT (F := F)).idle 1 ((cfgT (F := F)).grid.coords t) = false from rfl], after0_1]
  rw [show (dats m 0 c).leavesExact 2 t = owns (c : Thread nD τ) (st0_2 t) fullShare ((dats m 0 c).after 2 t) from by
      unfold Dat.leavesExact; rw [show (cfgT (F := F)).idle 2 ((cfgT (F := F)).grid.coords t) = false from rfl], after0_2]
  rw [show (dats m 0 c).leavesExact 3 t = owns (c : Thread nD τ) (st0_3 t) fullShare ((dats m 0 c).after 3 t) from by
      unfold Dat.leavesExact; rw [show (cfgT (F := F)).idle 3 ((cfgT (F := F)).grid.coords t) = false from rfl], after0_3]
  rw [show (dats m 0 c).leavesExact 4 t = owns (c : Thread nD τ) (st0_4 t) fullShare ((dats m 0 c).after 4 t) from by
      unfold Dat.leavesExact; rw [show (cfgT (F := F)).idle 4 ((cfgT (F := F)).grid.coords t) = false from rfl], after0_4]
  rw [show (dats m 0 c).leavesExact 5 t = owns (c : Thread nD τ) (st0_5 t) fullShare ((dats m 0 c).after 5 t) from by
      unfold Dat.leavesExact; rw [show (cfgT (F := F)).idle 5 ((cfgT (F := F)).grid.coords t) = false from rfl], after0_5]
  rw [show (dats m 0 c).leavesExact 6 t = owns (c : Thread nD τ) (st0_6 t) fullShare ((dats m 0 c).after 6 t) from by
      unfold Dat.leavesExact; rw [show (cfgT (F := F)).idle 6 ((cfgT (F := F)).grid.coords t) = false from rfl], after0_6]
  rw [show (dats m 0 c).leavesExact 7 t = owns (c : Thread nD τ) (st0_7 t) fullShare ((dats m 0 c).after 7 t) from by
      unfold Dat.leavesExact; rw [show (cfgT (F := F)).idle 7 ((cfgT (F := F)).grid.coords t) = false from idle7 _], after0_7]
  rw [show (dats m 0 c).leavesExact 8 t = owns (c : Thread nD τ) (st0_8 t) fullShare ((dats m 0 c).after 8 t) from by
      unfold Dat.leavesExact; rw [show (cfgT (F := F)).idle 8 ((cfgT (F := F)).grid.coords t) = false from idle8 _], after0_8]
  rw [show (dats m 0 c).leavesExact 9 t = owns (c : Thread nD τ) (st0_9 t) fullShare ((dats m 0 c).after 9 t) from by
      unfold Dat.leavesExact; rw [show (cfgT (F := F)).idle 9 ((cfgT (F := F)).grid.coords t) = false from idle9 _], after0_9]
  have h0 : ¬ t.val % 91 = 0 := (prev_not_last hd).1
  simp only [before0_8 m c t hd, before0_9 m c t hd]
  simp only [before0_7 m c t h0]
  have hp : pt t.val = t := pt_val t
  have e0 := word0 (F := F) c (grid0.coords t)
  have e1 := word1 (F := F) c (grid0.coords t)
  have hck : k0_chk1 (wordAt (F := F) (grid0.coords t) c tbM0_0 (pfT 0)) (wordAt (F := F) (grid0.coords t) c tbM0_1 (pfT 1)) := by rw [e0, e1]; exact chk_all _
  have hc1 : ¬ (k0_cond1 (grid0.coords t) = 1#1) := fun h => h0 ((coords_step t).symm.trans ((cond1_iff _).mp h))
  have hc2 : ¬ (k0_cond2 (wordAt (F := F) (grid0.coords t) c tbM0_0 (pfT 0)) (wordAt (F := F) (grid0.coords t) c tbM0_1 (pfT 1)) = 1#1) := by rw [e0, e1]; exact fun h => hd ((same_iff t).mp ((cond2_iff _).mp h))
  have hc3 : k0_cond3 (wordAt (F := F) (grid0.coords t) c tbM0_0 (pfT 0)) (wordAt (F := F) (grid0.coords t) c tbM0_1 (pfT 1)) = 1#1 := by rw [e0, e1]; exact (cond3_iff _).mpr (fun h => hd ((same_iff t).mp h))
  have hc4 : ¬ (k0_cond4 (wordAt (F := F) (grid0.coords t) c tbM0_0 (pfT 0)) (wordAt (F := F) (grid0.coords t) c tbM0_1 (pfT 1)) = 1#1) := by rw [e0, e1]; exact fun h => hd ((same_iff t).mp ((cond4_iff _).mp h))
  have hoff : k0_off2 (wordAt (F := F) (grid0.coords t) c tbM0_0 (pfT 0)) = offR (itF t.val) := by
    rw [e0]; refine (off2_eq _).trans ?_
    exact congrArg (fun n : ℕ => (![0, 640 * n, 0] : Fin 3 → ℕ)) (it_eq t)
  iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runC c (grid0.coords t) _ _ _ _ _ _ _ _ _ _ _ _ _ _ _ _ _ _ _ _ _ _ hck hc1 hc2 hc3 hc4 (itF t.val) hoff (iblk m c 0 t) (iblk m c 1 t) (iblk m c 2 t) (iblk m c 3 t) (iblk m c 4 t) (iblk m c 5 t) (iblk m c 6 t) _ _ _ Set.univ _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HT0]; · iexact HT0
  isplitl [HT1]; · iexact HT1
  iintro ⟨H0, H1, H2, H3, H4, H5, H6, H7, H8, H9, HT0, HT1⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [dqAt_later m c h0, dqStep, if_neg hd, b0, b1, b2, b3, b4, b5, b6, hp]; iexact H7
  isplitl [H8]
  · rw [dkAt_off m c hd, b0, b1, b2, b3, b4, b5, b6, hp]; iexact H8
  rw [dvAt_off m c hd, b0, b1, b2, b4, b5, hp]; iexact H9

end Cert.Kernel5Ideal.Att

end

end
-- ==== Proof.Att.Frame.lean ====
/- The launch of the attention backward kernel: every run ends with the arrays the proof data names. -/
module

public import proofs.«01_k».proof.Proof.Att.SoundA
public import proofs.«01_k».proof.Proof.Att.SoundB
public import proofs.«01_k».proof.Proof.Att.SoundC
public import Idealize.ShloMosaic.Lib.Claim

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin (cfgT (F := F)).N) :
    bodyPre m c t ⊢ wp frame (wpE (defs₀ (F := F)) Variants.none c none) Set.univ (bodyAt0 t) (fun _ => bodyPost m c t) := by
  by_cases hd : itN t.val = jtN t.val
  · by_cases h0 : t.val % 91 = 0
    · exact sound_A m c t h0
    · exact sound_B m c t h0 hd
  · exact sound_C m c t hd

theorem defs₀_row (t : Fin (cfgT (F := F)).N) :
    defs₀ (F := F) .tc (cfgT (F := F)).body ((cfgT (F := F)).bodyArgs t ((cfgT (F := F)).slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every execution ends with the arrays at what the proof data says and every counter at zero. -/
theorem run_quiescent : θ_run defs (onTc (τ := τ) (main (F := F))) (s₀ m ρ) (fun r => (Pipeline.FramePost (Pipeline.pin pcfgs fun _ => (admT (F := F))) (dats m) 0 (V m)) r ∧ r.2.sem = fun _ => 0) :=
  Pipeline.θ_run_frameP (Q' := _) pcfgs (fun _ => (admT (F := F))) (dats m) (0 : Fin 1) launch0 defs₀ Variants.none m ρ main
    (hbody := fun c => (body_obligation m c).loose) (hshare := fun _ w => by fin_cases w <;> rfl)
    (howed := fun _ _ => rfl) (V := V m) (hmain := hmain m Variants.none) (hA := A_eq m) (hpf := V_pre m) (hΦ := fun _ _ => rfl)

theorem run_main : θ_run defs (onTc (τ := τ) (main (F := F))) (s₀ m ρ) (Pipeline.FramePost (Pipeline.pin pcfgs fun _ => (admT (F := F))) (dats m) 0 (V m)) :=
  (θ_run defs _ _).mono (fun _ h => h.1) (run_quiescent m ρ)

/-- The frame: the arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel5Ideal.Att

end

end
-- ==== Proof.Att.KernelFrame.lean ====
/- The frame of the attention backward program at the bit-exact floats. The idealization only gave names to five float
   constants; read at the bit-exact floats, where a name stands for its own bits, the two printed programs are one text, and
   the run proved for `Kernel5Ideal` over any float values is read there. -/
module

public import proofs.«01_k».proof.Defs
public import proofs.«01_k».proof.Proof.Gen.Kernel5
public import proofs.«01_k».proof.Proof.Att.Frame
public import Idealize.ShloMosaic.Adequacy
public import Idealize.ShloMosaic.Init

@[expose] public section

noncomputable section

namespace Cert.Proof.Att

open Idealize.ShloMosaic Idealize.SL.Sem

/-- At the bit-exact floats a named constant is its own bits. -/
local instance bitsNamed : Named Bits := ⟨fun _ _ φ b => FloatOps.ofBits φ b⟩

set_option maxHeartbeats 4000000 in
theorem body_same : @Cert.Kernel5.cc0_attn_bwd Bits _ _ = @Cert.Kernel5Ideal.cc0_attn_bwd Bits _ _ _ := rfl

set_option maxHeartbeats 4000000 in
theorem table_same : @Cert.Kernel5.defs₀ Bits _ _ = @Cert.Kernel5Ideal.defs₀ Bits _ _ _ := by
  unfold Cert.Kernel5.defs₀ Cert.Kernel5Ideal.defs₀
  congr 1
  funext l x
  match l, x with
  | ⟨0, _⟩, ⟨t, s⟩ =>
    dsimp only
    rw [body_same]
    rfl

set_option maxHeartbeats 4000000 in
theorem defs_same : @Cert.Kernel5.defs Bits _ _ = @Cert.Kernel5Ideal.defs Bits _ _ _ := by
  unfold Cert.Kernel5.defs Cert.Kernel5Ideal.defs
  rw [table_same]
  try rfl

set_option maxHeartbeats 4000000 in
theorem main_same : @Cert.Kernel5.main Bits _ _ = @Cert.Kernel5Ideal.main Bits _ _ _ := by
  unfold Cert.Kernel5.main Cert.Kernel5Ideal.main
  rfl

set_option maxHeartbeats 16000000 in
/-- The frame of `Kernel5`. -/
theorem frame_kernel : Cert.quiescent_Kernel5 (hKernel5 := Cert.Kernel5.Gen.facts) := by
  intro m ρ _
  rw [defs_same, main_same]
  exact Cert.Kernel5Ideal.Att.frame (F := Bits) m ρ

end Cert.Proof.Att

end

end
-- ==== Proof.Att.PreFacts.lean ====
/- The side conditions of the precondition's function hold. -/
module

public import proofs.«01_k».proof.Pre_finite5

@[expose] public section

namespace Cert.Pre_finite5.Att

open Idealize.ShloMosaic

instance facts : Cert.Pre_finite5.Facts where
  bcast_S_S8x8320x128 := by decide
  reducesTo_S8x8320x128_S_d0_1_2 := by decide
  h_S_ := by decide
  bitsLt_bf16_f32 := by decide
  bcast_S_S8320x128 := by decide
  reducesTo_S8320x128_S_d0_1 := by decide

end Cert.Pre_finite5.Att

end
-- ==== Proof.Att.Spec.lean ====
/- One attention head's backward pass over the reals: the masked softmax, the two forms of its gradient, and sums by row blocks. -/
module

public import proofs.«01_k».proof.Proof.Bwd.Spec

@[expose] public section

noncomputable section

namespace Cert.AttSpec

open Idealize.ShloMosaic
open Cert.FfnSpec (IsR coe_sum div_real exp_real)

/-- Whether the query of row `t` sees the key of row `s`: by chunks of 64 rows. -/
abbrev Seen (t s : Fin 8320) : Prop := s.val / 64 ≤ t.val / 64

/-- Row `r` of row block `i`. -/
def rw8 (i : ℕ) (r : Fin 640) : Fin 8320 := ⟨(640 * i + r.val) % 8320, Nat.mod_lt _ (by decide)⟩
theorem rw8_val {i : ℕ} (h : i < 13) (r : Fin 640) : (rw8 i r).val = 640 * i + r.val := by
  have := r.isLt; exact Nat.mod_eq_of_lt (by omega)

/-- A sum over all rows, block by block. -/
theorem sum_blocks (f : Fin 8320 → ℝ) : ∑ i ∈ Finset.range 13, ∑ r, f (rw8 i r) = ∑ t, f t := by
  rw [Finset.sum_range, ← Fintype.sum_prod_type' (f := fun (i : Fin 13) r => f (rw8 i.val r))]
  refine Fintype.sum_equiv (finProdFinEquiv.trans (finCongr (by norm_num))) _ _ fun x => ?_
  refine congrArg f (Fin.ext ?_)
  rw [rw8_val x.1.isLt]
  show 640 * x.1.val + x.2.val = x.2.val + 640 * x.1.val
  omega

section
variable (q k v g : Fin 8320 → Fin 128 → ℝ)

/-- The score, -/
def zz (t s : Fin 8320) : ℝ := (∑ d, q t d * k s d) / Real.sqrt 96
/-- its exponential where it is seen, -/
def ee (t s : Fin 8320) : ℝ := if Seen t s then Real.exp (zz q k t s) else 0
/-- a row's total, -/
def tt (t : Fin 8320) : ℝ := ∑ s, ee q k t s
/-- the softmax, -/
def pp (t s : Fin 8320) : ℝ := ee q k t s / tt q k t
/-- its cotangent, -/
def dp (t s : Fin 8320) : ℝ := ∑ d, g t d * v s d
/-- the output's product with its cotangent, -/
def del (t : Fin 8320) : ℝ := ∑ d, (∑ s, pp q k t s * v s d) * g t d
/-- the base-two logarithm of the total, -/
def lse (t : Fin 8320) : ℝ := Real.log (tt q k t) / Real.log 2
/-- and the score's gradient. -/
def dz (t s : Fin 8320) : ℝ := pp q k t s * (dp v g t s - del q k v g t)
/-- The query scaled for base-two exponentials. -/
def qs (t : Fin 8320) (d : Fin 128) : ℝ := q t d / (Real.sqrt 96 * Real.log 2)

/-- The gradients of the values, of the keys and of the queries. -/
def gv (s : Fin 8320) (d : Fin 128) : ℝ := ∑ t, pp q k t s * g t d
def gk (s : Fin 8320) (d : Fin 128) : ℝ := ∑ t, dz q k v g t s / Real.sqrt 96 * q t d
def gq (t : Fin 8320) (d : Fin 128) : ℝ := ∑ s, dz q k v g t s / Real.sqrt 96 * k s d

/-- One row block's part of each. -/
def cv (i : ℕ) (s : Fin 8320) (d : Fin 128) : ℝ := ∑ r, pp q k (rw8 i r) s * g (rw8 i r) d
def ck (i : ℕ) (s : Fin 8320) (d : Fin 128) : ℝ := (∑ r, dz q k v g (rw8 i r) s * qs q (rw8 i r) d) * Real.log 2
def cq (j : ℕ) (t : Fin 8320) (d : Fin 128) : ℝ := (∑ r, dz q k v g t (rw8 j r) * k (rw8 j r) d) * (Real.sqrt 96)⁻¹

theorem log2_pos : 0 < Real.log 2 := Real.log_pos (by norm_num)
theorem sqrt96_pos : 0 < Real.sqrt 96 := Real.sqrt_pos.mpr (by norm_num)

theorem sum_cv (s : Fin 8320) (d : Fin 128) : ∑ i ∈ Finset.range 13, cv q k g i s d = gv q k g s d :=
  sum_blocks fun t => pp q k t s * g t d
theorem sum_ck (s : Fin 8320) (d : Fin 128) : ∑ i ∈ Finset.range 13, ck q k v g i s d = gk q k v g s d := by
  unfold gk
  rw [← sum_blocks fun t => dz q k v g t s / Real.sqrt 96 * q t d]
  refine Finset.sum_congr rfl fun i _ => ?_
  unfold ck qs
  rw [Finset.sum_mul]
  refine Finset.sum_congr rfl fun r _ => ?_
  have h1 := log2_pos.ne'
  have h2 := sqrt96_pos.ne'
  field_simp
theorem sum_cq (t : Fin 8320) (d : Fin 128) : ∑ j ∈ Finset.range 13, cq q k v g j t d = gq q k v g t d := by
  unfold gq
  rw [← sum_blocks fun s => dz q k v g t s / Real.sqrt 96 * k s d]
  refine Finset.sum_congr rfl fun i _ => ?_
  unfold cq
  rw [Finset.sum_mul]
  exact Finset.sum_congr rfl fun r _ => by rw [div_eq_mul_inv]; ring

theorem ee_unseen {t s : Fin 8320} (h : ¬ Seen t s) : ee q k t s = 0 := if_neg h
theorem pp_unseen {t s : Fin 8320} (h : ¬ Seen t s) : pp q k t s = 0 := by unfold pp; rw [ee_unseen q k h, zero_div]
theorem dz_unseen {t s : Fin 8320} (h : ¬ Seen t s) : dz q k v g t s = 0 := by unfold dz; rw [pp_unseen q k h, zero_mul]

/-- A block of queries before a block of keys sees none of it. -/
theorem unseen_before {i j : ℕ} (h : i < j) (hj : j < 13) (a b : Fin 640) : ¬ Seen (rw8 i a) (rw8 j b) := by
  unfold Seen
  rw [rw8_val hj, rw8_val (h.trans hj)]
  have := a.isLt; have := b.isLt; omega
theorem seen_after {i j : ℕ} (h : j < i) (hi : i < 13) (a b : Fin 640) : Seen (rw8 i a) (rw8 j b) := by
  unfold Seen
  rw [rw8_val hi, rw8_val (h.trans hi)]
  have := a.isLt; have := b.isLt; omega
theorem seen_same {i : ℕ} (hi : i < 13) (a b : Fin 640) : Seen (rw8 i a) (rw8 i b) ↔ b.val / 64 ≤ a.val / 64 := by
  unfold Seen
  rw [rw8_val hi, rw8_val hi]
  have := a.isLt; have := b.isLt; omega

theorem cv_before {i j : ℕ} (h : i < j) (hj : j < 13) (b : Fin 640) (d : Fin 128) : cv q k g i (rw8 j b) d = 0 :=
  Finset.sum_eq_zero fun a _ => by rw [pp_unseen q k (unseen_before h hj a b), zero_mul]
theorem ck_before {i j : ℕ} (h : i < j) (hj : j < 13) (b : Fin 640) (d : Fin 128) : ck q k v g i (rw8 j b) d = 0 := by
  unfold ck
  rw [Finset.sum_eq_zero fun a _ => by rw [dz_unseen q k v g (unseen_before h hj a b), zero_mul], zero_mul]
theorem cq_before {i j : ℕ} (h : i < j) (hj : j < 13) (a : Fin 640) (d : Fin 128) : cq q k v g j (rw8 i a) d = 0 := by
  unfold cq
  rw [Finset.sum_eq_zero fun b _ => by rw [dz_unseen q k v g (unseen_before h hj a b), zero_mul], zero_mul]

theorem ee_nonneg (t s : Fin 8320) : 0 ≤ ee q k t s := by
  unfold ee; split
  · exact (Real.exp_pos _).le
  · exact le_rfl
theorem tt_pos (t : Fin 8320) : 0 < tt q k t :=
  Finset.sum_pos' (fun s _ => ee_nonneg q k t s) ⟨t, Finset.mem_univ _, by unfold ee; rw [if_pos (le_refl _)]; exact Real.exp_pos _⟩

/-- The kernel's base-two exponential is the softmax where the score is seen. -/
theorem p_seen {t s : Fin 8320} (h : Seen t s) : (2 : ℝ) ^ ((∑ d, k s d * qs q t d) - lse q k t) = pp q k t s := by
  have h1 := log2_pos.ne'
  have h2 := sqrt96_pos.ne'
  have e : Real.log 2 * ((∑ d, k s d * qs q t d) - lse q k t) = zz q k t s - Real.log (tt q k t) := by
    have e1 : (∑ d, k s d * qs q t d) = zz q k t s / Real.log 2 := by
      unfold zz qs
      rw [Finset.sum_div, Finset.sum_div]
      exact Finset.sum_congr rfl fun d _ => by field_simp
    rw [e1]; unfold lse; field_simp
  rw [Real.rpow_def_of_pos (by norm_num), e, Real.exp_sub, Real.exp_log (tt_pos q k t)]
  unfold pp ee
  rw [if_pos h]

/-! ## A row shifted by a number -/

/-- The exponential of a shifted score, where it is seen, -/
def es (M : ℝ) (t s : Fin 8320) : ℝ := if Seen t s then Real.exp (zz q k t s - M) else 0
theorem es_eq (M : ℝ) (t s : Fin 8320) : es q k M t s = ee q k t s * Real.exp (-M) := by
  unfold es ee
  split
  · rw [← Real.exp_add, sub_eq_add_neg]
  · rw [zero_mul]
theorem sum_es (M : ℝ) (t : Fin 8320) : ∑ s, es q k M t s = tt q k t * Real.exp (-M) := by
  unfold tt; rw [Finset.sum_mul]; exact Finset.sum_congr rfl fun s _ => es_eq q k M t s
theorem sum_es_pos (M : ℝ) (t : Fin 8320) : 0 < ∑ s, es q k M t s := by
  rw [sum_es]; exact mul_pos (tt_pos q k t) (Real.exp_pos _)
/-- gives the same softmax, -/
theorem es_div (M : ℝ) (t s : Fin 8320) : es q k M t s / ∑ s', es q k M t s' = pp q k t s := by
  rw [sum_es, es_eq]; unfold pp
  exact mul_div_mul_right _ _ (Real.exp_ne_zero _)
/-- the same logarithm, -/
theorem lse_shift (M : ℝ) (t : Fin 8320) : (M + Real.log (∑ s, es q k M t s)) / Real.log 2 = lse q k t := by
  rw [sum_es, Real.log_mul (tt_pos q k t).ne' (Real.exp_ne_zero _), Real.log_exp]
  unfold lse; congr 1; ring

theorem del_eq (t : Fin 8320) : del q k v g t = ∑ s, dp v g t s * pp q k t s := by
  unfold del dp
  have : ∀ d, (∑ s, pp q k t s * v s d) * g t d = ∑ s, g t d * v s d * pp q k t s := fun d => by
    rw [Finset.sum_mul]; exact Finset.sum_congr rfl fun s _ => by ring
  rw [Finset.sum_congr rfl fun d _ => this d, Finset.sum_comm]
  exact Finset.sum_congr rfl fun s _ => (Finset.sum_mul _ _ _).symm

/-- and the same gradient of the score, in the order the derivative of a quotient has. -/
theorem dz_shift (M : ℝ) (t s : Fin 8320) {T : ℝ} (hT : T = ∑ s', es q k M t s') :
    (dp v g t s / T + -∑ s', dp v g t s' * (1 / (T * T)) * es q k M t s') * es q k M t s = dz q k v g t s := by
  have h0 : T ≠ 0 := by rw [hT]; exact (sum_es_pos q k M t).ne'
  have e1 : ∑ s', dp v g t s' * (1 / (T * T)) * es q k M t s' = del q k v g t / T := by
    rw [del_eq, Finset.sum_div]
    refine Finset.sum_congr rfl fun s' _ => ?_
    rw [← es_div q k M t s', ← hT]; field_simp
  rw [e1]; unfold dz
  rw [← es_div q k M t s, ← hT]; field_simp; ring
end

/-! ## The same in the extended reals -/

/-- A score's exponential, after the mask and a shift. -/
theorem exp_masked {c : Prop} [Decidable c] (z M : ℝ) :
    Ideal.exp ((if c then (z : EReal) else ⊥) - (M : EReal)) = ((if c then Real.exp (z - M) else 0 : ℝ) : EReal) := by
  split
  · rw [← EReal.coe_sub]; rfl
  · rw [EReal.bot_sub]; rfl

/-- The greatest of finitely many extended reals, none of them infinite above and one of them real, is real. -/
theorem isR_fold_max {ι : Type} [Fintype ι] (f : ι → EReal) (hf : ∀ i, f i ≠ ⊤) {j : ι} (hj : f j ≠ ⊥) :
    IsR (Finset.univ.fold max (⊥ : EReal) f) := by
  have h1 : f j ≤ Finset.univ.fold max (⊥ : EReal) f := (Finset.le_fold_max _).2 (Or.inr ⟨j, Finset.mem_univ _, le_rfl⟩)
  have h2 : Finset.univ.fold max (⊥ : EReal) f < ⊤ := (Finset.fold_max_lt _).2 ⟨bot_lt_top, fun i _ => lt_top_iff_ne_top.2 (hf i)⟩
  revert h1 h2
  generalize Finset.univ.fold max (⊥ : EReal) f = x
  intro h1 h2
  induction x with
  | bot => exact absurd (le_bot_iff.1 h1) hj
  | top => exact absurd h2 (lt_irrefl _)
  | coe a => exact ⟨a, rfl⟩

theorem div_real' {y : ℝ} (hy : y ≠ 0) (x : ℝ) : Ideal.div (x : EReal) (y : EReal) = ((x / y : ℝ) : EReal) := div_real hy x
theorem log_real {y : ℝ} (hy : 0 < y) : Ideal.log (y : EReal) = ((Real.log y : ℝ) : EReal) := by
  rw [Ideal.log_coe, if_neg (not_le.mpr hy)]

end Cert.AttSpec

end
-- ==== Proof.Att.Blocks.lean ====
/- Where each window's block sits in its array, and the blocks read at an index. -/
module

public import proofs.«01_k».proof.Proof.Att.Data
public import proofs.«01_k».proof.Proof.Att.Spec
public import Idealize.ShloMosaic.Lib.Pipeline.Value
public import Idealize.ShloMosaic.Lib.ValueIdx

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.ValueIdx
open Cert.AttSpec (rw8 rw8_val)

/-- The head of point `n`. -/
def hd (n : ℕ) : Fin 8 := ⟨n / 91 % 8, Nat.mod_lt _ (by decide)⟩
theorem itN_lt (n : ℕ) : itN n < 13 := iw_lt _
theorem jw_lt : ∀ s : Fin 91, (jw s).toNat < 13 := by decide +kernel
theorem jtN_lt (n : ℕ) : jtN n < 13 := jw_lt _
theorem step_congr {a b : ℕ} (h : a % 91 = b % 91) : itN a = itN b ∧ jtN a = jtN b :=
  ⟨by rw [← itN_mod a, h, itN_mod], by rw [← jtN_mod a, h, jtN_mod]⟩

theorem cH (n : ℕ) : (grid0.coords (pt (F := Ideal) n) 0).val = n / 91 % 8 :=
  (coords_head _).trans (by show n % 728 / 91 = n / 91 % 8; omega)
theorem cI (n : ℕ) : (iw (grid0.coords (pt (F := Ideal) n) 1)).toNat = itN n :=
  (it_eq _).trans (step_congr (by show n % 728 % 91 = n % 91; omega)).1
theorem cJ (n : ℕ) : (jw (grid0.coords (pt (F := Ideal) n) 1)).toNat = jtN n :=
  (jt_eq _).trans (step_congr (by show n % 728 % 91 = n % 91; omega)).2

/-! ## Where a block's element sits -/

theorem index0 (t : Fin (cfgT (F := Ideal)).N) : ((cfgT (F := Ideal)).win 0).index t = mapI (grid0.coords t) := tr0 _
theorem emb0 (n : ℕ) (u : Fin 1) (r : Fin 640) (d : Fin 128) : (((cfgT (F := Ideal)).win 0).blk (pt n)).view.emb (ix3 u r d) = ix3 (hd n) (rw8 (itN n) r) d := by
  funext a; apply Fin.ext
  match a with
  | ⟨0, _⟩ => show ((cfgT (F := Ideal)).win 0).index (pt n) (0 : Fin 3) * 1 + 1 * u.val = n / 91 % 8; rw [index0]; show (grid0.coords (pt (F := Ideal) n) 0).val * 1 + 1 * u.val = _; rw [cH]; omega
  | ⟨1, _⟩ => show ((cfgT (F := Ideal)).win 0).index (pt n) (1 : Fin 3) * 640 + 1 * r.val = (rw8 (itN n) r).val; rw [index0, rw8_val (itN_lt n)]; show (iw (grid0.coords (pt (F := Ideal) n) 1)).toNat * 640 + 1 * r.val = _; rw [cI]; omega
  | ⟨2, _⟩ => show ((cfgT (F := Ideal)).win 0).index (pt n) (2 : Fin 3) * 128 + 1 * d.val = d.val; rw [index0]; show 0 * 128 + 1 * d.val = _; omega
theorem index1 (t : Fin (cfgT (F := Ideal)).N) : ((cfgT (F := Ideal)).win 1).index t = mapJ (grid0.coords t) := tr1 _
theorem emb1 (n : ℕ) (u : Fin 1) (r : Fin 640) (d : Fin 128) : (((cfgT (F := Ideal)).win 1).blk (pt n)).view.emb (ix3 u r d) = ix3 (hd n) (rw8 (jtN n) r) d := by
  funext a; apply Fin.ext
  match a with
  | ⟨0, _⟩ => show ((cfgT (F := Ideal)).win 1).index (pt n) (0 : Fin 3) * 1 + 1 * u.val = n / 91 % 8; rw [index1]; show (grid0.coords (pt (F := Ideal) n) 0).val * 1 + 1 * u.val = _; rw [cH]; omega
  | ⟨1, _⟩ => show ((cfgT (F := Ideal)).win 1).index (pt n) (1 : Fin 3) * 640 + 1 * r.val = (rw8 (jtN n) r).val; rw [index1, rw8_val (jtN_lt n)]; show (jw (grid0.coords (pt (F := Ideal) n) 1)).toNat * 640 + 1 * r.val = _; rw [cJ]; omega
  | ⟨2, _⟩ => show ((cfgT (F := Ideal)).win 1).index (pt n) (2 : Fin 3) * 128 + 1 * d.val = d.val; rw [index1]; show 0 * 128 + 1 * d.val = _; omega
theorem index2 (t : Fin (cfgT (F := Ideal)).N) : ((cfgT (F := Ideal)).win 2).index t = mapJ2 (grid0.coords t) := tr2 _
theorem emb2 (n : ℕ) (r : Fin 640) (d : Fin 128) : (((cfgT (F := Ideal)).win 2).blk (pt n)).view.emb (ix2 r d) = ix2 (rw8 (jtN n) r) d := by
  funext a; apply Fin.ext
  match a with
  | ⟨0, _⟩ => show ((cfgT (F := Ideal)).win 2).index (pt n) (0 : Fin 2) * 640 + 1 * r.val = (rw8 (jtN n) r).val; rw [index2, rw8_val (jtN_lt n)]; show (jw (grid0.coords (pt (F := Ideal) n) 1)).toNat * 640 + 1 * r.val = _; rw [cJ]; omega
  | ⟨1, _⟩ => show ((cfgT (F := Ideal)).win 2).index (pt n) (1 : Fin 2) * 128 + 1 * d.val = d.val; rw [index2]; show 0 * 128 + 1 * d.val = _; omega
theorem index3 (t : Fin (cfgT (F := Ideal)).N) : ((cfgT (F := Ideal)).win 3).index t = mapJ (grid0.coords t) := tr3 _
theorem emb3 (n : ℕ) (u : Fin 1) (r : Fin 640) (d : Fin 128) : (((cfgT (F := Ideal)).win 3).blk (pt n)).view.emb (ix3 u r d) = ix3 (hd n) (rw8 (jtN n) r) d := by
  funext a; apply Fin.ext
  match a with
  | ⟨0, _⟩ => show ((cfgT (F := Ideal)).win 3).index (pt n) (0 : Fin 3) * 1 + 1 * u.val = n / 91 % 8; rw [index3]; show (grid0.coords (pt (F := Ideal) n) 0).val * 1 + 1 * u.val = _; rw [cH]; omega
  | ⟨1, _⟩ => show ((cfgT (F := Ideal)).win 3).index (pt n) (1 : Fin 3) * 640 + 1 * r.val = (rw8 (jtN n) r).val; rw [index3, rw8_val (jtN_lt n)]; show (jw (grid0.coords (pt (F := Ideal) n) 1)).toNat * 640 + 1 * r.val = _; rw [cJ]; omega
  | ⟨2, _⟩ => show ((cfgT (F := Ideal)).win 3).index (pt n) (2 : Fin 3) * 128 + 1 * d.val = d.val; rw [index3]; show 0 * 128 + 1 * d.val = _; omega
theorem index4 (t : Fin (cfgT (F := Ideal)).N) : ((cfgT (F := Ideal)).win 4).index t = mapI (grid0.coords t) := tr4 _
theorem emb4 (n : ℕ) (u : Fin 1) (r : Fin 640) (d : Fin 128) : (((cfgT (F := Ideal)).win 4).blk (pt n)).view.emb (ix3 u r d) = ix3 (hd n) (rw8 (itN n) r) d := by
  funext a; apply Fin.ext
  match a with
  | ⟨0, _⟩ => show ((cfgT (F := Ideal)).win 4).index (pt n) (0 : Fin 3) * 1 + 1 * u.val = n / 91 % 8; rw [index4]; show (grid0.coords (pt (F := Ideal) n) 0).val * 1 + 1 * u.val = _; rw [cH]; omega
  | ⟨1, _⟩ => show ((cfgT (F := Ideal)).win 4).index (pt n) (1 : Fin 3) * 640 + 1 * r.val = (rw8 (itN n) r).val; rw [index4, rw8_val (itN_lt n)]; show (iw (grid0.coords (pt (F := Ideal) n) 1)).toNat * 640 + 1 * r.val = _; rw [cI]; omega
  | ⟨2, _⟩ => show ((cfgT (F := Ideal)).win 4).index (pt n) (2 : Fin 3) * 128 + 1 * d.val = d.val; rw [index4]; show 0 * 128 + 1 * d.val = _; omega
theorem index5 (t : Fin (cfgT (F := Ideal)).N) : ((cfgT (F := Ideal)).win 5).index t = mapL (grid0.coords t) := tr5 _
theorem emb5 (n : ℕ) (u v : Fin 1) (r : Fin 640) : (((cfgT (F := Ideal)).win 5).blk (pt n)).view.emb (ix3 u v r) = ix3 (hd n) v (rw8 (itN n) r) := by
  funext a; apply Fin.ext
  match a with
  | ⟨0, _⟩ => show ((cfgT (F := Ideal)).win 5).index (pt n) (0 : Fin 3) * 1 + 1 * u.val = n / 91 % 8; rw [index5]; show (grid0.coords (pt (F := Ideal) n) 0).val * 1 + 1 * u.val = _; rw [cH]; omega
  | ⟨1, _⟩ => show ((cfgT (F := Ideal)).win 5).index (pt n) (1 : Fin 3) * 1 + 1 * v.val = v.val; rw [index5]; show 0 * 1 + 1 * v.val = _; omega
  | ⟨2, _⟩ => show ((cfgT (F := Ideal)).win 5).index (pt n) (2 : Fin 3) * 640 + 1 * r.val = (rw8 (itN n) r).val; rw [index5, rw8_val (itN_lt n)]; show (iw (grid0.coords (pt (F := Ideal) n) 1)).toNat * 640 + 1 * r.val = _; rw [cI]; omega
theorem index6 (t : Fin (cfgT (F := Ideal)).N) : ((cfgT (F := Ideal)).win 6).index t = mapL (grid0.coords t) := tr6 _
theorem emb6 (n : ℕ) (u v : Fin 1) (r : Fin 640) : (((cfgT (F := Ideal)).win 6).blk (pt n)).view.emb (ix3 u v r) = ix3 (hd n) v (rw8 (itN n) r) := by
  funext a; apply Fin.ext
  match a with
  | ⟨0, _⟩ => show ((cfgT (F := Ideal)).win 6).index (pt n) (0 : Fin 3) * 1 + 1 * u.val = n / 91 % 8; rw [index6]; show (grid0.coords (pt (F := Ideal) n) 0).val * 1 + 1 * u.val = _; rw [cH]; omega
  | ⟨1, _⟩ => show ((cfgT (F := Ideal)).win 6).index (pt n) (1 : Fin 3) * 1 + 1 * v.val = v.val; rw [index6]; show 0 * 1 + 1 * v.val = _; omega
  | ⟨2, _⟩ => show ((cfgT (F := Ideal)).win 6).index (pt n) (2 : Fin 3) * 640 + 1 * r.val = (rw8 (itN n) r).val; rw [index6, rw8_val (itN_lt n)]; show (iw (grid0.coords (pt (F := Ideal) n) 1)).toNat * 640 + 1 * r.val = _; rw [cI]; omega
theorem index7 (t : Fin (cfgT (F := Ideal)).N) : ((cfgT (F := Ideal)).win 7).index t = ![(grid0.coords t 0).val, 0, 0] :=
  congrArg (fun a : ℕ => (![a, 0, 0] : Fin 3 → ℕ)) (head_word (grid0.coords t))
theorem emb7 (n : ℕ) (u : Fin 1) (r : Fin 8320) (d : Fin 128) : (((cfgT (F := Ideal)).win 7).blk (pt n)).view.emb (ix3 u r d) = ix3 (hd n) r d := by
  funext a; apply Fin.ext
  match a with
  | ⟨0, _⟩ => show ((cfgT (F := Ideal)).win 7).index (pt n) (0 : Fin 3) * 1 + 1 * u.val = n / 91 % 8; rw [index7]; show (grid0.coords (pt (F := Ideal) n) 0).val * 1 + 1 * u.val = _; rw [cH]; omega
  | ⟨1, _⟩ => show ((cfgT (F := Ideal)).win 7).index (pt n) (1 : Fin 3) * 8320 + 1 * r.val = r.val; rw [index7]; show 0 * 8320 + 1 * r.val = _; omega
  | ⟨2, _⟩ => show ((cfgT (F := Ideal)).win 7).index (pt n) (2 : Fin 3) * 128 + 1 * d.val = d.val; rw [index7]; show 0 * 128 + 1 * d.val = _; omega
theorem index8 (t : Fin (cfgT (F := Ideal)).N) : ((cfgT (F := Ideal)).win 8).index t = mapJ (grid0.coords t) := tr8 _
theorem emb8 (n : ℕ) (u : Fin 1) (r : Fin 640) (d : Fin 128) : (((cfgT (F := Ideal)).win 8).blk (pt n)).view.emb (ix3 u r d) = ix3 (hd n) (rw8 (jtN n) r) d := by
  funext a; apply Fin.ext
  match a with
  | ⟨0, _⟩ => show ((cfgT (F := Ideal)).win 8).index (pt n) (0 : Fin 3) * 1 + 1 * u.val = n / 91 % 8; rw [index8]; show (grid0.coords (pt (F := Ideal) n) 0).val * 1 + 1 * u.val = _; rw [cH]; omega
  | ⟨1, _⟩ => show ((cfgT (F := Ideal)).win 8).index (pt n) (1 : Fin 3) * 640 + 1 * r.val = (rw8 (jtN n) r).val; rw [index8, rw8_val (jtN_lt n)]; show (jw (grid0.coords (pt (F := Ideal) n) 1)).toNat * 640 + 1 * r.val = _; rw [cJ]; omega
  | ⟨2, _⟩ => show ((cfgT (F := Ideal)).win 8).index (pt n) (2 : Fin 3) * 128 + 1 * d.val = d.val; rw [index8]; show 0 * 128 + 1 * d.val = _; omega
theorem index9 (t : Fin (cfgT (F := Ideal)).N) : ((cfgT (F := Ideal)).win 9).index t = mapJ (grid0.coords t) := tr9 _
theorem emb9 (n : ℕ) (u : Fin 1) (r : Fin 640) (d : Fin 128) : (((cfgT (F := Ideal)).win 9).blk (pt n)).view.emb (ix3 u r d) = ix3 (hd n) (rw8 (jtN n) r) d := by
  funext a; apply Fin.ext
  match a with
  | ⟨0, _⟩ => show ((cfgT (F := Ideal)).win 9).index (pt n) (0 : Fin 3) * 1 + 1 * u.val = n / 91 % 8; rw [index9]; show (grid0.coords (pt (F := Ideal) n) 0).val * 1 + 1 * u.val = _; rw [cH]; omega
  | ⟨1, _⟩ => show ((cfgT (F := Ideal)).win 9).index (pt n) (1 : Fin 3) * 640 + 1 * r.val = (rw8 (jtN n) r).val; rw [index9, rw8_val (jtN_lt n)]; show (jw (grid0.coords (pt (F := Ideal) n) 1)).toNat * 640 + 1 * r.val = _; rw [cJ]; omega
  | ⟨2, _⟩ => show ((cfgT (F := Ideal)).win 9).index (pt n) (2 : Fin 3) * 128 + 1 * d.val = d.val; rw [index9]; show 0 * 128 + 1 * d.val = _; omega

/-! ## The blocks read -/

variable (m : (ℓ : Loc nD τ sig) → Buf (Elt Ideal) ℓ) (c : Dev nD) (n : ℕ)

theorem b0_apply (r : Fin 640) (d : Fin 128) : b0 m c n (ix3 (0 : Fin 1) r d) = V m c main_v36 (ix3 (hd n) (rw8 (itN n) r) d) := by
  show V m c main_v36 ((((cfgT (F := Ideal)).win 0).blk (pt n)).view.emb (ix3 (0 : Fin 1) r d)) = _
  rw [emb0]
theorem b1_apply (r : Fin 640) (d : Fin 128) : b1 m c n (ix3 (0 : Fin 1) r d) = m ((c : Thread nD τ).loc main_arg1) (ix3 (hd n) (rw8 (jtN n) r) d) := by
  show V m c main_arg1 ((((cfgT (F := Ideal)).win 1).blk (pt n)).view.emb (ix3 (0 : Fin 1) r d)) = _
  rw [emb1, V_main_arg1]
theorem b2_apply (r : Fin 640) (d : Fin 128) : b2 m c n (ix2 r d) = m ((c : Thread nD τ).loc main_arg2) (ix2 (rw8 (jtN n) r) d) := by
  show V m c main_arg2 ((((cfgT (F := Ideal)).win 2).blk (pt n)).view.emb (ix2 r d)) = _
  rw [emb2, V_main_arg2]
theorem b3_apply (r : Fin 640) (d : Fin 128) : b3 m c n (ix3 (0 : Fin 1) r d) = m ((c : Thread nD τ).loc main_arg3) (ix3 (hd n) (rw8 (jtN n) r) d) := by
  show V m c main_arg3 ((((cfgT (F := Ideal)).win 3).blk (pt n)).view.emb (ix3 (0 : Fin 1) r d)) = _
  rw [emb3, V_main_arg3]
theorem b4_apply (r : Fin 640) (d : Fin 128) : b4 m c n (ix3 (0 : Fin 1) r d) = m ((c : Thread nD τ).loc main_arg4) (ix3 (hd n) (rw8 (itN n) r) d) := by
  show V m c main_arg4 ((((cfgT (F := Ideal)).win 4).blk (pt n)).view.emb (ix3 (0 : Fin 1) r d)) = _
  rw [emb4, V_main_arg4]
theorem b5_apply (r : Fin 640) : b5 m c n (ix3 (0 : Fin 1) (0 : Fin 1) r) = V m c main_v41 (ix3 (hd n) (0 : Fin 1) (rw8 (itN n) r)) := by
  show V m c main_v41 ((((cfgT (F := Ideal)).win 5).blk (pt n)).view.emb (ix3 (0 : Fin 1) (0 : Fin 1) r)) = _
  rw [emb5]
theorem b6_apply (r : Fin 640) : b6 m c n (ix3 (0 : Fin 1) (0 : Fin 1) r) = V m c main_v44 (ix3 (hd n) (0 : Fin 1) (rw8 (itN n) r)) := by
  show V m c main_v44 ((((cfgT (F := Ideal)).win 6).blk (pt n)).view.emb (ix3 (0 : Fin 1) (0 : Fin 1) r)) = _
  rw [emb6]

end Cert.Kernel5Ideal.Att

end
-- ==== Proof.Att.Host.lean ====
/- What the host operations before the attention region leave in the arrays it reads: the scaled queries, and for each row
   the logarithm of its total and its output's product with the cotangent. -/
module

public import proofs.«01_k».proof.Proof.Att.Kit
public import proofs.«01_k».proof.Proof.Gen.Reference5Ideal.Read
public import Idealize.ShloMosaic.Lib.ValueIdx
public import Idealize.ShloMosaic.Lib.ValueLayout
public import Idealize.ShloMosaic.Lib.Pipeline.Value
public import Idealize.ShloMosaic.Lib.StableHlo.Run

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic Idealize.ShloMosaic.ValueIdx
open Idealize.SL.Sem Idealize.ShloMosaic.StableHlo

/-! ## The values -/

section
variable (a0 : FVec Ideal S8x8320x128 .f32) (a1 : FVec Ideal S8x8320x128 .bf16) (a2 : FVec Ideal S8320x128 .bf16) (a3 a4 : FVec Ideal S8x8320x128 .bf16)

def hRoot : FVec Ideal S_ .f32 := Host.sqrt (constant S_ .f32 0x42C00000#32)
def hLog : FVec Ideal S_ .f32 := Host.log (constant S_ .f32 0x40000000#32)
/-- The keys, -/
def hK : FVec Ideal S8x8320x128 .f32 := addf (extf .f32 a1 bitsLt_bf16_f32) (broadcastInDim S8x8320x128 ![1, 2] bcast_S8320x128_S8x8320x128_1_2 (extf .f32 a2 bitsLt_bf16_f32 : FVec Ideal S8320x128 .f32))
/-- the scores, -/
def hZ : FVec Ideal S8x8320x8320 .f32 := Host.divf (Host.dotGeneral dot_S8x8320x128_S8x8320x128_S8x8320x8320_2_2_1_1_0_0 none a0 (hK a1 a2)) (broadcastInDim S8x8320x8320 ![] bcast_S_S8x8320x8320 hRoot)
/-- each row's chunk, -/
def hRow : IVec S8320 32 := Host.shrsi (iotaInDim S8320 32 0) (broadcastInDim S8320 ![] bcast_S_S8320 (constantI S_ 32 6#32))
/-- the mask, -/
def hSeen : IVec S8x8320x8320 1 := cmpi .sle (broadcastInDim S8x8320x8320 ![2] bcast_S8320_S8x8320x8320_2 hRow) (broadcastInDim S8x8320x8320 ![1] bcast_S8320_S8x8320x8320_1 hRow)
/-- the masked scores, -/
def hZm : FVec Ideal S8x8320x8320 .f32 := select hSeen (hZ a0 a1 a2) (broadcastInDim S8x8320x8320 ![] bcast_S_S8x8320x8320 (constant S_ .f32 0xFF800000#32 : FVec Ideal S_ .f32))
/-- their greatest in each row, -/
def hM : FVec Ideal S8x8320 .f32 := Host.reduce FloatOps.maximumf (hZm a0 a1 a2) (constant S_ .f32 0xFF800000#32 : FVec Ideal S_ .f32) reducesTo_S8x8320x8320_S8x8320_d2 h_S_
/-- the exponentials, -/
def hE : FVec Ideal S8x8320x8320 .f32 := Host.exp (subf (hZm a0 a1 a2) (broadcastInDim S8x8320x8320 ![0, 1] bcast_S8x8320_S8x8320x8320_0_1 (hM a0 a1 a2)))
/-- their totals, -/
def hT : FVec Ideal S8x8320 .f32 := Host.reduceAdd (hE a0 a1 a2) (constant S_ .f32 0x00000000#32) reducesTo_S8x8320x8320_S8x8320_d2 h_S_
/-- the softmax, -/
def hP : FVec Ideal S8x8320x8320 .f32 := Host.divf (hE a0 a1 a2) (broadcastInDim S8x8320x8320 ![0, 1] bcast_S8x8320_S8x8320x8320_0_1 (hT a0 a1 a2))
/-- the output, -/
def hO : FVec Ideal S8x8320x128 .f32 := Host.dotGeneral dot_S8x8320x8320_S8x8320x128_S8x8320x128_2_1_1_2_0_0 none (hP a0 a1 a2) (extf .f32 a3 bitsLt_bf16_f32 : FVec Ideal S8x8320x128 .f32)
/-- the base-two logarithm of each total, -/
def hLse : FVec Ideal S8x8320 .f32 := Host.divf (addf (hM a0 a1 a2) (Host.log (hT a0 a1 a2))) (broadcastInDim S8x8320 ![] bcast_S_S8x8320 hLog)
/-- the output's product with the cotangent, -/
def hDel : FVec Ideal S8x8320 .f32 := Host.reduceAdd (mulf (hO a0 a1 a2 a3) (extf .f32 a4 bitsLt_bf16_f32)) (constant S_ .f32 0x00000000#32) reducesTo_S8x8320x128_S8x8320_d2 h_S_
/-- and the scaled queries. -/
def hQs : FVec Ideal S8x8320x128 .bf16 := truncf .bf16 (Host.divf a0 (broadcastInDim S8x8320x128 ![] bcast_S_S8x8320x128 (mulf hRoot hLog)) : FVec Ideal S8x8320x128 .f32) bitsLt_bf16_f32
end

/-- A number for each row, laid out as the region reads it. -/
def hCol (x : FVec Ideal S8x8320 .f32) : FVec Ideal S8x1x8320 .f32 :=
  shapeCast S8x1x8320 (shapeCast S8x8320 (extractStridedSlice S8x8320x1 ![0, 0, 0] (broadcastInDim S8x8320x128 ![0, 1] bcast_S8x8320_S8x8320x128_0_1 x) slices_S8x8320x128_S8x8320x1_0_0_0 : FVec Ideal S8x8320x1 .f32) shapeCasts_S8x8320x1_S8x8320 : FVec Ideal S8x8320 .f32) shapeCasts_S8x8320_S8x1x8320

variable (m : (ℓ : Loc nD τ sig) → Buf (Elt Ideal) ℓ)

/-- The argument arrays. -/
abbrev A0 (c : Dev nD) : FVec Ideal S8x8320x128 .f32 := m ((c : Thread nD τ).loc main_arg0)
abbrev A1 (c : Dev nD) : FVec Ideal S8x8320x128 .bf16 := m ((c : Thread nD τ).loc main_arg1)
abbrev A2 (c : Dev nD) : FVec Ideal S8320x128 .bf16 := m ((c : Thread nD τ).loc main_arg2)
abbrev A3 (c : Dev nD) : FVec Ideal S8x8320x128 .bf16 := m ((c : Thread nD τ).loc main_arg3)
abbrev A4 (c : Dev nD) : FVec Ideal S8x8320x128 .bf16 := m ((c : Thread nD τ).loc main_arg4)

theorem V_v36 (c : Dev nD) : V m c main_v36 = hQs (A0 m c) := by
  simp only [V, hostOps0, List.flatten_cons, List.flatten_nil, List.append_nil, List.cons_append, List.nil_append, TRef.binary, TRef.nullary, TRef.unary, TRef.toBuf, TRef.ofBuf, cast_eq]
  after_results_simp <;> rfl
theorem V_v41 (c : Dev nD) : V m c main_v41 = hCol (hLse (A0 m c) (A1 m c) (A2 m c)) := by
  simp only [V, hostOps0, List.flatten_cons, List.flatten_nil, List.append_nil, List.cons_append, List.nil_append, TRef.binary, TRef.nullary, TRef.unary, TRef.toBuf, TRef.ofBuf, cast_eq]
  after_results_simp <;> rfl
theorem V_v44 (c : Dev nD) : V m c main_v44 = hCol (hDel (A0 m c) (A1 m c) (A2 m c) (A3 m c) (A4 m c)) := by
  simp only [V, hostOps0, List.flatten_cons, List.flatten_nil, List.append_nil, List.cons_append, List.nil_append, TRef.binary, TRef.nullary, TRef.unary, TRef.toBuf, TRef.ofBuf, cast_eq]
  after_results_simp <;> rfl

end Cert.Kernel5Ideal.Att

end
-- ==== Proof.Att.RefSpec.lean ====
/- The attention reference's results, at an index, as one head's formulas over the reals. -/
module

public import proofs.«01_k».proof.Proof.Att.Spec
public import proofs.«01_k».proof.Proof.Gen.Reference5Ideal.Read
public import Idealize.ShloMosaic.Lib.ValueIdx
public import Idealize.ShloMosaic.Lib.IdealHost

@[expose] public section

noncomputable section

namespace Cert.Reference5Ideal.Att

open Cert.Reference5Ideal Cert.Reference5Ideal.Gen Cert.Reference5Ideal.Read
open Idealize.ShloMosaic Idealize.ShloMosaic.TcCoe Idealize.ShloMosaic.ValueIdx
open Cert.FfnSpec (IsR coe_sum)
open Cert.AttSpec

/-- An index is given by its coordinates. -/
theorem at3 {n0 n1 n2 : ℕ} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext x
  match x with
  | ⟨0, _⟩ => exact Fin.ext h0
  | ⟨1, _⟩ => exact Fin.ext h1
  | ⟨2, _⟩ => exact Fin.ext h2
theorem at2 {n0 n1 : ℕ} (j : (⟨2, ![n0, n1]⟩ : Shape).Idx) (a : Fin n0) (b : Fin n1)
    (h0 : (j 0).val = a.val) (h1 : (j 1).val = b.val) : j = ix2 a b := by
  funext x
  match x with
  | ⟨0, _⟩ => exact Fin.ext h0
  | ⟨1, _⟩ => exact Fin.ext h1
theorem at1 {n : ℕ} (j : (⟨1, ![n]⟩ : Shape).Idx) (a : Fin n) (h : (j 0).val = a.val) : j = ix1 a := by
  funext x
  match x with
  | ⟨0, _⟩ => exact Fin.ext h

/-! ## The constants -/

theorem c_zero : (FloatOps.ofBits .f32 0x00000000#32 : Ideal .f32) = (0 : EReal) := Ideal.ofBits_zero_f32
theorem c_one : (FloatOps.ofBits .f32 0x3F800000#32 : Ideal .f32) = ((1 : ℝ) : EReal) := Idealize.ShloMosaic.Ideal.ofBits_one_f32
theorem c_neg : (FloatOps.ofBits .f32 0xFF800000#32 : Ideal .f32) = (⊥ : EReal) := by
  show Ideal.ofBits .f32 0xFF800000#32 = ⊥
  simp [Ideal.ofBits, Ideal.ieee]
theorem c_96 : (FloatOps.ofBits .f32 0x42C00000#32 : Ideal .f32) = ((96 : ℝ) : EReal) := by
  show Ideal.ofBits .f32 0x42C00000#32 = _
  simp [Ideal.ofBits, Ideal.ieee, -EReal.coe_mul]; norm_num
theorem c_root : (FloatOps.hostUnary .sqrt (FloatOps.ofBits .f32 0x42C00000#32 : Ideal .f32) : Ideal .f32) = ((Real.sqrt 96 : ℝ) : EReal) := by
  rw [c_96]
  show Ideal.sqrt ((96 : ℝ) : EReal) = _
  rw [Ideal.sqrt_coe, if_neg (by norm_num)]

variable {x0 : (⟨S8x8320x128, .f32⟩ : BufTy).Contents (Elt Ideal)} {x1 : (⟨S8x8320x128, .bf16⟩ : BufTy).Contents (Elt Ideal)}
  {x2 : (⟨S8320x128, .bf16⟩ : BufTy).Contents (Elt Ideal)} {x3 x4 : (⟨S8x8320x128, .bf16⟩ : BufTy).Contents (Elt Ideal)}
  {h : Fin 8} {q k v g : Fin 8320 → Fin 128 → ℝ}

/-- Head `h` of the arguments is given by four real matrices: queries, keys, values and the output's cotangent. -/
structure Head (x0 : (⟨S8x8320x128, .f32⟩ : BufTy).Contents (Elt Ideal)) (x1 : (⟨S8x8320x128, .bf16⟩ : BufTy).Contents (Elt Ideal))
    (x2 : (⟨S8320x128, .bf16⟩ : BufTy).Contents (Elt Ideal)) (x3 x4 : (⟨S8x8320x128, .bf16⟩ : BufTy).Contents (Elt Ideal))
    (h : Fin 8) (q k v g : Fin 8320 → Fin 128 → ℝ) : Prop where
  q : ∀ t d, (x0 (ix3 h t d) : EReal) = (q t d : EReal)
  k : ∀ s d, ((x1 (ix3 h s d) : EReal) + (x2 (ix2 s d) : EReal) : EReal) = (k s d : EReal)
  v : ∀ s d, (x3 (ix3 h s d) : EReal) = (v s d : EReal)
  g : ∀ t d, (x4 (ix3 h t d) : EReal) = (g t d : EReal)

/-! ## The mask -/

theorem shift6 : ∀ n : Fin 8320, (BitVec.ofNat 32 n.val).sshiftRight' 6#32 = BitVec.ofNat 32 (n.val / 64) := by decide +kernel
theorem sle_iff : ∀ a b : Fin 130, ((BitVec.ofNat 32 a.val).sle (BitVec.ofNat 32 b.val) = true) ↔ a.val ≤ b.val := by decide +kernel
theorem seen_word (t s : Fin 8320) : IntOp.cmpi .sle (IntOp.shrsi .host (BitVec.ofNat 32 s.val) 6#32) (IntOp.shrsi .host (BitVec.ofNat 32 t.val) 6#32)
    = if Seen t s then 1#1 else 0#1 := by
  show BitVec.ofBool (BitVec.sle (if (6#32 : BitVec 32).toNat < 32 then (BitVec.ofNat 32 s.val).sshiftRight' 6#32 else IntOp.cornerWord .host .shrsi (BitVec.ofNat 32 s.val) 6#32)
    (if (6#32 : BitVec 32).toNat < 32 then (BitVec.ofNat 32 t.val).sshiftRight' 6#32 else IntOp.cornerWord .host .shrsi (BitVec.ofNat 32 t.val) 6#32)) = _
  rw [if_pos (by decide), if_pos (by decide), shift6, shift6]
  have hs := s.isLt
  have ht := t.isLt
  have h' := sle_iff ⟨s.val / 64, by omega⟩ ⟨t.val / 64, by omega⟩
  by_cases hc : s.val / 64 ≤ t.val / 64
  · rw [if_pos hc, h'.mpr hc]; rfl
  · rw [if_neg hc, Bool.eq_false_iff.mpr fun e => hc (h'.mp e)]; rfl
theorem r_seen (t s : Fin 8320) : val_main_v18_1 (F := Ideal) (ix3 h t s) = if Seen t s then 1#1 else 0#1 := by
  rw [val_main_v18_1_apply, val_main_v17_apply, val_main_v15_apply, val_main_v16_apply, val_main_v13_apply, val_main_v14_apply,
    val_main_v12_apply, val_main_v12_apply, val_main_v10_apply, val_main_v10_apply, val_main_v11_apply, val_main_v11_apply, val_main_c_apply]
  exact seen_word t s
theorem select_seen {α : Type} (t s : Fin 8320) (a b : α) : Scalar.select (if Seen t s then 1#1 else 0#1) a b = if Seen t s then a else b := by
  by_cases hc : Seen t s
  · rw [if_pos hc, if_pos hc]; exact if_pos rfl
  · rw [if_neg hc, if_neg hc]; exact if_neg (by decide)

section
variable (H : Head x0 x1 x2 x3 x4 h q k v g)
include H

/-! ## The softmax -/

theorem r_v4 (s : Fin 8320) (d : Fin 128) : val_main_v4 (F := Ideal) x1 x2 (ix3 h s d) = (k s d : EReal) := by
  rw [val_main_v4_apply, val_main_v0_apply, val_main_v3_apply, val_main_v2_apply, val_main_v1_apply,
    (at2 _ s d rfl rfl : idx_main_v2 (idx_main_v3 (ix3 h s d)) = ix2 s d)]
  exact H.k s d
theorem r_v6 (t s : Fin 8320) : val_main_v6 (F := Ideal) x0 x1 x2 (ix3 h t s) = ((∑ d, q t d * k s d : ℝ) : EReal) := by
  rw [val_main_v6_apply, ← coe_sum]
  exact Finset.sum_congr rfl fun d _ => by
    rw [(at3 _ h t d rfl rfl rfl : lidx_main_v6 (ix3 h t s) d = ix3 h t d), (at3 _ h s d rfl rfl rfl : ridx_main_v6 (ix3 h t s) d = ix3 h s d), r_v4 H, EReal.coe_mul, ← H.q]
theorem r_v9 (t s : Fin 8320) : val_main_v9 (F := Ideal) x0 x1 x2 (ix3 h t s) = (zz q k t s : EReal) := by
  rw [val_main_v9_apply, r_v6 H, val_main_v8_apply, val_main_v7_apply, val_main_cst_apply, c_root]
  exact div_real' sqrt96_pos.ne' _
theorem r_z (t s : Fin 8320) : val_main_v18_0 (F := Ideal) x0 x1 x2 (ix3 h t s) = if Seen t s then (zz q k t s : EReal) else ⊥ := by
  rw [val_main_v18_0_apply, r_seen, select_seen, r_v9 H, val_main_call0_v2_apply, val_main_call0_v0_apply, val_main_cst_0_apply, c_neg]
theorem r_m (t : Fin 8320) : IsR (val_main_v19 (F := Ideal) x0 x1 x2 (ix2 h t)) := by
  have hr : S8x8320x8320.Reduces [2] S8x8320 := by decide
  have e : val_main_v19 (F := Ideal) x0 x1 x2 (ix2 h t) = Finset.univ.fold max (⊥ : EReal) (fun s : Fin 8320 => if Seen t s then (zz q k t s : EReal) else ⊥) := by
    refine (Host.reduce_eq_fold_single (FloatOps.maximumf (F := Ideal) (φ := .f32)) (val_main_v18_0 (F := Ideal) x0 x1 x2) (val_main_cst_1 (F := Ideal)) reducesTo_S8x8320x8320_S8x8320_d2 hr h_S_ (ix2 h t)).trans ?_
    rw [val_main_cst_1_apply, c_neg]
    refine congrArg (fun f => Finset.fold max (⊥ : EReal) f (Finset.univ : Finset (Fin 8320))) (funext fun s => ?_)
    refine Eq.trans (congrArg (val_main_v18_0 (F := Ideal) x0 x1 x2) ?_) (r_z H t s)
    exact at3 _ h t s rfl rfl rfl
  rw [e]
  refine isR_fold_max _ (fun s => ?_) (j := t) ?_
  · split
    · exact EReal.coe_ne_top _
    · exact bot_ne_top
  · rw [if_pos (le_refl _)]; exact EReal.coe_ne_bot _

section
variable {t : Fin 8320} {M : ℝ} (hM : val_main_v19 (F := Ideal) x0 x1 x2 (ix2 h t) = (M : EReal))
include hM

theorem r_v39 (s : Fin 8320) : val_main_v39 (F := Ideal) x0 x1 x2 (ix3 h t s) = (es q k M t s : EReal) := by
  rw [val_main_v39_apply, val_main_v38_apply, r_z H, val_main_v37_apply, val_main_v36_apply,
    (at2 _ h t rfl rfl : idx_main_v36 (idx_main_v37 (ix3 h t s)) = ix2 h t), val_main_v26_apply, val_main_v25_apply, val_main_cst_3_apply, c_neg, hM]
  show Ideal.exp ((if Seen t s then (zz q k t s : EReal) else ⊥) - max (⊥ : EReal) (M : EReal)) = _
  rw [max_eq_right bot_le]
  exact exp_masked _ _
theorem r_v40 : val_main_v40 (F := Ideal) x0 x1 x2 (ix2 h t) = ((∑ s, es q k M t s : ℝ) : EReal) := by
  rw [val_main_v40_apply, val_main_cst_9_apply, c_zero, zero_add, ← coe_sum]
  exact Finset.sum_congr rfl fun s _ => by
    rw [(at3 _ h t s rfl rfl rfl : idx_main_v40 (ix2 h t) s = ix3 h t s), r_v39 H hM]
theorem r_v41 (u : Fin 1) : val_main_v41 (F := Ideal) x0 x1 x2 (ix3 h t u) = ((∑ s, es q k M t s : ℝ) : EReal) := by
  rw [val_main_v41_apply, (at2 _ h t rfl rfl : idx_main_v41 (ix3 h t u) = ix2 h t), r_v40 H hM]
theorem r_v43' (s : Fin 8320) : val_main_v43 (F := Ideal) x0 x1 x2 (ix3 h t s) = (pp q k t s : EReal) := by
  rw [val_main_v43_apply, r_v39 H hM, val_main_v42_apply, (at3 _ h t 0 rfl rfl rfl : idx_main_v42 (ix3 h t s) = ix3 h t 0), r_v41 H hM]
  exact (div_real' (sum_es_pos q k M t).ne' _).trans (by rw [es_div])
end
theorem r_v43 (t s : Fin 8320) : val_main_v43 (F := Ideal) x0 x1 x2 (ix3 h t s) = (pp q k t s : EReal) := by
  obtain ⟨M, hM⟩ := r_m H t
  exact r_v43' H hM s
theorem r_v47 (t : Fin 8320) (d : Fin 128) : val_main_v47 (F := Ideal) x0 x1 x2 x3 (ix3 h t d) = ((∑ s, pp q k t s * v s d : ℝ) : EReal) := by
  rw [val_main_v47_apply, ← coe_sum]
  exact Finset.sum_congr rfl fun s _ => by
    rw [(at3 _ h t s rfl rfl rfl : lidx_main_v47 (ix3 h t d) s = ix3 h t s), (at3 _ h s d rfl rfl rfl : ridx_main_v47 (ix3 h t d) s = ix3 h s d), r_v43 H, EReal.coe_mul, ← H.v]; rfl

/-! ## The gradients -/

/-- Of the values, -/
theorem r_v50 (s : Fin 8320) (d : Fin 128) : val_main_v50 (F := Ideal) x0 x1 x2 x4 (ix3 h s d) = (gv q k g s d : EReal) := by
  rw [val_main_v50_apply, (at3 _ h d s rfl rfl rfl : idx_main_v50 (ix3 h s d) = ix3 h d s), val_main_v49_apply]
  unfold gv
  rw [← coe_sum]
  exact Finset.sum_congr rfl fun t _ => by
    rw [(at3 _ h t d rfl rfl rfl : lidx_main_v49 (ix3 h d s) t = ix3 h t d), (at3 _ h t s rfl rfl rfl : ridx_main_v49 (ix3 h d s) t = ix3 h t s), r_v43 H, mul_comm (pp q k t s), EReal.coe_mul, ← H.g]; rfl
theorem r_v51 (t s : Fin 8320) : val_main_v51 (F := Ideal) x3 x4 (ix3 h t s) = (dp v g t s : EReal) := by
  rw [val_main_v51_apply]
  unfold dp
  rw [← coe_sum]
  exact Finset.sum_congr rfl fun d _ => by
    rw [(at3 _ h t d rfl rfl rfl : lidx_main_v51 (ix3 h t s) d = ix3 h t d), (at3 _ h s d rfl rfl rfl : ridx_main_v51 (ix3 h t s) d = ix3 h s d), EReal.coe_mul, ← H.g, ← H.v]; rfl

section
variable {t : Fin 8320} {M : ℝ} (hM : val_main_v19 (F := Ideal) x0 x1 x2 (ix2 h t) = (M : EReal)) {T : ℝ} (hT : T = ∑ s, es q k M t s)
include hM hT

theorem r_v46 (u : Fin 1) : val_main_v46 (F := Ideal) x0 x1 x2 (ix3 h t u) = ((1 / (T * T) : ℝ) : EReal) := by
  rw [val_main_v46_apply, val_main_v45_apply, val_main_cst_10_apply, c_one, val_main_v44_apply, r_v41 H hM, ← hT]
  have h0 : T ≠ 0 := by rw [hT]; exact (sum_es_pos q k M t).ne'
  show Ideal.div ((1 : ℝ) : EReal) ((T : EReal) * (T : EReal)) = _
  rw [← EReal.coe_mul]
  exact div_real' (mul_ne_zero h0 h0) _
theorem r_v54 (s : Fin 8320) : val_main_v54 (F := Ideal) x0 x1 x2 x3 x4 (ix3 h t s) = ((dp v g t s * (1 / (T * T)) * es q k M t s : ℝ) : EReal) := by
  rw [val_main_v54_apply, val_main_v53_apply, r_v51 H, val_main_v52_apply, (at3 _ h t 0 rfl rfl rfl : idx_main_v52 (ix3 h t s) = ix3 h t 0),
    r_v46 H hM hT, r_v39 H hM, EReal.coe_mul, EReal.coe_mul]; rfl
theorem r_v57 (u : Fin 1) : val_main_v57 (F := Ideal) x0 x1 x2 x3 x4 (ix3 h t u) = ((-∑ s, dp v g t s * (1 / (T * T)) * es q k M t s : ℝ) : EReal) := by
  have hu : u.val = 0 := by omega
  have hh := h.isLt
  have ht := t.isLt
  rw [val_main_v57_apply, val_main_v56_apply, (at2 _ h t (by show ((h.val * 8320 + t.val) * 1 + u.val) / 8320 = h.val; omega)
    (by show ((h.val * 8320 + t.val) * 1 + u.val) % 8320 = t.val; omega) : idx_main_v56 (ix3 h t u) = ix2 h t), val_main_v55_apply,
    val_main_cst_11_apply, c_zero, zero_add, EReal.coe_neg, ← coe_sum]
  refine congrArg (fun x : EReal => -x) (Finset.sum_congr rfl fun s _ => ?_)
  rw [(at3 _ h t s rfl rfl rfl : idx_main_v55 (ix2 h t) s = ix3 h t s), r_v54 H hM hT]
theorem r_v63 (s : Fin 8320) : val_main_v63 (F := Ideal) x0 x1 x2 x3 x4 (ix3 h t s) = (dz q k v g t s : EReal) := by
  have h0 : T ≠ 0 := by rw [hT]; exact (sum_es_pos q k M t).ne'
  rw [val_main_v63_apply, val_main_v62_apply, val_main_v59_apply, r_v51 H, val_main_v58_apply, (at3 _ h t 0 rfl rfl rfl : idx_main_v58 (ix3 h t s) = ix3 h t 0),
    r_v41 H hM, ← hT, val_main_v61_apply, (at2 _ h t rfl rfl : idx_main_v61 (ix3 h t s) = ix2 h t), val_main_v60_apply, val_main_cst_12_apply, c_zero,
    zero_add, Fin.sum_univ_one, (at3 _ h t 0 rfl rfl rfl : idx_main_v60 (ix2 h t) 0 = ix3 h t 0), r_v57 H hM hT, r_v39 H hM,
    ← dz_shift q k v g M t s hT, EReal.coe_mul, EReal.coe_add]
  show (Ideal.div (dp v g t s : EReal) (T : EReal) + _) * _ = _
  rw [div_real' h0]
end

theorem r_v64 (t s : Fin 8320) : val_main_v64 (F := Ideal) x0 x1 x2 x3 x4 (ix3 h t s) = (dz q k v g t s : EReal) := by
  obtain ⟨M, hM⟩ := r_m H t
  rw [val_main_v64_apply, r_seen, select_seen, r_v63 H hM rfl, val_main_call1_v0_apply, val_main_call1_cst_apply, c_zero]
  by_cases hc : Seen t s
  · rw [if_pos hc]
  · rw [if_neg hc, dz_unseen q k v g hc]; rfl
theorem r_v66 (t s : Fin 8320) : val_main_v66 (F := Ideal) x0 x1 x2 x3 x4 (ix3 h t s) = ((dz q k v g t s / Real.sqrt 96 : ℝ) : EReal) := by
  rw [val_main_v66_apply, r_v64 H, val_main_v65_apply, val_main_v7_apply, val_main_cst_apply, c_root]
  exact div_real' sqrt96_pos.ne' _
/-- of the keys -/
theorem r_v67 (s : Fin 8320) (d : Fin 128) : val_main_v67 (F := Ideal) x0 x1 x2 x3 x4 (ix3 h s d) = (gk q k v g s d : EReal) := by
  rw [val_main_v67_apply]
  unfold gk
  rw [← coe_sum]
  exact Finset.sum_congr rfl fun t _ => by
    rw [(at3 _ h t s rfl rfl rfl : lidx_main_v67 (ix3 h s d) t = ix3 h t s), (at3 _ h t d rfl rfl rfl : ridx_main_v67 (ix3 h s d) t = ix3 h t d), r_v66 H, EReal.coe_mul, ← H.q]
/-- and of the queries. -/
theorem r_v68 (t : Fin 8320) (d : Fin 128) : val_main_v68 (F := Ideal) x0 x1 x2 x3 x4 (ix3 h t d) = (gq q k v g t d : EReal) := by
  rw [val_main_v68_apply]
  unfold gq
  rw [← coe_sum]
  exact Finset.sum_congr rfl fun s _ => by
    rw [(at3 _ h t s rfl rfl rfl : lidx_main_v68 (ix3 h t d) s = ix3 h t s), (at3 _ h s d rfl rfl rfl : ridx_main_v68 (ix3 h t d) s = ix3 h s d), r_v66 H, r_v4 H, EReal.coe_mul]
end

end Cert.Reference5Ideal.Att

end
-- ==== Proof.Att.HostSpec.lean ====
/- The host's values against the reference's, and at an index over the reals. -/
module

public import proofs.«01_k».proof.Proof.Att.Host
public import proofs.«01_k».proof.Proof.Att.RefSpec

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.ValueIdx
open Cert.Reference5Ideal.Read
open Cert.Reference5Ideal.Att (at1 at2 at3 Head c_zero c_neg c_root c_96 r_m r_v39 r_v40 r_v43 r_v47 r_v4)
open Cert.FfnSpec (IsR coe_sum)
open Cert.AttSpec

/-! ## Broadcasts -/

theorem bRow {α : Type} (x : S8x8320.Idx → α) (h : Fin 8) (t s : Fin 8320) :
    broadcastInDim S8x8320x8320 ![0, 1] bcast_S8x8320_S8x8320x8320_0_1 x (ix3 h t s) = x (ix2 h t) :=
  broadcastInDim_apply _ bcast_S8x8320_S8x8320x8320_0_1 x (ix3 h t s) (ix2 h t) (fun a => match a with
    | ⟨0, _⟩ => by show h.val = if (8 : Nat) = 1 then 0 else h.val; rw [if_neg (by decide)]
    | ⟨1, _⟩ => by show t.val = if (8320 : Nat) = 1 then 0 else t.val; rw [if_neg (by decide)])
theorem bLane {α : Type} (x : S8x8320.Idx → α) (h : Fin 8) (t : Fin 8320) (d : Fin 128) :
    broadcastInDim S8x8320x128 ![0, 1] bcast_S8x8320_S8x8320x128_0_1 x (ix3 h t d) = x (ix2 h t) :=
  broadcastInDim_apply _ bcast_S8x8320_S8x8320x128_0_1 x (ix3 h t d) (ix2 h t) (fun a => match a with
    | ⟨0, _⟩ => by show h.val = if (8 : Nat) = 1 then 0 else h.val; rw [if_neg (by decide)]
    | ⟨1, _⟩ => by show t.val = if (8320 : Nat) = 1 then 0 else t.val; rw [if_neg (by decide)])
theorem bKey {α : Type} (x : S8320x128.Idx → α) (h : Fin 8) (s : Fin 8320) (d : Fin 128) :
    broadcastInDim S8x8320x128 ![1, 2] bcast_S8320x128_S8x8320x128_1_2 x (ix3 h s d) = x (ix2 s d) :=
  broadcastInDim_apply _ bcast_S8320x128_S8x8320x128_1_2 x (ix3 h s d) (ix2 s d) (fun a => match a with
    | ⟨0, _⟩ => by show s.val = if (8320 : Nat) = 1 then 0 else s.val; rw [if_neg (by decide)]
    | ⟨1, _⟩ => by show d.val = if (128 : Nat) = 1 then 0 else d.val; rw [if_neg (by decide)])
theorem bCol2 {α : Type} (x : S8320.Idx → α) (h : Fin 8) (t s : Fin 8320) :
    broadcastInDim S8x8320x8320 ![2] bcast_S8320_S8x8320x8320_2 x (ix3 h t s) = x (ix1 s) :=
  broadcastInDim_apply _ bcast_S8320_S8x8320x8320_2 x (ix3 h t s) (ix1 s) (fun a => match a with
    | ⟨0, _⟩ => by show s.val = if (8320 : Nat) = 1 then 0 else s.val; rw [if_neg (by decide)])
theorem bCol1 {α : Type} (x : S8320.Idx → α) (h : Fin 8) (t s : Fin 8320) :
    broadcastInDim S8x8320x8320 ![1] bcast_S8320_S8x8320x8320_1 x (ix3 h t s) = x (ix1 t) :=
  broadcastInDim_apply _ bcast_S8320_S8x8320x8320_1 x (ix3 h t s) (ix1 t) (fun a => match a with
    | ⟨0, _⟩ => by show t.val = if (8320 : Nat) = 1 then 0 else t.val; rw [if_neg (by decide)])

/-! ## The host's values are the reference's -/

section
variable (a0 : FVec Ideal S8x8320x128 .f32) (a1 : FVec Ideal S8x8320x128 .bf16) (a2 : FVec Ideal S8320x128 .bf16) (a3 a4 : FVec Ideal S8x8320x128 .bf16)

theorem hK_eq : hK a1 a2 = val_main_v4 (F := Ideal) a1 a2 := by
  funext i
  obtain ⟨h, s, d, rfl⟩ : ∃ (h : Fin 8) (s : Fin 8320) (d : Fin 128), i = ix3 h s d := ⟨i 0, i 1, i 2, eq_ix3 (n0 := 8) (n1 := 8320) (n2 := 128) i⟩
  rw [val_main_v4_apply, val_main_v0_apply, val_main_v3_apply, val_main_v2_apply, val_main_v1_apply,
    (at2 _ s d rfl rfl : idx_main_v2 (idx_main_v3 (ix3 h s d)) = ix2 s d)]
  show (a1 (ix3 h s d) : EReal) + broadcastInDim S8x8320x128 ![1, 2] bcast_S8320x128_S8x8320x128_1_2 (extf .f32 a2 bitsLt_bf16_f32 : FVec Ideal S8320x128 .f32) (ix3 h s d) = _
  rw [bKey]; rfl
theorem hZ_eq : hZ a0 a1 a2 = val_main_v9 (F := Ideal) a0 a1 a2 := by
  unfold hZ; rw [hK_eq]; rfl
theorem hRow_apply (s : Fin 8320) : hRow (ix1 s) = IntOp.shrsi .host (BitVec.ofNat 32 s.val) 6#32 := by
  show IntOp.shrsi .host (BitVec.ofNat 32 s.val) (broadcastInDim S8320 ![] bcast_S_S8320 (constantI S_ 32 6#32) (ix1 s)) = _
  rw [broadcastInDim_apply _ bcast_S_S8320 (constantI S_ 32 6#32) (ix1 s) (fun a => a.elim0) (fun a => a.elim0)]
  rfl
theorem hSeen_eq : hSeen = val_main_v18_1 (F := Ideal) := by
  funext i
  obtain ⟨h, t, s, rfl⟩ : ∃ (h : Fin 8) (t s : Fin 8320), i = ix3 h t s := ⟨i 0, i 1, i 2, eq_ix3 (n0 := 8) (n1 := 8320) (n2 := 8320) i⟩
  refine Eq.trans ?_ (Cert.Reference5Ideal.Att.r_seen t s).symm
  show IntOp.cmpi .sle (broadcastInDim S8x8320x8320 ![2] bcast_S8320_S8x8320x8320_2 hRow (ix3 h t s)) (broadcastInDim S8x8320x8320 ![1] bcast_S8320_S8x8320x8320_1 hRow (ix3 h t s)) = _
  rw [bCol2, bCol1, hRow_apply, hRow_apply]
  exact Cert.Reference5Ideal.Att.seen_word t s
theorem hZm_eq : hZm a0 a1 a2 = val_main_v18_0 (F := Ideal) a0 a1 a2 := by
  unfold hZm; rw [hZ_eq, hSeen_eq]; rfl
theorem hM_eq : hM a0 a1 a2 = val_main_v19 (F := Ideal) a0 a1 a2 := by
  unfold hM; rw [hZm_eq]; rfl
theorem hE_eq : hE a0 a1 a2 = val_main_v39 (F := Ideal) a0 a1 a2 := by
  funext i
  obtain ⟨h, t, s, rfl⟩ : ∃ (h : Fin 8) (t s : Fin 8320), i = ix3 h t s := ⟨i 0, i 1, i 2, eq_ix3 (n0 := 8) (n1 := 8320) (n2 := 8320) i⟩
  rw [val_main_v39_apply, val_main_v38_apply, val_main_v37_apply, val_main_v36_apply,
    (at2 _ h t rfl rfl : idx_main_v36 (idx_main_v37 (ix3 h t s)) = ix2 h t), val_main_v26_apply, val_main_v25_apply, val_main_cst_3_apply, c_neg]
  show Ideal.exp (hZm a0 a1 a2 (ix3 h t s) - broadcastInDim S8x8320x8320 ![0, 1] bcast_S8x8320_S8x8320x8320_0_1 (hM a0 a1 a2) (ix3 h t s))
    = Ideal.exp (val_main_v18_0 (F := Ideal) a0 a1 a2 (ix3 h t s) - max (⊥ : EReal) (val_main_v19 (F := Ideal) a0 a1 a2 (ix2 h t)))
  rw [bRow, hZm_eq, hM_eq, max_eq_right bot_le]
theorem hT_eq : hT a0 a1 a2 = val_main_v40 (F := Ideal) a0 a1 a2 := by
  unfold hT; rw [hE_eq]; rfl
theorem hP_eq : hP a0 a1 a2 = val_main_v43 (F := Ideal) a0 a1 a2 := by
  funext i
  obtain ⟨h, t, s, rfl⟩ : ∃ (h : Fin 8) (t s : Fin 8320), i = ix3 h t s := ⟨i 0, i 1, i 2, eq_ix3 (n0 := 8) (n1 := 8320) (n2 := 8320) i⟩
  rw [val_main_v43_apply, val_main_v42_apply, val_main_v41_apply, (at2 _ h t rfl rfl : idx_main_v41 (idx_main_v42 (ix3 h t s)) = ix2 h t)]
  show Ideal.div (hE a0 a1 a2 (ix3 h t s)) (broadcastInDim S8x8320x8320 ![0, 1] bcast_S8x8320_S8x8320x8320_0_1 (hT a0 a1 a2) (ix3 h t s)) = _
  rw [bRow, hE_eq, hT_eq]; rfl
theorem hO_eq : hO a0 a1 a2 a3 = val_main_v47 (F := Ideal) a0 a1 a2 a3 := by
  unfold hO; rw [hP_eq]; rfl

/-- A column of row numbers is read by its row. -/
theorem hCol_apply (x : FVec Ideal S8x8320 .f32) (h : Fin 8) (t : Fin 8320) : hCol x (ix3 h (0 : Fin 1) t) = x (ix2 h t) := by
  unfold hCol
  rw [shapeCast_apply _ shapeCasts_S8x8320_S8x1x8320 (ix3 h (0 : Fin 1) t) (ix2 h t) (by
      rewrite [Shape.rowMajor_val_two, Shape.rowMajor_val_three]
      show h.val * 8320 + t.val = (h.val * 1 + 0) * 8320 + t.val
      omega),
    shapeCast_apply _ shapeCasts_S8x8320x1_S8x8320 (ix2 h t) (ix3 h t (0 : Fin 1)) (by
      rewrite [Shape.rowMajor_val_two, Shape.rowMajor_val_three]
      show (h.val * 8320 + t.val) * 1 + 0 = h.val * 8320 + t.val
      omega)]
  unfold extractStridedSlice
  refine Eq.trans (congrArg (broadcastInDim S8x8320x128 ![0, 1] bcast_S8x8320_S8x8320x128_0_1 x) (at3 _ h t (0 : Fin 128) ?_ ?_ ?_)) (bLane x h t 0)
  · show 0 + h.val = h.val; omega
  · show 0 + t.val = t.val; omega
  · rfl
end

/-! ## Over the reals -/

theorem hRoot_apply (i : S_.Idx) : hRoot i = ((Real.sqrt 96 : ℝ) : EReal) := c_root
theorem hLog_apply (i : S_.Idx) : hLog i = ((Real.log 2 : ℝ) : EReal) := by
  show Ideal.log (Ideal.ofBits .f32 0x40000000#32) = _
  rw [show Ideal.ofBits .f32 0x40000000#32 = ((2 : ℝ) : EReal) by simp [Ideal.ofBits, Ideal.ieee, -EReal.coe_mul]; norm_num]
  exact log_real (by norm_num)

/-- The logarithm's formula, of any greatest and any total; -/
theorem lse_of (x y : FVec Ideal S8x8320 .f32) (i : S8x8320.Idx) :
    (Host.divf (addf x (Host.log y)) (broadcastInDim S8x8320 ![] bcast_S_S8x8320 hLog) : FVec Ideal S8x8320 .f32) i = Ideal.div ((x i : EReal) + Ideal.log (y i)) ((Real.log 2 : ℝ) : EReal) := by
  show Ideal.div ((x i : EReal) + Ideal.log (y i)) (broadcastInDim S8x8320 ![] bcast_S_S8x8320 hLog i) = _
  rw [broadcastInDim_apply _ bcast_S_S8x8320 hLog i (fun a => a.elim0) (fun a => a.elim0), hLog_apply]
/-- and the product's, of any output. -/
theorem del_of (x : FVec Ideal S8x8320x128 .f32) (y : FVec Ideal S8x8320x128 .bf16) (h : Fin 8) (t : Fin 8320) :
    (Host.reduceAdd (mulf x (extf .f32 y bitsLt_bf16_f32)) (constant S_ .f32 0x00000000#32) reducesTo_S8x8320x128_S8x8320_d2 h_S_ : FVec Ideal S8x8320 .f32) (ix2 h t)
      = ∑ d : Fin 128, (x (ix3 h t d) : EReal) * (y (ix3 h t d) : EReal) := by
  simp only [Host.reduceAdd, Ideal.hostReduceAdd_def]
  rw [Ideal.hostReduceAdd_single reducesTo_S8x8320x128_S8x8320_d2 (by decide)]
  show (FloatOps.ofBits .f32 0x00000000#32 : Ideal .f32) + _ = _
  rw [c_zero, zero_add]
  refine Finset.sum_congr rfl fun (d : Fin 128) _ => ?_
  exact congrArg (mulf x (extf .f32 y bitsLt_bf16_f32) : FVec Ideal S8x8320x128 .f32) (at3 _ h t d rfl rfl rfl)

variable {a0 : FVec Ideal S8x8320x128 .f32} {a1 : FVec Ideal S8x8320x128 .bf16} {a2 : FVec Ideal S8320x128 .bf16} {a3 a4 : FVec Ideal S8x8320x128 .bf16}
  {h : Fin 8} {q k v g : Fin 8320 → Fin 128 → ℝ} (H : Head a0 a1 a2 a3 a4 h q k v g)
include H

theorem hQs_apply (t : Fin 8320) (d : Fin 128) : hQs a0 (ix3 h t d) = (qs q t d : EReal) := by
  show Ideal.div (a0 (ix3 h t d)) (broadcastInDim S8x8320x128 ![] bcast_S_S8x8320x128 (mulf hRoot hLog) (ix3 h t d)) = _
  rw [broadcastInDim_apply _ bcast_S_S8x8320x128 (mulf hRoot hLog) (ix3 h t d) (fun a => a.elim0) (fun a => a.elim0)]
  show Ideal.div (a0 (ix3 h t d)) ((hRoot _ : EReal) * hLog _) = _
  rw [hRoot_apply, hLog_apply, H.q, ← EReal.coe_mul]
  exact div_real' (mul_pos sqrt96_pos log2_pos).ne' _
theorem hLse_apply (t : Fin 8320) : hLse a0 a1 a2 (ix2 h t) = (lse q k t : EReal) := by
  obtain ⟨M, hM'⟩ := r_m H t
  unfold hLse
  rw [lse_of, hM_eq, hT_eq, hM', r_v40 H hM', log_real (sum_es_pos q k M t), ← EReal.coe_add, div_real' log2_pos.ne', lse_shift]
theorem hDel_apply (t : Fin 8320) : hDel a0 a1 a2 a3 a4 (ix2 h t) = (del q k v g t : EReal) := by
  unfold hDel
  rw [del_of]
  unfold del
  rw [← coe_sum]
  refine Finset.sum_congr rfl fun d _ => ?_
  rw [hO_eq, r_v47 H, H.g, EReal.coe_mul]

end Cert.Kernel5Ideal.Att

end
-- ==== Proof.Att.Payload.lean ====
/- One tile of the attention's backward pass, element by element. -/
module

public import proofs.«01_k».proof.Proof.Att.Vals
public import Idealize.ShloMosaic.Lib.ValueLayout
public import Idealize.ShloMosaic.Lib.ValueIdx
public import Idealize.ShloMosaic.Lib.IdealHost
public import Idealize.ShloMosaic.Lib.Pipeline.Value

@[expose] public section

set_option maxRecDepth 16384

noncomputable section

namespace Cert.Kernel5Ideal.Att

open Cert.Kernel5Ideal.Gen
open Idealize.ShloMosaic Idealize.ShloMosaic.TcCoe Idealize.ShloMosaic.ValueIdx

theorem zeroW : (Scalar.ofBits .f32 0x00000000#32 : Ideal .f32) = (0 : EReal) := Ideal.ofBits_zero_f32
theorem ln2W : (Named.named κ "ln2" 0x3F317218#32 : Ideal .f32) = ((Real.log 2 : ℝ) : EReal) := rfl
theorem scaleW : (Named.named κ "sm_scale" 0x3DD105EC#32 : Ideal .f32) = (((Real.sqrt 96)⁻¹ : ℝ) : EReal) := rfl
theorem negW : (Named.named κ "neg" 0xF149F2CA#32 : Ideal .f32) = (⊥ : EReal) := rfl

/-! ## Shapes -/

theorem drop1 {φ : FTy} (x : FVec Ideal S1x640x128 φ) (r : Fin 640) (d : Fin 128) :
    shapeCast S640x128 x shapeCasts_S1x640x128_S640x128 (ix2 r d) = x (ix3 (0 : Fin 1) r d) :=
  shapeCast_apply _ _ _ (ix3 (0 : Fin 1) r d) (by
    rewrite [Shape.rowMajor_val_two, Shape.rowMajor_val_three]
    show (0 * 640 + r.val) * 128 + d.val = r.val * 128 + d.val; omega)
theorem add1 {φ : FTy} (x : FVec Ideal S640x128 φ) (u : Fin 1) (r : Fin 640) (d : Fin 128) :
    shapeCast S1x640x128 x shapeCasts_S640x128_S1x640x128 (ix3 u r d) = x (ix2 r d) :=
  shapeCast_apply _ _ _ (ix2 r d) (by
    have := u.isLt
    rewrite [Shape.rowMajor_val_two, Shape.rowMajor_val_three]
    show r.val * 128 + d.val = (u.val * 640 + r.val) * 128 + d.val; omega)
/-- A row of numbers, one for each column of a tile. -/
theorem rowvec (x : FVec Ideal S1x1x640 .f32) (s t : Fin 640) :
    broadcastTo S640x640 (shapeCast S1x640 x shapeCasts_S1x1x640_S1x640) broadcasts_S1x640_S640x640 (ix2 s t) = x (ix3 (0 : Fin 1) (0 : Fin 1) t) := by
  refine (broadcastTo_apply _ broadcasts_S1x640_S640x640 (ix2 s t) (ix2 (0 : Fin 1) t) fun ax => by
    match ax with
    | ⟨0, _⟩ => rfl
    | ⟨1, _⟩ => rfl).trans ?_
  exact shapeCast_apply _ _ _ (ix3 (0 : Fin 1) (0 : Fin 1) t) (by
    rewrite [Shape.rowMajor_val_two, Shape.rowMajor_val_three]
    show (0 * 1 + 0) * 640 + t.val = 0 * 640 + t.val; omega)

/-! ## The three products -/

/-- Rows against rows. -/
theorem dotNT_apply (x : FVec Ideal S640x128 .bf16) (y : FVec Ideal S640x128 .bf16) (a b : Fin 640) :
    (matmul dot_S640x128_S640x128_S640x640_1_1_0_0_n_n none x y (constant S640x640 .f32 0x00000000#32) : FVec Ideal S640x640 .f32) (ix2 a b)
      = ∑ k : Fin 128, x (ix2 a k) * y (ix2 b k) := by
  refine (Ideal.matmul_constant_zero_apply _ none _ _ _).trans ?_
  rw [← Equiv.sum_comp (contrEquiv1 dot_S640x128_S640x128_S640x640_1_1_0_0_n_n 128 rfl rfl).symm]
  refine Finset.sum_congr rfl fun k _ => ?_
  have hk := contrEquiv1_symm_val dot_S640x128_S640x128_S640x640_1_1_0_0_n_n 128 rfl rfl k
  congr 1
  · refine congrArg x (funext fun a => Fin.ext ?_)
    match a with
    | ⟨0, _⟩ => exact (by
        unfold DotDims.lhsIdx
        rw [dif_neg (show ¬(0 : Fin S640x128.rank) ∈ dot_S640x128_S640x128_S640x640_1_1_0_0_n_n.lhsBatch by decide), dif_pos (show (0 : Fin S640x128.rank) ∈ dot_S640x128_S640x128_S640x640_1_1_0_0_n_n.lhsNonContracting by decide)]
        : (dot_S640x128_S640x128_S640x640_1_1_0_0_n_n.lhsIdx (ix2 _ _) _ 0).val = _)
    | ⟨1, _⟩ => exact (dot_S640x128_S640x128_S640x640_1_1_0_0_n_n.lhsIdx_val_of_single rfl _ _).trans hk
  · refine congrArg y (funext fun a => Fin.ext ?_)
    match a with
    | ⟨0, _⟩ => exact (by
        unfold DotDims.rhsIdx
        rw [dif_neg (show ¬(0 : Fin S640x128.rank) ∈ dot_S640x128_S640x128_S640x640_1_1_0_0_n_n.rhsBatch by decide), dif_pos (show (0 : Fin S640x128.rank) ∈ dot_S640x128_S640x128_S640x640_1_1_0_0_n_n.rhsNonContracting by decide)]
        : (dot_S640x128_S640x128_S640x640_1_1_0_0_n_n.rhsIdx (ix2 _ _) _ 0).val = _)
    | ⟨1, _⟩ => exact (dot_S640x128_S640x128_S640x640_1_1_0_0_n_n.rhsIdx_val_of_single rfl _ _).trans hk

/-- Rows against columns. -/
theorem dotNN_apply (x : FVec Ideal S640x640 .bf16) (y : FVec Ideal S640x128 .bf16) (a : Fin 640) (b : Fin 128) :
    (matmul dot_S640x640_S640x128_S640x128_1_0_0_1_n_n none x y (constant S640x128 .f32 0x00000000#32) : FVec Ideal S640x128 .f32) (ix2 a b)
      = ∑ k : Fin 640, x (ix2 a k) * y (ix2 k b) := by
  refine (Ideal.matmul_constant_zero_apply _ none _ _ _).trans ?_
  rw [← Equiv.sum_comp (contrEquiv1 dot_S640x640_S640x128_S640x128_1_0_0_1_n_n 640 rfl rfl).symm]
  refine Finset.sum_congr rfl fun k _ => ?_
  have hk := contrEquiv1_symm_val dot_S640x640_S640x128_S640x128_1_0_0_1_n_n 640 rfl rfl k
  congr 1
  · refine congrArg x (funext fun a => Fin.ext ?_)
    match a with
    | ⟨0, _⟩ => exact (by
        unfold DotDims.lhsIdx
        rw [dif_neg (show ¬(0 : Fin S640x640.rank) ∈ dot_S640x640_S640x128_S640x128_1_0_0_1_n_n.lhsBatch by decide), dif_pos (show (0 : Fin S640x640.rank) ∈ dot_S640x640_S640x128_S640x128_1_0_0_1_n_n.lhsNonContracting by decide)]
        : (dot_S640x640_S640x128_S640x128_1_0_0_1_n_n.lhsIdx (ix2 _ _) _ 0).val = _)
    | ⟨1, _⟩ => exact (dot_S640x640_S640x128_S640x128_1_0_0_1_n_n.lhsIdx_val_of_single rfl _ _).trans hk
  · refine congrArg y (funext fun a => Fin.ext ?_)
    match a with
    | ⟨0, _⟩ => exact (dot_S640x640_S640x128_S640x128_1_0_0_1_n_n.rhsIdx_val_of_single rfl _ _).trans hk
    | ⟨1, _⟩ => exact (by
        unfold DotDims.rhsIdx
        rw [dif_neg (show ¬(1 : Fin S640x128.rank) ∈ dot_S640x640_S640x128_S640x128_1_0_0_1_n_n.rhsBatch by decide), dif_pos (show (1 : Fin S640x128.rank) ∈ dot_S640x640_S640x128_S640x128_1_0_0_1_n_n.rhsNonContracting by decide)]
        : (dot_S640x640_S640x128_S640x128_1_0_0_1_n_n.rhsIdx (ix2 _ _) _ 1).val = _)

/-- Columns against columns. -/
theorem dotTN_apply (x : FVec Ideal S640x640 .bf16) (y : FVec Ideal S640x128 .bf16) (a : Fin 640) (b : Fin 128) :
    (matmul dot_S640x640_S640x128_S640x128_0_0_1_1_n_n none x y (constant S640x128 .f32 0x00000000#32) : FVec Ideal S640x128 .f32) (ix2 a b)
      = ∑ k : Fin 640, x (ix2 k a) * y (ix2 k b) := by
  refine (Ideal.matmul_constant_zero_apply _ none _ _ _).trans ?_
  rw [← Equiv.sum_comp (contrEquiv1 dot_S640x640_S640x128_S640x128_0_0_1_1_n_n 640 rfl rfl).symm]
  refine Finset.sum_congr rfl fun k _ => ?_
  have hk := contrEquiv1_symm_val dot_S640x640_S640x128_S640x128_0_0_1_1_n_n 640 rfl rfl k
  congr 1
  · refine congrArg x (funext fun a => Fin.ext ?_)
    match a with
    | ⟨0, _⟩ => exact (dot_S640x640_S640x128_S640x128_0_0_1_1_n_n.lhsIdx_val_of_single rfl _ _).trans hk
    | ⟨1, _⟩ => exact (by
        unfold DotDims.lhsIdx
        rw [dif_neg (show ¬(1 : Fin S640x640.rank) ∈ dot_S640x640_S640x128_S640x128_0_0_1_1_n_n.lhsBatch by decide), dif_pos (show (1 : Fin S640x640.rank) ∈ dot_S640x640_S640x128_S640x128_0_0_1_1_n_n.lhsNonContracting by decide)]
        : (dot_S640x640_S640x128_S640x128_0_0_1_1_n_n.lhsIdx (ix2 _ _) _ 1).val = _)
  · refine congrArg y (funext fun a => Fin.ext ?_)
    match a with
    | ⟨0, _⟩ => exact (dot_S640x640_S640x128_S640x128_0_0_1_1_n_n.rhsIdx_val_of_single rfl _ _).trans hk
    | ⟨1, _⟩ => exact (by
        unfold DotDims.rhsIdx
        rw [dif_neg (show ¬(1 : Fin S640x128.rank) ∈ dot_S640x640_S640x128_S640x128_0_0_1_1_n_n.rhsBatch by decide), dif_pos (show (1 : Fin S640x128.rank) ∈ dot_S640x640_S640x128_S640x128_0_0_1_1_n_n.rhsNonContracting by decide)]
        : (dot_S640x640_S640x128_S640x128_0_0_1_1_n_n.rhsIdx (ix2 _ _) _ 1).val = _)

/-! ## The mask -/

/-- Whether a tile's query sees its key, when both are of the same row block. -/
theorem mask_apply (s t : Fin 640) :
    cmpi .sle (shrsi (iota .tc S640x640 32 [0] iota_S640x640_d0_w32) (broadcast S640x640 6#32)) (shrsi (iota .tc S640x640 32 [1] iota_S640x640_d1_w32) (broadcast S640x640 6#32)) (ix2 s t)
      = if s.val / 64 ≤ t.val / 64 then 1#1 else 0#1 := by
  have key : ∀ n : Fin 640, ((BitVec.ofNat 32 n.val).sshiftRight' 6#32) = BitVec.ofNat 32 (n.val / 64) := by decide +kernel
  show BitVec.ofBool (BitVec.sle (if (6#32 : BitVec 32).toNat < 32 then (BitVec.ofNat 32 (0 * 640 + s.val)).sshiftRight' 6#32 else IntOp.cornerWord .vector .shrsi (BitVec.ofNat 32 (0 * 640 + s.val)) 6#32) (if (6#32 : BitVec 32).toNat < 32 then (BitVec.ofNat 32 (0 * 640 + t.val)).sshiftRight' 6#32 else IntOp.cornerWord .vector .shrsi (BitVec.ofNat 32 (0 * 640 + t.val)) 6#32)) = _
  rw [if_pos (by decide), if_pos (by decide), Nat.zero_mul, Nat.zero_add, Nat.zero_add, key, key]
  have h : ∀ a b : Fin 10, ((BitVec.ofNat 32 a.val).sle (BitVec.ofNat 32 b.val) = true) ↔ a.val ≤ b.val := by decide +kernel
  have hs := s.isLt
  have ht := t.isLt
  have h' := h ⟨s.val / 64, by omega⟩ ⟨t.val / 64, by omega⟩
  by_cases hc : s.val / 64 ≤ t.val / 64
  · rw [if_pos hc, h'.mpr hc]; rfl
  · rw [if_neg hc, Bool.eq_false_iff.mpr fun e => hc (h'.mp e)]; rfl

/-! ## The tile -/

section
variable (x0 x1 : FVec Ideal S1x640x128 .bf16) (x2 : FVec Ideal S640x128 .bf16) (x3 x4 : FVec Ideal S1x640x128 .bf16) (x5 x6 : FVec Ideal S1x1x640 .f32)

/-- The key's element, -/
def kEl (s : Fin 640) (d : Fin 128) : EReal := x1 (ix3 (0 : Fin 1) s d) + x2 (ix2 s d)
/-- the score's, -/
def sEl (s t : Fin 640) : EReal := ∑ d, kEl x1 x2 s d * x0 (ix3 (0 : Fin 1) t d)
/-- the softmax's, off the diagonal -/
def pOff (s t : Fin 640) : EReal := Ideal.exp2 (sEl x0 x1 x2 s t - x5 (ix3 (0 : Fin 1) (0 : Fin 1) t))
/-- and on it, -/
def pDia (s t : Fin 640) : EReal := Ideal.exp2 ((if s.val / 64 ≤ t.val / 64 then sEl x0 x1 x2 s t else ⊥) - x5 (ix3 (0 : Fin 1) (0 : Fin 1) t))
/-- and the factor that makes of it the score's gradient. -/
def wEl (s t : Fin 640) : EReal := (∑ d, x3 (ix3 (0 : Fin 1) s d) * x4 (ix3 (0 : Fin 1) t d)) - x6 (ix3 (0 : Fin 1) (0 : Fin 1) t)

theorem pay9_apply (s : Fin 640) (d : Fin 128) : k0_pay9 (F := Ideal) x1 x2 (ix2 s d) = kEl x1 x2 s d := by
  show shapeCast S640x128 x1 shapeCasts_S1x640x128_S640x128 (ix2 s d) + x2 (ix2 s d) = _
  rw [drop1]; rfl
theorem pay10_apply (s : Fin 640) (d : Fin 128) : k0_pay10 (F := Ideal) x0 (ix2 s d) = x0 (ix3 (0 : Fin 1) s d) := drop1 x0 s d
theorem pay12_apply (s t : Fin 640) : k0_pay12 (F := Ideal) x1 x2 x0 x5 (ix2 s t) = pOff x0 x1 x2 x5 s t := by
  show Ideal.exp2 ((matmul dot_S640x128_S640x128_S640x640_1_1_0_0_n_n none (k0_pay9 x1 x2) (k0_pay10 x0) (constant S640x640 .f32 0x00000000#32) : FVec Ideal S640x640 .f32) (ix2 s t)
    - broadcastTo S640x640 (shapeCast S1x640 x5 shapeCasts_S1x1x640_S1x640) broadcasts_S1x640_S640x640 (ix2 s t)) = _
  rw [rowvec, dotNT_apply]
  unfold pOff sEl
  simp only [pay9_apply, pay10_apply]
theorem pay18_apply (s t : Fin 640) : k0_pay18 (F := Ideal) x1 x2 x0 x5 (ix2 s t) = pDia x0 x1 x2 x5 s t := by
  show Ideal.exp2 ((if cmpi .sle (shrsi (iota .tc S640x640 32 [0] iota_S640x640_d0_w32) (broadcast S640x640 6#32)) (shrsi (iota .tc S640x640 32 [1] iota_S640x640_d1_w32) (broadcast S640x640 6#32)) (ix2 s t) = 1#1
      then (matmul dot_S640x128_S640x128_S640x640_1_1_0_0_n_n none (k0_pay9 x1 x2) (k0_pay10 x0) (constant S640x640 .f32 0x00000000#32) : FVec Ideal S640x640 .f32) (ix2 s t)
      else (Named.named κ "neg" 0xF149F2CA#32 : Ideal .f32))
    - broadcastTo S640x640 (shapeCast S1x640 x5 shapeCasts_S1x1x640_S1x640) broadcasts_S1x640_S640x640 (ix2 s t)) = _
  rw [rowvec, dotNT_apply, mask_apply, negW]
  unfold pDia sEl
  simp only [pay9_apply, pay10_apply]
  by_cases h : s.val / 64 ≤ t.val / 64
  · simp only [if_pos h, if_true]
  · simp only [if_neg h, show ¬((0#1 : BitVec 1) = 1#1) by decide, if_false]
theorem w_apply (s t : Fin 640) : (matmul dot_S640x128_S640x128_S640x640_1_1_0_0_n_n none (shapeCast S640x128 x3 shapeCasts_S1x640x128_S640x128) (k0_pay11 x4) (constant S640x640 .f32 0x00000000#32) : FVec Ideal S640x640 .f32) (ix2 s t)
    - broadcastTo S640x640 (shapeCast S1x640 x6 shapeCasts_S1x1x640_S1x640) broadcasts_S1x640_S640x640 (ix2 s t) = wEl x3 x4 x6 s t := by
  rw [rowvec, dotNT_apply]
  unfold wEl k0_pay11
  simp only [drop1]
theorem pay13_apply (s t : Fin 640) : k0_pay13 (F := Ideal) x1 x2 x0 x4 x5 x3 x6 (ix2 s t) = pOff x0 x1 x2 x5 s t * wEl x3 x4 x6 s t := by
  rw [← w_apply, ← pay12_apply]; rfl
theorem pay19_apply (s t : Fin 640) : k0_pay19 (F := Ideal) x1 x2 x0 x4 x5 x3 x6 (ix2 s t) = pDia x0 x1 x2 x5 s t * wEl x3 x4 x6 s t := by
  rw [← w_apply, ← pay18_apply]; rfl

theorem dvOff_apply (o : FVec Ideal S1x640x128 .f32) (s : Fin 640) (d : Fin 128) :
    dvOff (F := Ideal) x0 x1 x2 x4 x5 o (ix3 (0 : Fin 1) s d) = o (ix3 (0 : Fin 1) s d) + ∑ t, pOff x0 x1 x2 x5 s t * x4 (ix3 (0 : Fin 1) t d) := by
  unfold dvOff k0_pay14
  refine (add1 (φ := .f32) _ 0 s d).trans ?_
  show shapeCast S640x128 o shapeCasts_S1x640x128_S640x128 (ix2 s d)
    + (matmul dot_S640x640_S640x128_S640x128_1_0_0_1_n_n none (truncf .bf16 (k0_pay12 (F := Ideal) x1 x2 x0 x5) bitsLt_bf16_f32) (k0_pay11 x4) (constant S640x128 .f32 0x00000000#32) : FVec Ideal S640x128 .f32) (ix2 s d) = _
  rw [drop1, dotNN_apply]
  unfold k0_pay11
  simp only [drop1, truncf_apply, pay12_apply]
theorem dvDia_apply (o : FVec Ideal S1x640x128 .f32) (s : Fin 640) (d : Fin 128) :
    dvDia (F := Ideal) x0 x1 x2 x4 x5 o (ix3 (0 : Fin 1) s d) = o (ix3 (0 : Fin 1) s d) + ∑ t, pDia x0 x1 x2 x5 s t * x4 (ix3 (0 : Fin 1) t d) := by
  unfold dvDia k0_pay6
  refine (add1 (φ := .f32) _ 0 s d).trans ?_
  show shapeCast S640x128 o shapeCasts_S1x640x128_S640x128 (ix2 s d)
    + (matmul dot_S640x640_S640x128_S640x128_1_0_0_1_n_n none (truncf .bf16 (k0_pay18 (F := Ideal) x1 x2 x0 x5) bitsLt_bf16_f32) (k0_pay11 x4) (constant S640x128 .f32 0x00000000#32) : FVec Ideal S640x128 .f32) (ix2 s d) = _
  rw [drop1, dotNN_apply]
  unfold k0_pay11
  simp only [drop1, truncf_apply, pay18_apply]
theorem dk_step (z : FVec Ideal S640x640 .bf16) (o : FVec Ideal S1x640x128 .f32) (s : Fin 640) (d : Fin 128) :
    k0_pay4 (F := Ideal) (k0_pay10 x0) z o (ix3 (0 : Fin 1) s d) = o (ix3 (0 : Fin 1) s d) + (∑ t, z (ix2 s t) * x0 (ix3 (0 : Fin 1) t d)) * ((Real.log 2 : ℝ) : EReal) := by
  unfold k0_pay4
  refine (add1 (φ := .f32) _ 0 s d).trans ?_
  show shapeCast S640x128 o shapeCasts_S1x640x128_S640x128 (ix2 s d)
    + (matmul dot_S640x640_S640x128_S640x128_1_0_0_1_n_n none z (k0_pay10 x0) (constant S640x128 .f32 0x00000000#32) : FVec Ideal S640x128 .f32) (ix2 s d) * (Named.named κ "ln2" 0x3F317218#32 : Ideal .f32) = _
  rw [drop1, dotNN_apply, ln2W]
  simp only [pay10_apply]
theorem dq_step (z : FVec Ideal S640x640 .bf16) (o : FVec Ideal S1x640x128 .f32) (t : Fin 640) (d : Fin 128) :
    k0_pay5 (F := Ideal) (k0_pay9 x1 x2) z o (ix3 (0 : Fin 1) t d) = o (ix3 (0 : Fin 1) t d) + (∑ s, z (ix2 s t) * kEl x1 x2 s d) * (((Real.sqrt 96)⁻¹ : ℝ) : EReal) := by
  unfold k0_pay5
  refine (add1 (φ := .f32) _ 0 t d).trans ?_
  show shapeCast S640x128 o shapeCasts_S1x640x128_S640x128 (ix2 t d)
    + (matmul dot_S640x640_S640x128_S640x128_0_0_1_1_n_n none z (k0_pay9 x1 x2) (constant S640x128 .f32 0x00000000#32) : FVec Ideal S640x128 .f32) (ix2 t d) * (Named.named κ "sm_scale" 0x3DD105EC#32 : Ideal .f32) = _
  rw [drop1, dotTN_apply, scaleW]
  simp only [pay9_apply]
theorem dkOff_apply (o : FVec Ideal S1x640x128 .f32) (s : Fin 640) (d : Fin 128) :
    dkOff (F := Ideal) x0 x1 x2 x3 x4 x5 x6 o (ix3 (0 : Fin 1) s d) = o (ix3 (0 : Fin 1) s d)
      + (∑ t, pOff x0 x1 x2 x5 s t * wEl x3 x4 x6 s t * x0 (ix3 (0 : Fin 1) t d)) * ((Real.log 2 : ℝ) : EReal) := by
  refine (dk_step x0 _ o s d).trans ?_
  simp only [pay13_apply]
theorem dkDia_apply (o : FVec Ideal S1x640x128 .f32) (s : Fin 640) (d : Fin 128) :
    dkDia (F := Ideal) x0 x1 x2 x3 x4 x5 x6 o (ix3 (0 : Fin 1) s d) = o (ix3 (0 : Fin 1) s d)
      + (∑ t, pDia x0 x1 x2 x5 s t * wEl x3 x4 x6 s t * x0 (ix3 (0 : Fin 1) t d)) * ((Real.log 2 : ℝ) : EReal) := by
  refine (dk_step x0 _ o s d).trans ?_
  simp only [pay19_apply]
theorem dqOff_apply (o : FVec Ideal S1x640x128 .f32) (t : Fin 640) (d : Fin 128) :
    dqOff (F := Ideal) x0 x1 x2 x3 x4 x5 x6 o (ix3 (0 : Fin 1) t d) = o (ix3 (0 : Fin 1) t d)
      + (∑ s, pOff x0 x1 x2 x5 s t * wEl x3 x4 x6 s t * kEl x1 x2 s d) * (((Real.sqrt 96)⁻¹ : ℝ) : EReal) := by
  refine (dq_step x1 x2 _ o t d).trans ?_
  simp only [pay13_apply]
theorem dqDia_apply (o : FVec Ideal S1x640x128 .f32) (t : Fin 640) (d : Fin 128) :
    dqDia (F := Ideal) x0 x1 x2 x3 x4 x5 x6 o (ix3 (0 : Fin 1) t d) = o (ix3 (0 : Fin 1) t d)
      + (∑ s, pDia x0 x1 x2 x5 s t * wEl x3 x4 x6 s t * kEl x1 x2 s d) * (((Real.sqrt 96)⁻¹ : ℝ) : EReal) := by
  refine (dq_step x1 x2 _ o t d).trans ?_
  simp only [pay19_apply]
end

theorem pay1_apply (x : S1x8320x128.Idx) : k0_pay1 (F := Ideal) x = 0 := zeroW
theorem pay2_apply (x : S1x640x128.Idx) : k0_pay2 (F := Ideal) x = 0 := zeroW
theorem pay3_apply (x : S1x640x128.Idx) : k0_pay3 (F := Ideal) x = 0 := zeroW

end Cert.Kernel5Ideal.Att

end
-- ==== Proof.Att.Tile.lean ====
/- One tile's three steps at one head's arguments, over the reals. -/
module

public import proofs.«01_k».proof.Proof.Att.Blocks
public import proofs.«01_k».proof.Proof.Att.HostSpec
public import proofs.«01_k».proof.Proof.Att.Payload

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.ValueIdx
open Cert.Reference5Ideal.Att (Head)
open Cert.FfnSpec (coe_sum)
open Cert.AttSpec

/-! ## The order of the steps -/

theorem le_step : ∀ s : Fin 91, jtN s.val ≤ itN s.val := by decide +kernel
theorem jt_le (n : ℕ) : jtN n ≤ itN n := by
  have h := le_step ⟨n % 91, Nat.mod_lt _ (by decide)⟩
  rwa [itN_mod, jtN_mod] at h
theorem first_step {n : ℕ} (h : n % 91 = 0) : itN n = 0 ∧ jtN n = 0 := by
  rw [← itN_mod n, ← jtN_mod n, h]; decide +kernel
theorem dia_step : ∀ s : Fin 91, itN s.val = jtN s.val → s.val ≠ 0 → itN (s.val - 1) = 12 ∧ jtN (s.val - 1) + 1 = jtN s.val := by decide +kernel
/-- On the diagonal the point before ended the column before. -/
theorem prev_last {n : ℕ} (h : itN n = jtN n) (h0 : n % 91 ≠ 0) : itN (n - 1) = 12 ∧ jtN (n - 1) + 1 = jtN n := by
  have hp := dia_step ⟨n % 91, Nat.mod_lt _ (by decide)⟩ (by rw [itN_mod, jtN_mod]; exact h) h0
  have e := step_congr (a := n - 1) (b := n % 91 - 1) (by omega)
  rw [e.1, e.2]
  exact ⟨hp.1, hp.2.trans (jtN_mod n)⟩
theorem hd_prev {n : ℕ} (h0 : n % 91 ≠ 0) : hd (n - 1) = hd n := Fin.ext (by show (n - 1) / 91 % 8 = n / 91 % 8; omega)

/-! ## Row blocks of the query gradient -/

theorem getR_apply (o : FVec Ideal S1x8320x128 .f32) (R : Fin 13) (r : Fin 640) (d : Fin 128) :
    getR (F := Ideal) o R (ix3 (0 : Fin 1) r d) = o (ix3 (0 : Fin 1) (rw8 R.val r) d) := by
  refine congrArg o (funext fun a => Fin.ext ?_)
  match a with
  | ⟨0, _⟩ => rfl
  | ⟨1, _⟩ => show 640 * R.val + 1 * r.val = (rw8 R.val r).val; rw [rw8_val R.isLt]; omega
  | ⟨2, _⟩ => show 0 + 1 * d.val = d.val; omega
theorem putR_same (o : FVec Ideal S1x8320x128 .f32) (R : Fin 13) (w : FVec Ideal S1x640x128 .f32) (r : Fin 640) (d : Fin 128) :
    putR (F := Ideal) o R w (ix3 (0 : Fin 1) (rw8 R.val r) d) = w (ix3 (0 : Fin 1) r d) := by
  exact (getR_apply (putR (F := Ideal) o R w) R r d).symm.trans (congrFun (VecWindow.window_put_same o (offR R) S1x640x128.size (offR_inb R) w) (ix3 (0 : Fin 1) r d))
theorem putR_other (o : FVec Ideal S1x8320x128 .f32) {R R' : Fin 13} (h : R'.val ≠ R.val) (w : FVec Ideal S1x640x128 .f32) (r : Fin 640) (d : Fin 128) :
    putR (F := Ideal) o R w (ix3 (0 : Fin 1) (rw8 R'.val r) d) = o (ix3 (0 : Fin 1) (rw8 R'.val r) d) := by
  refine (getR_apply (putR (F := Ideal) o R w) R' r d).symm.trans (Eq.trans (congrFun (VecWindow.window_put_of_disjoint o (offR R) S1x640x128.size (offR R') S1x640x128.size (offR_inb R') w 1 ?_) (ix3 (0 : Fin 1) r d)) (getR_apply o R' r d))
  show 640 * R'.val + 640 ≤ 640 * R.val ∨ 640 * R.val + 640 ≤ 640 * R'.val
  omega

/-! ## The tile at one head's arguments -/

variable {m : (ℓ : Loc nD τ sig) → Buf (Elt Ideal) ℓ} {c : Dev nD} {n : ℕ} {q k v g : Fin 8320 → Fin 128 → ℝ}

/-- Point `n`'s head of the arguments. -/
abbrev HeadAt (m : (ℓ : Loc nD τ sig) → Buf (Elt Ideal) ℓ) (c : Dev nD) (n : ℕ) (q k v g : Fin 8320 → Fin 128 → ℝ) : Prop :=
  Head (A0 m c) (A1 m c) (A2 m c) (A3 m c) (A4 m c) (hd n) q k v g

variable (H : HeadAt m c n q k v g)
include H

theorem kEl_real (s : Fin 640) (d : Fin 128) : kEl (b1 m c n) (b2 m c n) s d = (k (rw8 (jtN n) s) d : EReal) := by
  unfold kEl; rw [b1_apply, b2_apply]; exact H.k _ d
theorem b0_real (t : Fin 640) (d : Fin 128) : b0 m c n (ix3 (0 : Fin 1) t d) = (qs q (rw8 (itN n) t) d : EReal) := by
  rw [b0_apply, V_v36]; exact hQs_apply H _ d
theorem b4_real (t : Fin 640) (d : Fin 128) : b4 m c n (ix3 (0 : Fin 1) t d) = (g (rw8 (itN n) t) d : EReal) := by
  rw [b4_apply]; exact H.g _ d
theorem b5_real (t : Fin 640) : b5 m c n (ix3 (0 : Fin 1) (0 : Fin 1) t) = (lse q k (rw8 (itN n) t) : EReal) := by
  rw [b5_apply, V_v41, hCol_apply]; exact hLse_apply H _
theorem sEl_real (s t : Fin 640) : sEl (b0 m c n) (b1 m c n) (b2 m c n) s t = ((∑ d, k (rw8 (jtN n) s) d * qs q (rw8 (itN n) t) d : ℝ) : EReal) := by
  unfold sEl
  rw [← coe_sum]
  exact Finset.sum_congr rfl fun d _ => by rw [kEl_real H, b0_real H, EReal.coe_mul]
theorem wEl_real (s t : Fin 640) : wEl (b3 m c n) (b4 m c n) (b6 m c n) s t
    = ((dp v g (rw8 (itN n) t) (rw8 (jtN n) s) - del q k v g (rw8 (itN n) t) : ℝ) : EReal) := by
  have e6 : b6 m c n (ix3 (0 : Fin 1) (0 : Fin 1) t) = (del q k v g (rw8 (itN n) t) : EReal) := by
    rw [b6_apply, V_v44, hCol_apply]; exact hDel_apply H _
  have e3 : (∑ d, (b3 m c n (ix3 (0 : Fin 1) s d) : EReal) * b4 m c n (ix3 (0 : Fin 1) t d)) = (dp v g (rw8 (itN n) t) (rw8 (jtN n) s) : EReal) := by
    unfold dp
    rw [← coe_sum]
    refine Finset.sum_congr rfl fun d _ => ?_
    rw [b4_real H, b3_apply, mul_comm (g _ d), EReal.coe_mul]
    exact congrArg (· * (g (rw8 (itN n) t) d : EReal)) (H.v _ d)
  unfold wEl
  rw [e6, e3, EReal.coe_sub]
theorem p_real {s t : Fin 640} (h : Seen (rw8 (itN n) t) (rw8 (jtN n) s)) :
    Ideal.exp2 (sEl (b0 m c n) (b1 m c n) (b2 m c n) s t - b5 m c n (ix3 (0 : Fin 1) (0 : Fin 1) t)) = (pp q k (rw8 (itN n) t) (rw8 (jtN n) s) : EReal) := by
  rw [sEl_real H, b5_real H, ← EReal.coe_sub, Ideal.exp2_coe]
  exact congrArg _ (p_seen q k h)
theorem pOff_real (h : ¬ itN n = jtN n) (s t : Fin 640) :
    pOff (b0 m c n) (b1 m c n) (b2 m c n) (b5 m c n) s t = (pp q k (rw8 (itN n) t) (rw8 (jtN n) s) : EReal) :=
  p_real H (seen_after (by have := jt_le n; omega) (itN_lt n) t s)
theorem pDia_real (h : itN n = jtN n) (s t : Fin 640) :
    pDia (b0 m c n) (b1 m c n) (b2 m c n) (b5 m c n) s t = (pp q k (rw8 (itN n) t) (rw8 (jtN n) s) : EReal) := by
  have hs : Seen (rw8 (itN n) t) (rw8 (jtN n) s) ↔ s.val / 64 ≤ t.val / 64 := by rw [← h]; exact seen_same (itN_lt n) t s
  unfold pDia
  by_cases hc : s.val / 64 ≤ t.val / 64
  · rw [if_pos hc]; exact p_real H (hs.mpr hc)
  · rw [if_neg hc, pp_unseen q k (fun h' => hc (hs.mp h')), b5_real H]
    rfl

/-! ## The steps -/

theorem sum_dv {p : Fin 640 → Fin 640 → EReal} (hp : ∀ s t, p s t = (pp q k (rw8 (itN n) t) (rw8 (jtN n) s) : EReal)) (s : Fin 640) (d : Fin 128) :
    (∑ t, p s t * (b4 m c n (ix3 (0 : Fin 1) t d) : EReal)) = (cv q k g (itN n) (rw8 (jtN n) s) d : EReal) := by
  unfold cv
  rw [← coe_sum]
  exact Finset.sum_congr rfl fun t _ => by rw [hp, b4_real H, EReal.coe_mul]
theorem sum_dk {p : Fin 640 → Fin 640 → EReal} (hp : ∀ s t, p s t = (pp q k (rw8 (itN n) t) (rw8 (jtN n) s) : EReal)) (s : Fin 640) (d : Fin 128) :
    (∑ t, p s t * wEl (b3 m c n) (b4 m c n) (b6 m c n) s t * (b0 m c n (ix3 (0 : Fin 1) t d) : EReal)) * ((Real.log 2 : ℝ) : EReal)
      = (ck q k v g (itN n) (rw8 (jtN n) s) d : EReal) := by
  unfold ck
  rw [EReal.coe_mul, ← coe_sum]
  refine congrArg (· * _) (Finset.sum_congr rfl fun t _ => ?_)
  rw [hp, wEl_real H, b0_real H, ← EReal.coe_mul, ← EReal.coe_mul]; rfl
theorem sum_dq {p : Fin 640 → Fin 640 → EReal} (hp : ∀ s t, p s t = (pp q k (rw8 (itN n) t) (rw8 (jtN n) s) : EReal)) (t : Fin 640) (d : Fin 128) :
    (∑ s, p s t * wEl (b3 m c n) (b4 m c n) (b6 m c n) s t * kEl (b1 m c n) (b2 m c n) s d) * (((Real.sqrt 96)⁻¹ : ℝ) : EReal)
      = (cq q k v g (jtN n) (rw8 (itN n) t) d : EReal) := by
  unfold cq
  rw [EReal.coe_mul, ← coe_sum]
  refine congrArg (· * _) (Finset.sum_congr rfl fun s _ => ?_)
  rw [hp, wEl_real H, kEl_real H, ← EReal.coe_mul, ← EReal.coe_mul]; rfl

end Cert.Kernel5Ideal.Att

end
-- ==== Proof.Att.Accum.lean ====
/- What the three gradients hold after each point: the parts of the row or column blocks done so far. -/
module

public import proofs.«01_k».proof.Proof.Att.Tile

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.ValueIdx
open Cert.AttSpec

variable {m : (ℓ : Loc nD τ sig) → Buf (Elt Ideal) ℓ} {c : Dev nD} {q k v g : Fin 8320 → Fin 128 → ℝ}

/-- A sum whose earlier terms are zero is its last term. -/
theorem sum_last {f : ℕ → ℝ} {i : ℕ} (h : ∀ i' < i, f i' = 0) : ∑ i' ∈ Finset.range (i + 1), f i' = f i := by
  rw [Finset.sum_range_succ, Finset.sum_eq_zero fun i' hi => h i' (Finset.mem_range.mp hi), zero_add]

/-- The value gradient, -/
theorem dvAt_real (n : ℕ) : HeadAt m c n q k v g → ∀ (s : Fin 640) (d : Fin 128),
    dvAt m c n (ix3 (0 : Fin 1) s d) = ((∑ i ∈ Finset.range (itN n + 1), cv q k g i (rw8 (jtN n) s) d : ℝ) : EReal) := by
  induction n using Nat.strong_induction_on with
  | _ n ih =>
    intro H s d
    by_cases h : itN n = jtN n
    · rw [dvAt_dia m c h]
      refine (dvDia_apply _ _ _ _ _ _ s d).trans ?_
      rw [pay3_apply, zero_add, sum_dv H (pDia_real H h), sum_last fun i' hi => cv_before q k g (h ▸ hi) (jtN_lt n) s d]
    · obtain ⟨h0, _, h2, h3⟩ := prev_not_last h
      rw [dvAt_off m c h]
      refine (dvOff_apply _ _ _ _ _ _ s d).trans ?_
      rw [sum_dv H (pOff_real H h), ih (n - 1) (by omega) (by unfold HeadAt; rw [hd_prev h0]; exact H) s d, h2, h3, Finset.sum_range_succ, EReal.coe_add]
/-- the key gradient -/
theorem dkAt_real (n : ℕ) : HeadAt m c n q k v g → ∀ (s : Fin 640) (d : Fin 128),
    dkAt m c n (ix3 (0 : Fin 1) s d) = ((∑ i ∈ Finset.range (itN n + 1), ck q k v g i (rw8 (jtN n) s) d : ℝ) : EReal) := by
  induction n using Nat.strong_induction_on with
  | _ n ih =>
    intro H s d
    by_cases h : itN n = jtN n
    · rw [dkAt_dia m c h]
      refine (dkDia_apply _ _ _ _ _ _ _ _ s d).trans ?_
      rw [pay2_apply, zero_add, sum_dk H (pDia_real H h), sum_last fun i' hi => ck_before q k v g (h ▸ hi) (jtN_lt n) s d]
    · obtain ⟨h0, _, h2, h3⟩ := prev_not_last h
      rw [dkAt_off m c h]
      refine (dkOff_apply _ _ _ _ _ _ _ _ s d).trans ?_
      rw [sum_dk H (pOff_real H h), ih (n - 1) (by omega) (by unfold HeadAt; rw [hd_prev h0]; exact H) s d, h2, h3, Finset.sum_range_succ, EReal.coe_add]

/-- One point's step of the query gradient, block by block. -/
theorem dqStep_real {n : ℕ} (H : HeadAt m c n q k v g) (o : FVec Ideal S1x8320x128 .f32)
    (ho : ∀ (R : Fin 13) (t : Fin 640) (d : Fin 128), o (ix3 (0 : Fin 1) (rw8 R.val t) d)
      = ((∑ j ∈ Finset.range (if R.val < itN n ∧ ¬ itN n = jtN n then jtN n + 1 else jtN n), cq q k v g j (rw8 R.val t) d : ℝ) : EReal))
    (R : Fin 13) (t : Fin 640) (d : Fin 128) :
    dqStep m c n o (ix3 (0 : Fin 1) (rw8 R.val t) d) = ((∑ j ∈ Finset.range (if R.val ≤ itN n then jtN n + 1 else jtN n), cq q k v g j (rw8 R.val t) d : ℝ) : EReal) := by
  unfold dqStep
  by_cases hR : R.val = itN n
  · have eR : R = itF n := Fin.ext hR
    subst eR
    rw [putR_same, if_pos (le_of_eq hR)]
    have e : getR (F := Ideal) o (itF n) (ix3 (0 : Fin 1) t d) = ((∑ j ∈ Finset.range (jtN n), cq q k v g j (rw8 (itN n) t) d : ℝ) : EReal) := by
      rw [getR_apply, ho, if_neg (fun h' => absurd h'.1 (by rw [hR]; exact lt_irrefl _))]; rfl
    rw [Finset.sum_range_succ, EReal.coe_add]
    split
    · rename_i h
      refine (dqDia_apply _ _ _ _ _ _ _ _ t d).trans ?_
      rw [sum_dq H (pDia_real H h), e]; rfl
    · rename_i h
      refine (dqOff_apply _ _ _ _ _ _ _ _ t d).trans ?_
      rw [sum_dq H (pOff_real H h), e]; rfl
  · rw [putR_other (R := itF n) o hR, ho]
    by_cases h1 : R.val ≤ itN n
    · rw [if_pos h1]
      by_cases h : itN n = jtN n
      · rw [if_neg (fun h' => h'.2 h), Finset.sum_range_succ, cq_before q k v g (by omega) (jtN_lt n) t d, add_zero]
      · rw [if_pos ⟨by omega, h⟩]
    · rw [if_neg h1, if_neg (fun h' => h1 (le_of_lt h'.1))]
/-- and the query gradient. -/
theorem dqAt_real (n : ℕ) : HeadAt m c n q k v g → ∀ (R : Fin 13) (t : Fin 640) (d : Fin 128),
    dqAt m c n (ix3 (0 : Fin 1) (rw8 R.val t) d) = ((∑ j ∈ Finset.range (if R.val ≤ itN n then jtN n + 1 else jtN n), cq q k v g j (rw8 R.val t) d : ℝ) : EReal) := by
  induction n using Nat.strong_induction_on with
  | _ n ih =>
    intro H R t d
    by_cases h0 : n % 91 = 0
    · obtain ⟨e1, e2⟩ := first_step h0
      rw [dqAt_head m c h0]
      refine dqStep_real H _ (fun R t d => ?_) R t d
      rw [pay1_apply, if_neg (fun h' => h'.2 (e1.trans e2.symm)), e2, Finset.sum_range_zero]; rfl
    · rw [dqAt_later m c h0]
      refine dqStep_real H _ (fun R t d => ?_) R t d
      rw [ih (n - 1) (by omega) (by unfold HeadAt; rw [hd_prev h0]; exact H) R t d]
      by_cases h : itN n = jtN n
      · obtain ⟨e1, e2⟩ := prev_last h h0
        rw [if_pos (by have := R.isLt; omega), if_neg (fun h' => h'.2 h), e2]
      · obtain ⟨_, _, h2, h3⟩ := prev_not_last h
        rw [h2]
        by_cases h1 : R.val < itN n
        · rw [if_pos (by omega), if_pos ⟨h1, h⟩]
        · rw [if_neg (by omega), if_neg (fun h' => h1 h'.1)]

end Cert.Kernel5Ideal.Att

end
-- ==== Proof.Att.Final.lean ====
/- What the three result arrays hold when the kernel has run. -/
module

public import proofs.«01_k».proof.Proof.Att.Accum
public import proofs.«01_k».proof.Proof.Att.Frame

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.ValueIdx
open Idealize.ShloMosaic.Pipeline (Dat Cfg Window cellOf)
open Cert.Reference5Ideal.Att (Head)
open Cert.AttSpec

variable {m : (ℓ : Loc nD τ sig) → Buf (Elt Ideal) ℓ} {c : Dev nD} {q k v g : Fin 8 → Fin 8320 → Fin 128 → ℝ}

/-- Every head of the arguments is real. -/
abbrev Heads (m : (ℓ : Loc nD τ sig) → Buf (Elt Ideal) ℓ) (c : Dev nD) (q k v g : Fin 8 → Fin 8320 → Fin 128 → ℝ) : Prop :=
  ∀ h, Head (A0 m c) (A1 m c) (A2 m c) (A3 m c) (A4 m c) h (q h) (k h) (v h) (g h)

/-- A row is a row of a row block. -/
theorem row_split (r : Fin 8320) : ∃ (R : Fin 13) (t : Fin 640), r = rw8 R.val t := by
  have h := r.isLt
  refine ⟨⟨r.val / 640, by omega⟩, ⟨r.val % 640, Nat.mod_lt _ (by decide)⟩, Fin.ext ?_⟩
  rw [rw8_val (by omega)]
  show r.val = 640 * (r.val / 640) + r.val % 640
  omega
theorem last_it : itN 90 = 12 ∧ jtN 90 = 12 := by decide +kernel
theorem col_end : ∀ j : Fin 13, ∃ s : Fin 91, itN s.val = 12 ∧ jtN s.val = j.val := by decide +kernel

theorem dq_end (H : Heads m c q k v g) {n : ℕ} (h : n % 91 = 90) (r : Fin 8320) (d : Fin 128) :
    dqAt m c n (ix3 (0 : Fin 1) r d) = (gq (q (hd n)) (k (hd n)) (v (hd n)) (g (hd n)) r d : EReal) := by
  obtain ⟨R, t, rfl⟩ := row_split r
  have e := step_congr (a := n) (b := 90) h
  rw [dqAt_real n (H (hd n)) R t d, e.1, e.2, last_it.1, last_it.2, if_pos (by have := R.isLt; omega), sum_cq]
theorem dk_end (H : Heads m c q k v g) {n : ℕ} (h : itN n = 12) (s : Fin 640) (d : Fin 128) :
    dkAt m c n (ix3 (0 : Fin 1) s d) = (gk (q (hd n)) (k (hd n)) (v (hd n)) (g (hd n)) (rw8 (jtN n) s) d : EReal) := by
  rw [dkAt_real n (H (hd n)) s d, h, sum_ck]
theorem dv_end (H : Heads m c q k v g) {n : ℕ} (h : itN n = 12) (s : Fin 640) (d : Fin 128) :
    dvAt m c n (ix3 (0 : Fin 1) s d) = (gv (q (hd n)) (k (hd n)) (g (hd n)) (rw8 (jtN n) s) d : EReal) := by
  rw [dvAt_real n (H (hd n)) s d, h, sum_cv]

/-- An index is in a point's block when each coordinate is in the block's range. -/
theorem mem7 (t : Fin (cfgT (F := Ideal)).N) (i : S8x8320x128.Idx) :
    i ∈ (((cfgT (F := Ideal)).win 7).blk t).view.set ↔ ∀ a : Fin 3, ((cfgT (F := Ideal)).win 7).index t a * S1x8320x128.size a ≤ (i a).val ∧ (i a).val < ((cfgT (F := Ideal)).win 7).index t a * S1x8320x128.size a + S1x8320x128.size a := by
  show i ∈ ((View.whole main_v45_0).slice (((cfgT (F := Ideal)).win 7).rect t)).set ↔ _
  rw [View.set_slice_whole, Rect.mem_set_unit]
  exact Iff.rfl
theorem arr7 (H : Heads m c q k v g) : (dats m 0 c).arrAt 7 (cfgT (F := Ideal)).N = fun i : S8x8320x128.Idx => (gq (q (i 0)) (k (i 0)) (v (i 0)) (g (i 0)) (i 1) (i 2) : EReal) := by
  refine (dats m 0 c).arrAt_eq_of_cover 7 (fun i : S8x8320x128.Idx => (gq (q (i 0)) (k (i 0)) (v (i 0)) (g (i 0)) (i 1) (i 2) : EReal)) (fun t hf => ?_) fun i => ?_
  · show ((cfgT (F := Ideal)).win 7).cut (grid0.coords t) ((dats m 0 c).after 7 t) = _
    rw [after0_7]
    funext y
    obtain ⟨u, r, d, rfl⟩ : ∃ (u : Fin 1) (r : Fin 8320) (d : Fin 128), y = ix3 u r d := ⟨y 0, y 1, y 2, eq_ix3 (n0 := 1) (n1 := 8320) (n2 := 128) y⟩
    have hu : u = 0 := Subsingleton.elim _ _
    subst hu
    have hx : ((cfgT (F := Ideal)).win 7).xinj (grid0.coords t) (ix3 (0 : Fin 1) r d) = ix3 (0 : Fin 1) r d := by
      funext a; match a with
      | ⟨0, _⟩ => rfl
      | ⟨1, _⟩ => rfl
      | ⟨2, _⟩ => rfl
    have he := emb7 t.val (0 : Fin 1) r d
    rw [pt_val] at he
    show dqAt m c t.val (((cfgT (F := Ideal)).win 7).xinj (grid0.coords t) (ix3 (0 : Fin 1) r d)) = (fun i : S8x8320x128.Idx => (gq (q (i 0)) (k (i 0)) (v (i 0)) (g (i 0)) (i 1) (i 2) : EReal)) ((((cfgT (F := Ideal)).win 7).blk t).view.emb (ix3 (0 : Fin 1) r d))
    rw [hx, he]
    exact dq_end H (show t.val % 91 = 90 from of_decide_eq_true ((flush7 t).symm.trans hf)) r d
  · have h0 : (i 0).val < 8 := (i 0).isLt
    have h1 : (i 1).val < 8320 := (i 1).isLt
    have h2 : (i 2).val < 128 := (i 2).isLt
    refine ⟨⟨91 * (i 0).val + 90, lt_of_lt_of_eq (by omega) N_0.symm⟩, (flush7 _).trans (decide_eq_true (by show (91 * (i 0).val + 90) % 91 = 90; omega)), (mem7 _ i).2 fun a => ?_⟩
    rw [index7]
    match a with
    | ⟨0, _⟩ =>
      show (grid0.coords _ 0).val * 1 ≤ (i 0).val ∧ (i 0).val < (grid0.coords _ 0).val * 1 + 1
      rw [coords_head]
      show (91 * (i 0).val + 90) / 91 * 1 ≤ (i 0).val ∧ (i 0).val < (91 * (i 0).val + 90) / 91 * 1 + 1
      omega
    | ⟨1, _⟩ => show 0 * 8320 ≤ (i 1).val ∧ (i 1).val < 0 * 8320 + 8320; omega
    | ⟨2, _⟩ => show 0 * 128 ≤ (i 2).val ∧ (i 2).val < 0 * 128 + 128; omega

/-- An index is in a point's block when each coordinate is in the block's range. -/
theorem mem8 (t : Fin (cfgT (F := Ideal)).N) (i : S8x8320x128.Idx) :
    i ∈ (((cfgT (F := Ideal)).win 8).blk t).view.set ↔ ∀ a : Fin 3, ((cfgT (F := Ideal)).win 8).index t a * S1x640x128.size a ≤ (i a).val ∧ (i a).val < ((cfgT (F := Ideal)).win 8).index t a * S1x640x128.size a + S1x640x128.size a := by
  show i ∈ ((View.whole main_v45_1).slice (((cfgT (F := Ideal)).win 8).rect t)).set ↔ _
  rw [View.set_slice_whole, Rect.mem_set_unit]
  exact Iff.rfl
theorem arr8 (H : Heads m c q k v g) : (dats m 0 c).arrAt 8 (cfgT (F := Ideal)).N = fun i : S8x8320x128.Idx => (gk (q (i 0)) (k (i 0)) (v (i 0)) (g (i 0)) (i 1) (i 2) : EReal) := by
  refine (dats m 0 c).arrAt_eq_of_cover 8 (fun i : S8x8320x128.Idx => (gk (q (i 0)) (k (i 0)) (v (i 0)) (g (i 0)) (i 1) (i 2) : EReal)) (fun t hf => ?_) fun i => ?_
  · show ((cfgT (F := Ideal)).win 8).cut (grid0.coords t) ((dats m 0 c).after 8 t) = _
    rw [after0_8]
    funext y
    obtain ⟨u, r, d, rfl⟩ : ∃ (u : Fin 1) (r : Fin 640) (d : Fin 128), y = ix3 u r d := ⟨y 0, y 1, y 2, eq_ix3 (n0 := 1) (n1 := 640) (n2 := 128) y⟩
    have hu : u = 0 := Subsingleton.elim _ _
    subst hu
    have hx : ((cfgT (F := Ideal)).win 8).xinj (grid0.coords t) (ix3 (0 : Fin 1) r d) = ix3 (0 : Fin 1) r d := by
      funext a; match a with
      | ⟨0, _⟩ => rfl
      | ⟨1, _⟩ => rfl
      | ⟨2, _⟩ => rfl
    have he := emb8 t.val (0 : Fin 1) r d
    rw [pt_val] at he
    show dkAt m c t.val (((cfgT (F := Ideal)).win 8).xinj (grid0.coords t) (ix3 (0 : Fin 1) r d)) = (fun i : S8x8320x128.Idx => (gk (q (i 0)) (k (i 0)) (v (i 0)) (g (i 0)) (i 1) (i 2) : EReal)) ((((cfgT (F := Ideal)).win 8).blk t).view.emb (ix3 (0 : Fin 1) r d))
    rw [hx, he]
    exact dk_end H (show itN t.val = 12 from of_decide_eq_true ((flush8 t).symm.trans hf)) r d
  · have h0 : (i 0).val < 8 := (i 0).isLt
    have h1 : (i 1).val < 8320 := (i 1).isLt
    have h2 : (i 2).val < 128 := (i 2).isLt
    obtain ⟨s, hs, hj⟩ := col_end ⟨(i 1).val / 640, by omega⟩
    have hs' := s.isLt
    have e := step_congr (a := 91 * (i 0).val + s.val) (b := s.val) (by omega)
    refine ⟨⟨91 * (i 0).val + s.val, lt_of_lt_of_eq (by omega) N_0.symm⟩, (flush8 _).trans (decide_eq_true (e.1.trans hs)), (mem8 _ i).2 fun a => ?_⟩
    rw [index8]
    match a with
    | ⟨0, _⟩ =>
      show (grid0.coords _ 0).val * 1 ≤ (i 0).val ∧ (i 0).val < (grid0.coords _ 0).val * 1 + 1
      rw [coords_head]
      show (91 * (i 0).val + s.val) / 91 * 1 ≤ (i 0).val ∧ (i 0).val < (91 * (i 0).val + s.val) / 91 * 1 + 1
      omega
    | ⟨1, _⟩ =>
      show (jw (grid0.coords _ 1)).toNat * 640 ≤ (i 1).val ∧ (i 1).val < (jw (grid0.coords _ 1)).toNat * 640 + 640
      rw [jt_eq]
      have ej : jtN (91 * (i 0).val + s.val) = (i 1).val / 640 := e.2.trans hj
      show jtN (91 * (i 0).val + s.val) * 640 ≤ (i 1).val ∧ (i 1).val < jtN (91 * (i 0).val + s.val) * 640 + 640
      omega
    | ⟨2, _⟩ => show 0 * 128 ≤ (i 2).val ∧ (i 2).val < 0 * 128 + 128; omega

/-- An index is in a point's block when each coordinate is in the block's range. -/
theorem mem9 (t : Fin (cfgT (F := Ideal)).N) (i : S8x8320x128.Idx) :
    i ∈ (((cfgT (F := Ideal)).win 9).blk t).view.set ↔ ∀ a : Fin 3, ((cfgT (F := Ideal)).win 9).index t a * S1x640x128.size a ≤ (i a).val ∧ (i a).val < ((cfgT (F := Ideal)).win 9).index t a * S1x640x128.size a + S1x640x128.size a := by
  show i ∈ ((View.whole main_v45_2).slice (((cfgT (F := Ideal)).win 9).rect t)).set ↔ _
  rw [View.set_slice_whole, Rect.mem_set_unit]
  exact Iff.rfl
theorem arr9 (H : Heads m c q k v g) : (dats m 0 c).arrAt 9 (cfgT (F := Ideal)).N = fun i : S8x8320x128.Idx => (gv (q (i 0)) (k (i 0)) (g (i 0)) (i 1) (i 2) : EReal) := by
  refine (dats m 0 c).arrAt_eq_of_cover 9 (fun i : S8x8320x128.Idx => (gv (q (i 0)) (k (i 0)) (g (i 0)) (i 1) (i 2) : EReal)) (fun t hf => ?_) fun i => ?_
  · show ((cfgT (F := Ideal)).win 9).cut (grid0.coords t) ((dats m 0 c).after 9 t) = _
    rw [after0_9]
    funext y
    obtain ⟨u, r, d, rfl⟩ : ∃ (u : Fin 1) (r : Fin 640) (d : Fin 128), y = ix3 u r d := ⟨y 0, y 1, y 2, eq_ix3 (n0 := 1) (n1 := 640) (n2 := 128) y⟩
    have hu : u = 0 := Subsingleton.elim _ _
    subst hu
    have hx : ((cfgT (F := Ideal)).win 9).xinj (grid0.coords t) (ix3 (0 : Fin 1) r d) = ix3 (0 : Fin 1) r d := by
      funext a; match a with
      | ⟨0, _⟩ => rfl
      | ⟨1, _⟩ => rfl
      | ⟨2, _⟩ => rfl
    have he := emb9 t.val (0 : Fin 1) r d
    rw [pt_val] at he
    show dvAt m c t.val (((cfgT (F := Ideal)).win 9).xinj (grid0.coords t) (ix3 (0 : Fin 1) r d)) = (fun i : S8x8320x128.Idx => (gv (q (i 0)) (k (i 0)) (g (i 0)) (i 1) (i 2) : EReal)) ((((cfgT (F := Ideal)).win 9).blk t).view.emb (ix3 (0 : Fin 1) r d))
    rw [hx, he]
    exact dv_end H (show itN t.val = 12 from of_decide_eq_true ((flush9 t).symm.trans hf)) r d
  · have h0 : (i 0).val < 8 := (i 0).isLt
    have h1 : (i 1).val < 8320 := (i 1).isLt
    have h2 : (i 2).val < 128 := (i 2).isLt
    obtain ⟨s, hs, hj⟩ := col_end ⟨(i 1).val / 640, by omega⟩
    have hs' := s.isLt
    have e := step_congr (a := 91 * (i 0).val + s.val) (b := s.val) (by omega)
    refine ⟨⟨91 * (i 0).val + s.val, lt_of_lt_of_eq (by omega) N_0.symm⟩, (flush9 _).trans (decide_eq_true (e.1.trans hs)), (mem9 _ i).2 fun a => ?_⟩
    rw [index9]
    match a with
    | ⟨0, _⟩ =>
      show (grid0.coords _ 0).val * 1 ≤ (i 0).val ∧ (i 0).val < (grid0.coords _ 0).val * 1 + 1
      rw [coords_head]
      show (91 * (i 0).val + s.val) / 91 * 1 ≤ (i 0).val ∧ (i 0).val < (91 * (i 0).val + s.val) / 91 * 1 + 1
      omega
    | ⟨1, _⟩ =>
      show (jw (grid0.coords _ 1)).toNat * 640 ≤ (i 1).val ∧ (i 1).val < (jw (grid0.coords _ 1)).toNat * 640 + 640
      rw [jt_eq]
      have ej : jtN (91 * (i 0).val + s.val) = (i 1).val / 640 := e.2.trans hj
      show jtN (91 * (i 0).val + s.val) * 640 ≤ (i 1).val ∧ (i 1).val < jtN (91 * (i 0).val + s.val) * 640 + 640
      omega
    | ⟨2, _⟩ => show 0 * 128 ≤ (i 2).val ∧ (i 2).val < 0 * 128 + 128; omega

end Cert.Kernel5Ideal.Att

end
-- ==== Proof.Att.Pre.lean ====
/- The precondition says that every head of the arguments is real. -/
module

public import proofs.«01_k».proof.Defs
public import proofs.«01_k».proof.Proof.Bwd.Pre
public import proofs.«01_k».proof.Proof.Att.Final
public import proofs.«01_k».proof.Proof.Att.PreFacts

@[expose] public section

noncomputable section

namespace Cert.Kernel5Ideal.Att

open Cert.Kernel5Ideal Cert.Kernel5Ideal.Gen
open Idealize.ShloMosaic Idealize.ShloMosaic.TcCoe Idealize.ShloMosaic.ValueIdx
open Cert.FfnSpec
open Cert.KernelIdeal.FfnBwd (all_real)

theorem heads_of_pre {m : (ℓ : Loc nD τ sig) → Buf (Elt Ideal) ℓ} (h : Cert.Pre_Kernel5Ideal_finite5 (hPre_finite5 := Cert.Pre_finite5.Att.facts) m) (c : Dev nD) :
    ∃ q k v g, Heads m c q k v g := by
  have e := congrFun (h c) (Shape.Idx.first Cert.Pre_finite5.Facts.h_S_)
  haveI : Subsingleton (Cert.Pre_finite5.S_).Idx := ⟨fun a b => funext fun x => x.elim0⟩
  unfold Cert.Pre_finite5.fn Cert.Pre_finite5.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have r0 : ∀ (h : Fin 8) (t : Fin 8320) (d : Fin 128), IsR (A0 m c (ix3 h t d)) := fun h t d => all_real _ _ _ _ _ _ _ e0 (ix3 h t d)
  have r1 : ∀ (h : Fin 8) (t : Fin 8320) (d : Fin 128), IsR (A1 m c (ix3 h t d)) := fun h t d => all_real _ _ _ _ _ _ _ e1 (ix3 h t d)
  have r2 : ∀ (t : Fin 8320) (d : Fin 128), IsR (A2 m c (ix2 t d)) := fun t d => all_real _ _ _ _ _ _ _ e2 (ix2 t d)
  have r3 : ∀ (h : Fin 8) (t : Fin 8320) (d : Fin 128), IsR (A3 m c (ix3 h t d)) := fun h t d => all_real _ _ _ _ _ _ _ e3 (ix3 h t d)
  have r4 : ∀ (h : Fin 8) (t : Fin 8320) (d : Fin 128), IsR (A4 m c (ix3 h t d)) := fun h t d => all_real _ _ _ _ _ _ _ e4 (ix3 h t d)
  choose q hq using r0
  choose n hn using r1
  choose p hp using r2
  choose v hv using r3
  choose g hg using r4
  exact ⟨q, fun h s d => n h s d + p s d, v, g, fun h => ⟨hq h, fun s d => by rw [EReal.coe_add]; exact congrArg₂ (fun a b : EReal => a + b) (hn h s d) (hp s d), hv h, hg h⟩⟩

end Cert.Kernel5Ideal.Att

end
-- ==== Proof.Att.Algebraic.lean ====
/- The kernel's three gradients are the reference's, over the extended reals, at real arguments. -/
module

public import proofs.«01_k».proof.Proof.Att.Pre
public import proofs.«01_k».proof.Proof.Gen.Reference5Ideal.Run

@[expose] public section

noncomputable section

namespace Cert.Att

open Idealize.ShloMosaic Idealize.SL.Sem Idealize.ShloMosaic.TcCoe Idealize.ShloMosaic.ValueIdx
open Cert.Kernel5Ideal.Att
open Cert.Reference5Ideal.Read

section
variable {m : (ℓ : Loc Cert.Kernel5Ideal.nD Cert.Kernel5Ideal.τ Cert.Kernel5Ideal.sig) → Buf (Elt Ideal) ℓ} {c : Dev Cert.Kernel5Ideal.nD}
  {q k v g : Fin 8 → Fin 8320 → Fin 128 → ℝ}

theorem eq0 (H : Heads m c q k v g) : val_main_v68 (F := Ideal) (A0 m c) (A1 m c) (A2 m c) (A3 m c) (A4 m c) = (dats m 0 c).arrAt 7 (cfgT (F := Ideal)).N := by
  rw [arr7 H]; funext i
  refine (congrArg _ (eq_ix3 (n0 := 8) (n1 := 8320) (n2 := 128) i)).trans ?_
  exact Cert.Reference5Ideal.Att.r_v68 (H _) _ _
theorem eq1 (H : Heads m c q k v g) : val_main_v67 (F := Ideal) (A0 m c) (A1 m c) (A2 m c) (A3 m c) (A4 m c) = (dats m 0 c).arrAt 8 (cfgT (F := Ideal)).N := by
  rw [arr8 H]; funext i
  refine (congrArg _ (eq_ix3 (n0 := 8) (n1 := 8320) (n2 := 128) i)).trans ?_
  exact Cert.Reference5Ideal.Att.r_v67 (H _) _ _
theorem eq2 (H : Heads m c q k v g) : val_main_v50 (F := Ideal) (A0 m c) (A1 m c) (A2 m c) (A4 m c) = (dats m 0 c).arrAt 9 (cfgT (F := Ideal)).N := by
  rw [arr9 H]; funext i
  refine (congrArg _ (eq_ix3 (n0 := 8) (n1 := 8320) (n2 := 128) i)).trans ?_
  exact Cert.Reference5Ideal.Att.r_v50 (H _) _ _
end

theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Att.facts) := by
  intro m ρ m' ρ' hpre hagree
  have H := fun c => heads_of_pre hpre c
  refine ⟨fun c => (dats m 0 c).arrAt 7 (cfgT (F := Ideal)).N, fun c => (dats m 0 c).arrAt 8 (cfgT (F := Ideal)).N,
    fun c => (dats m 0 c).arrAt 9 (cfgT (F := Ideal)).N, ?_, ?_⟩
  · have hr := θ_run_and (run_main (F := Ideal) m ρ) (frame (F := Ideal) m ρ)
    exact (θ_run Cert.Kernel5Ideal.defs _ _).mono (fun r h c => ⟨(h.1 c).1 7, (h.1 c).1 8, (h.1 c).1 9, h.2.1 c⟩) hr
  · refine (θ_run Cert.Reference5Ideal.defs _ _).mono (fun r h c => ?_) (Cert.Reference5Ideal.Value.run (F := Ideal) m' ρ')
    obtain ⟨q, k, v, g, Hc⟩ := H c
    obtain ⟨a0, a1, a2, a3, a4⟩ := hagree c
    obtain ⟨h0, h1, h2, hargs⟩ := h c
    refine ⟨?_, ?_, ?_, hargs⟩
    · refine h0.trans ((val_main_v68_eq _ _).trans ?_); rw [a0, a1, a2, a3, a4]; exact eq0 Hc
    · refine h1.trans ((val_main_v67_eq _ _).trans ?_); rw [a0, a1, a2, a3, a4]; exact eq1 Hc
    · refine h2.trans ((val_main_v50_eq _ _).trans ?_); rw [a0, a1, a2, a4]; exact eq2 Hc

end Cert.Att

end
-- ==== Proof.lean ====
module

public import proofs.«01_k».proof.Proof.Gen.Kernel5
public import proofs.«01_k».proof.Proof.Gen.Kernel5.Launch
public import proofs.«01_k».proof.Proof.Gen.Kernel5.Skeleton
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Dw.Algebraic2
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Dw.Algebraic3
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Frame
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4.Skeleton
public import proofs.«01_k».proof.Proof.Gen.Kernel4.Launch
public import proofs.«01_k».proof.Proof.Gen.Kernel4.Points
public import proofs.«01_k».proof.Proof.Fwd.KernelFrame
public import proofs.«01_k».proof.Proof.Gen.Reference4Ideal
public import proofs.«01_k».proof.Proof.Gen.Reference4Ideal.Run
public import proofs.«01_k».proof.Proof.Gen.Reference4Ideal.Read
public import proofs.«01_k».proof.Proof.Fwd.Algebraic
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Bwd.KernelFrame
public import proofs.«01_k».proof.Proof.Bwd.Algebraic
public import proofs.«01_k».proof.Proof.Att.Frame
public import proofs.«01_k».proof.Proof.Att.KernelFrame
public import proofs.«01_k».proof.Proof.Att.PreFacts
public import proofs.«01_k».proof.Proof.Att.Algebraic
public import Idealize.ShloMosaic.Adequacy
public import Idealize.ShloMosaic.Init

@[expose] public section

noncomputable section

namespace Cert.Proof

open Idealize.ShloMosaic Idealize.SL.Sem Cert.Kernel

/-- The frame of `KernelIdeal`: the same run at the extended reals. -/
theorem frame_kernelIdeal : Cert.quiescent_KernelIdeal (hKernelIdeal := Cert.KernelIdeal.Gen.facts) :=
  fun m ρ _ => Cert.KernelIdeal.FfnBwd.frame (F := Ideal) m ρ

/-- The frame of `ReferenceIdeal`: its run read at the arguments; it declares no semaphore. -/
theorem frame_referenceIdeal : Cert.quiescent_ReferenceIdeal (hReferenceIdeal := Cert.ReferenceIdeal.Gen.facts) := by
  intro m ρ _
  exact (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The frame of `Kernel2Ideal`: the same run at the extended reals. -/
theorem frame_kernel2Ideal : Cert.quiescent_Kernel2Ideal (hKernel2Ideal := Cert.Kernel2Ideal.Gen.facts) :=
  fun m ρ _ => Cert.Kernel2Ideal.Gen.frame (F := Ideal) m ρ
/-- The frame of `Reference2Ideal`: its run read at the arguments; it declares no semaphore. -/
theorem frame_reference2Ideal : Cert.quiescent_Reference2Ideal (hReference2Ideal := Cert.Reference2Ideal.Gen.facts) := by
  intro m ρ _
  exact (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

/-- The frame of `Kernel3Ideal`: the same run at the extended reals. -/
theorem frame_kernel3Ideal : Cert.quiescent_Kernel3Ideal (hKernel3Ideal := Cert.Kernel3Ideal.Gen.facts) :=
  fun m ρ _ => Cert.Kernel3Ideal.Gen.frame (F := Ideal) m ρ
/-- The frame of `Reference3Ideal`: its run read at the arguments; it declares no semaphore. -/
theorem frame_reference3Ideal : Cert.quiescent_Reference3Ideal (hReference3Ideal := Cert.Reference3Ideal.Gen.facts) := by
  intro m ρ _
  exact (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The frame of `Kernel4Ideal`: the same run at the extended reals. -/
theorem frame_kernel4Ideal : Cert.quiescent_Kernel4Ideal (hKernel4Ideal := Cert.Kernel4Ideal.Gen.facts) :=
  fun m ρ _ => Cert.Kernel4Ideal.FfnFwd.frame (F := Ideal) m ρ
/-- The frame of `Reference4Ideal`: its run read at the arguments; it declares no semaphore. -/
theorem frame_reference4Ideal : Cert.quiescent_Reference4Ideal (hReference4Ideal := Cert.Reference4Ideal.Gen.facts) := by
  intro m ρ _
  exact (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

/-- The frame of `Kernel5Ideal`: the run at the extended reals. -/
theorem frame_kernel5Ideal : Cert.quiescent_Kernel5Ideal (hKernel5Ideal := Cert.Kernel5Ideal.Gen.facts) :=
  fun m ρ _ => Cert.Kernel5Ideal.Att.frame (F := Ideal) m ρ
/-- The frame of `Reference5Ideal`: its run read at the arguments; it declares no semaphore. -/
theorem frame_reference5Ideal : Cert.quiescent_Reference5Ideal (hReference5Ideal := Cert.Reference5Ideal.Gen.facts) := by
  intro m ρ _
  exact (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)
/-- The names the idealization gave: the logarithm of two, one over the root of 96, and minus infinity. -/
theorem preserves5 : Cert.preserves_Kernel5_Kernel5Ideal :=
  ⟨IdealRules.named_const.statement Cert.Kernel5Ideal.κ "ln2" .f32 0x3F317218#32 ((Real.log 2 : ℝ) : EReal) rfl,
   IdealRules.named_const.statement Cert.Kernel5Ideal.κ "sm_scale" .f32 0x3DD105EC#32 (((Real.sqrt 96)⁻¹ : ℝ) : EReal) rfl,
   IdealRules.named_const.statement Cert.Kernel5Ideal.κ "neg" .f32 0xF149F2CA#32 ⊥ rfl⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts, Cert.Pre_finite5.Att.facts,
  FfnBwd.frame_kernel, frame_kernelIdeal, fun m ρ _ => frame_kernelIdeal m ρ trivial, frame_referenceIdeal,
  fun m ρ _ => frame_referenceIdeal m ρ trivial,
  fun m ρ _ => Cert.Kernel2.Gen.frame m ρ, frame_kernel2Ideal, frame_reference2Ideal,
  fun m ρ _ => Cert.Kernel3.Gen.frame m ρ, frame_kernel3Ideal, frame_reference3Ideal,
  FfnFwd.frame_kernel, frame_kernel4Ideal, frame_reference4Ideal,
  Att.frame_kernel, frame_kernel5Ideal, fun m ρ _ => frame_kernel5Ideal m ρ trivial, frame_reference5Ideal,
  fun m ρ _ => frame_reference5Ideal m ρ trivial,
  trivial, Cert.FfnBwd.algebraic, trivial, Cert.Dw2.algebraic, trivial, Cert.Dw3.algebraic, trivial, Cert.FfnFwd.algebraic,
  preserves5, Cert.Att.algebraic⟩

end Cert.Proof

end
